-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x4224 : Shape := ⟨2, ![16384, 4224]⟩
abbrev S2x4x128x128 : Shape := ⟨4, ![2, 4, 128, 128]⟩
abbrev S2x512 : Shape := ⟨2, ![2, 512]⟩
abbrev S2x16x512 : Shape := ⟨3, ![2, 16, 512]⟩
abbrev S2x256 : Shape := ⟨2, ![2, 256]⟩
abbrev S_ : Shape := ⟨0, ![]⟩

class Facts : Prop where
  bcast_S_S16384x4224 : S_.BroadcastsInDim S16384x4224 (![] : Fin 0 → Fin S16384x4224.rank)
  bcast_S_S2x4x128x128 : S_.BroadcastsInDim S2x4x128x128 (![] : Fin 0 → Fin S2x4x128x128.rank)
  bcast_S_S2x512 : S_.BroadcastsInDim S2x512 (![] : Fin 0 → Fin S2x512.rank)
  bcast_S_S2x16x512 : S_.BroadcastsInDim S2x16x512 (![] : Fin 0 → Fin S2x16x512.rank)
  bcast_S_S2x256 : S_.BroadcastsInDim S2x256 (![] : Fin 0 → Fin S2x256.rank)

variable [Facts]

def fn {F : FTy → Type} [FloatOps F] (main_arg0 : FVec F S16384x4224 .f32) (main_arg1 : FVec F S2x4x128x128 .f32) (main_arg2 : FVec F S2x512 .f32) (main_arg3 : FVec F S2x16x512 .f32) (main_arg4 : FVec F S2x512 .f32) (main_arg5 : FVec F S2x256 .f32) : IVec S16384x4224 1 × IVec S2x4x128x128 1 × IVec S2x512 1 × IVec S2x16x512 1 × IVec S2x512 1 × IVec S2x256 1 :=
  let main_v0 : FVec F S16384x4224 .f32 := Host.absf main_arg0
  let main_cst : FVec F S_ .f32 := constant S_ .f32 0x7F800000#32
  let main_v1 : FVec F S16384x4224 .f32 := broadcastInDim S16384x4224 ![] bcast_S_S16384x4224 main_cst
  let main_v2 : IVec S16384x4224 1 := cmpf .olt main_v0 main_v1
  let main_v3 : FVec F S2x4x128x128 .f32 := Host.absf main_arg1
  let main_cst_0 : FVec F S_ .f32 := constant S_ .f32 0x7F800000#32
  let main_v4 : FVec F S2x4x128x128 .f32 := broadcastInDim S2x4x128x128 ![] bcast_S_S2x4x128x128 main_cst_0
  let main_v5 : IVec S2x4x128x128 1 := cmpf .olt main_v3 main_v4
  let main_v6 : FVec F S2x512 .f32 := Host.absf main_arg2
  let main_cst_1 : FVec F S_ .f32 := constant S_ .f32 0x7F800000#32
  let main_v7 : FVec F S2x512 .f32 := broadcastInDim S2x512 ![] bcast_S_S2x512 main_cst_1
  let main_v8 : IVec S2x512 1 := cmpf .olt main_v6 main_v7
  let main_v9 : FVec F S2x16x512 .f32 := Host.absf main_arg3
  let main_cst_2 : FVec F S_ .f32 := constant S_ .f32 0x7F800000#32
  let main_v10 : FVec F S2x16x512 .f32 := broadcastInDim S2x16x512 ![] bcast_S_S2x16x512 main_cst_2
  let main_v11 : IVec S2x16x512 1 := cmpf .olt main_v9 main_v10
  let main_v12 : FVec F S2x512 .f32 := Host.absf main_arg4
  let main_cst_3 : FVec F S_ .f32 := constant S_ .f32 0x7F800000#32
  let main_v13 : FVec F S2x512 .f32 := broadcastInDim S2x512 ![] bcast_S_S2x512 main_cst_3
  let main_v14 : IVec S2x512 1 := cmpf .olt main_v12 main_v13
  let main_v15 : FVec F S2x256 .f32 := Host.absf main_arg5
  let main_cst_4 : FVec F S_ .f32 := constant S_ .f32 0x7F800000#32
  let main_v16 : FVec F S2x256 .f32 := broadcastInDim S2x256 ![] bcast_S_S2x256 main_cst_4
  let main_v17 : IVec S2x256 1 := cmpf .olt main_v15 main_v16
  (main_v2, main_v5, main_v8, main_v11, main_v14, main_v17)
-- ==== Kernel.lean ====
abbrev S16384x4224 : Shape := ⟨2, ![16384, 4224]⟩
abbrev S2x4x128x128 : Shape := ⟨4, ![2, 4, 128, 128]⟩
abbrev S2x512 : Shape := ⟨2, ![2, 512]⟩
abbrev S2x16x512 : Shape := ⟨3, ![2, 16, 512]⟩
abbrev S2x256 : Shape := ⟨2, ![2, 256]⟩
abbrev S2x1x512 : Shape := ⟨3, ![2, 1, 512]⟩
abbrev S_ : Shape := ⟨0, ![]⟩
abbrev S2x128x512 : Shape := ⟨3, ![2, 128, 512]⟩
abbrev S2x1x256 : Shape := ⟨3, ![2, 1, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16384x512 : Shape := ⟨2, ![16384, 512]⟩
abbrev S16384x1024 : Shape := ⟨2, ![16384, 1024]⟩
abbrev S512x1024 : Shape := ⟨2, ![512, 1024]⟩
abbrev S512x128 : Shape := ⟨2, ![512, 128]⟩
abbrev S1x4x128x128 : Shape := ⟨4, ![1, 4, 128, 128]⟩
abbrev S1x1x512 : Shape := ⟨3, ![1, 1, 512]⟩
abbrev S1x128x512 : Shape := ⟨3, ![1, 128, 512]⟩
abbrev S1x1x256 : Shape := ⟨3, ![1, 1, 256]⟩
abbrev S528x512 : Shape := ⟨2, ![528, 512]⟩
abbrev S4x256x128 : Shape := ⟨3, ![4, 256, 128]⟩
abbrev S16x512 : Shape := ⟨2, ![16, 512]⟩
abbrev S528x128 : Shape := ⟨2, ![528, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S128x512 : Shape := ⟨2, ![128, 512]⟩
abbrev S64x512 : Shape := ⟨2, ![64, 512]⟩
abbrev S64x64 : Shape := ⟨2, ![64, 64]⟩
abbrev S1x256 : Shape := ⟨2, ![1, 256]⟩
abbrev S64x256 : Shape := ⟨2, ![64, 256]⟩
abbrev S64x128 : Shape := ⟨2, ![64, 128]⟩
abbrev S256x128 : Shape := ⟨2, ![256, 128]⟩
abbrev S1x256x128 : Shape := ⟨3, ![1, 256, 128]⟩
abbrev S64 : Shape := ⟨1, ![64]⟩
abbrev S64x1 : Shape := ⟨2, ![64, 1]⟩

abbrev nBuf : Space → Nat
  | .hbm => 65
  | .vmem => 24
  | .smem => 0
  | _ => 0

abbrev bufTy : (tb : Table) → Fin (tcTables nBuf tb) → BufTy
  | .hbm, ⟨0, _⟩ => ⟨S16384x4224, .f32⟩
  | .hbm, ⟨1, _⟩ => ⟨S2x4x128x128, .f32⟩
  | .hbm, ⟨2, _⟩ => ⟨S2x512, .f32⟩
  | .hbm, ⟨3, _⟩ => ⟨S2x16x512, .f32⟩
  | .hbm, ⟨4, _⟩ => ⟨S2x512, .f32⟩
  | .hbm, ⟨5, _⟩ => ⟨S2x256, .f32⟩
  | .hbm, ⟨6, _⟩ => ⟨S2x4x128x128, .bf16⟩
  | .hbm, ⟨7, _⟩ => ⟨S2x1x512, .f32⟩
  | .hbm, ⟨8, _⟩ => ⟨S_, .i32⟩
  | .hbm, ⟨9, _⟩ => ⟨S_, .f32⟩
  | .hbm, ⟨10, _⟩ => ⟨S2x128x512, .f32⟩
  | .hbm, ⟨11, _⟩ => ⟨S2x128x512, .bf16⟩
  | .hbm, ⟨12, _⟩ => ⟨S2x1x512, .f32⟩
  | .hbm, ⟨13, _⟩ => ⟨S2x1x256, .f32⟩
  | .hbm, ⟨14, _⟩ => ⟨S512, .i32⟩
  | .hbm, ⟨15, _⟩ => ⟨S512x1, .i32⟩
  | .hbm, ⟨16, _⟩ => ⟨S_, .i32⟩
  | .hbm, ⟨17, _⟩ => ⟨S_, .i32⟩
  | .hbm, ⟨18, _⟩ => ⟨S512x1, .i32⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S_, .i32⟩
  | .hbm, ⟨31, _⟩ => ⟨S512x1, .i32⟩
  | .hbm, ⟨32, _⟩ => ⟨S512x1, .i32⟩
  | .hbm, ⟨33, _⟩ => ⟨S512x1, .i32⟩
  | .hbm, ⟨34, _⟩ => ⟨S1x512, .i32⟩
  | .hbm, ⟨35, _⟩ => ⟨S_, .i32⟩
  | .hbm, ⟨36, _⟩ => ⟨S_, .i32⟩
  | .hbm, ⟨37, _⟩ => ⟨S1x512, .i32⟩
  | .hbm, ⟨38, _⟩ => ⟨S1x512, .i32⟩
  | .hbm, ⟨39, _⟩ => ⟨S1x512, .i32⟩
  | .hbm, ⟨40, _⟩ => ⟨S_, .i32⟩
  | .hbm, ⟨41, _⟩ => ⟨S1x512, .i32⟩
  | .hbm, ⟨42, _⟩ => ⟨S1x512, .i1⟩
  | .hbm, ⟨43, _⟩ => ⟨S1x512, .i32⟩
  | .hbm, ⟨44, _⟩ => ⟨S1x512, .i32⟩
  | .hbm, ⟨45, _⟩ => ⟨S_, .i32⟩
  | .hbm, ⟨46, _⟩ => ⟨S1x512, .i32⟩
  | .hbm, ⟨47, _⟩ => ⟨S1x512, .i1⟩
  | .hbm, ⟨48, _⟩ => ⟨S1x512, .i1⟩
  | .hbm, ⟨49, _⟩ => ⟨S_, .i32⟩
  | .hbm, ⟨50, _⟩ => ⟨S1x512, .i32⟩
  | .hbm, ⟨51, _⟩ => ⟨S1x512, .i32⟩
  | .hbm, ⟨52, _⟩ => ⟨S1x512, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x1, .i32⟩
  | .hbm, ⟨57, _⟩ => ⟨S1x512, .i32⟩
  | .hbm, ⟨58, _⟩ => ⟨S512x512, .i32⟩
  | .hbm, ⟨59, _⟩ => ⟨S512x512, .i32⟩
  | .hbm, ⟨60, _⟩ => ⟨S512x512, .i1⟩
  | .hbm, ⟨61, _⟩ => ⟨S512x512, .i1⟩
  | .hbm, ⟨62, _⟩ => ⟨S512x512, .bf16⟩
  | .hbm, ⟨63, _⟩ => ⟨S16384x512, .bf16⟩
  | .hbm, ⟨64, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | .local _ .vmem, ⟨12, _⟩ => ⟨S1x4x128x128, .bf16⟩
  | .local _ .vmem, ⟨13, _⟩ => ⟨S1x1x512, .f32⟩
  | .local _ .vmem, ⟨14, _⟩ => ⟨S1x128x512, .bf16⟩
  | .local _ .vmem, ⟨15, _⟩ => ⟨S1x1x512, .f32⟩
  | .local _ .vmem, ⟨16, _⟩ => ⟨S1x1x256, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S528x512, .f32⟩
  | .local _ .vmem, ⟨23, _⟩ => ⟨S4x256x128, .f32⟩
  | _, _ => ⟨S16384x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21_0 : Ref sig .tc := ⟨.hbm, 63, rfl⟩
abbrev main_v21_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x4224 : Shape := ⟨2, ![16384, 4224]⟩
abbrev S2x4x128x128 : Shape := ⟨4, ![2, 4, 128, 128]⟩
abbrev S2x512 : Shape := ⟨2, ![2, 512]⟩
abbrev S2x16x512 : Shape := ⟨3, ![2, 16, 512]⟩
abbrev S2x256 : Shape := ⟨2, ![2, 256]⟩
abbrev S16384x512 : Shape := ⟨2, ![16384, 512]⟩
abbrev S1x16384x512 : Shape := ⟨3, ![1, 16384, 512]⟩
abbrev S16384x1024 : Shape := ⟨2, ![16384, 1024]⟩
abbrev S1x16384x1024 : Shape := ⟨3, ![1, 16384, 1024]⟩
abbrev S16384x16 : Shape := ⟨2, ![16384, 16]⟩
abbrev S1x16384x16 : Shape := ⟨3, ![1, 16384, 16]⟩
abbrev S1x16384x4x128 : Shape := ⟨4, ![1, 16384, 4, 128]⟩
abbrev S1x16384x4x256 : Shape := ⟨4, ![1, 16384, 4, 256]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S1x256x64x4x128 : Shape := ⟨5, ![1, 256, 64, 4, 128]⟩
abbrev S1x4x256x64x128 : Shape := ⟨5, ![1, 4, 256, 64, 128]⟩
abbrev S1x256x64x4x256 : Shape := ⟨5, ![1, 256, 64, 4, 256]⟩
abbrev S1x4x256x64x256 : Shape := ⟨5, ![1, 4, 256, 64, 256]⟩
abbrev S1x4x256x1x128 : Shape := ⟨5, ![1, 4, 256, 1, 128]⟩
abbrev S1x4x256x64x64 : Shape := ⟨5, ![1, 4, 256, 64, 64]⟩
abbrev S64x64 : Shape := ⟨2, ![64, 64]⟩
abbrev S1x4x256x128x256 : Shape := ⟨5, ![1, 4, 256, 128, 256]⟩
abbrev S1x4x256x128 : Shape := ⟨4, ![1, 4, 256, 128]⟩
abbrev S1x4x128x256 : Shape := ⟨4, ![1, 4, 128, 256]⟩
abbrev S256x1x4x128 : Shape := ⟨4, ![256, 1, 4, 128]⟩
abbrev S256x1x4x128x256 : Shape := ⟨5, ![256, 1, 4, 128, 256]⟩
abbrev S256x1x4x64x128 : Shape := ⟨5, ![256, 1, 4, 64, 128]⟩
abbrev S256x1x4x64x256 : Shape := ⟨5, ![256, 1, 4, 64, 256]⟩
abbrev S1x1x4x128 : Shape := ⟨4, ![1, 1, 4, 128]⟩
abbrev S1x4x128 : Shape := ⟨3, ![1, 4, 128]⟩
abbrev S1x1x4x128x256 : Shape := ⟨5, ![1, 1, 4, 128, 256]⟩
abbrev S1x1x4x64x128 : Shape := ⟨5, ![1, 1, 4, 64, 128]⟩
abbrev S1x4x64x128 : Shape := ⟨4, ![1, 4, 64, 128]⟩
abbrev S1x1x4x64x256 : Shape := ⟨5, ![1, 1, 4, 64, 256]⟩
abbrev S1x4x64x256 : Shape := ⟨4, ![1, 4, 64, 256]⟩
abbrev S1x4x128x1 : Shape := ⟨4, ![1, 4, 128, 1]⟩
abbrev S1x256 : Shape := ⟨2, ![1, 256]⟩
abbrev S256 : Shape := ⟨1, ![256]⟩
abbrev S1x16384x4 : Shape := ⟨3, ![1, 16384, 4]⟩
abbrev S1x16384x4x1 : Shape := ⟨4, ![1, 16384, 4, 1]⟩
abbrev S1x1x1x256 : Shape := ⟨4, ![1, 1, 1, 256]⟩
abbrev S1x4x128x128 : Shape := ⟨4, ![1, 4, 128, 128]⟩
abbrev S4x128x128 : Shape := ⟨3, ![4, 128, 128]⟩
abbrev S1x16385x4x128 : Shape := ⟨4, ![1, 16385, 4, 128]⟩
abbrev S16384 : Shape := ⟨1, ![16384]⟩
abbrev S1x16384x1 : Shape := ⟨3, ![1, 16384, 1]⟩
abbrev S1x16384x1x128 : Shape := ⟨4, ![1, 16384, 1, 128]⟩
abbrev S1x16384x128 : Shape := ⟨3, ![1, 16384, 128]⟩
abbrev S1x16383x1x128 : Shape := ⟨4, ![1, 16383, 1, 128]⟩
abbrev S1x16383x128 : Shape := ⟨3, ![1, 16383, 128]⟩
abbrev S1x16381x1x128 : Shape := ⟨4, ![1, 16381, 1, 128]⟩
abbrev S1x16381x128 : Shape := ⟨3, ![1, 16381, 128]⟩
abbrev S1x16377x1x128 : Shape := ⟨4, ![1, 16377, 1, 128]⟩
abbrev S1x16377x128 : Shape := ⟨3, ![1, 16377, 128]⟩
abbrev S1x16369x1x128 : Shape := ⟨4, ![1, 16369, 1, 128]⟩
abbrev S1x16369x128 : Shape := ⟨3, ![1, 16369, 128]⟩
abbrev S4x128x1x16384 : Shape := ⟨4, ![4, 128, 1, 16384]⟩

abbrev nBuf : Space → Nat
  | .hbm => 265
  | .vmem => 0
  | .smem => 0
  | _ => 0

abbrev hbmTy0_0 (i : Nat) : BufTy := match i % 128 with
  | 0 => ⟨S16384x4224, .f32⟩
  | 1 => ⟨S2x4x128x128, .f32⟩
  | 2 => ⟨S2x512, .f32⟩
  | 3 => ⟨S2x16x512, .f32⟩
  | 4 => ⟨S2x512, .f32⟩
  | 5 => ⟨S2x256, .f32⟩
  | 6 => ⟨S16384x512, .f32⟩
  | 7 => ⟨S1x16384x512, .f32⟩
  | 8 => ⟨S16384x512, .f32⟩
  | 9 => ⟨S1x16384x512, .f32⟩
  | 10 => ⟨S16384x1024, .f32⟩
  | 11 => ⟨S1x16384x1024, .f32⟩
  | 12 => ⟨S16384x16, .f32⟩
  | 13 => ⟨S1x16384x16, .f32⟩
  | 14 => ⟨S1x16384x4x128, .f32⟩
  | 15 => ⟨S1x16384x4x128, .f32⟩
  | 16 => ⟨S1x16384x4x256, .f32⟩
  | 17 => ⟨S1x16x512, .f32⟩
  | 18 => ⟨S16x512, .f32⟩
  | 19 => ⟨S1x16384x512, .f32⟩
  | 20 => ⟨S1x512, .f32⟩
  | 21 => ⟨S512, .f32⟩
  | 22 => ⟨S1x1x512, .f32⟩
  | 23 => ⟨S1x16384x512, .f32⟩
  | 24 => ⟨S1x16384x512, .f32⟩
  | 25 => ⟨S1x16384x512, .f32⟩
  | 26 => ⟨S_, .f32⟩
  | 27 => ⟨S1x16384x512, .f32⟩
  | 28 => ⟨S1x16384x512, .f32⟩
  | 29 => ⟨S1x16384x512, .f32⟩
  | 30 => ⟨S1x16384x512, .f32⟩
  | 31 => ⟨S1x16384x512, .i1⟩
  | 32 => ⟨S1x16384x512, .f32⟩
  | 33 => ⟨S1x16384x512, .f32⟩
  | 34 => ⟨S1x16384x512, .f32⟩
  | 35 => ⟨S1x16384x512, .f32⟩
  | 36 => ⟨S1x16384x512, .f32⟩
  | 37 => ⟨S1x16384x512, .f32⟩
  | 38 => ⟨S1x16384x512, .f32⟩
  | 39 => ⟨S1x16384x512, .f32⟩
  | 40 => ⟨S1x16384x512, .f32⟩
  | 41 => ⟨S_, .f32⟩
  | 42 => ⟨S1x16384x512, .f32⟩
  | 43 => ⟨S1x16384x512, .f32⟩
  | 44 => ⟨S1x16384x4x128, .f32⟩
  | 45 => ⟨S1x256x64x4x128, .f32⟩
  | 46 => ⟨S1x4x256x64x128, .f32⟩
  | 47 => ⟨S_, .f32⟩
  | 48 => ⟨S1x4x256x64x128, .f32⟩
  | 49 => ⟨S1x4x256x64x128, .f32⟩
  | 50 => ⟨S1x256x64x4x128, .f32⟩
  | 51 => ⟨S1x4x256x64x128, .f32⟩
  | 52 => ⟨S1x256x64x4x256, .f32⟩
  | 53 => ⟨S1x4x256x64x256, .f32⟩
  | 54 => ⟨S1x256x64x4x128, .f32⟩
  | 55 => ⟨S1x4x256x64x128, .f32⟩
  | 56 => ⟨S_, .f32⟩
  | 57 => ⟨S_, .f32⟩
  | 58 => ⟨S1x4x256x64x128, .f32⟩
  | 59 => ⟨S1x4x256x1x128, .f32⟩
  | 60 => ⟨S1x4x256x64x128, .f32⟩
  | 61 => ⟨S1x4x256x64x128, .f32⟩
  | 62 => ⟨S1x4x256x64x128, .f32⟩
  | 63 => ⟨S1x4x256x64x128, .f32⟩
  | 64 => ⟨S1x4x256x64x128, .f32⟩
  | 65 => ⟨S1x4x256x64x64, .f32⟩
  | 66 => ⟨S_, .i1⟩
  | 67 => ⟨S64x64, .i1⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i1⟩
  | 74 => ⟨S_, .i1⟩
  | 75 => ⟨S64x64, .i1⟩
  | 76 => ⟨S64x64, .i1⟩
  | 77 => ⟨S_, .f32⟩
  | 78 => ⟨S_, .f32⟩
  | 79 => ⟨S1x4x256x64x64, .i1⟩
  | 80 => ⟨S1x4x256x64x64, .f32⟩
  | 81 => ⟨S1x4x256x64x64, .f32⟩
  | 82 => ⟨S1x4x256x64x256, .f32⟩
  | 83 => ⟨S1x4x256x64x128, .f32⟩
  | 84 => ⟨S1x4x256x64x128, .f32⟩
  | 85 => ⟨S1x4x256x64x128, .f32⟩
  | 86 => ⟨S1x4x256x64x128, .f32⟩
  | 87 => ⟨S1x4x256x128x256, .f32⟩
  | 88 => ⟨S1x4x256x128, .f32⟩
  | 89 => ⟨S1x4x256x128, .f32⟩
  | 90 => ⟨S_, .f32⟩
  | 91 => ⟨S1x4x128x256, .f32⟩
  | 92 => ⟨S256x1x4x128, .f32⟩
  | 93 => ⟨S256x1x4x128x256, .f32⟩
  | 94 => ⟨S256x1x4x64x128, .f32⟩
  | 95 => ⟨S256x1x4x64x256, .f32⟩
  | 96 => ⟨S_, .f32⟩
  | 97 => ⟨S256x1x4x64x256, .f32⟩
  | 98 => ⟨S_, .i32⟩
  | 99 => ⟨S256x1x4x128, .f32⟩
  | 100 => ⟨S256x1x4x128x256, .f32⟩
  | 101 => ⟨S256x1x4x64x128, .f32⟩
  | 102 => ⟨S256x1x4x64x256, .f32⟩
  | 103 => ⟨S_, .i32⟩
  | 104 => ⟨S1x4x128x256, .f32⟩
  | 105 => ⟨S256x1x4x64x256, .f32⟩
  | 106 => ⟨S_, .i32⟩
  | 107 => ⟨S_, .i1⟩
  | 108 => ⟨S_, .i32⟩
  | 109 => ⟨S_, .i32⟩
  | 110 => ⟨S_, .i32⟩
  | 111 => ⟨S1x1x4x128, .f32⟩
  | 112 => ⟨S1x4x128, .f32⟩
  | 113 => ⟨S_, .i32⟩
  | 114 => ⟨S_, .i32⟩
  | 115 => ⟨S_, .i32⟩
  | 116 => ⟨S_, .i32⟩
  | 117 => ⟨S1x1x4x128x256, .f32⟩
  | 118 => ⟨S1x4x128x256, .f32⟩
  | 119 => ⟨S_, .i32⟩
  | 120 => ⟨S_, .i32⟩
  | 121 => ⟨S_, .i32⟩
  | 122 => ⟨S_, .i32⟩
  | 123 => ⟨S1x1x4x64x128, .f32⟩
  | 124 => ⟨S1x4x64x128, .f32⟩
  | 125 => ⟨S_, .i32⟩
  | 126 => ⟨S_, .i32⟩
  | 127 => ⟨S_, .i32⟩
  | _ => ⟨S16384x4224, .f32⟩

abbrev hbmTy0_1 (i : Nat) : BufTy := match i % 128 with
  | 0 => ⟨S_, .i32⟩
  | 1 => ⟨S1x1x4x64x256, .f32⟩
  | 2 => ⟨S1x4x64x256, .f32⟩
  | 3 => ⟨S1x4x128x1, .f32⟩
  | 4 => ⟨S1x4x128x256, .f32⟩
  | 5 => ⟨S1x4x128x256, .f32⟩
  | 6 => ⟨S1x4x128x256, .f32⟩
  | 7 => ⟨S1x4x64x256, .f32⟩
  | 8 => ⟨S1x4x64x256, .f32⟩
  | 9 => ⟨S1x1x4x64x256, .f32⟩
  | 10 => ⟨S_, .i32⟩
  | 11 => ⟨S_, .i32⟩
  | 12 => ⟨S_, .i32⟩
  | 13 => ⟨S_, .i32⟩
  | 14 => ⟨S256x1x4x64x256, .f32⟩
  | 15 => ⟨S_, .i32⟩
  | 16 => ⟨S_, .i32⟩
  | 17 => ⟨S1x4x256x64x256, .f32⟩
  | 18 => ⟨S1x256x64x4x256, .f32⟩
  | 19 => ⟨S1x16384x4x256, .f32⟩
  | 20 => ⟨S1x256, .f32⟩
  | 21 => ⟨S256, .f32⟩
  | 22 => ⟨S1x16384x4x256, .f32⟩
  | 23 => ⟨S_, .f32⟩
  | 24 => ⟨S1x16384x4, .f32⟩
  | 25 => ⟨S1x16384x4x1, .f32⟩
  | 26 => ⟨S_, .f32⟩
  | 27 => ⟨S1x16384x4x1, .f32⟩
  | 28 => ⟨S1x16384x4x1, .f32⟩
  | 29 => ⟨S_, .f32⟩
  | 30 => ⟨S1x16384x4x1, .f32⟩
  | 31 => ⟨S1x16384x4x1, .f32⟩
  | 32 => ⟨S1x16384x4x1, .f32⟩
  | 33 => ⟨S1x16384x4x256, .f32⟩
  | 34 => ⟨S1x16384x4x256, .f32⟩
  | 35 => ⟨S1x1x1x256, .f32⟩
  | 36 => ⟨S1x16384x4x256, .f32⟩
  | 37 => ⟨S1x16384x4x256, .f32⟩
  | 38 => ⟨S1x16384x1024, .f32⟩
  | 39 => ⟨S16384x1024, .f32⟩
  | 40 => ⟨S1x16384x1024, .f32⟩
  | 41 => ⟨S1x16384x1024, .f32⟩
  | 42 => ⟨S1x16384x1024, .f32⟩
  | 43 => ⟨S_, .f32⟩
  | 44 => ⟨S1x16384x1024, .f32⟩
  | 45 => ⟨S1x16384x1024, .f32⟩
  | 46 => ⟨S_, .f32⟩
  | 47 => ⟨S1x16384x1024, .f32⟩
  | 48 => ⟨S1x16384x1024, .f32⟩
  | 49 => ⟨S1x16384x1024, .f32⟩
  | 50 => ⟨S1x16384x1024, .f32⟩
  | 51 => ⟨S16384x512, .f32⟩
  | 52 => ⟨S1x16384x512, .f32⟩
  | 53 => ⟨S1x4x128x128, .f32⟩
  | 54 => ⟨S4x128x128, .f32⟩
  | 55 => ⟨S1x512, .f32⟩
  | 56 => ⟨S512, .f32⟩
  | 57 => ⟨S1x16384x4x128, .f32⟩
  | 58 => ⟨S_, .f32⟩
  | 59 => ⟨S_, .f32⟩
  | 60 => ⟨S1x16384x4x128, .f32⟩
  | 61 => ⟨S_, .i32⟩
  | 62 => ⟨S_, .f32⟩
  | 63 => ⟨S1x16385x4x128, .f32⟩
  | 64 => ⟨S16384, .f32⟩
  | 65 => ⟨S_, .f32⟩
  | 66 => ⟨S16384, .f32⟩
  | 67 => ⟨S16384, .f32⟩
  | 68 => ⟨S1x16384x1, .f32⟩
  | 69 => ⟨S1x16384x1x128, .f32⟩
  | 70 => ⟨S1x16384x128, .f32⟩
  | 71 => ⟨S1x16383x1x128, .f32⟩
  | 72 => ⟨S1x16383x128, .f32⟩
  | 73 => ⟨S_, .i32⟩
  | 74 => ⟨S_, .f32⟩
  | 75 => ⟨S1x16384x128, .f32⟩
  | 76 => ⟨S_, .f32⟩
  | 77 => ⟨S1x16384x1, .f32⟩
  | 78 => ⟨S1x16384x1, .f32⟩
  | 79 => ⟨S1x16384x128, .f32⟩
  | 80 => ⟨S1x16384x128, .f32⟩
  | 81 => ⟨S1x16384x128, .f32⟩
  | 82 => ⟨S1x16384x1x128, .f32⟩
  | 83 => ⟨S1x16384x128, .f32⟩
  | 84 => ⟨S1x16381x1x128, .f32⟩
  | 85 => ⟨S1x16381x128, .f32⟩
  | 86 => ⟨S_, .i32⟩
  | 87 => ⟨S_, .f32⟩
  | 88 => ⟨S1x16384x128, .f32⟩
  | 89 => ⟨S_, .f32⟩
  | 90 => ⟨S1x16384x1, .f32⟩
  | 91 => ⟨S1x16384x1, .f32⟩
  | 92 => ⟨S1x16384x128, .f32⟩
  | 93 => ⟨S1x16384x128, .f32⟩
  | 94 => ⟨S1x16384x128, .f32⟩
  | 95 => ⟨S1x16384x1x128, .f32⟩
  | 96 => ⟨S1x16384x128, .f32⟩
  | 97 => ⟨S1x16377x1x128, .f32⟩
  | 98 => ⟨S1x16377x128, .f32⟩
  | 99 => ⟨S_, .i32⟩
  | 100 => ⟨S_, .f32⟩
  | 101 => ⟨S1x16384x128, .f32⟩
  | 102 => ⟨S_, .f32⟩
  | 103 => ⟨S1x16384x1, .f32⟩
  | 104 => ⟨S1x16384x1, .f32⟩
  | 105 => ⟨S1x16384x128, .f32⟩
  | 106 => ⟨S1x16384x128, .f32⟩
  | 107 => ⟨S1x16384x128, .f32⟩
  | 108 => ⟨S1x16384x1x128, .f32⟩
  | 109 => ⟨S1x16384x128, .f32⟩
  | 110 => ⟨S1x16369x1x128, .f32⟩
  | 111 => ⟨S1x16369x128, .f32⟩
  | 112 => ⟨S_, .i32⟩
  | 113 => ⟨S_, .f32⟩
  | 114 => ⟨S1x16384x128, .f32⟩
  | 115 => ⟨S_, .f32⟩
  | 116 => ⟨S1x16384x1, .f32⟩
  | 117 => ⟨S1x16384x1, .f32⟩
  | 118 => ⟨S1x16384x128, .f32⟩
  | 119 => ⟨S1x16384x128, .f32⟩
  | 120 => ⟨S1x16384x128, .f32⟩
  | 121 => ⟨S1x16384x1x128, .f32⟩
  | 122 => ⟨S1x16384x1x128, .f32⟩
  | 123 => ⟨S1x16384x1x128, .f32⟩
  | 124 => ⟨S1x16384x1x128, .f32⟩
  | 125 => ⟨S1x16384x4x128, .f32⟩
  | 126 => ⟨S1x16384x4x128, .f32⟩
  | 127 => ⟨S4x128x1x16384, .f32⟩
  | _ => ⟨S16384x4224, .f32⟩

abbrev hbmTy0_2 (i : Nat) : BufTy := match i % 128 with
  | 0 => ⟨S1x16384x4x128, .f32⟩
  | 1 => ⟨S1x16384x512, .f32⟩
  | 2 => ⟨S1x1x512, .f32⟩
  | 3 => ⟨S1x16384x512, .f32⟩
  | 4 => ⟨S1x16384x512, .f32⟩
  | 5 => ⟨S16384x512, .f32⟩
  | 6 => ⟨S16384x512, .bf16⟩
  | 7 => ⟨S16384x1024, .f32⟩
  | 8 => ⟨S16384x1024, .bf16⟩
  | _ => ⟨S16384x4224, .f32⟩

abbrev hbmTy (i : Nat) : BufTy := match i / 128 with
  | 0 => hbmTy0_0 i
  | 1 => hbmTy0_1 i
  | 2 => hbmTy0_2 i
  | _ => ⟨S16384x4224, .f32⟩

abbrev bufTy : (tb : Table) → Fin (tcTables nBuf tb) → BufTy
  | .hbm, ⟨i, _⟩ => hbmTy i
  | _, _ => ⟨S16384x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_call0_call0_cst : Ref sig .tc := ⟨.hbm, 56, rfl⟩
abbrev main_call0_call0_v0 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c : Ref sig .tc := ⟨.hbm, 66, rfl⟩
abbrev main_v55 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_0 : Ref sig .tc := ⟨.hbm, 74, rfl⟩
abbrev main_call1_v5 : Ref sig .tc := ⟨.hbm, 75, rfl⟩
abbrev main_v56 : Ref sig .tc := ⟨.hbm, 76, rfl⟩
abbrev main_cst_2 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_3 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_4 : Ref sig .tc := ⟨.hbm, 96, rfl⟩
abbrev main_v71 : Ref sig .tc := ⟨.hbm, 97, rfl⟩
abbrev main_c_5 : Ref sig .tc := ⟨.hbm, 98, rfl⟩
abbrev main_v72_0 : Ref sig .tc := ⟨.hbm, 99, rfl⟩
abbrev main_v72_1 : Ref sig .tc := ⟨.hbm, 100, rfl⟩
abbrev main_v72_2 : Ref sig .tc := ⟨.hbm, 101, rfl⟩
abbrev main_v72_3 : Ref sig .tc := ⟨.hbm, 102, rfl⟩
abbrev main_v72_4 : Ref sig .tc := ⟨.hbm, 103, rfl⟩
abbrev main_v72_5 : Ref sig .tc := ⟨.hbm, 104, rfl⟩
abbrev main_v72_6 : Ref sig .tc := ⟨.hbm, 105, rfl⟩
abbrev main_while0c_c_25 : Ref sig .tc := ⟨.hbm, 106, rfl⟩
abbrev main_while0c_v165 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_c_1 : Ref sig .tc := ⟨.hbm, 110, rfl⟩
abbrev main_while0b_call3_v0 : Ref sig .tc := ⟨.hbm, 111, rfl⟩
abbrev main_while0b_v165 : Ref sig .tc := ⟨.hbm, 112, rfl⟩
abbrev main_while0b_call4_c : Ref sig .tc := ⟨.hbm, 113, rfl⟩
abbrev main_while0b_call4_c_0 : Ref sig .tc := ⟨.hbm, 114, rfl⟩
abbrev main_while0b_call4_c_1 : Ref sig .tc := ⟨.hbm, 115, rfl⟩
abbrev main_while0b_call4_c_2 : Ref sig .tc := ⟨.hbm, 116, rfl⟩
abbrev main_while0b_call4_v0 : Ref sig .tc := ⟨.hbm, 117, rfl⟩
abbrev main_while0b_v166 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_c_1 : Ref sig .tc := ⟨.hbm, 121, rfl⟩
abbrev main_while0b_call5_c_2 : Ref sig .tc := ⟨.hbm, 122, rfl⟩
abbrev main_while0b_call5_v0 : Ref sig .tc := ⟨.hbm, 123, rfl⟩
abbrev main_while0b_v167 : Ref sig .tc := ⟨.hbm, 124, rfl⟩
abbrev main_while0b_call6_c : Ref sig .tc := ⟨.hbm, 125, rfl⟩
abbrev main_while0b_call6_c_0 : Ref sig .tc := ⟨.hbm, 126, rfl⟩
abbrev main_while0b_call6_c_1 : Ref sig .tc := ⟨.hbm, 127, rfl⟩
abbrev main_while0b_call6_c_2 : Ref sig .tc := ⟨.hbm, 128, rfl⟩
abbrev main_while0b_call6_v0 : Ref sig .tc := ⟨.hbm, 129, rfl⟩
abbrev main_while0b_v168 : Ref sig .tc := ⟨.hbm, 130, rfl⟩
abbrev main_while0b_v169 : Ref sig .tc := ⟨.hbm, 131, rfl⟩
abbrev main_while0b_v170 : Ref sig .tc := ⟨.hbm, 132, rfl⟩
abbrev main_while0b_v171 : Ref sig .tc := ⟨.hbm, 133, rfl⟩
abbrev main_while0b_v172 : Ref sig .tc := ⟨.hbm, 134, rfl⟩
abbrev main_while0b_v173 : Ref sig .tc := ⟨.hbm, 135, rfl⟩
abbrev main_while0b_v174 : Ref sig .tc := ⟨.hbm, 136, rfl⟩
abbrev main_while0b_call7_v0 : Ref sig .tc := ⟨.hbm, 137, rfl⟩
abbrev main_while0b_call7_c : Ref sig .tc := ⟨.hbm, 138, rfl⟩
abbrev main_while0b_call7_c_0 : Ref sig .tc := ⟨.hbm, 139, rfl⟩
abbrev main_while0b_call7_c_1 : Ref sig .tc := ⟨.hbm, 140, rfl⟩
abbrev main_while0b_call7_c_2 : Ref sig .tc := ⟨.hbm, 141, rfl⟩
abbrev main_while0b_v175 : Ref sig .tc := ⟨.hbm, 142, rfl⟩
abbrev main_while0b_c_25 : Ref sig .tc := ⟨.hbm, 143, rfl⟩
abbrev main_while0b_v176 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_cst_6 : Ref sig .tc := ⟨.hbm, 151, rfl⟩
abbrev main_v79 : Ref sig .tc := ⟨.hbm, 152, rfl⟩
abbrev main_v80 : Ref sig .tc := ⟨.hbm, 153, rfl⟩
abbrev main_cst_7 : Ref sig .tc := ⟨.hbm, 154, rfl⟩
abbrev main_v81 : Ref sig .tc := ⟨.hbm, 155, rfl⟩
abbrev main_v82 : Ref sig .tc := ⟨.hbm, 156, rfl⟩
abbrev main_cst_8 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_call8_v0 : Ref sig .tc := ⟨.hbm, 169, rfl⟩
abbrev main_call8_v1 : Ref sig .tc := ⟨.hbm, 170, rfl⟩
abbrev main_call8_cst : Ref sig .tc := ⟨.hbm, 171, rfl⟩
abbrev main_call8_v2 : Ref sig .tc := ⟨.hbm, 172, rfl⟩
abbrev main_call8_v3 : Ref sig .tc := ⟨.hbm, 173, rfl⟩
abbrev main_call8_cst_0 : Ref sig .tc := ⟨.hbm, 174, rfl⟩
abbrev main_call8_v4 : Ref sig .tc := ⟨.hbm, 175, rfl⟩
abbrev main_call8_v5 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_call9_cst : Ref sig .tc := ⟨.hbm, 186, rfl⟩
abbrev main_call9_v0 : Ref sig .tc := ⟨.hbm, 187, rfl⟩
abbrev main_v103 : Ref sig .tc := ⟨.hbm, 188, rfl⟩
abbrev main_c_9 : Ref sig .tc := ⟨.hbm, 189, rfl⟩
abbrev main_call10_v0 : Ref sig .tc := ⟨.hbm, 190, rfl⟩
abbrev main_v104 : Ref sig .tc := ⟨.hbm, 191, rfl⟩
abbrev main_v105 : Ref sig .tc := ⟨.hbm, 192, rfl⟩
abbrev main_cst_10 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_c_11 : Ref sig .tc := ⟨.hbm, 201, rfl⟩
abbrev main_call11_v0 : Ref sig .tc := ⟨.hbm, 202, rfl⟩
abbrev main_v113 : Ref sig .tc := ⟨.hbm, 203, rfl⟩
abbrev main_cst_12 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_c_13 : Ref sig .tc := ⟨.hbm, 214, rfl⟩
abbrev main_call12_v0 : Ref sig .tc := ⟨.hbm, 215, rfl⟩
abbrev main_v123 : Ref sig .tc := ⟨.hbm, 216, rfl⟩
abbrev main_cst_14 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_c_15 : Ref sig .tc := ⟨.hbm, 227, rfl⟩
abbrev main_call13_v0 : Ref sig .tc := ⟨.hbm, 228, rfl⟩
abbrev main_v133 : Ref sig .tc := ⟨.hbm, 229, rfl⟩
abbrev main_cst_16 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_c_17 : Ref sig .tc := ⟨.hbm, 240, rfl⟩
abbrev main_call14_v0 : Ref sig .tc := ⟨.hbm, 241, rfl⟩
abbrev main_v143 : Ref sig .tc := ⟨.hbm, 242, rfl⟩
abbrev main_cst_18 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x2048 : Shape := ⟨2, ![16384, 2048]⟩
abbrev S2048x11264 : Shape := ⟨2, ![2048, 11264]⟩
abbrev S2x3x5632 : Shape := ⟨3, ![2, 3, 5632]⟩
abbrev S2x5632 : Shape := ⟨2, ![2, 5632]⟩
abbrev S5632x2048 : Shape := ⟨2, ![5632, 2048]⟩
abbrev S2x1x5632 : Shape := ⟨3, ![2, 1, 5632]⟩
abbrev S1024x2048 : Shape := ⟨2, ![1024, 2048]⟩
abbrev S1024x512 : Shape := ⟨2, ![1024, 512]⟩
abbrev S2048x512 : Shape := ⟨2, ![2048, 512]⟩
abbrev S1x3x5632 : Shape := ⟨3, ![1, 3, 5632]⟩
abbrev S1x1x5632 : Shape := ⟨3, ![1, 1, 5632]⟩
abbrev S5632x512 : Shape := ⟨2, ![5632, 512]⟩
abbrev S1024x5632 : Shape := ⟨2, ![1024, 5632]⟩
abbrev S1032x512 : Shape := ⟨2, ![1032, 512]⟩
abbrev S11x8x512 : Shape := ⟨3, ![11, 8, 512]⟩
abbrev S1x8x512 : Shape := ⟨3, ![1, 8, 512]⟩
abbrev S8x512 : Shape := ⟨2, ![8, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩

abbrev nBuf : Space → Nat
  | .hbm => 8
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x11264, .bf16⟩
  | .hbm, ⟨3, _⟩ => ⟨S2x3x5632, .f32⟩
  | .hbm, ⟨4, _⟩ => ⟨S2x5632, .f32⟩
  | .hbm, ⟨5, _⟩ => ⟨S5632x2048, .bf16⟩
  | .hbm, ⟨6, _⟩ => ⟨S2x1x5632, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x512, .f32⟩
  | .local _ .vmem, ⟨3, _⟩ => ⟨S1024x512, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x3x5632, .f32⟩
  | .local _ .vmem, ⟨9, _⟩ => ⟨S1x1x5632, .f32⟩
  | .local _ .vmem, ⟨10, _⟩ => ⟨S5632x512, .bf16⟩
  | .local _ .vmem, ⟨11, _⟩ => ⟨S5632x512, .bf16⟩
  | .local _ .vmem, ⟨12, _⟩ => ⟨S1024x512, .f32⟩
  | .local _ .vmem, ⟨13, _⟩ => ⟨S1024x512, .f32⟩
  | .local _ .vmem, ⟨14, _⟩ => ⟨S1024x5632, .bf16⟩
  | .local _ .vmem, ⟨15, _⟩ => ⟨S1032x512, .f32⟩
  | .local _ .vmem, ⟨16, _⟩ => ⟨S11x8x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 15], ![false, false]⟩

def k0_cond1 (i : grid0.Coords) : BitVec 1 :=
  let arg1 : BitVec 32 := BitVec.ofNat 32 (i 1).val
  let c11_i32 : BitVec 32 := 11#32
  let v0 : BitVec 1 := Scalar.cmpi .slt arg1 c11_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c0_i32_7 : BitVec 32 := 0#32
  let v18 : BitVec 1 := Scalar.cmpi .eq v17 c0_i32_7
  let c10_i32 : BitVec 32 := 10#32
  let c0_i32_2 : BitVec 32 := 0#32
  let arg1 : BitVec 32 := BitVec.ofNat 32 (i 1).val
  let v6 : BitVec 32 := Scalar.maxsi c0_i32_2 arg1
  let v7 : BitVec 32 := Scalar.minsi c10_i32 v6
  let c10_i32_8 : BitVec 32 := 10#32
  let v19 : BitVec 32 := Scalar.subi c10_i32_8 v7
  let v20 : BitVec 32 := Scalar.select v18 v7 v19
  let c512_i32 : BitVec 32 := 512#32
  let v21 : BitVec 32 := Scalar.muli v20 c512_i32
  v21
def k0_off1 (i : grid0.Coords) : Fin 3 → Nat :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c0_i32_7 : BitVec 32 := 0#32
  let v18 : BitVec 1 := Scalar.cmpi .eq v17 c0_i32_7
  let c10_i32 : BitVec 32 := 10#32
  let c0_i32_2 : BitVec 32 := 0#32
  let arg1 : BitVec 32 := BitVec.ofNat 32 (i 1).val
  let v6 : BitVec 32 := Scalar.maxsi c0_i32_2 arg1
  let v7 : BitVec 32 := Scalar.minsi c10_i32 v6
  let c10_i32_8 : BitVec 32 := 10#32
  let v19 : BitVec 32 := Scalar.subi c10_i32_8 v7
  let v20 : BitVec 32 := Scalar.select v18 v7 v19
  let v25 : Index := Scalar.indexCast v20
  let c0_11 : Index := 0#32
  let c0_12 : Index := 0#32
  ![v25.toNat, 0, 0]
def k0_off2 (i : grid0.Coords) : Fin 3 → Nat :=
  let c0_22 : Index := 0#32
  let c0_23 : Index := 0#32
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c0_i32_7 : BitVec 32 := 0#32
  let v18 : BitVec 1 := Scalar.cmpi .eq v17 c0_i32_7
  let c10_i32 : BitVec 32 := 10#32
  let c0_i32_2 : BitVec 32 := 0#32
  let arg1 : BitVec 32 := BitVec.ofNat 32 (i 1).val
  let v6 : BitVec 32 := Scalar.maxsi c0_i32_2 arg1
  let v7 : BitVec 32 := Scalar.minsi c10_i32 v6
  let c10_i32_8 : BitVec 32 := 10#32
  let v19 : BitVec 32 := Scalar.subi c10_i32_8 v7
  let v20 : BitVec 32 := Scalar.select v18 v7 v19
  let c512_i32 : BitVec 32 := 512#32
  let v21 : BitVec 32 := Scalar.muli v20 c512_i32
  let v22 : BitVec 32 := v21
  let v43 : Index := Scalar.indexCast v22
  ![0, 0, v43.toNat]
def k0_off3 (i : grid0.Coords) : Fin 3 → Nat :=
  let c0_26 : Index := 0#32
  let c0_27 : Index := 0#32
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c0_i32_7 : BitVec 32 := 0#32
  let v18 : BitVec 1 := Scalar.cmpi .eq v17 c0_i32_7
  let c10_i32 : BitVec 32 := 10#32
  let c0_i32_2 : BitVec 32 := 0#32
  let arg1 : BitVec 32 := BitVec.ofNat 32 (i 1).val
  let v6 : BitVec 32 := Scalar.maxsi c0_i32_2 arg1
  let v7 : BitVec 32 := Scalar.minsi c10_i32 v6
  let c10_i32_8 : BitVec 32 := 10#32
  let v19 : BitVec 32 := Scalar.subi c10_i32_8 v7
  let v20 : BitVec 32 := Scalar.select v18 v7 v19
  let c512_i32 : BitVec 32 := 512#32
  let v21 : BitVec 32 := Scalar.muli v20 c512_i32
  let v22 : BitVec 32 := v21
  let v47 : Index := Scalar.indexCast v22
  ![0, 0, v47.toNat]
def k0_off4 (i : grid0.Coords) : Fin 2 → Nat :=
  let c0_36 : Index := 0#32
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32 : BitVec 32 := 1#32
  let v9 : BitVec 32 := Scalar.select v8 c1_i32 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c0_i32_7 : BitVec 32 := 0#32
  let v18 : BitVec 1 := Scalar.cmpi .eq v17 c0_i32_7
  let c10_i32 : BitVec 32 := 10#32
  let c0_i32_2 : BitVec 32 := 0#32
  let arg1 : BitVec 32 := BitVec.ofNat 32 (i 1).val
  let v6 : BitVec 32 := Scalar.maxsi c0_i32_2 arg1
  let v7 : BitVec 32 := Scalar.minsi c10_i32 v6
  let c10_i32_8 : BitVec 32 := 10#32
  let v19 : BitVec 32 := Scalar.subi c10_i32_8 v7
  let v20 : BitVec 32 := Scalar.select v18 v7 v19
  let c512_i32 : BitVec 32 := 512#32
  let v21 : BitVec 32 := Scalar.muli v20 c512_i32
  let v22 : BitVec 32 := v21
  let v80 : Index := Scalar.indexCast v22
  ![0, v80.toNat]
def k0_cond2 (i : grid0.Coords) : BitVec 1 :=
  let arg1 : BitVec 32 := BitVec.ofNat 32 (i 1).val
  let c11_i32_0 : BitVec 32 := 11#32
  let v3 : BitVec 1 := Scalar.cmpi .sge arg1 c11_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c3_i32 : BitVec 32 := 3#32
  let v1 : BitVec 32 := Scalar.maxsi c0_i32 v0
  let v2 : BitVec 32 := Scalar.minsi c3_i32 v1
  let c2_i32 : BitVec 32 := 2#32
  let c0_i32_0 : BitVec 32 := 0#32
  let v3 : BitVec 1 := Scalar.cmpi .eq c2_i32 c0_i32_0
  let c1_i32 : BitVec 32 := 1#32
  let v4 : BitVec 32 := Scalar.select v3 c1_i32 c2_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c3_i32_5 : BitVec 32 := 3#32
  let v14 : BitVec 32 := Scalar.subi c3_i32_5 v2
  let v15 : BitVec 32 := Scalar.select v13 v2 v14
  let c0_i32_6 : BitVec 32 := 0#32
  ![arg0.toNat, v15.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c10_i32 : BitVec 32 := 10#32
  let v0 : BitVec 32 := Scalar.maxsi c0_i32 arg1
  let v1 : BitVec 32 := Scalar.minsi c10_i32 v0
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi arg0 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c10_i32_5 : BitVec 32 := 10#32
  let v13 : BitVec 32 := Scalar.subi c10_i32_5 v1
  let v14 : BitVec 32 := Scalar.select v12 v1 v13
  let c0_i32_6 : BitVec 32 := 0#32
  let c0_i32_7 : BitVec 32 := 0#32
  ![c0_i32_6.toNat, v14.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c10_i32 : BitVec 32 := 10#32
  let v0 : BitVec 32 := Scalar.maxsi c0_i32 arg1
  let v1 : BitVec 32 := Scalar.minsi c10_i32 v0
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi arg0 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c10_i32_5 : BitVec 32 := 10#32
  let v13 : BitVec 32 := Scalar.subi c10_i32_5 v1
  let v14 : BitVec 32 := Scalar.select v12 v1 v13
  let c11_i32 : BitVec 32 := 11#32
  let v15 : BitVec 32 := Scalar.addi c11_i32 v14
  let c0_i32_6 : BitVec 32 := 0#32
  let c0_i32_7 : BitVec 32 := 0#32
  ![c0_i32_6.toNat, v15.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c3_i32 : BitVec 32 := 3#32
  let v1 : BitVec 32 := Scalar.maxsi c0_i32 v0
  let v2 : BitVec 32 := Scalar.minsi c3_i32 v1
  let c2_i32 : BitVec 32 := 2#32
  let c0_i32_0 : BitVec 32 := 0#32
  let v3 : BitVec 1 := Scalar.cmpi .eq c2_i32 c0_i32_0
  let c1_i32 : BitVec 32 := 1#32
  let v4 : BitVec 32 := Scalar.select v3 c1_i32 c2_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c3_i32_5 : BitVec 32 := 3#32
  let v14 : BitVec 32 := Scalar.subi c3_i32_5 v2
  let v15 : BitVec 32 := Scalar.select v13 v2 v14
  let c0_i32_6 : BitVec 32 := 0#32
  let c0_i32_7 : BitVec 32 := 0#32
  ![c0_i32_6.toNat, v15.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c3_i32 : BitVec 32 := 3#32
  let v1 : BitVec 32 := Scalar.maxsi c0_i32 v0
  let v2 : BitVec 32 := Scalar.minsi c3_i32 v1
  let c2_i32 : BitVec 32 := 2#32
  let c0_i32_0 : BitVec 32 := 0#32
  let v3 : BitVec 1 := Scalar.cmpi .eq c2_i32 c0_i32_0
  let c1_i32 : BitVec 32 := 1#32
  let v4 : BitVec 32 := Scalar.select v3 c1_i32 c2_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c3_i32_5 : BitVec 32 := 3#32
  let v14 : BitVec 32 := Scalar.subi c3_i32_5 v2
  let v15 : BitVec 32 := Scalar.select v13 v2 v14
  let c0_i32_6 : BitVec 32 := 0#32
  ![arg0.toNat, v15.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S5632x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16384x2048 : Shape := ⟨2, ![16384, 2048]⟩
abbrev S2048x11264 : Shape := ⟨2, ![2048, 11264]⟩
abbrev S2x3x5632 : Shape := ⟨3, ![2, 3, 5632]⟩
abbrev S2x5632 : Shape := ⟨2, ![2, 5632]⟩
abbrev S5632x2048 : Shape := ⟨2, ![5632, 2048]⟩
abbrev S1x16384x2048 : Shape := ⟨3, ![1, 16384, 2048]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x16384x11264 : Shape := ⟨3, ![1, 16384, 11264]⟩
abbrev S1x16384x5632 : Shape := ⟨3, ![1, 16384, 5632]⟩
abbrev S_ : Shape := ⟨0, ![]⟩
abbrev S1x16386x5632 : Shape := ⟨3, ![1, 16386, 5632]⟩
abbrev S1x1x5632 : Shape := ⟨3, ![1, 1, 5632]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x11264, .bf16⟩
  | .hbm, ⟨3, _⟩ => ⟨S2x3x5632, .f32⟩
  | .hbm, ⟨4, _⟩ => ⟨S2x5632, .f32⟩
  | .hbm, ⟨5, _⟩ => ⟨S5632x2048, .bf16⟩
  | .hbm, ⟨6, _⟩ => ⟨S16384x2048, .f32⟩
  | .hbm, ⟨7, _⟩ => ⟨S1x16384x2048, .f32⟩
  | .hbm, ⟨8, _⟩ => ⟨S2048x11264, .f32⟩
  | .hbm, ⟨9, _⟩ => ⟨S1x3x5632, .f32⟩
  | .hbm, ⟨10, _⟩ => ⟨S3x5632, .f32⟩
  | .hbm, ⟨11, _⟩ => ⟨S1x5632, .f32⟩
  | .hbm, ⟨12, _⟩ => ⟨S5632, .f32⟩
  | .hbm, ⟨13, _⟩ => ⟨S5632x2048, .f32⟩
  | .hbm, ⟨14, _⟩ => ⟨S1x16384x11264, .f32⟩
  | .hbm, ⟨15, _⟩ => ⟨S1x16384x5632, .f32⟩
  | .hbm, ⟨16, _⟩ => ⟨S1x16384x5632, .f32⟩
  | .hbm, ⟨17, _⟩ => ⟨S_, .i32⟩
  | .hbm, ⟨18, _⟩ => ⟨S_, .f32⟩
  | .hbm, ⟨19, _⟩ => ⟨S1x16386x5632, .f32⟩
  | .hbm, ⟨20, _⟩ => ⟨S1x16384x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S1x16384x5632, .f32⟩
  | .hbm, ⟨25, _⟩ => ⟨S1x16384x5632, .f32⟩
  | .hbm, ⟨26, _⟩ => ⟨S1x1x5632, .f32⟩
  | .hbm, ⟨27, _⟩ => ⟨S1x16384x5632, .f32⟩
  | .hbm, ⟨28, _⟩ => ⟨S1x16384x5632, .f32⟩
  | .hbm, ⟨29, _⟩ => ⟨S1x16384x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S1x16384x5632, .f32⟩
  | .hbm, ⟨34, _⟩ => ⟨S1x16384x5632, .f32⟩
  | .hbm, ⟨35, _⟩ => ⟨S1x16384x5632, .f32⟩
  | .hbm, ⟨36, _⟩ => ⟨S1x16384x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S1x16384x5632, .f32⟩
  | .hbm, ⟨41, _⟩ => ⟨S1x16384x5632, .f32⟩
  | .hbm, ⟨42, _⟩ => ⟨S1x16384x5632, .f32⟩
  | .hbm, ⟨43, _⟩ => ⟨S1x16384x5632, .f32⟩
  | .hbm, ⟨44, _⟩ => ⟨S1x16384x5632, .f32⟩
  | .hbm, ⟨45, _⟩ => ⟨S_, .f32⟩
  | .hbm, ⟨46, _⟩ => ⟨S1x16384x5632, .f32⟩
  | .hbm, ⟨47, _⟩ => ⟨S1x16384x5632, .f32⟩
  | .hbm, ⟨48, _⟩ => ⟨S_, .f32⟩
  | .hbm, ⟨49, _⟩ => ⟨S1x16384x5632, .f32⟩
  | .hbm, ⟨50, _⟩ => ⟨S1x16384x5632, .f32⟩
  | .hbm, ⟨51, _⟩ => ⟨S1x16384x5632, .f32⟩
  | .hbm, ⟨52, _⟩ => ⟨S1x16384x5632, .f32⟩
  | .hbm, ⟨53, _⟩ => ⟨S1x16384x2048, .f32⟩
  | .hbm, ⟨54, _⟩ => ⟨S1x16384x2048, .f32⟩
  | .hbm, ⟨55, _⟩ => ⟨S1x16384x2048, .f32⟩
  | .hbm, ⟨56, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel3.lean ====
abbrev S16384x2048 : Shape := ⟨2, ![16384, 2048]⟩
abbrev S16384x512 : Shape := ⟨2, ![16384, 512]⟩
abbrev S16384x1024 : Shape := ⟨2, ![16384, 1024]⟩
abbrev S2048x2048 : Shape := ⟨2, ![2048, 2048]⟩
abbrev S2x2048 : Shape := ⟨2, ![2, 2048]⟩
abbrev S2x2048x2048 : Shape := ⟨3, ![2, 2048, 2048]⟩
abbrev S2x1x2048 : Shape := ⟨3, ![2, 1, 2048]⟩
abbrev S512x2048 : Shape := ⟨2, ![512, 2048]⟩
abbrev S512x512 : Shape := ⟨2, ![512, 512]⟩
abbrev S512x1024 : Shape := ⟨2, ![512, 1024]⟩
abbrev S1x1x2048 : Shape := ⟨3, ![1, 1, 2048]⟩
abbrev S1x64x2048 : Shape := ⟨3, ![1, 64, 2048]⟩
abbrev S64x2048 : Shape := ⟨2, ![64, 2048]⟩
abbrev S2048x512 : Shape := ⟨2, ![2048, 512]⟩
abbrev S1x2048 : Shape := ⟨2, ![1, 2048]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S2048x2048, .bf16⟩
  | .hbm, ⟨5, _⟩ => ⟨S2x2048, .f32⟩
  | .hbm, ⟨6, _⟩ => ⟨S2x2048x2048, .f32⟩
  | .hbm, ⟨7, _⟩ => ⟨S2x1x2048, .f32⟩
  | .hbm, ⟨8, _⟩ => ⟨S16384x2048, .f32⟩
  | .hbm, ⟨9, _⟩ => ⟨S16384x2048, .bf16⟩
  | .hbm, ⟨10, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S2048x2048, .bf16⟩
  | .local _ .vmem, ⟨9, _⟩ => ⟨S1x1x2048, .f32⟩
  | .local _ .vmem, ⟨10, _⟩ => ⟨S1x64x2048, .f32⟩
  | .local _ .vmem, ⟨11, _⟩ => ⟨S1x64x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S64x2048, .bf16⟩
  | .local _ .vmem, ⟨17, _⟩ => ⟨S64x2048, .bf16⟩
  | .local _ .vmem, ⟨18, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x2048 : Shape := ⟨2, ![16384, 2048]⟩
abbrev S16384x512 : Shape := ⟨2, ![16384, 512]⟩
abbrev S16384x1024 : Shape := ⟨2, ![16384, 1024]⟩
abbrev S2048x2048 : Shape := ⟨2, ![2048, 2048]⟩
abbrev S2x2048 : Shape := ⟨2, ![2, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x2048 : Shape := ⟨3, ![1, 2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S2048x2048, .bf16⟩
  | .hbm, ⟨5, _⟩ => ⟨S2x2048, .f32⟩
  | .hbm, ⟨6, _⟩ => ⟨S2x2048x2048, .f32⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x2048, .f32⟩
  | .hbm, ⟨11, _⟩ => ⟨S2048x2048, .f32⟩
  | .hbm, ⟨12, _⟩ => ⟨S16384x2048, .f32⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | .hbm, ⟨33, _⟩ => ⟨S1x2048x2048, .f32⟩
  | .hbm, ⟨34, _⟩ => ⟨S2048x2048, .f32⟩
  | .hbm, ⟨35, _⟩ => ⟨S2048x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S16384x2048 : Shape := ⟨2, ![16384, 2048]⟩
abbrev S2x2048 : Shape := ⟨2, ![2, 2048]⟩
abbrev S2x2048x4112 : Shape := ⟨3, ![2, 2048, 4112]⟩
abbrev S2x5632x2048 : Shape := ⟨3, ![2, 5632, 2048]⟩
abbrev S2x2048x2048 : Shape := ⟨3, ![2, 2048, 2048]⟩
abbrev S2x1x2048 : Shape := ⟨3, ![2, 1, 2048]⟩
abbrev S16384x4224 : Shape := ⟨2, ![16384, 4224]⟩
abbrev S5632x2048 : Shape := ⟨2, ![5632, 2048]⟩
abbrev S2048x2048 : Shape := ⟨2, ![2048, 2048]⟩
abbrev S512x2048 : Shape := ⟨2, ![512, 2048]⟩
abbrev S1x1x2048 : Shape := ⟨3, ![1, 1, 2048]⟩
abbrev S1x2048x4112 : Shape := ⟨3, ![1, 2048, 4112]⟩
abbrev S1x176x2048 : Shape := ⟨3, ![1, 176, 2048]⟩
abbrev S1x64x2048 : Shape := ⟨3, ![1, 64, 2048]⟩
abbrev S512x4224 : Shape := ⟨2, ![512, 4224]⟩
abbrev S176x2048 : Shape := ⟨2, ![176, 2048]⟩
abbrev S64x2048 : Shape := ⟨2, ![64, 2048]⟩
abbrev S512x256 : Shape := ⟨2, ![512, 256]⟩
abbrev S1x1x256 : Shape := ⟨3, ![1, 1, 256]⟩
abbrev S1x256 : Shape := ⟨2, ![1, 256]⟩
abbrev S512 : Shape := ⟨1, ![512]⟩
abbrev S512x1 : Shape := ⟨2, ![512, 1]⟩
abbrev S512x512 : Shape := ⟨2, ![512, 512]⟩
abbrev S1x2048x512 : Shape := ⟨3, ![1, 2048, 512]⟩
abbrev S2048x512 : Shape := ⟨2, ![2048, 512]⟩
abbrev S1x2048x16 : Shape := ⟨3, ![1, 2048, 16]⟩
abbrev S2048x16 : Shape := ⟨2, ![2048, 16]⟩
abbrev S512x16 : Shape := ⟨2, ![512, 16]⟩
abbrev S512x1040 : Shape := ⟨2, ![512, 1040]⟩
abbrev S512x128 : Shape := ⟨2, ![512, 128]⟩
abbrev S512x1024 : Shape := ⟨2, ![512, 1024]⟩

abbrev nBuf : Space → Nat
  | .hbm => 10
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x4112, .f32⟩
  | .hbm, ⟨3, _⟩ => ⟨S2x5632x2048, .f32⟩
  | .hbm, ⟨4, _⟩ => ⟨S2x2048x2048, .f32⟩
  | .hbm, ⟨5, _⟩ => ⟨S2x1x2048, .f32⟩
  | .hbm, ⟨6, _⟩ => ⟨S2x2048x4112, .bf16⟩
  | .hbm, ⟨7, _⟩ => ⟨S16384x4224, .f32⟩
  | .hbm, ⟨8, _⟩ => ⟨S5632x2048, .bf16⟩
  | .hbm, ⟨9, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x4112, .bf16⟩
  | .local _ .vmem, ⟨4, _⟩ => ⟨S1x176x2048, .f32⟩
  | .local _ .vmem, ⟨5, _⟩ => ⟨S1x176x2048, .f32⟩
  | .local _ .vmem, ⟨6, _⟩ => ⟨S1x64x2048, .f32⟩
  | .local _ .vmem, ⟨7, _⟩ => ⟨S1x64x2048, .f32⟩
  | .local _ .vmem, ⟨8, _⟩ => ⟨S512x4224, .f32⟩
  | .local _ .vmem, ⟨9, _⟩ => ⟨S512x4224, .f32⟩
  | .local _ .vmem, ⟨10, _⟩ => ⟨S176x2048, .bf16⟩
  | .local _ .vmem, ⟨11, _⟩ => ⟨S176x2048, .bf16⟩
  | .local _ .vmem, ⟨12, _⟩ => ⟨S64x2048, .bf16⟩
  | .local _ .vmem, ⟨13, _⟩ => ⟨S64x2048, .bf16⟩
  | .local _ .vmem, ⟨14, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x4112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x2048 : Shape := ⟨2, ![16384, 2048]⟩
abbrev S2x2048 : Shape := ⟨2, ![2, 2048]⟩
abbrev S2x2048x4112 : Shape := ⟨3, ![2, 2048, 4112]⟩
abbrev S2x5632x2048 : Shape := ⟨3, ![2, 5632, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x4112 : Shape := ⟨3, ![1, 2048, 4112]⟩
abbrev S2048x4112 : Shape := ⟨2, ![2048, 4112]⟩
abbrev S16384x4112 : Shape := ⟨2, ![16384, 4112]⟩
abbrev S16384x3072 : Shape := ⟨2, ![16384, 3072]⟩
abbrev S16384x16 : Shape := ⟨2, ![16384, 16]⟩
abbrev S16384x1024 : Shape := ⟨2, ![16384, 1024]⟩
abbrev S16384x112 : Shape := ⟨2, ![16384, 112]⟩
abbrev S16384x4224 : Shape := ⟨2, ![16384, 4224]⟩
abbrev S1x5632x2048 : Shape := ⟨3, ![1, 5632, 2048]⟩
abbrev S5632x2048 : Shape := ⟨2, ![5632, 2048]⟩
abbrev S1x2048x2048 : Shape := ⟨3, ![1, 2048, 2048]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x4112, .f32⟩
  | .hbm, ⟨3, _⟩ => ⟨S2x5632x2048, .f32⟩
  | .hbm, ⟨4, _⟩ => ⟨S2x2048x2048, .f32⟩
  | .hbm, ⟨5, _⟩ => ⟨S1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S1x2048x4112, .f32⟩
  | .hbm, ⟨24, _⟩ => ⟨S2048x4112, .f32⟩
  | .hbm, ⟨25, _⟩ => ⟨S16384x4112, .f32⟩
  | .hbm, ⟨26, _⟩ => ⟨S16384x3072, .f32⟩
  | .hbm, ⟨27, _⟩ => ⟨S16384x16, .f32⟩
  | .hbm, ⟨28, _⟩ => ⟨S16384x1024, .f32⟩
  | .hbm, ⟨29, _⟩ => ⟨S16384x112, .f32⟩
  | .hbm, ⟨30, _⟩ => ⟨S16384x4224, .f32⟩
  | .hbm, ⟨31, _⟩ => ⟨S1x5632x2048, .f32⟩
  | .hbm, ⟨32, _⟩ => ⟨S5632x2048, .f32⟩
  | .hbm, ⟨33, _⟩ => ⟨S5632x2048, .bf16⟩
  | .hbm, ⟨34, _⟩ => ⟨S1x2048x2048, .f32⟩
  | .hbm, ⟨35, _⟩ => ⟨S2048x2048, .f32⟩
  | .hbm, ⟨36, _⟩ => ⟨S2048x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel5.lean ====
abbrev S16384x2048 : Shape := ⟨2, ![16384, 2048]⟩
abbrev S2x16384x256 : Shape := ⟨3, ![2, 16384, 256]⟩
abbrev S2x2048 : Shape := ⟨2, ![2, 2048]⟩
abbrev S2048x2048 : Shape := ⟨2, ![2048, 2048]⟩
abbrev S2x256x2048 : Shape := ⟨3, ![2, 256, 2048]⟩
abbrev S2048 : Shape := ⟨1, ![2048]⟩
abbrev S2x1x2048 : Shape := ⟨3, ![2, 1, 2048]⟩
abbrev S1x2048 : Shape := ⟨2, ![1, 2048]⟩
abbrev S512x2048 : Shape := ⟨2, ![512, 2048]⟩
abbrev S1x512x256 : Shape := ⟨3, ![1, 512, 256]⟩
abbrev S1x1x2048 : Shape := ⟨3, ![1, 1, 2048]⟩
abbrev S1x256x2048 : Shape := ⟨3, ![1, 256, 2048]⟩
abbrev S512x256 : Shape := ⟨2, ![512, 256]⟩
abbrev S1x1x256 : Shape := ⟨3, ![1, 1, 256]⟩
abbrev S1x256 : Shape := ⟨2, ![1, 256]⟩
abbrev S512 : Shape := ⟨1, ![512]⟩
abbrev S512x1 : Shape := ⟨2, ![512, 1]⟩
abbrev S512x512 : Shape := ⟨2, ![512, 512]⟩
abbrev S2048x512 : Shape := ⟨2, ![2048, 512]⟩
abbrev S1x256x512 : Shape := ⟨3, ![1, 256, 512]⟩
abbrev S256x512 : Shape := ⟨2, ![256, 512]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2x16384x256, .f32⟩
  | .hbm, ⟨2, _⟩ => ⟨S2x2048, .f32⟩
  | .hbm, ⟨3, _⟩ => ⟨S2048x2048, .bf16⟩
  | .hbm, ⟨4, _⟩ => ⟨S2x256x2048, .f32⟩
  | .hbm, ⟨5, _⟩ => ⟨S2048, .f32⟩
  | .hbm, ⟨6, _⟩ => ⟨S2x1x2048, .f32⟩
  | .hbm, ⟨7, _⟩ => ⟨S2x256x2048, .bf16⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x1x2048, .f32⟩
  | .local _ .vmem, ⟨5, _⟩ => ⟨S2048x2048, .bf16⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x2048 : Shape := ⟨2, ![16384, 2048]⟩
abbrev S2x16384x256 : Shape := ⟨3, ![2, 16384, 256]⟩
abbrev S2x2048 : Shape := ⟨2, ![2, 2048]⟩
abbrev S2048x2048 : Shape := ⟨2, ![2048, 2048]⟩
abbrev S2x256x2048 : Shape := ⟨3, ![2, 256, 2048]⟩
abbrev S2048 : Shape := ⟨1, ![2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x16384x256 : Shape := ⟨3, ![1, 16384, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x16384x256, .f32⟩
  | .hbm, ⟨2, _⟩ => ⟨S2x2048, .f32⟩
  | .hbm, ⟨3, _⟩ => ⟨S2048x2048, .bf16⟩
  | .hbm, ⟨4, _⟩ => ⟨S2x256x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S2048x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S1x16384x256, .f32⟩
  | .hbm, ⟨35, _⟩ => ⟨S16384x256, .f32⟩
  | .hbm, ⟨36, _⟩ => ⟨S1x256x2048, .f32⟩
  | .hbm, ⟨37, _⟩ => ⟨S256x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel6.lean ====
abbrev S16384x2048 : Shape := ⟨2, ![16384, 2048]⟩
abbrev S2x16384x256 : Shape := ⟨3, ![2, 16384, 256]⟩
abbrev S2x2048 : Shape := ⟨2, ![2, 2048]⟩
abbrev S2048x2048 : Shape := ⟨2, ![2048, 2048]⟩
abbrev S2x256x2048 : Shape := ⟨3, ![2, 256, 2048]⟩
abbrev S2x1x2048 : Shape := ⟨3, ![2, 1, 2048]⟩
abbrev S512x2048 : Shape := ⟨2, ![512, 2048]⟩
abbrev S1x512x256 : Shape := ⟨3, ![1, 512, 256]⟩
abbrev S1x1x2048 : Shape := ⟨3, ![1, 1, 2048]⟩
abbrev S1x256x2048 : Shape := ⟨3, ![1, 256, 2048]⟩
abbrev S512x256 : Shape := ⟨2, ![512, 256]⟩
abbrev S1x1x256 : Shape := ⟨3, ![1, 1, 256]⟩
abbrev S1x256 : Shape := ⟨2, ![1, 256]⟩
abbrev S512 : Shape := ⟨1, ![512]⟩
abbrev S512x1 : Shape := ⟨2, ![512, 1]⟩
abbrev S512x512 : Shape := ⟨2, ![512, 512]⟩
abbrev S2048x512 : Shape := ⟨2, ![2048, 512]⟩
abbrev S1x256x512 : Shape := ⟨3, ![1, 256, 512]⟩
abbrev S256x512 : Shape := ⟨2, ![256, 512]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2x16384x256, .f32⟩
  | .hbm, ⟨2, _⟩ => ⟨S2x2048, .f32⟩
  | .hbm, ⟨3, _⟩ => ⟨S2048x2048, .bf16⟩
  | .hbm, ⟨4, _⟩ => ⟨S2x256x2048, .f32⟩
  | .hbm, ⟨5, _⟩ => ⟨S2x1x2048, .f32⟩
  | .hbm, ⟨6, _⟩ => ⟨S2x256x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x1x2048, .f32⟩
  | .local _ .vmem, ⟨5, _⟩ => ⟨S2048x2048, .bf16⟩
  | .local _ .vmem, ⟨6, _⟩ => ⟨S1x256x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x2048 : Shape := ⟨2, ![16384, 2048]⟩
abbrev S2x16384x256 : Shape := ⟨3, ![2, 16384, 256]⟩
abbrev S2x2048 : Shape := ⟨2, ![2, 2048]⟩
abbrev S2048x2048 : Shape := ⟨2, ![2048, 2048]⟩
abbrev S2x256x2048 : Shape := ⟨3, ![2, 256, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x16384x256 : Shape := ⟨3, ![1, 16384, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x16384x256, .f32⟩
  | .hbm, ⟨2, _⟩ => ⟨S2x2048, .f32⟩
  | .hbm, ⟨3, _⟩ => ⟨S2048x2048, .bf16⟩
  | .hbm, ⟨4, _⟩ => ⟨S2x256x2048, .f32⟩
  | .hbm, ⟨5, _⟩ => ⟨S1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S1x16384x256, .f32⟩
  | .hbm, ⟨34, _⟩ => ⟨S16384x256, .f32⟩
  | .hbm, ⟨35, _⟩ => ⟨S1x256x2048, .f32⟩
  | .hbm, ⟨36, _⟩ => ⟨S256x2048, .f32⟩
  | .hbm, ⟨37, _⟩ => ⟨S16384x2048, .f32⟩
  | .hbm, ⟨38, _⟩ => ⟨S16384x2048, .f32⟩
  | .hbm, ⟨39, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.KTile.lean ====
/-
  The tile of the gated linear attention, chunk by chunk: one chunk's output (`chunkOut`) and one chunk's step of a head's
  state (`stv`), as terms of the whole tile's decayed queries, keys and decays, of which every store of the kernel is an instance.
-/
module

public import Idealize.ShloMosaic.Lib.Pointwise
public import proofs.«01_k».proof.Proof.Gen.KernelIdeal.Value

@[expose] public section

noncomputable section

namespace Cert.KTile

open Idealize.ShloMosaic Idealize.ShloMosaic.TcCoe Cert.KernelIdeal Cert.KernelIdeal.Gen

/-- A chunk's output: the masked scores times the values plus the queries times the incoming state, normalised, weighted and gated. -/
def chunkOut (g : FVec Ideal S1x256 .f32) (q k : FVec Ideal S64x128 .bf16) (v : FVec Ideal S64x256 .bf16)
    (st : FVec Ideal S256x128 .bf16) (r : FVec Ideal S64x256 .f32) : FVec Ideal S64x256 .bf16 :=
  let o := addf
    (matmul dot_S64x64_S64x256_S64x256_1_0_0_1_n_n none
      (truncf .bf16 (select k0_pay19
        (matmul dot_S64x128_S64x128_S64x64_1_1_0_0_n_n none q k (constant S64x64 .f32 0x00000000#32))
        (broadcast S64x64 (Scalar.ofBits .f32 0x00000000#32))) bitsLt_bf16_f32) v (constant S64x256 .f32 0x00000000#32))
    (matmul dot_S64x128_S256x128_S64x256_1_1_0_0_n_n none q st (constant S64x256 .f32 0x00000000#32))
  let ms := divf (shapeCast S64x1 (multiReduction .add [1] S64 (mulf o o) 0x00000000#32 reduces_S64x256_S64 (.inl rfl) rfl)
    shapeCasts_S64_S64x1) (broadcast S64x1 (Scalar.ofBits .f32 0x43800000#32))
  let n := mulf (mulf o (broadcastTo S64x256 (rsqrt (addf ms (broadcast S64x1 (Scalar.ofBits .f32 0x358637BD#32))))
    broadcasts_S64x1_S64x256)) (broadcastTo S64x256 g broadcasts_S1x256_S64x256)
  let h := mulf (broadcast S64x256 (Scalar.ofBits .f32 0x3F000000#32)) r
  truncf .bf16 (mulf n (addf h (mulf h (tanh h)))) bitsLt_bf16_f32

theorem sl_q (hd : Fin 4) (c : Fin 8) : S512x512.Slices ![64 * c.val, 128 * hd.val] S64x128 := by
  revert hd c; decide
theorem sl_d (hd : Fin 4) (c : Fin 8) : S512x512.Slices ![64 * c.val, 128 * hd.val] S1x128 := by
  revert hd c; decide
theorem inb_v (hd : Fin 4) (c : Fin 8) : ∀ a, (![64 * c.val, 256 * hd.val] : Fin 2 → ℕ) a + (![64, 256] : Fin 2 → ℕ) a ≤ S512x1024.size a := by
  revert hd c; decide
theorem inb_s (hd : Fin 4) : ∀ a, (![hd.val, 0, 0] : Fin 3 → ℕ) a + (![1, 256, 128] : Fin 3 → ℕ) a ≤ S4x256x128.size a := by
  revert hd; decide

/-- Chunk `c`'s rows and head `hd`'s key columns of a tile. -/
def qSl (X : FVec Ideal S512x512 .bf16) (hd : Fin 4) (c : Fin 8) : FVec Ideal S64x128 .bf16 :=
  extractStridedSlice S64x128 ![64 * c.val, 128 * hd.val] X (sl_q hd c)

/-- Chunk `c`'s rows and head `hd`'s value columns of a tile. -/
def vLd (X : FVec Ideal S512x1024 .f32) (hd : Fin 4) (c : Fin 8) : FVec Ideal S64x256 .f32 :=
  View.ld (Val := Elt Ideal) (e' := .f32) X (Rect.unit (s := S512x1024) ![64 * c.val, 256 * hd.val] ![64, 256] (inb_v hd c))

/-- Head `hd`'s state (transposed) before chunk `c` of the tile. -/
def stv (DC : FVec Ideal S512x512 .f32) (KE : FVec Ideal S512x512 .bf16) (x3 : FVec Ideal S512x1024 .f32)
    (S0 : Fin 4 → FVec Ideal S1x256x128 .f32) (hd : Fin 4) : ℕ → FVec Ideal S256x128 .f32
  | 0 => shapeCast S256x128 (S0 hd) shapeCasts_S1x256x128_S256x128
  | c + 1 => addf
      (mulf (broadcastTo S256x128 (extractStridedSlice S1x128 ![64 * (⟨c % 8, Nat.mod_lt _ (by decide)⟩ : Fin 8).val, 128 * hd.val] DC (sl_d hd _))
        broadcasts_S1x128_S256x128) (stv DC KE x3 S0 hd c))
      (matmul dot_S64x256_S64x128_S256x128_0_0_1_1_n_n none (truncf .bf16 (vLd x3 hd ⟨c % 8, Nat.mod_lt _ (by decide)⟩) bitsLt_bf16_f32)
        (qSl KE hd ⟨c % 8, Nat.mod_lt _ (by decide)⟩) (constant S256x128 .f32 0x00000000#32))

/-- The chunks of a tile in the order the stores are listed, the last first. -/
def units : List (Fin 4 × Fin 8) :=
  [(3, 7), (3, 6), (3, 5), (3, 4), (3, 3), (3, 2), (3, 1), (3, 0), (2, 7), (2, 6), (2, 5), (2, 4), (2, 3), (2, 2), (2, 1), (2, 0),
   (1, 7), (1, 6), (1, 5), (1, 4), (1, 3), (1, 2), (1, 1), (1, 0), (0, 7), (0, 6), (0, 5), (0, 4), (0, 3), (0, 2), (0, 1), (0, 0)]

/-- One store of the attention's output. -/
def piece13 (QD KD KE : FVec Ideal S512x512 .bf16) (DC : FVec Ideal S512x512 .f32) (x3 x4 : FVec Ideal S512x1024 .f32)
    (g : FVec Ideal S1x256 .f32) (S0 : Fin 4 → FVec Ideal S1x256x128 .f32) (u : Fin 4 × Fin 8) :
    View.Piece (Elt Ideal) S512x1024 .bf16 :=
  ⟨Rect.unit ![64 * u.2.val, 256 * u.1.val] ![64, 256] (inb_v u.1 u.2),
    chunkOut g (qSl QD u.1 u.2) (qSl KD u.1 u.2) (truncf .bf16 (vLd x3 u.1 u.2) bitsLt_bf16_f32)
      (truncf .bf16 (stv DC KE x3 S0 u.1 u.2.val) bitsLt_bf16_f32) (vLd x4 u.1 u.2)⟩

/-- One store of the carried state. -/
def pieceS (KE : FVec Ideal S512x512 .bf16) (DC : FVec Ideal S512x512 .f32) (x3 : FVec Ideal S512x1024 .f32)
    (S0 : Fin 4 → FVec Ideal S1x256x128 .f32) (hd : Fin 4) : View.Piece (Elt Ideal) S4x256x128 .f32 :=
  ⟨Rect.unit ![hd.val, 0, 0] ![1, 256, 128] (inb_s hd), shapeCast S1x256x128 (stv DC KE x3 S0 hd 8) shapeCasts_S256x128_S1x256x128⟩

end Cert.KTile

end
-- ==== Proof.Reals.lean ====
/-
  Extended reals that are real numbers: sums, extrema, quotients, roots and the constants of the two programs, each as the
  coercion of the real number it is.
-/
module

public import Idealize.ShloMosaic.Lib.Pointwise
public import Idealize.ShloMosaic.Lib.IdealHost

@[expose] public section

noncomputable section

namespace Cert.Reals

open Idealize.ShloMosaic

/-- The square root's small summand and the query's scale, as the patterns both programs write. -/
def eps : ℝ := 8796093 / 2 ^ 43
def kap : ℝ := 11863283 / 2 ^ 27

theorem eps_pos : 0 < eps := by unfold eps; positivity

theorem lit_eps : Ideal.ofBits .f32 0x358637BD#32 = ((eps : ℝ) : EReal) := by
  simp [Ideal.ofBits, Ideal.ieee, -EReal.coe_mul]; norm_num [eps]
theorem lit_kap : Ideal.ofBits .f32 0x3DB504F3#32 = ((kap : ℝ) : EReal) := by
  simp [Ideal.ofBits, Ideal.ieee, -EReal.coe_mul]; norm_num [kap]
theorem lit_256 : Ideal.ofBits .f32 0x43800000#32 = ((256 : ℝ) : EReal) := by
  simp [Ideal.ofBits, Ideal.ieee, -EReal.coe_mul]; norm_num
theorem lit_16 : Ideal.ofBits .f32 0x41800000#32 = ((16 : ℝ) : EReal) := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num

theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s h ih => rw [Finset.sum_insert h, Finset.sum_insert h, ih, EReal.coe_add]

theorem min_coe (a b : ℝ) : min (a : EReal) (b : EReal) = ((min a b : ℝ) : EReal) :=
  (EReal.coe_strictMono.monotone.map_min).symm
theorem max_coe (a b : ℝ) : max (a : EReal) (b : EReal) = ((max a b : ℝ) : EReal) :=
  (EReal.coe_strictMono.monotone.map_max).symm
theorem ite_coe (p : Prop) [Decidable p] (a b : ℝ) : (if p then (a : EReal) else (b : EReal)) = ((if p then a else b : ℝ) : EReal) := by
  split <;> rfl

theorem div_coe' (x y : ℝ) (h : y ≠ 0) : Ideal.div (x : EReal) (y : EReal) = ((x / y : ℝ) : EReal) := by
  rw [Ideal.div_coe h, ← EReal.coe_mul, mul_one_div]
theorem log_pos {x : ℝ} (h : 0 < x) : Ideal.log (x : EReal) = ((Real.log x : ℝ) : EReal) := by
  rw [Ideal.log_coe, if_neg (not_le.mpr h)]
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- A finite extended real is a real number. -/
theorem real_of_abs_lt {x : EReal} (h : max x (-x) < ⊤) : x = ((x.toReal : ℝ) : EReal) := by
  refine (EReal.coe_toReal ?_ ?_).symm
  · rintro rfl; simp at h
  · rintro rfl; simp at h

end Cert.Reals

end
-- ==== Proof.Model.lean ====
/-
  The mixers over the reals, as functions of row and column numbers: the gate's logarithm and its sums within a chunk, the
  decayed queries and keys, the state before each chunk, the normalised and gated output, and the pooled rows.
-/
module

public import proofs.«01_k».proof.Proof.Reals

@[expose] public section

noncomputable section

namespace Cert.Model

open Idealize.ShloMosaic Cert.Reals

/-- The arguments as real numbers: the projected rows, the gate's weights and bias, the norm's weights, the pool's weights and scale. -/
structure Dat where
  z : ℕ → ℕ → ℝ
  wa : ℕ → ℕ → ℝ
  ba : ℕ → ℝ
  gn : ℕ → ℝ
  pw : ℕ → ℕ → ℕ → ℝ
  ps : ℕ → ℝ

variable (D : Dat)

/-- The gate's logit. -/
def lg (R l : ℕ) : ℝ := (∑ k : Fin 16, D.z R (4096 + k.val) * D.wa k.val l) + D.ba l
/-- The logarithm of the decay of one row. -/
def la (R l : ℕ) : ℝ := (min (lg D R l) 0 - Real.log (1 + Real.exp (-|lg D R l|))) / 16
/-- Its sum over the rows of the chunk up to this one. -/
def bb (R l : ℕ) : ℝ := ∑ s : Fin 64, if s.val ≤ R % 64 then la D (64 * (R / 64) + s.val) l else 0
/-- The decayed query, the key with the decay undone, the chunk's decay, and the key decayed to the chunk's end. -/
def qd (R l : ℕ) : ℝ := D.z R (1024 + l) * kap * Real.exp (bb D R l)
def kd (R l : ℕ) : ℝ := D.z R (1536 + l) * Real.exp (-bb D R l)
def dc (n l : ℕ) : ℝ := Real.exp (bb D (64 * n + 63) l)
def ke (R l : ℕ) : ℝ := kd D R l * dc D (R / 64) l

/-- Head `hd`'s state before chunk `n`, values by keys. -/
def st (hd : ℕ) : ℕ → ℕ → ℕ → ℝ
  | 0 => fun _ _ => 0
  | n + 1 => fun b d => dc D n (128 * hd + d) * st hd n b d
      + ∑ s : Fin 64, D.z (64 * n + s.val) (2048 + (256 * hd + b)) * ke D (64 * n + s.val) (128 * hd + d)

/-- One chunk's attention before the norm, of its queries, keys, values and incoming state. -/
def rOut (q k v s : ℕ → ℕ → ℝ) (a b : ℕ) : ℝ :=
  (∑ i : Fin 64, if i.val ≤ a then (∑ d : Fin 128, q a d.val * k i.val d.val) * v i.val b else 0) + ∑ d : Fin 128, q a d.val * s b d.val

/-- The root mean square norm of a row of 256. -/
def rNorm (gn : ℕ → ℝ) (o : ℕ → ℝ) (b : ℕ) : ℝ :=
  o b * (Real.sqrt ((∑ l : Fin 256, o l.val * o l.val) / 256 + eps))⁻¹ * gn b

/-- The output's gate. -/
def gate (r : ℝ) : ℝ := 1 / 2 * r + 1 / 2 * r * Real.tanh (1 / 2 * r)

/-- The attention of head `hd` and chunk `n` before the norm. -/
def oo (hd n a b : ℕ) : ℝ :=
  rOut (fun a d => qd D (64 * n + a) (128 * hd + d)) (fun a d => kd D (64 * n + a) (128 * hd + d))
    (fun a b => D.z (64 * n + a) (2048 + (256 * hd + b))) (st D hd n) a b

/-- The attention's result. -/
def gla (R L : ℕ) : ℝ := rNorm D.gn (oo D (L / 256) (R / 64) (R % 64)) (L % 256) * gate (D.z R (3072 + L))

/-- The pool's rows, sixteen rows of zeros first. -/
def zx (x l : ℕ) : ℝ := if 16 ≤ x then D.z (x - 16) (512 + l) else 0

/-- The pool of group `g`: the window's mean less the row itself, mixed and scaled. -/
def pooled (w R l : ℕ) : ℝ := (∑ j : Fin w, zx D (R + 16 - j.val) l) / min ((R : ℝ) + 1) w - zx D (R + 16) l
def pool (R L : ℕ) : ℝ :=
  (∑ k : Fin 128, pooled D (2 ^ (L / 128 + 1)) R (128 * (L / 128) + k.val) * D.pw (L / 128) k.val (L % 128)) * D.ps L

end Cert.Model

end
-- ==== Proof.KVal.lean ====
/-
  What each payload of the kernel is at real arguments: the chunk's output, the state along a tile's chunks, the decayed
  queries and keys of a tile, and the pool of each group, each as the coercion of the real number `Cert.Model` names.
-/
module

public import proofs.«01_k».proof.Proof.KTile
public import proofs.«01_k».proof.Proof.Model
public import Idealize.ShloMosaic.Lib.FinSumWindow
public import Idealize.ShloMosaic.Lib.KernelVsHost

@[expose] public section

set_option maxRecDepth 16384

noncomputable section

namespace Cert.KVal

open Idealize.ShloMosaic Idealize.ShloMosaic.TcCoe Cert.KernelIdeal Cert.KernelIdeal.Gen Cert.KTile Cert.Reals Cert.Model

theorem select_sge {α : Type} (a x : ℕ) (ha : a < 2 ^ 31) (hx : x < 2 ^ 31) (A B : α) :
    Scalar.select (IntOp.cmpi .sge (BitVec.ofNat 32 a) (BitVec.ofNat 32 x)) A B = if x ≤ a then A else B := by
  rw [WordCmp.cmpi_sge_ofNat (w := 32) ha hx, WordCmp.select_ofBool]; simp

theorem chunkOut_apply (g : FVec Ideal S1x256 .f32) (Q K : FVec Ideal S64x128 .bf16) (V : FVec Ideal S64x256 .bf16)
    (S : FVec Ideal S256x128 .bf16) (r : FVec Ideal S64x256 .f32) (gn : ℕ → ℝ) (q k v s rr : ℕ → ℕ → ℝ)
    (hg : ∀ b : Fin 256, g (ix2 (0 : Fin 1) b) = gn b)
    (hq : ∀ (a : Fin 64) (d : Fin 128), Q (ix2 a d) = q a d)
    (hk : ∀ (a : Fin 64) (d : Fin 128), K (ix2 a d) = k a d)
    (hv : ∀ (a : Fin 64) (b : Fin 256), V (ix2 a b) = v a b)
    (hs : ∀ (b : Fin 256) (d : Fin 128), S (ix2 b d) = s b d)
    (hr : ∀ (a : Fin 64) (b : Fin 256), r (ix2 a b) = rr a b) (a : Fin 64) (b : Fin 256) :
    chunkOut g Q K V S r (ix2 a b) = ((rNorm gn (rOut q k v s a) b * gate (rr a b) : ℝ) : EReal) := by
  pointwise [chunkOut, k0_pay19]
  have hsel : ∀ (x : Fin 64) (A B : EReal), Scalar.select (IntOp.cmpi .sge (BitVec.ofNat 32 a.val) (BitVec.ofNat 32 x.val)) A B
      = if x.val ≤ a.val then A else B := fun x A B => select_sge _ _ (by omega) (by omega) A B
  have e0 : (0 : EReal) = ((0 : ℝ) : EReal) := rfl
  simp only [hg, hq, hk, hv, hs, hr, hsel]
  simp only [← EReal.coe_mul, sum_coe, zero_add, lit_256, lit_eps, lit_half]
  simp only [e0, ite_coe, sum_coe, ← EReal.coe_add, ← EReal.coe_mul, Ideal.tanh_coe]
  rw [div_coe' _ _ (by norm_num), ← EReal.coe_add, rsqrt_pos]
  · simp only [← EReal.coe_mul]; rfl
  · exact add_pos_of_nonneg_of_pos (div_nonneg (Finset.sum_nonneg fun _ _ => mul_self_nonneg _) (by norm_num)) eps_pos

/-- The state of a head along a tile's chunks. -/
theorem stv_apply (D : Dat) (t : ℕ) (hd : Fin 4) (DC : FVec Ideal S512x512 .f32) (KE : FVec Ideal S512x512 .bf16) (x3 : FVec Ideal S512x1024 .f32)
    (S0 : Fin 4 → FVec Ideal S1x256x128 .f32)
    (hD : ∀ r l : Fin 512, DC (ix2 r l) = ((dc D ((512 * t + r) / 64) l : ℝ) : EReal))
    (hK : ∀ r l : Fin 512, KE (ix2 r l) = ((ke D (512 * t + r) l : ℝ) : EReal))
    (hV : ∀ (r : Fin 512) (l : Fin 1024), x3 (ix2 r l) = ((D.z (512 * t + r) (2048 + l) : ℝ) : EReal))
    (hS : ∀ (b : Fin 256) (d : Fin 128), S0 hd (ix3 (0 : Fin 1) b d) = ((st D hd (8 * t) b d : ℝ) : EReal)) (c : ℕ) (hc : c ≤ 8) :
    ∀ (b : Fin 256) (d : Fin 128), stv DC KE x3 S0 hd c (ix2 b d) = ((st D hd (8 * t + c) b d : ℝ) : EReal) := by
  induction c with
  | zero => intro b d; pointwise [stv]; exact hS b d
  | succ c ih =>
    intro b d
    have hm : c % 8 = c := Nat.mod_eq_of_lt (by omega)
    rw [stv]
    pointwise [qSl, vLd]

    simp only [ih (by omega), hD, hK, hV]
    simp only [← EReal.coe_mul, sum_coe, zero_add, ← EReal.coe_add]

    have e : (512 * t + 64 * (c % 8)) / 64 = 8 * t + c := by omega
    have e2 : ∀ k : Fin 64, 512 * t + (64 * (c % 8) + k.val) = 64 * (8 * t + c) + k.val := fun k => by omega
    simp only [e, e2]; rfl

theorem coe0 : (0 : EReal) = ((0 : ℝ) : EReal) := rfl
theorem coe1 : (1 : EReal) = ((1 : ℝ) : EReal) := rfl

theorem absf_coe (x : ℝ) : FloatOps.absf (F := Ideal) (φ := .f32) (x : EReal) = ((|x| : ℝ) : EReal) := by
  change max (x : EReal) (-(x : EReal)) = _
  rw [← EReal.coe_neg, max_coe]; rfl

/-- A sum over a tile's rows weighted by the chunks' lower triangle is the sum over the chunk's rows up to this one. -/
theorem sum_tri (f : ℕ → ℝ) (t : ℕ) (r : Fin 512) :
    (∑ s : Fin 512, (if s.val / 64 = r.val / 64 ∧ s.val ≤ r.val then (1 : ℝ) else 0) * f (512 * t + s.val))
      = ∑ s : Fin 64, if s.val ≤ (512 * t + r.val) % 64 then f (64 * ((512 * t + r.val) / 64) + s.val) else 0 := by
  rw [FinSumWindow.sum_window (W := 64) (64 * (r.val / 64)) (by omega)]
  · refine Finset.sum_congr rfl fun s _ => ?_
    have e : 64 * ((512 * t + r.val) / 64) + s.val = 512 * t + (64 * (r.val / 64) + s.val) := by omega
    rw [e]
    by_cases h : s.val ≤ (512 * t + r.val) % 64
    · rw [if_pos h, if_pos (by dsimp only; omega), one_mul]
    · rw [if_neg h, if_neg (by dsimp only; omega), zero_mul]
  · intro P hP; rw [if_neg (by omega), zero_mul]

theorem sum_pad (f g : ℕ → ℝ) : (∑ k : Fin 128, f k.val * (if k.val < 16 then g k.val else 0)) = ∑ k : Fin 16, f k.val * g k.val := by
  rw [FinSumWindow.sum_window (W := 16) 0 (by omega)]
  · refine Finset.sum_congr rfl fun s _ => ?_
    rw [if_pos (by dsimp only; omega)]; simp
  · intro P hP; rw [if_neg (by omega), mul_zero]

variable (D : Dat) (t : ℕ)

theorem pay12_apply (x5 : Vec Ideal S512x128 .f32) (x8 : Vec Ideal S1x128x512 .bf16) (x9 : Vec Ideal S1x1x512 .f32) (x11 : Vec Ideal S512x512 .bf16)
    (h5 : ∀ (r : Fin 512) (k : Fin 128), x5 (ix2 r k) = ((D.z (512 * t + r.val) (4096 + k.val) : ℝ) : EReal))
    (h8 : ∀ (k : Fin 128) (l : Fin 512), x8 (ix3 (0 : Fin 1) k l) = ((if k.val < 16 then D.wa k.val l.val else 0 : ℝ) : EReal))
    (h9 : ∀ (l : Fin 512), x9 (ix3 (0 : Fin 1) (0 : Fin 1) l) = ((D.ba l.val : ℝ) : EReal))
    (h11 : ∀ r s : Fin 512, x11 (ix2 r s) = ((if s.val / 64 = r.val / 64 ∧ s.val ≤ r.val then 1 else 0 : ℝ) : EReal))
    (r l : Fin 512) : k0_pay12 x5 x8 x9 x11 (ix2 r l) = ((bb D (512 * t + r.val) l.val : ℝ) : EReal) := by
  pointwise [k0_pay12]
  have hl : ∀ x : Fin 512, (∑ k : Fin 128, D.z (512 * t + x.val) (4096 + k.val) * (if k.val < 16 then D.wa k.val l.val else 0)) + D.ba l.val
      = lg D (512 * t + x.val) l.val := fun x => by
    rw [sum_pad (fun k => D.z (512 * t + x.val) (4096 + k)) (fun k => D.wa k l.val)]; rfl
  simp only [h5, h8, h9, h11, ← EReal.coe_mul, sum_coe, ← EReal.coe_add, hl]
  simp only [coe0, coe1, min_coe, absf_coe, ← EReal.coe_sub, ← EReal.coe_add, Ideal.exp_coe, lit_16]
  simp only [log_pos (add_pos one_pos (Real.exp_pos _)), ← EReal.coe_sub, div_coe' _ _ (show (16:ℝ) ≠ 0 by norm_num), ← EReal.coe_mul, sum_coe,
    sub_self, mul_zero, Finset.sum_const_zero, ← EReal.coe_add, add_zero, zero_sub]
  exact congrArg _ (sum_tri (fun R => la D R l.val) t r)

theorem pay13_apply (x5 : Vec Ideal S512x128 .f32) (x8 : Vec Ideal S1x128x512 .bf16) (x9 : Vec Ideal S1x1x512 .f32) (x11 : Vec Ideal S512x512 .bf16)
    (l : Fin 512) : k0_pay13 x5 x8 x9 x11 (ix2 (0 : Fin 1) l) = k0_pay12 x5 x8 x9 x11 (ix2 (63 : Fin 512) l) := by
  pointwise [k0_pay13]

section
variable (B : FVec Ideal S512x512 .f32) (p : FVec Ideal S1x512 .f32) (x : Vec Ideal S512x512 .f32)
  (hB : ∀ r l : Fin 512, B (ix2 r l) = ((bb D (512 * t + r.val) l.val : ℝ) : EReal))
  (hp : ∀ l : Fin 512, p (ix2 (0 : Fin 1) l) = B (ix2 (63 : Fin 512) l))
include hB

theorem pay14_apply (hx : ∀ r l : Fin 512, x (ix2 r l) = ((D.z (512 * t + r.val) (1024 + l.val) : ℝ) : EReal)) (r l : Fin 512) :
    k0_pay14 B x (ix2 r l) = ((qd D (512 * t + r.val) l.val : ℝ) : EReal) := by
  pointwise [k0_pay14]
  simp only [hB, hx, lit_kap, Ideal.exp_coe, ← EReal.coe_mul]; rfl

include hp in
theorem pay15_apply (r l : Fin 512) : k0_pay15 B p (ix2 r l) = ((dc D ((512 * t + r.val) / 64) l.val : ℝ) : EReal) := by
  pointwise [k0_pay15]
  have key : ∀ m : Fin 512, m.val = 64 * (r.val / 64) + 63 → Ideal.exp (B (ix2 m l)) = ((dc D ((512 * t + r.val) / 64) l.val : ℝ) : EReal) := by
    intro m hm
    rw [hB, Ideal.exp_coe, hm, show 512 * t + (64 * (r.val / 64) + 63) = 64 * ((512 * t + r.val) / 64) + 63 by omega]; rfl
  rw [hp]
  split_ifs <;> exact key _ (by
    first
    | (change (63 : ℕ) = _; omega)
    | (change (127 : ℕ) = _; omega)
    | (change (191 : ℕ) = _; omega)
    | (change (255 : ℕ) = _; omega)
    | (change (319 : ℕ) = _; omega)
    | (change (383 : ℕ) = _; omega)
    | (change (447 : ℕ) = _; omega)
    | (change (511 : ℕ) = _; omega))

theorem pay16_apply (hx : ∀ r l : Fin 512, x (ix2 r l) = ((D.z (512 * t + r.val) (1536 + l.val) : ℝ) : EReal)) (r l : Fin 512) :
    k0_pay16 B x (ix2 r l) = ((kd D (512 * t + r.val) l.val : ℝ) : EReal) := by
  pointwise [k0_pay16]
  simp only [hB, hx, coe0, ← EReal.coe_sub, Ideal.exp_coe, ← EReal.coe_mul, zero_sub]; rfl

theorem pay17_apply (hx : ∀ r l : Fin 512, x (ix2 r l) = ((D.z (512 * t + r.val) (1536 + l.val) : ℝ) : EReal)) (r l : Fin 512) :
    k0_pay17 B x (ix2 r l) = ((kd D (512 * t + r.val) l.val : ℝ) : EReal) := pay16_apply D t B x hB hx r l

include hp in
theorem pay18_apply (hx : ∀ r l : Fin 512, x (ix2 r l) = ((D.z (512 * t + r.val) (1536 + l.val) : ℝ) : EReal)) (r l : Fin 512) :
    k0_pay18 B p x (ix2 r l) = ((ke D (512 * t + r.val) l.val : ℝ) : EReal) := by
  refine (congrArg₂ (· * ·) (pay16_apply D t B x hB hx r l) (pay15_apply D t B p hB hp r l)).trans ?_
  exact (EReal.coe_mul _ _).symm
end

theorem pay20_apply (x : Vec Ideal S1x1x256 .f32) (b : Fin 256) : k0_pay20 x (ix2 (0 : Fin 1) b) = x (ix3 (0 : Fin 1) (0 : Fin 1) b) := by
  pointwise [k0_pay20]

theorem pay5_apply (i : grid0.Coords) (r : Fin 512) : k0_pay5 (F := Ideal) i (ix2 r (0 : Fin 1)) = (((512 * (i 0).val + r.val : ℕ) : ℝ) + 1 : ℝ) := by
  pointwise [k0_pay5]
  have e : IntOp.addi (Scalar.addi (Scalar.muli (BitVec.ofNat 32 (i 0).val) 512#32) 1#32) (BitVec.ofNat 32 r.val)
      = BitVec.ofNat 32 (512 * (i 0).val + r.val + 1) := by
    apply BitVec.eq_of_toNat_eq
    simp [IntOp.addi, Scalar.addi, Scalar.muli, IntOp.muli]
    omega
  have hi : (i 0).val < 32 := (i 0).isLt
  rw [e]
  change (((BitVec.ofNat 32 (512 * (i 0).val + r.val + 1)).toInt : ℝ) : EReal) = _
  rw [BitVec.toInt_eq_toNat_of_lt (by rw [BitVec.toNat_ofNat]; omega), BitVec.toNat_ofNat, Nat.mod_eq_of_lt (by omega)]
  push_cast; rfl

/-- Rows rotated by `k` and added: a running sum of `w` rows becomes one of `w + w`. -/
def Win (f : ℕ → ℕ → ℝ) (w : ℕ) (X : FVec Ideal S528x128 .f32) : Prop :=
  ∀ (y : Fin 528) (l : Fin 128), w ≤ y.val + 1 → X (ix2 y l) = ((∑ j ∈ Finset.range w, f (y.val - j) l.val : ℝ) : EReal)

theorem win_step (f : ℕ → ℕ → ℝ) (w : ℕ) (hw : w < 528) (X : FVec Ideal S528x128 .f32) (h : Win f w X) :
    Win f (w + w) (addf X (dynamicRotate 0 (BitVec.ofNat 32 w) none X rotates_S528x128_d0)) := by
  intro y l hy
  have hr : dynamicRotate 0 (BitVec.ofNat 32 w) none X rotates_S528x128_d0 (ix2 y l) = X (ix2 (⟨y.val - w, by omega⟩ : Fin 528) l) := by
    refine dynamicRotate_apply _ _ _ _ _ _ fun b => ?_
    have e : (BitVec.ofNat 32 w).toNat = w := by rw [BitVec.toNat_ofNat]; exact Nat.mod_eq_of_lt (by omega)
    fin_cases b
    · rw [e]; change y.val - w = (y.val + 528 - w % 528) % 528; omega
    · rfl
  refine (congrArg₂ (· + ·) (h y l (by omega)) (hr.trans (h _ l (by dsimp only; omega)))).trans ?_
  rw [← EReal.coe_add, Finset.sum_range_add]
  refine congrArg _ (congrArg _ (Finset.sum_congr rfl fun j _ => ?_))
  dsimp only; rw [Nat.sub_sub]

/-- The pool of one group: the window's sum over its count less the row, mixed and scaled. -/
def poolOut (v12 : FVec Ideal S512x1 .f32) (X Z : FVec Ideal S528x128 .f32) (c : Ideal .f32) (W : Vec Ideal S1x1x128x128 .bf16) (S : Vec Ideal S1x1x128 .f32) :
    FVec Ideal S512x128 .bf16 :=
  truncf .bf16 (mulf (matmul dot_S512x128_S128x128_S512x128_1_0_0_1_n_n none
    (truncf .bf16 (subf (divf (extractStridedSlice S512x128 ![16, 0] X slices_S528x128_o16_0_S512x128)
      (broadcastTo S512x128 (minimumf v12 (broadcast S512x1 c)) broadcasts_S512x1_S512x128))
      (extractStridedSlice S512x128 ![16, 0] Z slices_S528x128_o16_0_S512x128)) bitsLt_bf16_f32)
    (shapeCast S128x128 W shapeCasts_S1x1x128x128_S128x128 : FVec Ideal S128x128 .bf16) (constant S512x128 .f32 0x00000000#32))
    (broadcastTo S512x128 (shapeCast S1x128 S shapeCasts_S1x1x128_S1x128) broadcasts_S1x128_S512x128)) bitsLt_bf16_f32

theorem poolOut_apply (g w : ℕ) (hw : w ≤ 16) (hw0 : 0 < w) (v12 : FVec Ideal S512x1 .f32) (X Z : FVec Ideal S528x128 .f32) (c : Ideal .f32)
    (W : Vec Ideal S1x1x128x128 .bf16) (S : Vec Ideal S1x1x128 .f32)
    (h12 : ∀ r : Fin 512, v12 (ix2 r (0 : Fin 1)) = ((((512 * t + r.val : ℕ) : ℝ) + 1 : ℝ) : EReal))
    (hZ : ∀ (y : Fin 528) (l : Fin 128), Z (ix2 y l) = ((zx D (512 * t + y.val) (128 * g + l.val) : ℝ) : EReal))
    (hX : Win (fun y l => zx D (512 * t + y) (128 * g + l)) w X) (hc : c = ((w : ℝ) : EReal))
    (hW : ∀ k l : Fin 128, W (ix4 (0 : Fin 1) (0 : Fin 1) k l) = ((D.pw g k.val l.val : ℝ) : EReal))
    (hS : ∀ l : Fin 128, S (ix3 (0 : Fin 1) (0 : Fin 1) l) = ((D.ps (128 * g + l.val) : ℝ) : EReal)) (r : Fin 512) (l : Fin 128) :
    poolOut v12 X Z c W S (ix2 r l)
      = (((∑ k : Fin 128, pooled D w (512 * t + r.val) (128 * g + k.val) * D.pw g k.val l.val) * D.ps (128 * g + l.val) : ℝ) : EReal) := by
  pointwise [poolOut]
  simp only [h12, hZ, hW, hS, hc, min_coe]
  have hpos : min (((512 * t + r.val : ℕ) : ℝ) + 1) (w : ℝ) ≠ 0 := (lt_min (by positivity) (by exact_mod_cast hw0)).ne'
  rw [Finset.sum_congr rfl (g := fun k : Fin 128 => ((pooled D w (512 * t + r.val) (128 * g + k.val) * D.pw g k.val l.val : ℝ) : EReal))]
  · rw [sum_coe, ← EReal.coe_mul]
  · intro k _
    rw [hX _ _ (by dsimp only; omega), div_coe' _ _ hpos, ← EReal.coe_sub, ← EReal.coe_mul, pooled]
    refine congrArg _ (congrArg (· * _) (congrArg₂ _ (congrArg (· / _) ?_) ?_))
    · rw [Fin.sum_univ_eq_sum_range (fun j => zx D (512 * t + r.val + 16 - j) (128 * g + k.val)) w]
      refine Finset.sum_congr rfl fun j hj => ?_
      have := Finset.mem_range.mp hj
      dsimp only; congr 1; omega
    · congr 1; omega

section
variable (v12 : FVec Ideal S512x1 .f32) (Z : FVec Ideal S528x128 .f32) (W : Vec Ideal S1x1x128x128 .bf16) (S : Vec Ideal S1x1x128 .f32) (g : ℕ)
    (h12 : ∀ r : Fin 512, v12 (ix2 r (0 : Fin 1)) = ((((512 * t + r.val : ℕ) : ℝ) + 1 : ℝ) : EReal))
    (hZ : ∀ (y : Fin 528) (l : Fin 128), Z (ix2 y l) = ((zx D (512 * t + y.val) (128 * g + l.val) : ℝ) : EReal))
    (hW : ∀ k l : Fin 128, W (ix4 (0 : Fin 1) (0 : Fin 1) k l) = ((D.pw g k.val l.val : ℝ) : EReal))
    (hS : ∀ l : Fin 128, S (ix3 (0 : Fin 1) (0 : Fin 1) l) = ((D.ps (128 * g + l.val) : ℝ) : EReal)) (r : Fin 512) (l : Fin 128)

include hZ in
theorem win1 : Win (fun y l => zx D (512 * t + y) (128 * g + l)) 1 Z := by
  intro y l _; rw [hZ]; simp

include h12 hZ hW hS
theorem pay7_apply : k0_pay7 v12 Z W S (ix2 r l)
    = (((∑ k : Fin 128, pooled D 4 (512 * t + r.val) (128 * g + k.val) * D.pw g k.val l.val) * D.ps (128 * g + l.val) : ℝ) : EReal) :=
  poolOut_apply D t g 4 (by norm_num) (by norm_num) v12 _ Z _ W S h12 hZ (win_step _ 2 (by norm_num) _ (win_step _ 1 (by norm_num) _ (win1 D t Z g hZ)))
    (lit_4.trans (by norm_num)) hW hS r l
theorem pay89_apply : k0_pay9 (k0_pay8 v12 Z) W S (ix2 r l)
    = (((∑ k : Fin 128, pooled D 8 (512 * t + r.val) (128 * g + k.val) * D.pw g k.val l.val) * D.ps (128 * g + l.val) : ℝ) : EReal) :=
  poolOut_apply D t g 8 (by norm_num) (by norm_num) v12 _ Z _ W S h12 hZ
    (win_step _ 4 (by norm_num) _ (win_step _ 2 (by norm_num) _ (win_step _ 1 (by norm_num) _ (win1 D t Z g hZ))))
    (lit_8.trans (by norm_num)) hW hS r l
theorem pay10_apply : k0_pay10 v12 Z W S (ix2 r l)
    = (((∑ k : Fin 128, pooled D 16 (512 * t + r.val) (128 * g + k.val) * D.pw g k.val l.val) * D.ps (128 * g + l.val) : ℝ) : EReal) :=
  poolOut_apply D t g 16 (by norm_num) (by norm_num) v12 _ Z _ W S h12 hZ
    (win_step _ 8 (by norm_num) _ (win_step _ 4 (by norm_num) _ (win_step _ 2 (by norm_num) _ (win_step _ 1 (by norm_num) _ (win1 D t Z g hZ)))))
    (lit_16.trans (by norm_num)) hW hS r l
omit h12
theorem pay6_apply (i : grid0.Coords) (hi : (i 0).val = t) : k0_pay6 i Z W S (ix2 r l)
    = (((∑ k : Fin 128, pooled D 2 (512 * t + r.val) (128 * g + k.val) * D.pw g k.val l.val) * D.ps (128 * g + l.val) : ℝ) : EReal) :=
  poolOut_apply D t g 2 (by norm_num) (by norm_num) (k0_pay5 i) _ Z _ W S (fun r => hi ▸ pay5_apply i r) hZ (win_step _ 1 (by norm_num) _ (win1 D t Z g hZ))
    (lit_2.trans (by norm_num)) hW hS r l
end
end Cert.KVal

end
-- ==== Proof.KPool.lean ====
/-
  The two scratch buffers a grid point reads: the pool's tile with the halo's sixteen rows first (`ze`), its last sixteen
  rows (`hal`), and the state of each head, zero at the first tile (`zS`) and the carried one later (`stS`).
-/
module

public import proofs.«01_k».proof.Proof.KVal
public import Idealize.ShloMosaic.Lib.WritesUnit

@[expose] public section

set_option maxRecDepth 16384

noncomputable section

namespace Cert.KPool

open Idealize.ShloMosaic Idealize.ShloMosaic.TcCoe Cert.KernelIdeal Cert.KernelIdeal.Gen Cert.KTile

/-- The carried state of one head, and the zero state. -/
def stS (xs1 : FVec Ideal S4x256x128 .f32) (hd : Fin 4) : FVec Ideal S1x256x128 .f32 :=
  View.ld (Val := Elt Ideal) (e' := .f32) xs1 (Rect.unit (s := S4x256x128) ![hd.val, 0, 0] ![1, 256, 128] (inb_s hd))
def zS (_ : Fin 4) : FVec Ideal S1x256x128 .f32 := fun _ => (0 : EReal)
/-- The zero halo. -/
def zH : FVec Ideal S528x512 .f32 := fun _ => (0 : EReal)

/-- The pool's tile under the sixteen rows of the halo. -/
def ze (H : FVec Ideal S528x512 .f32) (x0 : FVec Ideal S512x512 .f32) : FVec Ideal S528x512 .f32 := fun y =>
  if 16 ≤ (y 0).val then x0 (ix2 (⟨(y 0).val - 16, by have : (y 0).val < 528 := (y 0).isLt; omega⟩ : Fin 512) (⟨(y 1).val, (y 1).isLt⟩ : Fin 512)) else H y

/-- The tile's last sixteen rows. -/
def hal (x0 : FVec Ideal S512x512 .f32) : FVec Ideal S16x512 .f32 := fun y =>
  x0 (ix2 (⟨496 + (y 0).val, by have : (y 0).val < 16 := (y 0).isLt; omega⟩ : Fin 512) (⟨(y 1).val, (y 1).isLt⟩ : Fin 512))

theorem pay4_eq (x0 : FVec Ideal S512x512 .f32) : k0_pay4 (F := Ideal) x0 = x0 := by
  funext i
  rw [eq_ix2 i]
  pointwise [k0_pay4]

theorem pay2_apply (i : S16x512.Idx) : k0_pay2 (F := Ideal) i = (0 : EReal) := by
  rw [eq_ix2 i]
  pointwise [k0_pay2]
theorem pay3_apply (i : S4x256x128.Idx) : k0_pay3 (F := Ideal) i = (0 : EReal) := by
  rw [eq_ix3 i]
  pointwise [k0_pay3]

variable {κ : Kind} {sp : Space}

/-- Reading the tile back over anything that holds the halo. -/
theorem ze_writes (v : View sig κ sp S528x512 .f32) (f : v.ty.Contents (Elt Ideal)) (L : List (View.Piece (Elt Ideal) S528x512 .f32))
    (H : FVec Ideal S528x512 .f32) (x0 : FVec Ideal S512x512 .f32)
    (hH : ∀ y, (y 0).val < 16 → View.read (Elt Ideal) v (v.writes (Elt Ideal) f L) y = H y) :
    View.read (Elt Ideal) v (v.writes (Elt Ideal) f (⟨Rect.unit ![16, 0] ![512, 512] inb_S528x512_S512x512_16_0, k0_pay4 (F := Ideal) x0⟩ :: L)) = ze H x0 := by
  funext y
  unfold ze
  have h0 : (y 0).val < 528 := (y 0).isLt
  split
  · rename_i h
    refine (View.read_writes_cons_unit_of_mem v f _ _ _ y (ix2 (⟨(y 0).val - 16, by omega⟩ : Fin 512) (⟨(y 1).val, (y 1).isLt⟩ : Fin 512)) rfl ?_).trans ?_
    · intro a; fin_cases a
      · show (y 0).val = 16 + ((y 0).val - 16); omega
      · show (y 1).val = 0 + (y 1).val; omega
    · rw [pay4_eq]
  · rename_i h
    rw [View.read_writes_cons_unit_of_not_mem v f _ _ _ y rfl (0 : Fin 2) (Or.inl (by show _ < 16; omega)), hH y (by omega)]

theorem ze_read (m : Memref sig .tc .vmem S528x512 .f32) (hm : m.IsWhole) (H : FVec Ideal S528x512 .f32) (x0 : FVec Ideal S512x512 .f32) :
    View.read (Elt Ideal) m.view (m.view.writes (Elt Ideal) (hm.unread H)
      [⟨Rect.unit ![16, 0] ![512, 512] inb_S528x512_S512x512_16_0, k0_pay4 (F := Ideal) x0⟩]) = ze H x0 :=
  ze_writes m.view _ [] H x0 fun y _ => congrFun (hm.read_unread (Val := Elt Ideal) H) y

theorem ze_zero (v : View sig κ sp S528x512 .f32) (x0 : FVec Ideal S512x512 .f32) :
    View.read (Elt Ideal) v (v.writes (Elt Ideal) v.junk
      [⟨Rect.unit ![16, 0] ![512, 512] inb_S528x512_S512x512_16_0, k0_pay4 (F := Ideal) x0⟩, ⟨Rect.unit ![0, 0] ![16, 512] inb_S528x512_S16x512_0_0, k0_pay2 (F := Ideal)⟩]) = ze zH x0 :=
  ze_writes v _ _ zH x0 fun y hy => by
    refine (View.read_writes_cons_unit_of_mem v _ _ _ _ y (ix2 (⟨(y 0).val, by omega⟩ : Fin 16) (⟨(y 1).val, (y 1).isLt⟩ : Fin 512)) rfl ?_).trans
      (pay2_apply _)
    intro a; fin_cases a
    · show (y 0).val = 0 + (y 0).val; omega
    · show (y 1).val = 0 + (y 1).val; omega

theorem ze_cov (v : View sig κ sp S528x512 .f32) (x0 : FVec Ideal S512x512 .f32) (r : Rect S528x512) :
    v.readCov (Val := Elt Ideal) [⟨Rect.unit ![16, 0] ![512, 512] inb_S528x512_S512x512_16_0, k0_pay4 (F := Ideal) x0⟩, ⟨Rect.unit ![0, 0] ![16, 512] inb_S528x512_S16x512_0_0, k0_pay2 (F := Ideal)⟩]
      r.toLoadRect = View.ld (Val := Elt Ideal) (e' := .f32) (ze zH x0) r := by
  rw [← ze_zero v x0]; rfl

theorem hal_writes (v : View sig κ sp S528x512 .f32) (L : List (View.Piece (Elt Ideal) S528x512 .f32)) (x0 : FVec Ideal S512x512 .f32) :
    k0_pay11 (v.readCov (Val := Elt Ideal) (⟨Rect.unit ![16, 0] ![512, 512] inb_S528x512_S512x512_16_0, k0_pay4 (F := Ideal) x0⟩ :: L)
      (Rect.unit ![512, 0] ![16, 512] inb_S528x512_S16x512_512_0).toLoadRect) = hal x0 := by
  funext y
  rw [eq_ix2 y]
  pointwise [k0_pay11]
  refine (View.read_writes_cons_unit_of_mem v v.junk _ _ L _
    (ix2 (⟨496 + (y 0).val, by have : (y 0).val < 16 := (y 0).isLt; omega⟩ : Fin 512) (⟨(y 1).val, (y 1).isLt⟩ : Fin 512)) rfl ?_).trans ?_
  · intro a; fin_cases a
    · show 512 + 1 * (y 0).val = 16 + (496 + (y 0).val); omega
    · show 0 + 1 * (y 1).val = 0 + (y 1).val; omega
  · rw [pay4_eq]; rfl

theorem hal_cov1 (v : View sig κ sp S528x512 .f32) (x0 : FVec Ideal S512x512 .f32) :
    k0_pay11 (v.readCov (Val := Elt Ideal) [⟨Rect.unit ![16, 0] ![512, 512] inb_S528x512_S512x512_16_0, k0_pay4 (F := Ideal) x0⟩]
      (Rect.unit ![512, 0] ![16, 512] inb_S528x512_S16x512_512_0).toLoadRect) = hal x0 := hal_writes v [] x0
theorem hal_cov2 (v : View sig κ sp S528x512 .f32) (x0 : FVec Ideal S512x512 .f32) :
    k0_pay11 (v.readCov (Val := Elt Ideal) [⟨Rect.unit ![16, 0] ![512, 512] inb_S528x512_S512x512_16_0, k0_pay4 (F := Ideal) x0⟩, ⟨Rect.unit ![0, 0] ![16, 512] inb_S528x512_S16x512_0_0, k0_pay2 (F := Ideal)⟩]
      (Rect.unit ![512, 0] ![16, 512] inb_S528x512_S16x512_512_0).toLoadRect) = hal x0 := hal_writes v _ x0

/-- A head's state read before it is written at the first tile: zero, whatever the earlier heads stored. -/
theorem zS_cov (v : View sig κ sp S4x256x128 .f32) (hd : Fin 4) (L : List (View.Piece (Elt Ideal) S4x256x128 .f32))
    (hL : ∀ y : S4x256x128.Idx, (y 0).val = hd.val → View.read (Elt Ideal) v (v.writes (Elt Ideal) v.junk L) y = (0 : EReal)) :
    v.readCov (Val := Elt Ideal) L (Rect.unit ![hd.val, 0, 0] ![1, 256, 128] (inb_s hd)).toLoadRect = zS hd := by
  funext y
  refine hL _ ?_
  have : (y 0).val < 1 := (y 0).isLt
  show hd.val + 1 * (y 0).val = hd.val; omega

theorem zS_init (v : View sig κ sp S4x256x128 .f32) (y : S4x256x128.Idx) :
    View.read (Elt Ideal) v (v.writes (Elt Ideal) v.junk [⟨Rect.unit ![0, 0, 0] ![4, 256, 128] inb_S4x256x128_S4x256x128_0_0_0, k0_pay3 (F := Ideal)⟩]) y = (0 : EReal) := by
  refine (View.read_writes_cons_unit_of_mem v _ _ _ _ y y rfl ?_).trans (pay3_apply _)
  intro a; fin_cases a
  · show (y 0).val = 0 + (y 0).val; omega
  · show (y 1).val = 0 + (y 1).val; omega
  · show (y 2).val = 0 + (y 2).val; omega

theorem zS_cons (v : View sig κ sp S4x256x128 .f32) (hd : Fin 4) (y : S4x256x128.Idx) (hy : (y 0).val ≠ hd.val)
    (p : FVec Ideal S1x256x128 .f32) (L : List (View.Piece (Elt Ideal) S4x256x128 .f32)) :
    View.read (Elt Ideal) v (v.writes (Elt Ideal) v.junk (⟨Rect.unit ![hd.val, 0, 0] ![1, 256, 128] (inb_s hd), p⟩ :: L)) y
      = View.read (Elt Ideal) v (v.writes (Elt Ideal) v.junk L) y :=
  View.read_writes_cons_unit_of_not_mem v _ _ _ _ y rfl (0 : Fin 3) (by show _ < hd.val ∨ hd.val + 1 ≤ _; omega)

section
variable (v : View sig κ sp S4x256x128 .f32) (p2 p1 p0 : FVec Ideal S1x256x128 .f32)

theorem zS0 : v.readCov (Val := Elt Ideal) [⟨Rect.unit ![0, 0, 0] ![4, 256, 128] inb_S4x256x128_S4x256x128_0_0_0, k0_pay3 (F := Ideal)⟩]
    (Rect.unit ![0, 0, 0] ![1, 256, 128] inb_S4x256x128_S1x256x128_0_0_0).toLoadRect = zS 0 :=
  zS_cov v 0 _ fun y _ => zS_init v y
theorem zS1 : v.readCov (Val := Elt Ideal) [⟨Rect.unit ![0, 0, 0] ![1, 256, 128] inb_S4x256x128_S1x256x128_0_0_0, p0⟩,
      ⟨Rect.unit ![0, 0, 0] ![4, 256, 128] inb_S4x256x128_S4x256x128_0_0_0, k0_pay3 (F := Ideal)⟩]
    (Rect.unit ![1, 0, 0] ![1, 256, 128] inb_S4x256x128_S1x256x128_1_0_0).toLoadRect = zS 1 :=
  zS_cov v 1 _ fun y hy => (zS_cons v 0 y (by rw [hy]; decide) p0 _).trans (zS_init v y)
theorem zS2 : v.readCov (Val := Elt Ideal) [⟨Rect.unit ![1, 0, 0] ![1, 256, 128] inb_S4x256x128_S1x256x128_1_0_0, p1⟩,
      ⟨Rect.unit ![0, 0, 0] ![1, 256, 128] inb_S4x256x128_S1x256x128_0_0_0, p0⟩,
      ⟨Rect.unit ![0, 0, 0] ![4, 256, 128] inb_S4x256x128_S4x256x128_0_0_0, k0_pay3 (F := Ideal)⟩]
    (Rect.unit ![2, 0, 0] ![1, 256, 128] inb_S4x256x128_S1x256x128_2_0_0).toLoadRect = zS 2 :=
  zS_cov v 2 _ fun y hy => (zS_cons v 1 y (by rw [hy]; decide) p1 _).trans ((zS_cons v 0 y (by rw [hy]; decide) p0 _).trans (zS_init v y))
theorem zS3 : v.readCov (Val := Elt Ideal) [⟨Rect.unit ![2, 0, 0] ![1, 256, 128] inb_S4x256x128_S1x256x128_2_0_0, p2⟩,
      ⟨Rect.unit ![1, 0, 0] ![1, 256, 128] inb_S4x256x128_S1x256x128_1_0_0, p1⟩,
      ⟨Rect.unit ![0, 0, 0] ![1, 256, 128] inb_S4x256x128_S1x256x128_0_0_0, p0⟩,
      ⟨Rect.unit ![0, 0, 0] ![4, 256, 128] inb_S4x256x128_S4x256x128_0_0_0, k0_pay3 (F := Ideal)⟩]
    (Rect.unit ![3, 0, 0] ![1, 256, 128] inb_S4x256x128_S1x256x128_3_0_0).toLoadRect = zS 3 :=
  zS_cov v 3 _ fun y hy => (zS_cons v 2 y (by rw [hy]; decide) p2 _).trans
    ((zS_cons v 1 y (by rw [hy]; decide) p1 _).trans ((zS_cons v 0 y (by rw [hy]; decide) p0 _).trans (zS_init v y)))
end

/-- The pool's four stores, one per group of columns. -/
def poolPieces (i : grid0.Coords) (Z : FVec Ideal S528x512 .f32) (x6 : Vec Ideal S1x4x128x128 .bf16) (x7 : Vec Ideal S1x1x512 .f32) :
    List (View.Piece (Elt Ideal) S512x512 .bf16) :=
  [⟨Rect.unit ![0, 384] ![512, 128] inb_S512x512_S512x128_0_384,
      k0_pay10 (k0_pay5 i) (View.ld (Val := Elt Ideal) (e' := .f32) Z (Rect.unit (s := S528x512) ![0, 384] ![528, 128] inb_S528x512_S528x128_0_384))
        (View.ld x6 (Rect.unit (s := S1x4x128x128) ![0, 3, 0, 0] ![1, 1, 128, 128] inb_S1x4x128x128_S1x1x128x128_0_3_0_0))
        (View.ld x7 (Rect.unit (s := S1x1x512) ![0, 0, 384] ![1, 1, 128] inb_S1x1x512_S1x1x128_0_0_384))⟩,
    ⟨Rect.unit ![0, 256] ![512, 128] inb_S512x512_S512x128_0_256,
      k0_pay9 (k0_pay8 (k0_pay5 i) (View.ld (Val := Elt Ideal) (e' := .f32) Z (Rect.unit (s := S528x512) ![0, 256] ![528, 128] inb_S528x512_S528x128_0_256)))
        (View.ld x6 (Rect.unit (s := S1x4x128x128) ![0, 2, 0, 0] ![1, 1, 128, 128] inb_S1x4x128x128_S1x1x128x128_0_2_0_0))
        (View.ld x7 (Rect.unit (s := S1x1x512) ![0, 0, 256] ![1, 1, 128] inb_S1x1x512_S1x1x128_0_0_256))⟩,
    ⟨Rect.unit ![0, 128] ![512, 128] inb_S512x512_S512x128_0_128,
      k0_pay7 (k0_pay5 i) (View.ld (Val := Elt Ideal) (e' := .f32) Z (Rect.unit (s := S528x512) ![0, 128] ![528, 128] inb_S528x512_S528x128_0_128))
        (View.ld x6 (Rect.unit (s := S1x4x128x128) ![0, 1, 0, 0] ![1, 1, 128, 128] inb_S1x4x128x128_S1x1x128x128_0_1_0_0))
        (View.ld x7 (Rect.unit (s := S1x1x512) ![0, 0, 128] ![1, 1, 128] inb_S1x1x512_S1x1x128_0_0_128))⟩,
    ⟨Rect.unit ![0, 0] ![512, 128] inb_S512x512_S512x128_0_0,
      k0_pay6 i (View.ld (Val := Elt Ideal) (e' := .f32) Z (Rect.unit (s := S528x512) ![0, 0] ![528, 128] inb_S528x512_S528x128_0_0))
        (View.ld x6 (Rect.unit (s := S1x4x128x128) ![0, 0, 0, 0] ![1, 1, 128, 128] inb_S1x4x128x128_S1x1x128x128_0_0_0_0))
        (View.ld x7 (Rect.unit (s := S1x1x512) ![0, 0, 0] ![1, 1, 128] inb_S1x1x512_S1x1x128_0_0_0))⟩]

end Cert.KPool

end
-- ==== Proof.KPoint.lean ====
/-
  One grid point over the reals: from the tile's blocks, the halo and the incoming state, the entries of the two results'
  blocks, of the next halo and of the next state are those of `Cert.Model`.
-/
module

public import proofs.«01_k».proof.Proof.KPool

@[expose] public section

set_option maxRecDepth 16384

noncomputable section

namespace Cert.KPoint

open Idealize.ShloMosaic Idealize.ShloMosaic.TcCoe Cert.KernelIdeal Cert.KernelIdeal.Gen Cert.KTile Cert.KPool Cert.KVal Cert.Model

/-- The blocks of tile `t` hold the model's numbers. -/
structure Tile (D : Dat) (t : ℕ) (x0 x1 x2 : FVec Ideal S512x512 .f32) (x3 x4 : FVec Ideal S512x1024 .f32) (x5 : FVec Ideal S512x128 .f32)
    (x6 : FVec Ideal S1x4x128x128 .bf16) (x7 : FVec Ideal S1x1x512 .f32) (x8 : FVec Ideal S1x128x512 .bf16) (x9 : FVec Ideal S1x1x512 .f32)
    (x10 : FVec Ideal S1x1x256 .f32) (x11 : FVec Ideal S512x512 .bf16) : Prop where
  h0 : ∀ (r : Fin 512) (l : Fin 512), x0 (ix2 r l) = ((D.z (512 * t + r.val) (512 + l.val) : ℝ) : EReal)
  h1 : ∀ (r : Fin 512) (l : Fin 512), x1 (ix2 r l) = ((D.z (512 * t + r.val) (1024 + l.val) : ℝ) : EReal)
  h2 : ∀ (r : Fin 512) (l : Fin 512), x2 (ix2 r l) = ((D.z (512 * t + r.val) (1536 + l.val) : ℝ) : EReal)
  h3 : ∀ (r : Fin 512) (l : Fin 1024), x3 (ix2 r l) = ((D.z (512 * t + r.val) (2048 + l.val) : ℝ) : EReal)
  h4 : ∀ (r : Fin 512) (l : Fin 1024), x4 (ix2 r l) = ((D.z (512 * t + r.val) (3072 + l.val) : ℝ) : EReal)
  h5 : ∀ (r : Fin 512) (l : Fin 128), x5 (ix2 r l) = ((D.z (512 * t + r.val) (4096 + l.val) : ℝ) : EReal)
  h6 : ∀ (g : Fin 4) (k l : Fin 128), x6 (ix4 (0 : Fin 1) g k l) = ((D.pw g.val k.val l.val : ℝ) : EReal)
  h7 : ∀ (l : Fin 512), x7 (ix3 (0 : Fin 1) (0 : Fin 1) l) = ((D.ps l.val : ℝ) : EReal)
  h8 : ∀ (k : Fin 128) (l : Fin 512), x8 (ix3 (0 : Fin 1) k l) = ((if k.val < 16 then D.wa k.val l.val else 0 : ℝ) : EReal)
  h9 : ∀ (l : Fin 512), x9 (ix3 (0 : Fin 1) (0 : Fin 1) l) = ((D.ba l.val : ℝ) : EReal)
  h10 : ∀ (l : Fin 256), x10 (ix3 (0 : Fin 1) (0 : Fin 1) l) = ((D.gn l.val : ℝ) : EReal)
  h11 : ∀ r s : Fin 512, x11 (ix2 r s) = ((if s.val / 64 = r.val / 64 ∧ s.val ≤ r.val then 1 else 0 : ℝ) : EReal)

/-- Pieces that agree with one function give it at an index they cover, whatever was stored before them. -/
theorem canon_append {S : Shape} {e : EltTy} (G : S.Idx → Elt Ideal e) (T : List (View.Piece (Elt Ideal) S e)) :
    ∀ (L : List (View.Piece (Elt Ideal) S e)) (_ : ∀ p ∈ L, ∀ x : p.1.shape.Idx, p.2 x = G (p.1.emb x)) (y : S.Idx)
      (_ : ∃ p ∈ L, y ∈ p.1.set), View.canon (L ++ T) y = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_append G T L (fun q hq => hL q (by simp [hq])) y ?_
      obtain ⟨q, hq, hqy⟩ := hy
      rcases List.mem_cons.mp hq with rfl | h
      · exact absurd hqy hm
      · exact ⟨q, h, hqy⟩

section
variable {D : Dat} {t : ℕ} {x0 x1 x2 : FVec Ideal S512x512 .f32} {x3 x4 : FVec Ideal S512x1024 .f32} {x5 : FVec Ideal S512x128 .f32}
    {x6 : FVec Ideal S1x4x128x128 .bf16} {x7 : FVec Ideal S1x1x512 .f32} {x8 : FVec Ideal S1x128x512 .bf16} {x9 : FVec Ideal S1x1x512 .f32}
    {x10 : FVec Ideal S1x1x256 .f32} {x11 : FVec Ideal S512x512 .bf16}
    (T : Tile D t x0 x1 x2 x3 x4 x5 x6 x7 x8 x9 x10 x11)
include T

theorem B_apply (r l : Fin 512) : k0_pay12 (F := Ideal) x5 x8 x9 x11 (ix2 r l) = ((bb D (512 * t + r.val) l.val : ℝ) : EReal) :=
  pay12_apply D t x5 x8 x9 x11 T.h5 T.h8 T.h9 T.h11 r l

theorem st_apply (S0 : Fin 4 → FVec Ideal S1x256x128 .f32)
    (hS : ∀ (hd : Fin 4) (b : Fin 256) (d : Fin 128), S0 hd (ix3 (0 : Fin 1) b d) = ((st D hd (8 * t) b d : ℝ) : EReal))
    (hd : Fin 4) (c : ℕ) (hc : c ≤ 8) (b : Fin 256) (d : Fin 128) :
    stv (k0_pay15 (k0_pay12 x5 x8 x9 x11) (k0_pay13 x5 x8 x9 x11)) (k0_pay18 (k0_pay12 x5 x8 x9 x11) (k0_pay13 x5 x8 x9 x11) x2) x3 S0 hd c (ix2 b d)
      = ((st D hd (8 * t + c) b d : ℝ) : EReal) :=
  stv_apply D t hd _ _ x3 S0 (pay15_apply D t _ _ (B_apply T) (pay13_apply x5 x8 x9 x11))
    (pay18_apply D t _ _ x2 (B_apply T) (pay13_apply x5 x8 x9 x11) T.h2) T.h3 (hS hd) c hc b d

/-- The attention's block. -/
theorem val13 (S0 : Fin 4 → FVec Ideal S1x256x128 .f32)
    (hS : ∀ (hd : Fin 4) (b : Fin 256) (d : Fin 128), S0 hd (ix3 (0 : Fin 1) b d) = ((st D hd (8 * t) b d : ℝ) : EReal))
    (r : Fin 512) (l : Fin 1024) :
    View.canon (units.map (piece13 (k0_pay14 (k0_pay12 x5 x8 x9 x11) x1) (k0_pay17 (k0_pay12 x5 x8 x9 x11) x2)
      (k0_pay18 (k0_pay12 x5 x8 x9 x11) (k0_pay13 x5 x8 x9 x11) x2) (k0_pay15 (k0_pay12 x5 x8 x9 x11) (k0_pay13 x5 x8 x9 x11)) x3 x4 (k0_pay20 x10) S0))
      (ix2 r l) = ((gla D (512 * t + r.val) l.val : ℝ) : EReal) := by
  refine View.canon_apply_of_pieces (Val := Elt Ideal) (e := .bf16) (fun y : S512x1024.Idx => ((gla D (512 * t + (y 0).val) (y 1).val : ℝ) : EReal)) _ ?_ (ix2 r l) ?_
  · intro p hp
    obtain ⟨⟨hd, c⟩, -, rfl⟩ := List.mem_map.mp hp
    intro x
    obtain ⟨a, b, rfl⟩ : ∃ (a : Fin 64) (b : Fin 256), x = ix2 a b := ⟨x 0, x 1, eq_ix2 x⟩
    refine (chunkOut_apply _ _ _ _ _ _ D.gn (fun a d => qd D (64 * (8 * t + c.val) + a) (128 * hd.val + d)) (fun a d => kd D (64 * (8 * t + c.val) + a) (128 * hd.val + d))
      (fun a b => D.z (64 * (8 * t + c.val) + a) (2048 + (256 * hd.val + b))) (st D hd.val (8 * t + c.val))
      (fun a b => D.z (64 * (8 * t + c.val) + a) (3072 + (256 * hd.val + b))) ?_ ?_ ?_ ?_ ?_ ?_ a b).trans ?_
    · intro b; rw [pay20_apply]; exact T.h10 b
    · intro a d
      pointwise [qSl]
      rw [pay14_apply D t _ x1 (B_apply T) T.h1]
      dsimp only
      rw [show 512 * t + (64 * c.val + a.val) = 64 * (8 * t + c.val) + a.val by ring]
    · intro a d
      pointwise [qSl]
      rw [pay17_apply D t _ x2 (B_apply T) T.h2]
      dsimp only
      rw [show 512 * t + (64 * c.val + a.val) = 64 * (8 * t + c.val) + a.val by ring]
    · intro a d
      pointwise [vLd]
      rw [T.h3]
      dsimp only
      rw [show 512 * t + (64 * c.val + a.val) = 64 * (8 * t + c.val) + a.val by ring]
    · intro b d
      exact st_apply T S0 hS hd c.val c.isLt.le b d
    · intro a d
      pointwise [vLd]
      rw [T.h4]
      dsimp only
      rw [show 512 * t + (64 * c.val + a.val) = 64 * (8 * t + c.val) + a.val by ring]
    · have e0 : (((piece13 (k0_pay14 (k0_pay12 x5 x8 x9 x11) x1) (k0_pay17 (k0_pay12 x5 x8 x9 x11) x2)
          (k0_pay18 (k0_pay12 x5 x8 x9 x11) (k0_pay13 x5 x8 x9 x11) x2) (k0_pay15 (k0_pay12 x5 x8 x9 x11) (k0_pay13 x5 x8 x9 x11)) x3 x4 (k0_pay20 x10) S0 (hd, c)).1.emb (ix2 a b)) 0).val
          = 64 * c.val + a.val := by show 64 * c.val + 1 * a.val = _; omega
      have e1 : (((piece13 (k0_pay14 (k0_pay12 x5 x8 x9 x11) x1) (k0_pay17 (k0_pay12 x5 x8 x9 x11) x2)
          (k0_pay18 (k0_pay12 x5 x8 x9 x11) (k0_pay13 x5 x8 x9 x11) x2) (k0_pay15 (k0_pay12 x5 x8 x9 x11) (k0_pay13 x5 x8 x9 x11)) x3 x4 (k0_pay20 x10) S0 (hd, c)).1.emb (ix2 a b)) 1).val
          = 256 * hd.val + b.val := by show 256 * hd.val + 1 * b.val = _; omega
      dsimp only
      rw [e0, e1, gla, show (256 * hd.val + b.val) / 256 = hd.val by omega, show (256 * hd.val + b.val) % 256 = b.val by omega,
        show (512 * t + (64 * c.val + a.val)) / 64 = 8 * t + c.val by omega, show (512 * t + (64 * c.val + a.val)) % 64 = a.val by omega,
        show 512 * t + (64 * c.val + a.val) = 64 * (8 * t + c.val) + a.val by ring]
      rfl
  · refine ⟨_, List.mem_map.mpr ⟨(⟨l.val / 256, by omega⟩, ⟨r.val / 64, by omega⟩), (by decide : ∀ u : Fin 4 × Fin 8, u ∈ units) _, rfl⟩, ?_⟩
    refine (Rect.mem_set_unit (s := S512x1024) (inb := inb_v ⟨l.val / 256, by omega⟩ ⟨r.val / 64, by omega⟩)).mpr fun a => ?_
    fin_cases a
    · show 64 * (r.val / 64) ≤ r.val ∧ r.val < 64 * (r.val / 64) + 64; omega
    · show 256 * (l.val / 256) ≤ l.val ∧ l.val < 256 * (l.val / 256) + 256; omega

/-- The next state. -/
theorem valS (S0 : Fin 4 → FVec Ideal S1x256x128 .f32)
    (hS : ∀ (hd : Fin 4) (b : Fin 256) (d : Fin 128), S0 hd (ix3 (0 : Fin 1) b d) = ((st D hd (8 * t) b d : ℝ) : EReal))
    (E : List (View.Piece (Elt Ideal) S4x256x128 .f32)) (hd : Fin 4) (b : Fin 256) (d : Fin 128) :
    View.canon ([3, 2, 1, 0].map (pieceS (k0_pay18 (k0_pay12 x5 x8 x9 x11) (k0_pay13 x5 x8 x9 x11) x2)
      (k0_pay15 (k0_pay12 x5 x8 x9 x11) (k0_pay13 x5 x8 x9 x11)) x3 S0) ++ E) (ix3 hd b d) = ((st D hd (8 * (t + 1)) b d : ℝ) : EReal) := by
  refine canon_append (fun y : S4x256x128.Idx => ((st D (y 0).val (8 * (t + 1)) (y 1).val (y 2).val : ℝ) : EReal)) E _ ?_ (ix3 hd b d) ?_
  · intro p hp
    obtain ⟨hd, -, rfl⟩ := List.mem_map.mp hp
    intro x
    obtain ⟨z, b, d, rfl⟩ : ∃ (z : Fin 1) (b : Fin 256) (d : Fin 128), x = ix3 z b d := ⟨x 0, x 1, x 2, eq_ix3 x⟩
    obtain rfl : z = 0 := Subsingleton.elim _ _
    refine Eq.trans (b := ((st D hd.val (8 * t + 8) b.val d.val : ℝ) : EReal)) ?_ ?_
    · rw [← st_apply T S0 hS hd 8 le_rfl b d]
      pointwise [pieceS]
    · show _ = ((st D (hd.val + 1 * 0) (8 * (t + 1)) (0 + 1 * b.val) (0 + 1 * d.val) : ℝ) : EReal)
      simp only [one_mul, mul_zero, add_zero, zero_add, Nat.mul_add, Nat.mul_one]
  · refine ⟨_, List.mem_map.mpr ⟨hd, (by decide : ∀ u : Fin 4, u ∈ ([3, 2, 1, 0] : List (Fin 4))) _, rfl⟩, ?_⟩
    refine (Rect.mem_set_unit (s := S4x256x128) (inb := inb_s hd)).mpr fun a => ?_
    fin_cases a
    · show hd.val ≤ hd.val ∧ hd.val < hd.val + 1; omega
    · show 0 ≤ b.val ∧ b.val < 0 + 256; omega
    · show 0 ≤ d.val ∧ d.val < 0 + 128; omega

/-- The next halo. -/
theorem valZ (E : List (View.Piece (Elt Ideal) S528x512 .f32)) (r : Fin 528) (hr : r.val < 16) (l : Fin 512) :
    View.canon ((⟨Rect.unit ![0, 0] ![16, 512] inb_S528x512_S16x512_0_0, hal x0⟩ : View.Piece (Elt Ideal) S528x512 .f32) :: E) (ix2 r l)
      = ((zx D (512 * (t + 1) + r.val) l.val : ℝ) : EReal) := by
  have e : (ix2 r l : S528x512.Idx) = (Rect.unit (s := S528x512) ![0, 0] ![16, 512] inb_S528x512_S16x512_0_0).emb (ix2 (⟨r.val, hr⟩ : Fin 16) l) := by
    funext a; fin_cases a
    · exact Fin.ext (show r.val = 0 + 1 * r.val by omega)
    · exact Fin.ext (show l.val = 0 + 1 * l.val by omega)
  rw [e]
  refine (View.canon_cons_emb _ _ _ _).trans ?_
  refine (T.h0 (⟨496 + r.val, by omega⟩ : Fin 512) l).trans ?_
  rw [zx, if_pos (by omega)]
  dsimp only
  rw [show 512 * (t + 1) + r.val - 16 = 512 * t + (496 + r.val) by omega]

/-- The pool's tile with its halo. -/
theorem ze_apply (H : FVec Ideal S528x512 .f32)
    (hH : ∀ (r : Fin 528) (l : Fin 512), r.val < 16 → H (ix2 r l) = ((zx D (512 * t + r.val) l.val : ℝ) : EReal)) (y : Fin 528) (l : Fin 512) :
    ze H x0 (ix2 y l) = ((zx D (512 * t + y.val) l.val : ℝ) : EReal) := by
  by_cases h : 16 ≤ y.val
  · refine (if_pos h).trans ((T.h0 (⟨y.val - 16, by omega⟩ : Fin 512) l).trans ?_)
    rw [zx, if_pos (by omega)]
    dsimp only
    rw [show 512 * t + y.val - 16 = 512 * t + (y.val - 16) by omega]
  · exact (if_neg h).trans (hH y l (by omega))

/-- The pool's block. -/
theorem val12 (i : grid0.Coords) (hi : (i 0).val = t) (H : FVec Ideal S528x512 .f32)
    (hH : ∀ (r : Fin 528) (l : Fin 512), r.val < 16 → H (ix2 r l) = ((zx D (512 * t + r.val) l.val : ℝ) : EReal)) (r l : Fin 512) :
    View.canon (poolPieces i (ze H x0) x6 x7) (ix2 r l) = ((pool D (512 * t + r.val) l.val : ℝ) : EReal) := by
  have h12 : ∀ r : Fin 512, k0_pay5 (F := Ideal) i (ix2 r (0 : Fin 1)) = ((((512 * t + r.val : ℕ) : ℝ) + 1 : ℝ) : EReal) := fun r => by
    rw [pay5_apply, hi]
  have key : ∀ (g : ℕ) (a : ℕ) (b : Fin 128), (((∑ k : Fin 128, pooled D (2 ^ (g + 1)) (512 * t + a) (128 * g + k.val) * D.pw g k.val b.val) * D.ps (128 * g + b.val) : ℝ) : EReal)
      = ((pool D (512 * t + a) (128 * g + b.val) : ℝ) : EReal) := fun g a b => by
    rw [Cert.Model.pool, show (128 * g + b.val) / 128 = g by omega, show (128 * g + b.val) % 128 = b.val by omega]
  refine View.canon_apply_of_pieces (Val := Elt Ideal) (e := .bf16) (fun y : S512x512.Idx => ((pool D (512 * t + (y 0).val) (y 1).val : ℝ) : EReal)) _ ?_ (ix2 r l) ?_
  · have hZ : ∀ (o : ℕ) (inb : ∀ a, (![0, o] : Fin 2 → ℕ) a + (![528, 128] : Fin 2 → ℕ) a ≤ S528x512.size a) (y : Fin 528) (l : Fin 128),
        View.ld (Val := Elt Ideal) (e' := .f32) (ze H x0) (Rect.unit (s := S528x512) ![0, o] ![528, 128] inb) (ix2 y l)
          = ((zx D (512 * t + y.val) (o + l.val) : ℝ) : EReal) := fun o inb y l => by
      have ho : o + 128 ≤ 512 := inb 1
      refine Eq.trans (congrArg (ze H x0) ?_) (ze_apply T H hH y (⟨o + l.val, by omega⟩ : Fin 512))
      funext a; fin_cases a
      · exact Fin.ext (show 0 + 1 * y.val = y.val by omega)
      · exact Fin.ext (show o + 1 * l.val = o + l.val by omega)
    have hW : ∀ (g : Fin 4) (inb : ∀ a, (![0, g.val, 0, 0] : Fin 4 → ℕ) a + (![1, 1, 128, 128] : Fin 4 → ℕ) a ≤ S1x4x128x128.size a) (k l : Fin 128),
        View.ld (Val := Elt Ideal) (e' := .bf16) x6 (Rect.unit (s := S1x4x128x128) ![0, g.val, 0, 0] ![1, 1, 128, 128] inb) (ix4 (0 : Fin 1) (0 : Fin 1) k l)
          = ((D.pw g.val k.val l.val : ℝ) : EReal) := fun g inb k l => by
      refine Eq.trans (congrArg x6 ?_) (T.h6 g k l)
      funext a; fin_cases a
      · exact Fin.ext (show 0 + 1 * 0 = 0 by omega)
      · exact Fin.ext (show g.val + 1 * 0 = g.val by omega)
      · exact Fin.ext (show 0 + 1 * k.val = k.val by omega)
      · exact Fin.ext (show 0 + 1 * l.val = l.val by omega)
    have hP : ∀ (o : ℕ) (inb : ∀ a, (![0, 0, o] : Fin 3 → ℕ) a + (![1, 1, 128] : Fin 3 → ℕ) a ≤ S1x1x512.size a) (l : Fin 128),
        View.ld (Val := Elt Ideal) (e' := .f32) x7 (Rect.unit (s := S1x1x512) ![0, 0, o] ![1, 1, 128] inb) (ix3 (0 : Fin 1) (0 : Fin 1) l)
          = ((D.ps (o + l.val) : ℝ) : EReal) := fun o inb l => by
      have ho : o + 128 ≤ 512 := inb 2
      refine Eq.trans (congrArg x7 ?_) (T.h7 (⟨o + l.val, by omega⟩ : Fin 512))
      funext a; fin_cases a
      · exact Fin.ext (show 0 + 1 * 0 = 0 by omega)
      · exact Fin.ext (show 0 + 1 * 0 = 0 by omega)
      · exact Fin.ext (show o + 1 * l.val = o + l.val by omega)
    have em : ∀ (o : ℕ) (inb : ∀ a, (![0, o] : Fin 2 → ℕ) a + (![512, 128] : Fin 2 → ℕ) a ≤ S512x512.size a) (a : Fin 512) (b : Fin 128),
        ((pool D (512 * t + (((Rect.unit (s := S512x512) ![0, o] ![512, 128] inb).emb (ix2 a b)) 0).val)
          (((Rect.unit (s := S512x512) ![0, o] ![512, 128] inb).emb (ix2 a b)) 1).val : ℝ) : EReal) = ((pool D (512 * t + a.val) (o + b.val) : ℝ) : EReal) := by
      intro o inb a b
      show ((pool D (512 * t + (0 + 1 * a.val)) (o + 1 * b.val) : ℝ) : EReal) = _
      rw [one_mul, one_mul, zero_add]
    intro p hp
    simp only [poolPieces, List.mem_cons, List.not_mem_nil, or_false] at hp
    rcases hp with rfl | rfl | rfl | rfl <;> intro x <;>
      obtain ⟨a, b, rfl⟩ : ∃ (a : Fin 512) (b : Fin 128), x = ix2 a b := ⟨x 0, x 1, eq_ix2 x⟩
    · exact (pay10_apply D t _ _ _ _ 3 h12 (hZ 384 _) (hW 3 _) (hP 384 _) a b).trans ((key 3 a b).trans (em 384 inb_S512x512_S512x128_0_384 a b).symm)
    · exact (pay89_apply D t _ _ _ _ 2 h12 (hZ 256 _) (hW 2 _) (hP 256 _) a b).trans ((key 2 a b).trans (em 256 inb_S512x512_S512x128_0_256 a b).symm)
    · exact (pay7_apply D t _ _ _ _ 1 h12 (hZ 128 _) (hW 1 _) (hP 128 _) a b).trans ((key 1 a b).trans (em 128 inb_S512x512_S512x128_0_128 a b).symm)
    · exact (pay6_apply D t _ _ _ 0 (hZ 0 _) (hW 0 _) (hP 0 _) a b i hi).trans ((key 0 a b).trans (em 0 inb_S512x512_S512x128_0_0 a b).symm)
  · have hc : ∀ (o : ℕ) (inb : ∀ a, (![0, o] : Fin 2 → ℕ) a + (![512, 128] : Fin 2 → ℕ) a ≤ S512x512.size a), o ≤ l.val → l.val < o + 128 →
        (ix2 r l : S512x512.Idx) ∈ (Rect.unit (s := S512x512) ![0, o] ![512, 128] inb).set := fun o inb h1 h2 => by
      refine Rect.mem_set_unit.mpr fun a => ?_
      fin_cases a
      · show 0 ≤ r.val ∧ r.val < 0 + 512; omega
      · exact ⟨h1, h2⟩
    rcases (by omega : l.val < 128 ∨ (128 ≤ l.val ∧ l.val < 256) ∨ (256 ≤ l.val ∧ l.val < 384) ∨ 384 ≤ l.val) with h | h | h | h
    · exact ⟨_, List.mem_cons_of_mem _ (List.mem_cons_of_mem _ (List.mem_cons_of_mem _ List.mem_cons_self)), hc 0 inb_S512x512_S512x128_0_0 (by omega) (by omega)⟩
    · exact ⟨_, List.mem_cons_of_mem _ (List.mem_cons_of_mem _ List.mem_cons_self), hc 128 inb_S512x512_S512x128_0_128 (by omega) (by omega)⟩
    · exact ⟨_, List.mem_cons_of_mem _ List.mem_cons_self, hc 256 inb_S512x512_S512x128_0_256 (by omega) (by omega)⟩
    · exact ⟨_, List.mem_cons_self, hc 384 inb_S512x512_S512x128_0_384 (by omega) (by omega)⟩
end

end Cert.KPoint

end
-- ==== Proof.KWin.lean ====
/-
  What the kernel's windows show its body at each grid point, over the arguments' numbers.
-/
module

public import proofs.«01_k».proof.Proof.KPoint
public import proofs.«01_k».proof.Proof.Gen.KernelIdeal.Value
public import Idealize.ShloMosaic.Lib.Claim
public import Idealize.ShloMosaic.Lib.Pipeline.ValueKit
public import Idealize.ShloMosaic.Lib.StableHlo.ReadAt
public import Idealize.ShloMosaic.Lib.Tactic.WordOmega
public import Idealize.ShloMosaic.Lib.Pointwise

@[expose] public section

set_option maxRecDepth 16384

noncomputable section

namespace Cert.KWin

open Idealize.ShloMosaic Idealize.ShloMosaic.TcCoe Cert.KernelIdeal Cert.KernelIdeal.Gen Cert.KTile Cert.KPool Cert.KVal Cert.Model Cert.KPoint

/-- The six argument arrays hold the model's numbers. -/
structure Args (D : Dat) (a0 : FVec Ideal S16384x4224 .f32) (a1 : FVec Ideal S2x4x128x128 .f32) (a2 : FVec Ideal S2x512 .f32)
    (a3 : FVec Ideal S2x16x512 .f32) (a4 : FVec Ideal S2x512 .f32) (a5 : FVec Ideal S2x256 .f32) : Prop where
  h0 : ∀ (R : Fin 16384) (l : Fin 4224), a0 (ix2 R l) = ((D.z R.val l.val : ℝ) : EReal)
  h1 : ∀ (g : Fin 4) (k l : Fin 128), a1 (ix4 (0 : Fin 2) g k l) = ((D.pw g.val k.val l.val : ℝ) : EReal)
  h2 : ∀ (l : Fin 512), a2 (ix2 (0 : Fin 2) l) = ((D.ps l.val : ℝ) : EReal)
  h3 : ∀ (k : Fin 16) (l : Fin 512), a3 (ix3 (0 : Fin 2) k l) = ((D.wa k.val l.val : ℝ) : EReal)
  h4 : ∀ (l : Fin 512), a4 (ix2 (0 : Fin 2) l) = ((D.ba l.val : ℝ) : EReal)
  h5 : ∀ (l : Fin 256), a5 (ix2 (0 : Fin 2) l) = ((D.gn l.val : ℝ) : EReal)

variable (m : (ℓ : Loc nD τ sig) → Buf (Elt Ideal) ℓ) (c : Dev nD)

/-- The windows' block indices. -/
theorem idx : ∀ t : Fin cfg0.N, win0_0.index t = ![t.val, 1] ∧ win0_1.index t = ![t.val, 2] ∧ win0_2.index t = ![t.val, 3]
    ∧ win0_3.index t = ![t.val, 2] ∧ win0_4.index t = ![t.val, 3] ∧ win0_5.index t = ![t.val, 32]
    ∧ win0_6.index t = ![0, 0, 0, 0] ∧ win0_7.index t = ![0, 0, 0] ∧ win0_8.index t = ![0, 0, 0] ∧ win0_9.index t = ![0, 0, 0]
    ∧ win0_10.index t = ![0, 0, 0] ∧ win0_11.index t = ![0, 0] := by decide +kernel

theorem coords_val : ∀ t : Fin cfg0.N, ((grid0.coords t) 0).val = t.val := by decide +kernel

/-- The index word of a row divided by 64 and rounded down, as the host computes it. -/
theorem fd : ∀ r : Fin 512, Scalar.select
            (IntOp.andi
              (IntOp.cmpi CmpIPredicate.ne
                ((if BitVec.ofNat 32 ↑r = 0 then 0 else if (BitVec.ofNat 32 ↑r).msb = true then -1 else 1 : BitVec 32))
                (if 64#32 = 0 then 0 else if BitVec.msb 64#32 = true then -1 else 1))
              (IntOp.cmpi CmpIPredicate.ne (IntOp.remsi ArithUnit.host (BitVec.ofNat 32 ↑r) 64#32) 0#32))
            (IntOp.subi (IntOp.divsi ArithUnit.host (BitVec.ofNat 32 ↑r) 64#32) 1#32)
            (IntOp.divsi ArithUnit.host (BitVec.ofNat 32 ↑r) 64#32) = BitVec.ofNat 32 (r.val / 64) := by decide +kernel

section
variable (t : Fin cfg0.N)

theorem x0_read (r : Fin 512) (l : Fin 512) :
    X0_0 m c t (ix2 r l) = m ((c : Thread nD τ).loc main_arg0) (ix2 (⟨512 * t.val + r.val, by have : t.val < 32 := t.isLt; omega⟩ : Fin 16384) (⟨512 + l.val, by omega⟩ : Fin 4224)) := by
  unfold X0_0 Pipeline.Window.fill
  rw [dif_pos (moved0_0 t _)]
  blk_ext [iblk, V, idx t]

theorem x1_read (r : Fin 512) (l : Fin 512) :
    X0_1 m c t (ix2 r l) = m ((c : Thread nD τ).loc main_arg0) (ix2 (⟨512 * t.val + r.val, by have : t.val < 32 := t.isLt; omega⟩ : Fin 16384) (⟨1024 + l.val, by omega⟩ : Fin 4224)) := by
  unfold X0_1 Pipeline.Window.fill
  rw [dif_pos (moved0_1 t _)]
  blk_ext [iblk, V, idx t]

theorem x2_read (r : Fin 512) (l : Fin 512) :
    X0_2 m c t (ix2 r l) = m ((c : Thread nD τ).loc main_arg0) (ix2 (⟨512 * t.val + r.val, by have : t.val < 32 := t.isLt; omega⟩ : Fin 16384) (⟨1536 + l.val, by omega⟩ : Fin 4224)) := by
  unfold X0_2 Pipeline.Window.fill
  rw [dif_pos (moved0_2 t _)]
  blk_ext [iblk, V, idx t]

theorem x3_read (r : Fin 512) (l : Fin 1024) :
    X0_3 m c t (ix2 r l) = m ((c : Thread nD τ).loc main_arg0) (ix2 (⟨512 * t.val + r.val, by have : t.val < 32 := t.isLt; omega⟩ : Fin 16384) (⟨2048 + l.val, by omega⟩ : Fin 4224)) := by
  unfold X0_3 Pipeline.Window.fill
  rw [dif_pos (moved0_3 t _)]
  blk_ext [iblk, V, idx t]

theorem x4_read (r : Fin 512) (l : Fin 1024) :
    X0_4 m c t (ix2 r l) = m ((c : Thread nD τ).loc main_arg0) (ix2 (⟨512 * t.val + r.val, by have : t.val < 32 := t.isLt; omega⟩ : Fin 16384) (⟨3072 + l.val, by omega⟩ : Fin 4224)) := by
  unfold X0_4 Pipeline.Window.fill
  rw [dif_pos (moved0_4 t _)]
  blk_ext [iblk, V, idx t]

theorem x5_read (r : Fin 512) (l : Fin 128) :
    iblk m c 5 t (ix2 r l) = m ((c : Thread nD τ).loc main_arg0) (ix2 (⟨512 * t.val + r.val, by have : t.val < 32 := t.isLt; omega⟩ : Fin 16384) (⟨4096 + l.val, by omega⟩ : Fin 4224)) := by
  blk_ext [iblk, V, idx t]

theorem x6_read (g : Fin 4) (k l : Fin 128) :
    iblk m c 6 t (ix4 (0 : Fin 1) g k l) = m ((c : Thread nD τ).loc main_arg1) (ix4 (0 : Fin 2) g k l) := by
  blk_ext [iblk, V, idx t]

theorem x7_read (l : Fin 512) :
    iblk m c 7 t (ix3 (0 : Fin 1) (0 : Fin 1) l) = m ((c : Thread nD τ).loc main_arg2) (ix2 (0 : Fin 2) l) := by
  have : iblk m c 7 t (ix3 (0 : Fin 1) (0 : Fin 1) l) = V m c main_v1 (ix3 (0 : Fin 2) (0 : Fin 1) l) := by
    blk_ext [iblk, idx t]
  rw [this]
  unfold V
  after_reads_at

theorem x9_read (l : Fin 512) :
    iblk m c 9 t (ix3 (0 : Fin 1) (0 : Fin 1) l) = m ((c : Thread nD τ).loc main_arg4) (ix2 (0 : Fin 2) l) := by
  have : iblk m c 9 t (ix3 (0 : Fin 1) (0 : Fin 1) l) = V m c main_v4 (ix3 (0 : Fin 2) (0 : Fin 1) l) := by
    blk_ext [iblk, idx t]
  rw [this]
  unfold V
  after_reads_at

theorem x10_read (l : Fin 256) :
    iblk m c 10 t (ix3 (0 : Fin 1) (0 : Fin 1) l) = m ((c : Thread nD τ).loc main_arg5) (ix2 (0 : Fin 2) l) := by
  have : iblk m c 10 t (ix3 (0 : Fin 1) (0 : Fin 1) l) = V m c main_v5 (ix3 (0 : Fin 2) (0 : Fin 1) l) := by
    blk_ext [iblk, idx t]
  rw [this]
  unfold V
  after_reads_at

theorem x8_read (k : Fin 128) (l : Fin 512) :
    iblk m c 8 t (ix3 (0 : Fin 1) k l) = if h : k.val < 16 then m ((c : Thread nD τ).loc main_arg3) (ix3 (0 : Fin 2) (⟨k.val, h⟩ : Fin 16) l) else (0 : EReal) := by
  have : iblk m c 8 t (ix3 (0 : Fin 1) k l) = V m c main_v3 (ix3 (0 : Fin 2) k l) := by
    blk_ext [iblk, idx t]
  rw [this]
  unfold V
  after_reads_at
  have : (FloatOps.sitofp (F := Ideal) FTy.f32 0#32) = (0 : EReal) := by
    show (((0#32 : BitVec 32).toInt : ℝ) : EReal) = 0
    simp
  rw [this]

theorem x11_read (r s : Fin 512) :
    iblk m c 11 t (ix2 r s) = ((if s.val / 64 = r.val / 64 ∧ s.val ≤ r.val then 1 else 0 : ℝ) : EReal) := by
  have : iblk m c 11 t (ix2 r s) = V m c main_v20 (ix2 r s) := by
    blk_ext [iblk, idx t]
  rw [this]
  unfold V
  after_reads_at
  generalize hW : id (constantI S_ 32 64#32) ix0 = W
  obtain rfl : W = 64#32 := hW.symm.trans rfl
  rw [fd r, fd s]
  have h1 := r.isLt
  have h2 := s.isLt
  rw [WordCmp.cmpi_sge_ofNat (by omega) (by omega)]
  have e : IntOp.cmpi CmpIPredicate.eq (BitVec.ofNat 32 (r.val / 64)) (BitVec.ofNat 32 (s.val / 64)) = BitVec.ofBool (decide (s.val / 64 = r.val / 64)) := by
    have : (BitVec.ofNat 32 (r.val / 64) = BitVec.ofNat 32 (s.val / 64)) ↔ s.val / 64 = r.val / 64 := by
      constructor
      · intro h
        have := congrArg BitVec.toNat h
        simp only [BitVec.toNat_ofNat] at this
        omega
      · intro h; rw [h]
    simp only [IntOp.cmpi]
    by_cases h : s.val / 64 = r.val / 64
    · simp [h]
    · rw [beq_eq_false_iff_ne.mpr (fun e => h (this.mp e))]
      simp [h]
  rw [e]
  by_cases p1 : s.val / 64 = r.val / 64 <;> by_cases p2 : s.val ≤ r.val <;> simp [p1, p2, IntOp.andi, FloatOps.uitofp]
end

/-- Every tile's blocks hold the model's numbers. -/
theorem tile {D : Dat} (h : Args D (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (t : Fin cfg0.N) :
    Tile D t.val (X0_0 m c t) (X0_1 m c t) (X0_2 m c t) (X0_3 m c t) (X0_4 m c t) (iblk m c 5 t) (iblk m c 6 t) (iblk m c 7 t) (iblk m c 8 t)
      (iblk m c 9 t) (iblk m c 10 t) (iblk m c 11 t) where
  h0 r l := (x0_read m c t r l).trans (h.h0 _ _)
  h1 r l := (x1_read m c t r l).trans (h.h0 _ _)
  h2 r l := (x2_read m c t r l).trans (h.h0 _ _)
  h3 r l := (x3_read m c t r l).trans (h.h0 _ _)
  h4 r l := (x4_read m c t r l).trans (h.h0 _ _)
  h5 r l := (x5_read m c t r l).trans (h.h0 _ _)
  h6 g k l := (x6_read m c t g k l).trans (h.h1 _ _ _)
  h7 l := (x7_read m c t l).trans (h.h2 _)
  h8 k l := by
    refine (x8_read m c t k l).trans ?_
    split_ifs with hk
    · exact h.h3 _ _
    · simp
  h9 l := (x9_read m c t l).trans (h.h4 _)
  h10 l := (x10_read m c t l).trans (h.h5 _)
  h11 r s := x11_read m c t r s

end Cert.KWin
-- ==== Proof.KRunA.lean ====
/-
  The stores of one grid point, case the first tile, in closed form: the lists the run leaves for the two results and for the two
  scratch buffers carried between points are the pool's pieces, the attention's pieces, the halo's and the state's.
-/
module

public import proofs.«01_k».proof.Proof.KPool

@[expose] public section

set_option maxRecDepth 16384
set_option maxHeartbeats 4000000

noncomputable section

namespace Cert.KRun

open Idealize.ShloMosaic Idealize.ShloMosaic.TcCoe Cert.KernelIdeal Cert.KernelIdeal.Gen Cert.KTile Cert.KPool

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x1x512 .f32) (harg10 : arg10.IsWhole) (arg11 : Memref sig .tc .vmem S1x1x256 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1024 .bf16) (harg14 : arg14.IsWhole) (arg15 : Memref sig .tc .vmem S528x512 .f32) (harg15 : arg15.IsWhole) (arg16 : Memref sig .tc .vmem S4x256x128 .f32) (harg16 : arg16.IsWhole) (hc0 : cond0_0 i)   (x0 : Vec Ideal S512x512 .f32) (x1 : Vec Ideal S512x512 .f32) (x2 : Vec Ideal S512x512 .f32) (x3 : Vec Ideal S512x1024 .f32) (x4 : Vec Ideal S512x1024 .f32) (x5 : Vec Ideal S512x128 .f32) (x6 : Vec Ideal S1x4x128x128 .bf16) (x7 : Vec Ideal S1x1x512 .f32) (x8 : Vec Ideal S1x128x512 .bf16) (x9 : Vec Ideal S1x1x512 .f32) (x10 : Vec Ideal S1x1x256 .f32) (x11 : Vec Ideal S512x512 .bf16)

/-- The attention's stores. -/
theorem run13_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 = units.map (piece13 (k0_pay14 (k0_pay12 x5 x8 x9 x11) x1) (k0_pay17 (k0_pay12 x5 x8 x9 x11) x2) (k0_pay18 (k0_pay12 x5 x8 x9 x11) (k0_pay13 x5 x8 x9 x11) x2) (k0_pay15 (k0_pay12 x5 x8 x9 x11) (k0_pay13 x5 x8 x9 x11)) x3 x4 (k0_pay20 x10) zS) := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S512x512) (off := ![0, 0]) (by funext a; fin_cases a <;> rfl),
    View.ld_unit_zero (S := S512x128) (off := ![0, 0]) (by funext a; fin_cases a <;> rfl),
    View.ld_unit_zero (S := S1x128x512) (off := ![0, 0, 0]) (by funext a; fin_cases a <;> rfl),
    View.ld_unit_zero (S := S1x1x512) (off := ![0, 0, 0]) (by funext a; fin_cases a <;> rfl),
    View.ld_unit_zero (S := S1x1x256) (off := ![0, 0, 0]) (by funext a; fin_cases a <;> rfl)]
  simp only [zS3, zS2, zS1, zS0]
  generalize k0_pay12 x5 x8 x9 x11 = B
  generalize k0_pay14 B x1 = QD
  generalize k0_pay15 B _ = DC
  generalize k0_pay17 B x2 = KD
  generalize k0_pay18 B _ x2 = KE
  rfl

/-- The carried state's stores. -/
theorem runS_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.2.2.1 = [3, 2, 1, 0].map (pieceS (k0_pay18 (k0_pay12 x5 x8 x9 x11) (k0_pay13 x5 x8 x9 x11) x2) (k0_pay15 (k0_pay12 x5 x8 x9 x11) (k0_pay13 x5 x8 x9 x11)) x3 zS) ++ [⟨Rect.unit ![0, 0, 0] ![4, 256, 128] inb_S4x256x128_S4x256x128_0_0_0, k0_pay3 (F := Ideal)⟩] := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S512x512) (off := ![0, 0]) (by funext a; fin_cases a <;> rfl),
    View.ld_unit_zero (S := S512x128) (off := ![0, 0]) (by funext a; fin_cases a <;> rfl),
    View.ld_unit_zero (S := S1x128x512) (off := ![0, 0, 0]) (by funext a; fin_cases a <;> rfl),
    View.ld_unit_zero (S := S1x1x512) (off := ![0, 0, 0]) (by funext a; fin_cases a <;> rfl),
    View.ld_unit_zero (S := S1x1x256) (off := ![0, 0, 0]) (by funext a; fin_cases a <;> rfl)]
  simp only [zS3, zS2, zS1, zS0]
  generalize k0_pay12 x5 x8 x9 x11 = B
  generalize k0_pay14 B x1 = QD
  generalize k0_pay15 B _ = DC
  generalize k0_pay17 B x2 = KD
  generalize k0_pay18 B _ x2 = KE
  rfl

/-- The pool's stores. -/
theorem run12_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 = poolPieces i (ze zH x0) x6 x7 := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S512x512) (off := ![0, 0]) (by funext a; fin_cases a <;> rfl),
    View.ld_unit_zero (S := S512x128) (off := ![0, 0]) (by funext a; fin_cases a <;> rfl),
    View.ld_unit_zero (S := S1x128x512) (off := ![0, 0, 0]) (by funext a; fin_cases a <;> rfl),
    View.ld_unit_zero (S := S1x1x512) (off := ![0, 0, 0]) (by funext a; fin_cases a <;> rfl),
    View.ld_unit_zero (S := S1x1x256) (off := ![0, 0, 0]) (by funext a; fin_cases a <;> rfl)]
  simp only [ze_cov]
  rfl

/-- The halo's stores: the tile's last sixteen rows over the rest. -/
theorem runZ_A : ∃ L, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.2.1 = ⟨Rect.unit ![0, 0] ![16, 512] inb_S528x512_S16x512_0_0, hal x0⟩ :: L := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S512x512) (off := ![0, 0]) (by funext a; fin_cases a <;> rfl),
    View.ld_unit_zero (S := S512x128) (off := ![0, 0]) (by funext a; fin_cases a <;> rfl),
    View.ld_unit_zero (S := S1x128x512) (off := ![0, 0, 0]) (by funext a; fin_cases a <;> rfl),
    View.ld_unit_zero (S := S1x1x512) (off := ![0, 0, 0]) (by funext a; fin_cases a <;> rfl),
    View.ld_unit_zero (S := S1x1x256) (off := ![0, 0, 0]) (by funext a; fin_cases a <;> rfl)]
  simp only [hal_cov2]
  exact ⟨_, rfl⟩

end Cert.KRun

end
-- ==== Proof.KRunB.lean ====
/-
  The stores of one grid point, case a later tile, in closed form: the lists the run leaves for the two results and for the two
  scratch buffers carried between points are the pool's pieces, the attention's pieces, the halo's and the state's.
-/
module

public import proofs.«01_k».proof.Proof.KPool

@[expose] public section

set_option maxRecDepth 16384
set_option maxHeartbeats 4000000

noncomputable section

namespace Cert.KRun

open Idealize.ShloMosaic Idealize.ShloMosaic.TcCoe Cert.KernelIdeal Cert.KernelIdeal.Gen Cert.KTile Cert.KPool

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x1x512 .f32) (harg10 : arg10.IsWhole) (arg11 : Memref sig .tc .vmem S1x1x256 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1024 .bf16) (harg14 : arg14.IsWhole) (arg15 : Memref sig .tc .vmem S528x512 .f32) (harg15 : arg15.IsWhole) (arg16 : Memref sig .tc .vmem S4x256x128 .f32) (harg16 : arg16.IsWhole) (hc0 : ¬cond0_0 i)   (x0 : Vec Ideal S512x512 .f32) (x1 : Vec Ideal S512x512 .f32) (x2 : Vec Ideal S512x512 .f32) (x3 : Vec Ideal S512x1024 .f32) (x4 : Vec Ideal S512x1024 .f32) (x5 : Vec Ideal S512x128 .f32) (x6 : Vec Ideal S1x4x128x128 .bf16) (x7 : Vec Ideal S1x1x512 .f32) (x8 : Vec Ideal S1x128x512 .bf16) (x9 : Vec Ideal S1x1x512 .f32) (x10 : Vec Ideal S1x1x256 .f32) (x11 : Vec Ideal S512x512 .bf16) (xs0 : Vec Ideal S528x512 .f32) (xs1 : Vec Ideal S4x256x128 .f32)

/-- The attention's stores. -/
theorem run13_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1).2.1 = units.map (piece13 (k0_pay14 (k0_pay12 x5 x8 x9 x11) x1) (k0_pay17 (k0_pay12 x5 x8 x9 x11) x2) (k0_pay18 (k0_pay12 x5 x8 x9 x11) (k0_pay13 x5 x8 x9 x11) x2) (k0_pay15 (k0_pay12 x5 x8 x9 x11) (k0_pay13 x5 x8 x9 x11)) x3 x4 (k0_pay20 x10) (stS xs1)) := by
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S512x512) (off := ![0, 0]) (by funext a; fin_cases a <;> rfl),
    View.ld_unit_zero (S := S512x128) (off := ![0, 0]) (by funext a; fin_cases a <;> rfl),
    View.ld_unit_zero (S := S1x128x512) (off := ![0, 0, 0]) (by funext a; fin_cases a <;> rfl),
    View.ld_unit_zero (S := S1x1x512) (off := ![0, 0, 0]) (by funext a; fin_cases a <;> rfl),
    View.ld_unit_zero (S := S1x1x256) (off := ![0, 0, 0]) (by funext a; fin_cases a <;> rfl)]
  generalize k0_pay12 x5 x8 x9 x11 = B
  generalize k0_pay14 B x1 = QD
  generalize k0_pay15 B _ = DC
  generalize k0_pay17 B x2 = KD
  generalize k0_pay18 B _ x2 = KE
  rfl

/-- The carried state's stores. -/
theorem runS_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1).2.2.2.1 = [3, 2, 1, 0].map (pieceS (k0_pay18 (k0_pay12 x5 x8 x9 x11) (k0_pay13 x5 x8 x9 x11) x2) (k0_pay15 (k0_pay12 x5 x8 x9 x11) (k0_pay13 x5 x8 x9 x11)) x3 (stS xs1)) := by
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S512x512) (off := ![0, 0]) (by funext a; fin_cases a <;> rfl),
    View.ld_unit_zero (S := S512x128) (off := ![0, 0]) (by funext a; fin_cases a <;> rfl),
    View.ld_unit_zero (S := S1x128x512) (off := ![0, 0, 0]) (by funext a; fin_cases a <;> rfl),
    View.ld_unit_zero (S := S1x1x512) (off := ![0, 0, 0]) (by funext a; fin_cases a <;> rfl),
    View.ld_unit_zero (S := S1x1x256) (off := ![0, 0, 0]) (by funext a; fin_cases a <;> rfl)]
  generalize k0_pay12 x5 x8 x9 x11 = B
  generalize k0_pay14 B x1 = QD
  generalize k0_pay15 B _ = DC
  generalize k0_pay17 B x2 = KD
  generalize k0_pay18 B _ x2 = KE
  rfl

/-- The pool's stores. -/
theorem run12_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1).1 = poolPieces i (ze xs0 x0) x6 x7 := by
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S512x512) (off := ![0, 0]) (by funext a; fin_cases a <;> rfl),
    View.ld_unit_zero (S := S512x128) (off := ![0, 0]) (by funext a; fin_cases a <;> rfl),
    View.ld_unit_zero (S := S1x128x512) (off := ![0, 0, 0]) (by funext a; fin_cases a <;> rfl),
    View.ld_unit_zero (S := S1x1x512) (off := ![0, 0, 0]) (by funext a; fin_cases a <;> rfl),
    View.ld_unit_zero (S := S1x1x256) (off := ![0, 0, 0]) (by funext a; fin_cases a <;> rfl)]
  simp only [ze_read]
  rfl

/-- The halo's stores: the tile's last sixteen rows over the rest. -/
theorem runZ_B : ∃ L, (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1).2.2.1 = ⟨Rect.unit ![0, 0] ![16, 512] inb_S528x512_S16x512_0_0, hal x0⟩ :: L := by
  unfold kernelRun0_B; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [View.ld_unit_zero (S := S512x512) (off := ![0, 0]) (by funext a; fin_cases a <;> rfl),
    View.ld_unit_zero (S := S512x128) (off := ![0, 0]) (by funext a; fin_cases a <;> rfl),
    View.ld_unit_zero (S := S1x128x512) (off := ![0, 0, 0]) (by funext a; fin_cases a <;> rfl),
    View.ld_unit_zero (S := S1x1x512) (off := ![0, 0, 0]) (by funext a; fin_cases a <;> rfl),
    View.ld_unit_zero (S := S1x1x256) (off := ![0, 0, 0]) (by funext a; fin_cases a <;> rfl)]
  simp only [hal_cov1]
  exact ⟨_, rfl⟩

end Cert.KRun

end
-- ==== Proof.KFin.lean ====
/-
  All 32 grid points over the reals: after each, the two results' blocks, the halo and the carried state hold the model's numbers; so the
  two result arrays hold the model's numbers everywhere.
-/
module

public import proofs.«01_k».proof.Proof.KWin
public import proofs.«01_k».proof.Proof.KRunA
public import proofs.«01_k».proof.Proof.KRunB

@[expose] public section

set_option maxRecDepth 16384
set_option maxHeartbeats 1000000

noncomputable section

namespace Cert.KFin

open Idealize.ShloMosaic Idealize.ShloMosaic.TcCoe Cert.KernelIdeal Cert.KernelIdeal.Gen Cert.KernelIdeal.Value Cert.KTile Cert.KPool Cert.KVal Cert.Model Cert.KPoint Cert.KRun Cert.KWin

/-- What a grid point leaves: its two result blocks, the halo and the state, at the model's numbers. -/
structure Inv (D : Dat) (t : ℕ) (op : Vec Ideal S512x512 .bf16) (og : Vec Ideal S512x1024 .bf16) (oz : Vec Ideal S528x512 .f32) (os : Vec Ideal S4x256x128 .f32) : Prop where
  hp : ∀ r l : Fin 512, op (ix2 r l) = ((Cert.Model.pool D (512 * t + r.val) l.val : ℝ) : EReal)
  hg : ∀ (r : Fin 512) (l : Fin 1024), og (ix2 r l) = ((gla D (512 * t + r.val) l.val : ℝ) : EReal)
  hz : ∀ (r : Fin 528) (l : Fin 512), r.val < 16 → oz (ix2 r l) = ((zx D (512 * (t + 1) + r.val) l.val : ℝ) : EReal)
  hs : ∀ (hd : Fin 4) (b : Fin 256) (d : Fin 128), os (ix3 hd b d) = ((st D hd (8 * (t + 1)) b d : ℝ) : EReal)

/-- The same of the four contents as one tuple. -/
def InvT (D : Dat) (t : ℕ) (o : Vec Ideal S512x512 .bf16 × Vec Ideal S512x1024 .bf16 × Vec Ideal S528x512 .f32 × Vec Ideal S4x256x128 .f32) : Prop :=
  Inv D t o.1 o.2.1 o.2.2.1 o.2.2.2

theorem Inv.toT {D : Dat} {t : ℕ} {op : Vec Ideal S512x512 .bf16} {og : Vec Ideal S512x1024 .bf16} {oz : Vec Ideal S528x512 .f32} {os : Vec Ideal S4x256x128 .f32}
    (h : Inv D t op og oz os) : InvT D t (op, og, oz, os) := h

variable (c : Dev nD)

section
variable (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x1x512 .f32) (harg10 : arg10.IsWhole) (arg11 : Memref sig .tc .vmem S1x1x256 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1024 .bf16) (harg14 : arg14.IsWhole) (arg15 : Memref sig .tc .vmem S528x512 .f32) (harg15 : arg15.IsWhole) (arg16 : Memref sig .tc .vmem S4x256x128 .f32) (harg16 : arg16.IsWhole) (hc0 : cond0_0 i)   (x0 : Vec Ideal S512x512 .f32) (x1 : Vec Ideal S512x512 .f32) (x2 : Vec Ideal S512x512 .f32) (x3 : Vec Ideal S512x1024 .f32) (x4 : Vec Ideal S512x1024 .f32) (x5 : Vec Ideal S512x128 .f32) (x6 : Vec Ideal S1x4x128x128 .bf16) (x7 : Vec Ideal S1x1x512 .f32) (x8 : Vec Ideal S1x128x512 .bf16) (x9 : Vec Ideal S1x1x512 .f32) (x10 : Vec Ideal S1x1x256 .f32) (x11 : Vec Ideal S512x512 .bf16)

/-- The first point. -/
theorem inv_A {D : Dat} (T : Tile D 0 x0 x1 x2 x3 x4 x5 x6 x7 x8 x9 x10 x11) (hi : (i 0).val = 0) :
    Inv D 0 (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11) (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11) where
  hp r l := by
    unfold out0_A_12
    rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11), run12_A]
    exact val12 T i hi zH (fun r l hr => by show (0 : EReal) = _; rw [zx, if_neg (by omega)]; simp) r l
  hg r l := by
    unfold out0_A_13
    rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11), run13_A]
    exact val13 T zS (fun hd b d => by show (0 : EReal) = _; rw [show 8 * 0 = 0 from rfl, st]; simp) r l
  hz r l hr := by
    unfold sout0_A_0
    rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
    obtain ⟨L, hL⟩ := runZ_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
    rw [hL]
    exact valZ T L r hr l
  hs hd b d := by
    unfold sout0_A_1
    rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11), runS_A]
    exact valS T zS (fun hd b d => by show (0 : EReal) = _; rw [show 8 * 0 = 0 from rfl, st]; simp) _ hd b d
end

theorem stS_apply (xs1 : FVec Ideal S4x256x128 .f32) (hd : Fin 4) (b : Fin 256) (d : Fin 128) :
    stS xs1 hd (ix3 (0 : Fin 1) b d) = xs1 (ix3 hd b d) := by
  refine congrArg xs1 ?_
  funext a; fin_cases a
  · exact Fin.ext (show hd.val + 1 * 0 = hd.val by omega)
  · exact Fin.ext (show 0 + 1 * b.val = b.val by omega)
  · exact Fin.ext (show 0 + 1 * d.val = d.val by omega)

section
variable (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x4x128x128 .bf16) (harg7 : arg7.IsWhole) (arg8 : Memref sig .tc .vmem S1x1x512 .f32) (harg8 : arg8.IsWhole) (arg9 : Memref sig .tc .vmem S1x128x512 .bf16) (harg9 : arg9.IsWhole) (arg10 : Memref sig .tc .vmem S1x1x512 .f32) (harg10 : arg10.IsWhole) (arg11 : Memref sig .tc .vmem S1x1x256 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x1024 .bf16) (harg14 : arg14.IsWhole) (arg15 : Memref sig .tc .vmem S528x512 .f32) (harg15 : arg15.IsWhole) (arg16 : Memref sig .tc .vmem S4x256x128 .f32) (harg16 : arg16.IsWhole) (hc0 : ¬cond0_0 i)   (x0 : Vec Ideal S512x512 .f32) (x1 : Vec Ideal S512x512 .f32) (x2 : Vec Ideal S512x512 .f32) (x3 : Vec Ideal S512x1024 .f32) (x4 : Vec Ideal S512x1024 .f32) (x5 : Vec Ideal S512x128 .f32) (x6 : Vec Ideal S1x4x128x128 .bf16) (x7 : Vec Ideal S1x1x512 .f32) (x8 : Vec Ideal S1x128x512 .bf16) (x9 : Vec Ideal S1x1x512 .f32) (x10 : Vec Ideal S1x1x256 .f32) (x11 : Vec Ideal S512x512 .bf16) (xs0 : Vec Ideal S528x512 .f32) (xs1 : Vec Ideal S4x256x128 .f32)

/-- A later point. -/
theorem inv_B {D : Dat} {t : ℕ} (T : Tile D (t + 1) x0 x1 x2 x3 x4 x5 x6 x7 x8 x9 x10 x11) (hi : (i 0).val = (t + 1))
    (hH : ∀ (r : Fin 528) (l : Fin 512), r.val < 16 → xs0 (ix2 r l) = ((zx D (512 * (t + 1) + r.val) l.val : ℝ) : EReal))
    (hS : ∀ (hd : Fin 4) (b : Fin 256) (d : Fin 128), xs1 (ix3 hd b d) = ((st D hd (8 * (t + 1)) b d : ℝ) : EReal)) :
    Inv D (t + 1) (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1) (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1) (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1) (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1) where
  hp r l := by
    unfold out0_B_12
    rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1), run12_B]
    exact val12 T i hi xs0 hH r l
  hg r l := by
    unfold out0_B_13
    rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1), run13_B]
    exact val13 T (stS xs1) (fun hd b d => (stS_apply xs1 hd b d).trans (hS hd b d)) r l
  hz r l hr := by
    unfold sout0_B_0
    rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1)]
    obtain ⟨L, hL⟩ := runZ_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1
    rw [hL]
    exact valZ T L r hr l
  hs hd b d := by
    unfold sout0_B_1
    rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1), runS_B]
    exact (congrFun (congrArg View.canon (List.append_nil _).symm) _).trans (valS T (stS xs1) (fun hd b d => (stS_apply xs1 hd b d).trans (hS hd b d)) [] hd b d)
end

variable (m : (ℓ : Loc nD τ sig) → Buf (Elt Ideal) ℓ)

/-- After every point the blocks, the halo and the state hold the model's numbers. -/
theorem inv {D : Dat} (h : Args D (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) :
    ∀ (n : ℕ) (hn : n < cfg0.N), InvT D n (outsAt0 m c n hn)
  | 0, hn => by
    rw [outsAt0_zero, stAt0_A m c ⟨0, hn⟩ _ (Nat.zero_mod _)]
    refine Inv.toT ?_
    refine inv_A c _ _ _ _ _ _ _ _ _ _ _ _ _ _ _ _ _ _ _ _ _ _ _ _ _ _ _ _ _ _ _ _ _ _ _ _ _ _ _ _ _ _ _ _ _ _ ?_ ?_
    · exact tile m c h ⟨0, hn⟩
    · exact coords_val ⟨0, hn⟩
  | n + 1, hn => by
    have ih := inv h n (Nat.lt_of_succ_lt hn)
    have hN : n + 1 < 32 := lt_of_lt_of_eq hn (show cfg0.N = 32 from N_0)
    rw [outsAt0_succ, stAt0_B m c ⟨n + 1, hn⟩ _ (show ¬ (n + 1) % 32 = 0 by omega)]
    refine Inv.toT ?_
    refine inv_B c _ _ _ _ _ _ _ _ _ _ _ _ _ _ _ _ _ _ _ _ _ _ _ _ _ _ _ _ _ _ _ _ _ _ _ _ _ _ _ _ _ _ _ _ _ _ _ _ ?_ ?_ ?_ ?_
    · exact tile m c h ⟨n + 1, hn⟩
    · exact coords_val ⟨n + 1, hn⟩
    · exact ih.hz
    · exact ih.hs

/-- The pool's result array. -/
theorem G12_apply {D : Dat} (h : Args D (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (R : Fin 16384) (l : Fin 512) :
    G12 m c (ix2 R l) = ((Cert.Model.pool D R.val l.val : ℝ) : EReal) := by
  have hp : pt12Of (ix2 R l) = R.val / 512 := by
    show 1 * (R.val / 512 - 0) + 1 * (l.val / 512 - 0) = R.val / 512
    omega
  have hN : cfg0.N = 32 := N_0
  have hlt : pt12Of (ix2 R l) < cfg0.N := by rw [hp, hN]; omega
  unfold G12
  rw [dif_pos hlt, ← outsAt0_sweep m c _ hlt]
  have e : loc12Of (ix2 R l) = ix2 (⟨R.val % 512, by omega⟩ : Fin 512) l := by
    funext a; fin_cases a
    · rfl
    · exact Fin.ext (show l.val % 512 = l.val by omega)
  rw [e]
  refine ((inv c m h _ hlt).hp _ _).trans ?_
  rw [hp]
  show ((Cert.Model.pool D (512 * (R.val / 512) + R.val % 512) l.val : ℝ) : EReal) = _
  rw [show 512 * (R.val / 512) + R.val % 512 = R.val by omega]

/-- The attention's result array. -/
theorem G13_apply {D : Dat} (h : Args D (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (R : Fin 16384) (l : Fin 1024) :
    G13 m c (ix2 R l) = ((gla D R.val l.val : ℝ) : EReal) := by
  have hp : pt13Of (ix2 R l) = R.val / 512 := by
    show 1 * (R.val / 512 - 0) + 1 * (l.val / 1024 - 0) = R.val / 512
    omega
  have hN : cfg0.N = 32 := N_0
  have hlt : pt13Of (ix2 R l) < cfg0.N := by rw [hp, hN]; omega
  unfold G13
  rw [dif_pos hlt, ← outsAt0_sweep m c _ hlt]
  have e : loc13Of (ix2 R l) = ix2 (⟨R.val % 512, by omega⟩ : Fin 512) l := by
    funext a; fin_cases a
    · rfl
    · exact Fin.ext (show l.val % 1024 = l.val by omega)
  rw [e]
  refine ((inv c m h _ hlt).hg _ _).trans ?_
  rw [hp]
  show ((gla D (512 * (R.val / 512) + R.val % 512) l.val : ℝ) : EReal) = _
  rw [show 512 * (R.val / 512) + R.val % 512 = R.val by omega]

end Cert.KFin
-- ==== Proof.RefStep.lean ====
/-
  The run of the reference stated over its step of one trip of the loop: the generated text of
  Gen/ReferenceIdeal/StepRun.lean, with the carried outputs' lemma (`step_6`) closed by the whole equation.
-/
module

public import proofs.«01_k».proof.Proof.Gen.ReferenceIdeal.Run
public import proofs.«01_k».proof.Proof.Gen.ReferenceIdeal.Step

@[expose] public section

noncomputable section

namespace Cert.ReferenceIdeal.RefStep

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v72_5) = s.main_v72_5
  f_6 : V0 (Proc.devRef .tc main_v72_6) = s.main_v72_6
  f_0 : V0 (Proc.devRef .tc main_v72_0) = s.main_v72_0
  f_1 : V0 (Proc.devRef .tc main_v72_1) = s.main_v72_1
  f_2 : V0 (Proc.devRef .tc main_v72_2) = s.main_v72_2
  f_3 : V0 (Proc.devRef .tc main_v72_3) = s.main_v72_3
  n_4 : V0 (Proc.devRef .tc main_v72_4) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call3_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x1x4x128 (V0 (Proc.devRef .tc main_v72_0)) (fun k => (((![V0 (Proc.devRef .tc main_v72_4), constantI S_ 32 0#32, constantI S_ 32 0#32, constantI S_ 32 0#32] : Fin 4 → (⟨S_, .i32⟩ : BufTy).Contents (Elt F))) k (Shape.Idx.first h_S_)).toInt) sliceFits_S256x1x4x128_S1x1x4x128 : (Proc.devRef .tc main_while0b_call3_v0 : DevRef τ sig).ty.Contents (Elt F)) = Cert.ReferenceIdeal.Step.b3 j s := by
  unfold Cert.ReferenceIdeal.Step.b3
  rw [← al_0 h, ← al_1 h, ← al_2 h, h.f_0, h.n_4]
  try rfl
set_option maxRecDepth 8192 in
theorem al_4 (h : Holds V0 s j) : (shapeCast S1x4x128 (Host.dynamicSlice S1x1x4x128 (V0 (Proc.devRef .tc main_v72_0)) (fun k => (((![V0 (Proc.devRef .tc main_v72_4), constantI S_ 32 0#32, constantI S_ 32 0#32, constantI S_ 32 0#32] : Fin 4 → (⟨S_, .i32⟩ : BufTy).Contents (Elt F))) k (Shape.Idx.first h_S_)).toInt) sliceFits_S256x1x4x128_S1x1x4x128) shapeCasts_S1x1x4x128_S1x4x128 : (Proc.devRef .tc main_while0b_v165 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call4_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call4_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call4_c_1 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call4_c_2 : DevRef τ sig).ty.Contents (Elt F)) = Cert.ReferenceIdeal.Step.b8 j s := by
  unfold Cert.ReferenceIdeal.Step.b8
  rfl
set_option maxRecDepth 8192 in
theorem al_9 (h : Holds V0 s j) : (Host.dynamicSlice S1x1x4x128x256 (V0 (Proc.devRef .tc main_v72_1)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x128x256_S1x1x4x128x256 : (Proc.devRef .tc main_while0b_call4_v0 : DevRef τ sig).ty.Contents (Elt F)) = Cert.ReferenceIdeal.Step.b9 j s := by
  unfold Cert.ReferenceIdeal.Step.b9
  rw [← al_5 h, ← al_6 h, ← al_7 h, ← al_8 h, h.f_1, h.n_4]
  try rfl
set_option maxRecDepth 8192 in
theorem al_10 (h : Holds V0 s j) : (shapeCast S1x4x128x256 (Host.dynamicSlice S1x1x4x128x256 (V0 (Proc.devRef .tc main_v72_1)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x128x256_S1x1x4x128x256) shapeCasts_S1x1x4x128x256_S1x4x128x256 : (Proc.devRef .tc main_while0b_v166 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call5_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call5_c_0 : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call5_c_1 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call5_c_2 : DevRef τ sig).ty.Contents (Elt F)) = Cert.ReferenceIdeal.Step.b14 j s := by
  unfold Cert.ReferenceIdeal.Step.b14
  rfl
set_option maxRecDepth 8192 in
theorem al_15 (h : Holds V0 s j) : (Host.dynamicSlice S1x1x4x64x128 (V0 (Proc.devRef .tc main_v72_2)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x128_S1x1x4x64x128 : (Proc.devRef .tc main_while0b_call5_v0 : DevRef τ sig).ty.Contents (Elt F)) = Cert.ReferenceIdeal.Step.b15 j s := by
  unfold Cert.ReferenceIdeal.Step.b15
  rw [← al_11 h, ← al_12 h, ← al_13 h, ← al_14 h, h.f_2, h.n_4]
  try rfl
set_option maxRecDepth 8192 in
theorem al_16 (h : Holds V0 s j) : (shapeCast S1x4x64x128 (Host.dynamicSlice S1x1x4x64x128 (V0 (Proc.devRef .tc main_v72_2)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x128_S1x1x4x64x128) shapeCasts_S1x1x4x64x128_S1x4x64x128 : (Proc.devRef .tc main_while0b_v167 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (constantI S_ 32 0#32 : (Proc.devRef .tc main_while0b_call6_c : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call6_c_0 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call6_c_1 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call6_c_2 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x1x4x64x256 (V0 (Proc.devRef .tc main_v72_3)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x256_S1x1x4x64x256 : (Proc.devRef .tc main_while0b_call6_v0 : DevRef τ sig).ty.Contents (Elt F)) = Cert.ReferenceIdeal.Step.b21 j s := by
  unfold Cert.ReferenceIdeal.Step.b21
  rw [← al_17 h, ← al_18 h, ← al_19 h, ← al_20 h, h.f_3, h.n_4]
  try rfl
set_option maxRecDepth 8192 in
theorem al_22 (h : Holds V0 s j) : (shapeCast S1x4x64x256 (Host.dynamicSlice S1x1x4x64x256 (V0 (Proc.devRef .tc main_v72_3)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x256_S1x1x4x64x256) shapeCasts_S1x1x4x64x256_S1x4x64x256 : (Proc.devRef .tc main_while0b_v168 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (broadcastInDim S1x4x128x1 ![0, 1, 2] bcast_S1x4x128_S1x4x128x1_0_1_2 (shapeCast S1x4x128 (Host.dynamicSlice S1x1x4x128 (V0 (Proc.devRef .tc main_v72_0)) (fun k => (((![V0 (Proc.devRef .tc main_v72_4), constantI S_ 32 0#32, constantI S_ 32 0#32, constantI S_ 32 0#32] : Fin 4 → (⟨S_, .i32⟩ : BufTy).Contents (Elt F))) k (Shape.Idx.first h_S_)).toInt) sliceFits_S256x1x4x128_S1x1x4x128) shapeCasts_S1x1x4x128_S1x4x128) : (Proc.devRef .tc main_while0b_v169 : DevRef τ sig).ty.Contents (Elt F)) = Cert.ReferenceIdeal.Step.b23 j s := by
  unfold Cert.ReferenceIdeal.Step.b23
  rw [← al_4 h]
  try rfl
set_option maxRecDepth 8192 in
theorem al_24 (h : Holds V0 s j) : (broadcastInDim S1x4x128x256 ![0, 1, 2, 3] bcast_S1x4x128x1_S1x4x128x256_0_1_2_3 (broadcastInDim S1x4x128x1 ![0, 1, 2] bcast_S1x4x128_S1x4x128x1_0_1_2 (shapeCast S1x4x128 (Host.dynamicSlice S1x1x4x128 (V0 (Proc.devRef .tc main_v72_0)) (fun k => (((![V0 (Proc.devRef .tc main_v72_4), constantI S_ 32 0#32, constantI S_ 32 0#32, constantI S_ 32 0#32] : Fin 4 → (⟨S_, .i32⟩ : BufTy).Contents (Elt F))) k (Shape.Idx.first h_S_)).toInt) sliceFits_S256x1x4x128_S1x1x4x128) shapeCasts_S1x1x4x128_S1x4x128)) : (Proc.devRef .tc main_while0b_v170 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (mulf (broadcastInDim S1x4x128x256 ![0, 1, 2, 3] bcast_S1x4x128x1_S1x4x128x256_0_1_2_3 (broadcastInDim S1x4x128x1 ![0, 1, 2] bcast_S1x4x128_S1x4x128x1_0_1_2 (shapeCast S1x4x128 (Host.dynamicSlice S1x1x4x128 (V0 (Proc.devRef .tc main_v72_0)) (fun k => (((![V0 (Proc.devRef .tc main_v72_4), constantI S_ 32 0#32, constantI S_ 32 0#32, constantI S_ 32 0#32] : Fin 4 → (⟨S_, .i32⟩ : BufTy).Contents (Elt F))) k (Shape.Idx.first h_S_)).toInt) sliceFits_S256x1x4x128_S1x1x4x128) shapeCasts_S1x1x4x128_S1x4x128))) (V0 (Proc.devRef .tc main_v72_5)) : (Proc.devRef .tc main_while0b_v171 : DevRef τ sig).ty.Contents (Elt F)) = Cert.ReferenceIdeal.Step.b25 j s := by
  unfold Cert.ReferenceIdeal.Step.b25
  rw [← al_24 h, h.f_5]
  try rfl
set_option maxRecDepth 8192 in
theorem al_26 (h : Holds V0 s j) : (addf (mulf (broadcastInDim S1x4x128x256 ![0, 1, 2, 3] bcast_S1x4x128x1_S1x4x128x256_0_1_2_3 (broadcastInDim S1x4x128x1 ![0, 1, 2] bcast_S1x4x128_S1x4x128x1_0_1_2 (shapeCast S1x4x128 (Host.dynamicSlice S1x1x4x128 (V0 (Proc.devRef .tc main_v72_0)) (fun k => (((![V0 (Proc.devRef .tc main_v72_4), constantI S_ 32 0#32, constantI S_ 32 0#32, constantI S_ 32 0#32] : Fin 4 → (⟨S_, .i32⟩ : BufTy).Contents (Elt F))) k (Shape.Idx.first h_S_)).toInt) sliceFits_S256x1x4x128_S1x1x4x128) shapeCasts_S1x1x4x128_S1x4x128))) (V0 (Proc.devRef .tc main_v72_5))) (shapeCast S1x4x128x256 (Host.dynamicSlice S1x1x4x128x256 (V0 (Proc.devRef .tc main_v72_1)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x128x256_S1x1x4x128x256) shapeCasts_S1x1x4x128x256_S1x4x128x256) : (Proc.devRef .tc main_while0b_v172 : DevRef τ sig).ty.Contents (Elt F)) = Cert.ReferenceIdeal.Step.b26 j s := by
  unfold Cert.ReferenceIdeal.Step.b26
  rw [← al_25 h, ← al_10 h]
  try rfl
set_option maxRecDepth 8192 in
theorem al_27 (h : Holds V0 s j) : (Host.dotGeneral dot_S1x4x64x128_S1x4x128x256_S1x4x64x256_3_2_2_3_01_01 none (shapeCast S1x4x64x128 (Host.dynamicSlice S1x1x4x64x128 (V0 (Proc.devRef .tc main_v72_2)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x128_S1x1x4x64x128) shapeCasts_S1x1x4x64x128_S1x4x64x128) (V0 (Proc.devRef .tc main_v72_5)) : (Proc.devRef .tc main_while0b_v173 : DevRef τ sig).ty.Contents (Elt F)) = Cert.ReferenceIdeal.Step.b27 j s := by
  unfold Cert.ReferenceIdeal.Step.b27
  rw [← al_16 h, h.f_5]
  try rfl
set_option maxRecDepth 8192 in
theorem al_28 (h : Holds V0 s j) : (addf (shapeCast S1x4x64x256 (Host.dynamicSlice S1x1x4x64x256 (V0 (Proc.devRef .tc main_v72_3)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x256_S1x1x4x64x256) shapeCasts_S1x1x4x64x256_S1x4x64x256) (Host.dotGeneral dot_S1x4x64x128_S1x4x128x256_S1x4x64x256_3_2_2_3_01_01 none (shapeCast S1x4x64x128 (Host.dynamicSlice S1x1x4x64x128 (V0 (Proc.devRef .tc main_v72_2)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x128_S1x1x4x64x128) shapeCasts_S1x1x4x64x128_S1x4x64x128) (V0 (Proc.devRef .tc main_v72_5))) : (Proc.devRef .tc main_while0b_v174 : DevRef τ sig).ty.Contents (Elt F)) = Cert.ReferenceIdeal.Step.b28 j s := by
  unfold Cert.ReferenceIdeal.Step.b28
  rw [← al_22 h, ← al_27 h]
  try rfl
set_option maxRecDepth 8192 in
theorem al_29 (h : Holds V0 s j) : (broadcastInDim S1x1x4x64x256 ![1, 2, 3, 4] bcast_S1x4x64x256_S1x1x4x64x256_1_2_3_4 (addf (shapeCast S1x4x64x256 (Host.dynamicSlice S1x1x4x64x256 (V0 (Proc.devRef .tc main_v72_3)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x256_S1x1x4x64x256) shapeCasts_S1x1x4x64x256_S1x4x64x256) (Host.dotGeneral dot_S1x4x64x128_S1x4x128x256_S1x4x64x256_3_2_2_3_01_01 none (shapeCast S1x4x64x128 (Host.dynamicSlice S1x1x4x64x128 (V0 (Proc.devRef .tc main_v72_2)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x128_S1x1x4x64x128) shapeCasts_S1x1x4x64x128_S1x4x64x128) (V0 (Proc.devRef .tc main_v72_5)))) : (Proc.devRef .tc main_while0b_call7_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (constantI S_ 32 0#32 : (Proc.devRef .tc main_while0b_call7_c : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call7_c_0 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call7_c_1 : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call7_c_2 : DevRef τ sig).ty.Contents (Elt F)) = Cert.ReferenceIdeal.Step.b33 j s := by
  unfold Cert.ReferenceIdeal.Step.b33
  rfl
set_option maxRecDepth 8192 in
theorem al_34 (h : Holds V0 s j) : (Host.dynamicUpdateSlice (V0 (Proc.devRef .tc main_v72_6)) (broadcastInDim S1x1x4x64x256 ![1, 2, 3, 4] bcast_S1x4x64x256_S1x1x4x64x256_1_2_3_4 (addf (shapeCast S1x4x64x256 (Host.dynamicSlice S1x1x4x64x256 (V0 (Proc.devRef .tc main_v72_3)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x256_S1x1x4x64x256) shapeCasts_S1x1x4x64x256_S1x4x64x256) (Host.dotGeneral dot_S1x4x64x128_S1x4x128x256_S1x4x64x256_3_2_2_3_01_01 none (shapeCast S1x4x64x128 (Host.dynamicSlice S1x1x4x64x128 (V0 (Proc.devRef .tc main_v72_2)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x128_S1x1x4x64x128) shapeCasts_S1x1x4x64x128_S1x4x64x128) (V0 (Proc.devRef .tc main_v72_5))))) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) updateFits_S256x1x4x64x256_S1x1x4x64x256 : (Proc.devRef .tc main_while0b_v175 : DevRef τ sig).ty.Contents (Elt F)) = Cert.ReferenceIdeal.Step.b34 j s := by
  unfold Cert.ReferenceIdeal.Step.b34
  rw [← al_29 h, ← al_30 h, ← al_31 h, ← al_32 h, ← al_33 h, h.f_6, h.n_4]
  try rfl

/-! One trip's step of the carried values is `step`, field by field; a counter steps to the next number. -/

theorem step_5 (h : Holds V0 s j) : step_main_v72_5 V0 = (step j s).main_v72_5 := by
  unfold step_main_v72_5 Cert.ReferenceIdeal.Step.step
  show id (addf (mulf (broadcastInDim S1x4x128x256 ![0, 1, 2, 3] bcast_S1x4x128x1_S1x4x128x256_0_1_2_3 (broadcastInDim S1x4x128x1 ![0, 1, 2] bcast_S1x4x128_S1x4x128x1_0_1_2 (shapeCast S1x4x128 (Host.dynamicSlice S1x1x4x128 (V0 (Proc.devRef .tc main_v72_0)) (fun k => (((![V0 (Proc.devRef .tc main_v72_4), constantI S_ 32 0#32, constantI S_ 32 0#32, constantI S_ 32 0#32] : Fin 4 → (⟨S_, .i32⟩ : BufTy).Contents (Elt F))) k (Shape.Idx.first h_S_)).toInt) sliceFits_S256x1x4x128_S1x1x4x128) shapeCasts_S1x1x4x128_S1x4x128))) (V0 (Proc.devRef .tc main_v72_5))) (shapeCast S1x4x128x256 (Host.dynamicSlice S1x1x4x128x256 (V0 (Proc.devRef .tc main_v72_1)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x128x256_S1x1x4x128x256) shapeCasts_S1x1x4x128x256_S1x4x128x256)) = _
  rw [al_26 h]
  try rfl
theorem step_6 (h : Holds V0 s j) : step_main_v72_6 V0 = (step j s).main_v72_6 := by
  unfold step_main_v72_6 Cert.ReferenceIdeal.Step.step
  show id (Host.dynamicUpdateSlice (V0 (Proc.devRef .tc main_v72_6)) (broadcastInDim S1x1x4x64x256 ![1, 2, 3, 4] bcast_S1x4x64x256_S1x1x4x64x256_1_2_3_4 (addf (shapeCast S1x4x64x256 (Host.dynamicSlice S1x1x4x64x256 (V0 (Proc.devRef .tc main_v72_3)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x256_S1x1x4x64x256) shapeCasts_S1x1x4x64x256_S1x4x64x256) (Host.dotGeneral dot_S1x4x64x128_S1x4x128x256_S1x4x64x256_3_2_2_3_01_01 none (shapeCast S1x4x64x128 (Host.dynamicSlice S1x1x4x64x128 (V0 (Proc.devRef .tc main_v72_2)) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) sliceFits_S256x1x4x64x128_S1x1x4x64x128) shapeCasts_S1x1x4x64x128_S1x4x64x128) (V0 (Proc.devRef .tc main_v72_5))))) (fun k => (((![V0 (Proc.devRef .tc main_v72_4), constantI S_ 32 0#32, constantI S_ 32 0#32, constantI S_ 32 0#32, constantI S_ 32 0#32] : Fin 5 → (⟨S_, .i32⟩ : BufTy).Contents (Elt F))) k (Shape.Idx.first h_S_)).toInt) updateFits_S256x1x4x64x256_S1x1x4x64x256) = _
  exact al_34 h
theorem step_4 (h : Holds V0 s j) : step_main_v72_4 V0 = constantI S_ 32 (BitVec.ofNat 32 (j + 1)) := by
  unfold step_main_v72_4
  rw [h.n_4]
  funext i
  show BitVec.ofNat 32 j + 1#32 = BitVec.ofNat 32 (j + 1)
  simp only [BitVec.ofNat_add]

set_option maxRecDepth 8192 in
theorem out_main_v162_holds (h : Holds V0 s j) {x_main_arg0 : (⟨S16384x4224, .f32⟩ : BufTy).Contents (Elt F)} (h_main_arg0 : V0 (Proc.devRef .tc main_arg0) = x_main_arg0) {x_main_arg1 : (⟨S2x4x128x128, .f32⟩ : BufTy).Contents (Elt F)} (h_main_arg1 : V0 (Proc.devRef .tc main_arg1) = x_main_arg1) {x_main_arg2 : (⟨S2x512, .f32⟩ : BufTy).Contents (Elt F)} (h_main_arg2 : V0 (Proc.devRef .tc main_arg2) = x_main_arg2) : out_main_v162 V0 = Cert.ReferenceIdeal.Step.R_main_v162 s x_main_arg0 x_main_arg1 x_main_arg2 := by
  unfold out_main_v162 Cert.ReferenceIdeal.Step.R_main_v162
  rw [h_main_arg0, h_main_arg1, h_main_arg2]
  try rfl

set_option maxRecDepth 8192 in
theorem out_main_v164_holds (h : Holds V0 s j) {x_main_arg0 : (⟨S16384x4224, .f32⟩ : BufTy).Contents (Elt F)} (h_main_arg0 : V0 (Proc.devRef .tc main_arg0) = x_main_arg0) {x_main_arg5 : (⟨S2x256, .f32⟩ : BufTy).Contents (Elt F)} (h_main_arg5 : V0 (Proc.devRef .tc main_arg5) = x_main_arg5) : out_main_v164 V0 = Cert.ReferenceIdeal.Step.R_main_v164 s x_main_arg0 x_main_arg5 := by
  unfold out_main_v164 Cert.ReferenceIdeal.Step.R_main_v164
  rw [h.f_6, h_main_arg0, h_main_arg5]
  try rfl

/-- One trip keeps the valuation holding: `step` of the state, the same set-up values, the next number. -/
theorem holds_step (h : Holds V0 s j) : Holds (STEP V0) (step j s) (j + 1) where
  f_5 := (STEP_main_v72_5 V0).trans (step_5 h)
  f_6 := (STEP_main_v72_6 V0).trans (step_6 h)
  n_4 := (STEP_main_v72_4 V0).trans (step_4 h)
  f_0 := (STEP_main_v72_0 V0).trans h.f_0
  f_1 := (STEP_main_v72_1 V0).trans h.f_1
  f_2 := (STEP_main_v72_2 V0).trans h.f_2
  f_3 := (STEP_main_v72_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 256 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v162) = Cert.ReferenceIdeal.Step.R_main_v162 (it c 256) (m ((c.tc : Thread nD τ).loc main_arg0)) (m ((c.tc : Thread nD τ).loc main_arg1)) (m ((c.tc : Thread nD τ).loc main_arg2))
      ∧ r.2.mem ((c.tc : Thread nD τ).loc main_v164) = Cert.ReferenceIdeal.Step.R_main_v164 (it c 256) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 256
    ⟨(h c).1.trans (out_main_v162_holds hk (iter_main_arg0 m c 256) (iter_main_arg1 m c 256) (iter_main_arg2 m c 256)), (h c).2.1.trans (out_main_v164_holds hk (iter_main_arg0 m c 256) (iter_main_arg5 m c 256)), (h c).2.2.1, (h c).2.2.2.1, (h c).2.2.2.2.1, (h c).2.2.2.2.2.1, (h c).2.2.2.2.2.2.1, (h c).2.2.2.2.2.2.2⟩) (Value.run m ρ)

end Cert.ReferenceIdeal.RefStep

end
-- ==== Proof.RVal.lean ====
/-
  The reference's values before its loop, over the arguments' numbers.
-/
module

public import proofs.«01_k».proof.Proof.KWin
public import proofs.«01_k».proof.Proof.RefStep
public import Idealize.ShloMosaic.Lib.Pointwise

@[expose] public section

set_option maxRecDepth 16384

noncomputable section

namespace Cert.RVal

open Idealize.ShloMosaic Idealize.ShloMosaic.TcCoe Cert.ReferenceIdeal Cert.ReferenceIdeal.Step Cert.Model Cert.KWin Cert.Reals

/-- A left fold of exact addition over all the numbers below a bound is a sum. -/
theorem foldl_sum {N : ℕ} (f : Fin N → EReal) (v : EReal) : (List.finRange N).foldl (fun r n => r + f n) v = v + ∑ n, f n := by
  have : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [this, ← List.ofFn_eq_map, List.sum_ofFn]

/-- The positions of a running sum's window that lie on the operand are the entries up to the running one. -/
theorem prefix_sum (f : ℕ → ℝ) (N s : ℕ) (hs : s < N) :
    (∑ w : Fin N, if N - 1 ≤ s + w.val then f (s + w.val - (N - 1)) else 0) = ∑ i ∈ Finset.range (s + 1), f i := by
  rw [← Finset.sum_range (fun w => if N - 1 ≤ s + w then f (s + w - (N - 1)) else 0)]
  obtain ⟨d, rfl⟩ : ∃ d, N = d + (s + 1) := ⟨N - (s + 1), by omega⟩
  rw [Finset.sum_range_add, Finset.sum_eq_zero (fun w hw => if_neg (by have := Finset.mem_range.mp hw; omega)), zero_add]
  refine Finset.sum_congr rfl fun i hi => ?_
  rw [if_pos (by omega)]
  congr 1
  omega

/-- The window sum at a position: the initial value, and the operand's entries at the window's positions that lie on it. -/
theorem rw_apply {s t u : Shape} (window strides lo hi : Fin s.rank → ℕ) (x : FVec Ideal s .f32) (init : FVec Ideal u .f32)
    (h : s.ReduceWindows window strides lo hi t) (hu : 0 < u.numel) (j : t.Idx) (h0 : init (Shape.Idx.first hu) = 0) :
    Host.reduceWindowAdd (F := Ideal) window strides lo hi x init h hu j
      = ∑ y : (⟨s.rank, window⟩ : Shape).Idx,
          if hin : ∀ a, lo a ≤ (j (a.cast h.1.symm)).val * strides a + (y a).val ∧ (j (a.cast h.1.symm)).val * strides a + (y a).val - lo a < s.size a
            then x (fun a => ⟨(j (a.cast h.1.symm)).val * strides a + (y a).val - lo a, (hin a).2⟩) else 0 := by
  refine (foldl_sum _ _).trans ?_
  show init (Shape.Idx.first hu) + _ = _
  rw [h0, zero_add]
  refine Eq.trans (Finset.sum_congr rfl fun n _ => ?_) (Equiv.sum_comp (⟨s.rank, window⟩ : Shape).rowMajor.symm
    (fun y => if hin : ∀ a, lo a ≤ (j (a.cast h.1.symm)).val * strides a + (y a).val ∧ (j (a.cast h.1.symm)).val * strides a + (y a).val - lo a < s.size a
            then x (fun a => ⟨(j (a.cast h.1.symm)).val * strides a + (y a).val - lo a, (hin a).2⟩) else (0 : EReal)))
  by_cases q : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · refine (dif_pos q).trans ?_
    rw [dif_pos q]
  · refine (dif_neg q).trans ?_
    rw [dif_neg q]

/-- The entries of a sum over the last chunk's rows up to one of them. -/
theorem mask_sum (f : ℕ → ℝ) (N s : ℕ) (hs : s < N) :
    (∑ i ∈ Finset.range (s + 1), f i) = ∑ i : Fin N, if i.val ≤ s then f i.val else 0 := by
  rw [← Finset.sum_range (fun i => if i ≤ s then f i else 0), ← Finset.sum_filter]
  refine Finset.sum_congr ?_ fun _ _ => rfl
  ext i
  simp only [Finset.mem_range, Finset.mem_filter]
  omega

section
variable {D : Dat} {a0 : FVec Ideal S16384x4224 .f32} {a1 : FVec Ideal S2x4x128x128 .f32} {a2 : FVec Ideal S2x512 .f32}
    {a3 : FVec Ideal S2x16x512 .f32} {a4 : FVec Ideal S2x512 .f32} {a5 : FVec Ideal S2x256 .f32} (h : Args D a0 a1 a2 a3 a4 a5)
include h

/-- The scaled queries. -/
theorem v40_val (hd : Fin 4) (n : Fin 256) (s : Fin 64) (d : Fin 128) :
    A_main_v40 (F := Ideal) a0 a3 a4 (ix5 (0 : Fin 1) hd n s d) = ((D.z (64 * n.val + s.val) (1024 + (128 * hd.val + d.val)) * kap : ℝ) : EReal) := by
  pointwise [A_main_v40, A_main_v38, A_main_v37, A_main_v8, A_main_v1, A_main_v0, K_main_v39, K_main_cst_1]
  rw [h.h0, lit_kap, ← EReal.coe_mul]
  dsimp only
  rw [Nat.mul_comm n.val 64, Nat.mul_comm hd.val 128]

/-- The keys. -/
theorem v42_val (hd : Fin 4) (n : Fin 256) (s : Fin 64) (d : Fin 128) :
    A_main_v42 (F := Ideal) a0 a3 a4 (ix5 (0 : Fin 1) hd n s d) = ((D.z (64 * n.val + s.val) (1536 + (128 * hd.val + d.val)) : ℝ) : EReal) := by
  pointwise [A_main_v42, A_main_v41, A_main_v9, A_main_v3, A_main_v2]
  rw [h.h0]
  dsimp only
  rw [Nat.mul_comm n.val 64, Nat.mul_comm hd.val 128]

/-- The values. -/
theorem v44_val (hd : Fin 4) (n : Fin 256) (s : Fin 64) (b : Fin 256) :
    A_main_v44 (F := Ideal) a0 a3 a4 (ix5 (0 : Fin 1) hd n s b) = ((D.z (64 * n.val + s.val) (2048 + (256 * hd.val + b.val)) : ℝ) : EReal) := by
  pointwise [A_main_v44, A_main_v43, A_main_v10, A_main_v5, A_main_v4]
  rw [h.h0]
  dsimp only
  rw [Nat.mul_comm n.val 64, Nat.mul_comm hd.val 256]

/-- The decay's logits. -/
theorem v18_val (R : Fin 16384) (l : Fin 512) :
    A_main_v18 (F := Ideal) a0 a3 a4 (ix3 (0 : Fin 1) R l) = ((lg D R.val l.val : ℝ) : EReal) := by
  pointwise [A_main_v18, A_main_v17, A_main_v16, A_main_v15, A_main_v14, A_main_v13, A_main_v12, A_main_v11, A_main_v7, A_main_v6]
  unfold lg
  rw [h.h4, EReal.coe_add, ← sum_coe]
  congr 1
  refine Finset.sum_congr rfl fun k _ => ?_
  rw [h.h0, h.h3, ← EReal.coe_mul]

/-- The log decays. -/
theorem v35_val (R : Fin 16384) (l : Fin 512) :
    A_main_v35 (F := Ideal) a0 a3 a4 (ix3 (0 : Fin 1) R l) = ((la D R.val l.val : ℝ) : EReal) := by
  pointwise [A_main_v35, A_main_v33, A_main_v32, A_main_v31, A_main_v30, A_main_v29, A_main_v28, A_main_v27, A_main_v26, A_main_v24, A_main_v23,
    A_main_v21, A_main_v19, K_main_v34, K_main_v20, K_main_v22, K_main_v25, K_main_cst, K_main_cst_0]
  rw [v18_val h, if_neg (fun q => q rfl), lit_16]
  have ha : FloatOps.absf (F := Ideal) (φ := .f32) (-((lg D R.val l.val : ℝ) : EReal)) = ((|lg D R.val l.val| : ℝ) : EReal) := by
    show max (-((lg D R.val l.val : ℝ) : EReal)) (-(-((lg D R.val l.val : ℝ) : EReal))) = _
    rw [neg_neg, ← EReal.coe_neg, max_coe, max_comm]
    rfl
  have hp : 0 < 1 + Real.exp (-|lg D R.val l.val|) := by positivity
  rw [ha, ← EReal.coe_neg, ← EReal.coe_neg, Ideal.exp_coe, ← EReal.coe_zero, max_coe]
  show Ideal.div (-(_ + Ideal.log (1 + _))) _ = _
  rw [← EReal.coe_one, ← EReal.coe_add, log_pos hp, ← EReal.coe_add, ← EReal.coe_neg, div_coe' _ _ (by norm_num)]
  unfold la
  congr 2
  rw [neg_add, ← sub_eq_add_neg]
  congr 1
  rw [← min_neg_neg, neg_neg, neg_zero]

/-- The log decays by head, chunk and row. -/
theorem v46_val (hd : Fin 4) (n : Fin 256) (s : Fin 64) (d : Fin 128) :
    A_main_v46 (F := Ideal) a0 a3 a4 (ix5 (0 : Fin 1) hd n s d) = ((la D (64 * n.val + s.val) (128 * hd.val + d.val) : ℝ) : EReal) := by
  pointwise [A_main_v46, A_main_v45, A_main_v36]
  rw [v35_val h]
  dsimp only
  rw [Nat.mul_comm n.val 64, Nat.mul_comm hd.val 128]

/-- The running log decays of a chunk. -/
theorem v47_val (hd : Fin 4) (n : Fin 256) (s : Fin 64) (d : Fin 128) :
    A_main_v47 (F := Ideal) a0 a3 a4 (ix5 (0 : Fin 1) hd n s d) = ((bb D (64 * n.val + s.val) (128 * hd.val + d.val) : ℝ) : EReal) := by
  unfold A_main_v47
  have h0 : K_main_call0_call0_v0 (F := Ideal) (Shape.Idx.first Gen.h_S_) = 0 := by
    pointwise [K_main_call0_call0_v0, K_main_call0_call0_cst]
  refine (rw_apply _ _ _ _ _ _ _ _ _ h0).trans ?_
  have hb : Function.Bijective (fun w : Fin 64 => (ix5 (0 : Fin 1) (0 : Fin 1) (0 : Fin 1) w (0 : Fin 1) : (⟨5, ![1, 1, 1, 64, 1]⟩ : Shape).Idx)) := by
    constructor
    · intro w w' e
      exact congrFun e 3
    · intro y
      refine ⟨y 3, ?_⟩
      funext a
      fin_cases a
      · exact Subsingleton.elim (α := Fin 1) _ _
      · exact Subsingleton.elim (α := Fin 1) _ _
      · exact Subsingleton.elim (α := Fin 1) _ _
      · rfl
      · exact Subsingleton.elim (α := Fin 1) _ _
  refine (hb.sum_comp _).symm.trans ?_
  have hR : (64 * n.val + s.val) / 64 = n.val := by omega
  have hM : (64 * n.val + s.val) % 64 = s.val := by omega
  unfold bb
  rw [hR, hM, ← mask_sum (fun i => la D (64 * n.val + i) (128 * hd.val + d.val)) 64 s.val s.isLt,
    ← prefix_sum (fun i => la D (64 * n.val + i) (128 * hd.val + d.val)) 64 s.val s.isLt, ← sum_coe]
  refine Finset.sum_congr rfl fun w _ => ?_
  by_cases hw : 64 - 1 ≤ s.val + w.val
  · rw [if_pos hw, dif_pos]
    · refine Eq.trans ?_ (v46_val h hd n ⟨s.val + w.val - (64 - 1), by omega⟩ d)
      congr 1
      funext a
      fin_cases a <;> refine Fin.ext ?_ <;> simp [ix5]
    · intro a
      fin_cases a <;> simp [ix5] <;> omega
  · rw [if_neg hw, dif_neg]
    · rfl
    · intro q
      have := (q 3).1
      simp [ix5] at this
      omega

/-- The decayed queries. -/
theorem v50_val (hd : Fin 4) (n : Fin 256) (s : Fin 64) (d : Fin 128) :
    A_main_v50 (F := Ideal) a0 a3 a4 (ix5 (0 : Fin 1) hd n s d) = ((qd D (64 * n.val + s.val) (128 * hd.val + d.val) : ℝ) : EReal) := by
  pointwise [A_main_v50, A_main_v49]
  rw [v40_val h, v47_val h, Ideal.exp_coe, ← EReal.coe_mul]
  rfl

/-- The keys with their decay taken out. -/
theorem v53_val (hd : Fin 4) (n : Fin 256) (s : Fin 64) (d : Fin 128) :
    A_main_v53 (F := Ideal) a0 a3 a4 (ix5 (0 : Fin 1) hd n s d) = ((kd D (64 * n.val + s.val) (128 * hd.val + d.val) : ℝ) : EReal) := by
  pointwise [A_main_v53, A_main_v52, A_main_v51]
  rw [v42_val h, v47_val h, ← EReal.coe_neg, Ideal.exp_coe, ← EReal.coe_mul]
  rfl

/-- The part of a chunk's output from its own rows. -/
theorem v58_val (hd : Fin 4) (n : Fin 256) (s : Fin 64) (b : Fin 256) :
    A_main_v58 (F := Ideal) a0 a3 a4 (ix5 (0 : Fin 1) hd n s b)
      = ((∑ i : Fin 64, if i.val ≤ s.val then (∑ d : Fin 128, qd D (64 * n.val + s.val) (128 * hd.val + d.val) * kd D (64 * n.val + i.val) (128 * hd.val + d.val))
          * D.z (64 * n.val + i.val) (2048 + (256 * hd.val + b.val)) else 0 : ℝ) : EReal) := by
  pointwise [A_main_v58, A_main_v57, A_main_v54, K_main_call2_v1, K_main_v56, K_main_v55, K_main_c, K_main_call1_v5, K_main_call1_c_0, K_main_call1_v4,
    K_main_call1_v3, K_main_call1_v2, K_main_call1_v1, K_main_call1_v0, K_main_call1_c, K_main_call2_v2, K_main_call2_v0, K_main_cst_2]
  rw [← sum_coe]
  refine Finset.sum_congr rfl fun i _ => ?_
  have ez : id (constant (F := Ideal) S_ .f32 0#32) ix0 = (0 : EReal) := by
    show Ideal.ofBits .f32 0#32 = 0
    simp [Ideal.ofBits, Ideal.ieee]
  have e0 : IntOp.addi (BitVec.ofNat 32 s.val) 0#32 = BitVec.ofNat 32 s.val := by simp [IntOp.addi]
  have e1 : ∀ (c : BitVec 1) (A B : EReal), Scalar.select (Scalar.select c 1#1 0#1) A B = Scalar.select c A B := by
    intro c A B
    rcases BitVec.eq_zero_or_eq_one c with rfl | rfl <;> rfl
  rw [e1, e0, Cert.KVal.select_sge _ _ (by omega) (by omega), ez, v44_val h]
  by_cases q : i.val ≤ s.val
  · rw [if_pos q, if_pos q, EReal.coe_mul, ← sum_coe]
    congr 1
    refine Finset.sum_congr rfl fun d _ => ?_
    rw [v50_val h, v53_val h, ← EReal.coe_mul]
  · rw [if_neg q, if_neg q, zero_mul, EReal.coe_zero]

/-- The keys decayed to the end of their chunk. -/
theorem v62_val (hd : Fin 4) (n : Fin 256) (s : Fin 64) (d : Fin 128) :
    A_main_v62 (F := Ideal) a0 a3 a4 (ix5 (0 : Fin 1) hd n s d) = ((ke D (64 * n.val + s.val) (128 * hd.val + d.val) : ℝ) : EReal) := by
  pointwise [A_main_v62, A_main_v61, A_main_v60, A_main_v59, A_main_v48]
  rw [v42_val h, v47_val h, v47_val h, ← EReal.coe_sub, Ideal.exp_coe, ← EReal.coe_mul]
  unfold ke kd dc
  have hR : (64 * n.val + s.val) / 64 = n.val := by omega
  rw [hR, mul_assoc, ← Real.exp_add, neg_add_eq_sub]
  rfl

/-- A chunk's own contribution to the state. -/
theorem v63_val (hd : Fin 4) (n : Fin 256) (d : Fin 128) (b : Fin 256) :
    A_main_v63 (F := Ideal) a0 a3 a4 (ix5 (0 : Fin 1) hd n d b)
      = ((∑ s : Fin 64, D.z (64 * n.val + s.val) (2048 + (256 * hd.val + b.val)) * ke D (64 * n.val + s.val) (128 * hd.val + d.val) : ℝ) : EReal) := by
  pointwise [A_main_v63]
  rw [← sum_coe]
  refine Finset.sum_congr rfl fun s _ => ?_
  rw [v62_val h, v44_val h, ← EReal.coe_mul, mul_comm]

/-- A chunk's whole decay. -/
theorem v65_val (hd : Fin 4) (n : Fin 256) (d : Fin 128) :
    A_main_v65 (F := Ideal) a0 a3 a4 (ix4 (0 : Fin 1) hd n d) = ((dc D n.val (128 * hd.val + d.val) : ℝ) : EReal) := by
  pointwise [A_main_v65, A_main_v64, A_main_v48]
  rw [v47_val h, Ideal.exp_coe]
  rfl

end

end Cert.RVal
-- ==== Proof.RLoop.lean ====
/-
  The reference's loop over the chunks, and its attention result.
-/
module

public import proofs.«01_k».proof.Proof.RVal
public import Idealize.ShloMosaic.Lib.WordCmp

@[expose] public section

set_option maxRecDepth 16384

noncomputable section

namespace Cert.RLoop

open Idealize.ShloMosaic Idealize.ShloMosaic.TcCoe Cert.ReferenceIdeal Cert.ReferenceIdeal.Gen Cert.ReferenceIdeal.Step Cert.Model Cert.KWin Cert.Reals Cert.RVal

/-- The loop's states. -/
def it (a0 : FVec Ideal S16384x4224 .f32) (a3 : FVec Ideal S2x16x512 .f32) (a4 : FVec Ideal S2x512 .f32) : ℕ → State Ideal
  | 0 => init a0 a3 a4
  | n + 1 => step n (it a0 a3 a4 n)

/-- What holds before chunk `n`: the values set up before the loop, the state at `n`, and the outputs of the chunks before. -/
structure Inv (D : Dat) (n : ℕ) (s : State Ideal) : Prop where
  c0 : ∀ (j : Fin 256) (hd : Fin 4) (d : Fin 128), s.main_v72_0 (ix4 j (0 : Fin 1) hd d) = ((dc D j.val (128 * hd.val + d.val) : ℝ) : EReal)
  c1 : ∀ (j : Fin 256) (hd : Fin 4) (d : Fin 128) (b : Fin 256), s.main_v72_1 (ix5 j (0 : Fin 1) hd d b)
    = ((∑ s : Fin 64, D.z (64 * j.val + s.val) (2048 + (256 * hd.val + b.val)) * ke D (64 * j.val + s.val) (128 * hd.val + d.val) : ℝ) : EReal)
  c2 : ∀ (j : Fin 256) (hd : Fin 4) (a : Fin 64) (d : Fin 128), s.main_v72_2 (ix5 j (0 : Fin 1) hd a d)
    = ((qd D (64 * j.val + a.val) (128 * hd.val + d.val) : ℝ) : EReal)
  c3 : ∀ (j : Fin 256) (hd : Fin 4) (a : Fin 64) (b : Fin 256), s.main_v72_3 (ix5 j (0 : Fin 1) hd a b)
    = ((∑ i : Fin 64, if i.val ≤ a.val then (∑ d : Fin 128, qd D (64 * j.val + a.val) (128 * hd.val + d.val) * kd D (64 * j.val + i.val) (128 * hd.val + d.val))
          * D.z (64 * j.val + i.val) (2048 + (256 * hd.val + b.val)) else 0 : ℝ) : EReal)
  st : ∀ (hd : Fin 4) (d : Fin 128) (b : Fin 256), s.main_v72_5 (ix4 (0 : Fin 1) hd d b) = ((Cert.Model.st D hd.val n b.val d.val : ℝ) : EReal)
  out : ∀ (j : Fin 256) (hd : Fin 4) (a : Fin 64) (b : Fin 256), j.val < n → s.main_v72_6 (ix5 j (0 : Fin 1) hd a b) = ((oo D hd.val j.val a.val b.val : ℝ) : EReal)

section
variable {D : Dat} {a0 : FVec Ideal S16384x4224 .f32} {a1 : FVec Ideal S2x4x128x128 .f32} {a2 : FVec Ideal S2x512 .f32}
    {a3 : FVec Ideal S2x16x512 .f32} {a4 : FVec Ideal S2x512 .f32} {a5 : FVec Ideal S2x256 .f32} (h : Args D a0 a1 a2 a3 a4 a5)
include h

/-- Before the first chunk. -/
theorem inv_zero : Inv D 0 (init a0 a3 a4) where
  c0 := fun j hd d => by
    unfold init
    pointwise [A_main_v67]
    exact v65_val h hd j d
  c1 := fun j hd d b => by
    unfold init
    pointwise [A_main_v68]
    exact v63_val h hd j d b
  c2 := fun j hd a d => by
    unfold init
    pointwise [A_main_v69]
    exact v50_val h hd j a d
  c3 := fun j hd a b => by
    unfold init
    pointwise [A_main_v70]
    exact v58_val h hd j a b
  st := fun hd d b => by
    unfold init
    pointwise [K_main_v66, K_main_cst_3]
    rfl
  out := fun j hd a b q => absurd q (Nat.not_lt_zero _)
end

section
variable {D : Dat} {n : ℕ} (hn : n < 256) {s : State Ideal} (H : Inv D n s)
include hn H

theorem b4_val (hd : Fin 4) (d : Fin 128) : b4 n s (ix3 (0 : Fin 1) hd d) = ((dc D n (128 * hd.val + d.val) : ℝ) : EReal) := by
  have e : b3 n s = extractStridedSlice S1x1x4x128 ![n, 0, 0, 0] s.main_v72_0 ⟨rfl, fun a => by fin_cases a <;> simp <;> omega⟩ := by
    unfold b3
    refine WordCmp.dynamicSlice_eq_extract _ _ _ _ _ _ fun a => ?_
    fin_cases a
    · exact WordCmp.toInt_ofNat_of_lt (w := 32) (by omega)
    all_goals rfl
  unfold b4
  rw [e]
  pointwise []
  exact H.c0 ⟨n, hn⟩ hd d

theorem b10_val (hd : Fin 4) (d : Fin 128) (b : Fin 256) : b10 n s (ix4 (0 : Fin 1) hd d b)
    = ((∑ s : Fin 64, D.z (64 * n + s.val) (2048 + (256 * hd.val + b.val)) * ke D (64 * n + s.val) (128 * hd.val + d.val) : ℝ) : EReal) := by
  have e : b9 n s = extractStridedSlice S1x1x4x128x256 ![n, 0, 0, 0, 0] s.main_v72_1 ⟨rfl, fun a => by fin_cases a <;> simp <;> omega⟩ := by
    unfold b9
    refine WordCmp.dynamicSlice_eq_extract _ _ _ _ _ _ fun a => ?_
    fin_cases a
    · exact WordCmp.toInt_ofNat_of_lt (w := 32) (by omega)
    all_goals rfl
  unfold b10
  rw [e]
  pointwise []
  exact H.c1 ⟨n, hn⟩ hd d b

theorem b16_val (hd : Fin 4) (a : Fin 64) (d : Fin 128) : b16 n s (ix4 (0 : Fin 1) hd a d)
    = ((qd D (64 * n + a.val) (128 * hd.val + d.val) : ℝ) : EReal) := by
  have e : b15 n s = extractStridedSlice S1x1x4x64x128 ![n, 0, 0, 0, 0] s.main_v72_2 ⟨rfl, fun a => by fin_cases a <;> simp <;> omega⟩ := by
    unfold b15
    refine WordCmp.dynamicSlice_eq_extract _ _ _ _ _ _ fun a => ?_
    fin_cases a
    · exact WordCmp.toInt_ofNat_of_lt (w := 32) (by omega)
    all_goals rfl
  unfold b16
  rw [e]
  pointwise []
  exact H.c2 ⟨n, hn⟩ hd a d

theorem b22_val (hd : Fin 4) (a : Fin 64) (b : Fin 256) : b22 n s (ix4 (0 : Fin 1) hd a b)
    = ((∑ i : Fin 64, if i.val ≤ a.val then (∑ d : Fin 128, qd D (64 * n + a.val) (128 * hd.val + d.val) * kd D (64 * n + i.val) (128 * hd.val + d.val))
          * D.z (64 * n + i.val) (2048 + (256 * hd.val + b.val)) else 0 : ℝ) : EReal) := by
  have e : b21 n s = extractStridedSlice S1x1x4x64x256 ![n, 0, 0, 0, 0] s.main_v72_3 ⟨rfl, fun a => by fin_cases a <;> simp <;> omega⟩ := by
    unfold b21
    refine WordCmp.dynamicSlice_eq_extract _ _ _ _ _ _ fun a => ?_
    fin_cases a
    · exact WordCmp.toInt_ofNat_of_lt (w := 32) (by omega)
    all_goals rfl
  unfold b22
  rw [e]
  pointwise []
  exact H.c3 ⟨n, hn⟩ hd a b

/-- The state after the chunk. -/
theorem b26_val (hd : Fin 4) (d : Fin 128) (b : Fin 256) : b26 n s (ix4 (0 : Fin 1) hd d b) = ((Cert.Model.st D hd.val (n + 1) b.val d.val : ℝ) : EReal) := by
  pointwise [b26, b25, b24, b23]
  rw [b4_val hn H, b10_val hn H, H.st, ← EReal.coe_mul, ← EReal.coe_add]
  rfl

/-- The chunk's output. -/
theorem b28_val (hd : Fin 4) (a : Fin 64) (b : Fin 256) : b28 n s (ix4 (0 : Fin 1) hd a b) = ((oo D hd.val n a.val b.val : ℝ) : EReal) := by
  pointwise [b28, b27]
  rw [b22_val hn H]
  unfold oo rOut
  rw [EReal.coe_add, ← sum_coe (f := fun d : Fin 128 => qd D (64 * n + a.val) (128 * hd.val + d.val) * Cert.Model.st D hd.val n b.val d.val)]
  congr 1
  refine Finset.sum_congr rfl fun d _ => ?_
  rw [b16_val hn H, H.st, ← EReal.coe_mul]

/-- After the chunk. -/
theorem inv_step : Inv D (n + 1) (step n s) where
  c0 := H.c0
  c1 := H.c1
  c2 := H.c2
  c3 := H.c3
  st := fun hd d b => b26_val hn H hd d b
  out := fun j hd a b q => by
    have hk : S256x1x4x64x256.Slices ![n, 0, 0, 0, 0] S1x1x4x64x256 := ⟨rfl, fun a => by fin_cases a <;> simp <;> omega⟩
    have e : b34 n s = updateSlice s.main_v72_6 (b29 n s) ![n, 0, 0, 0, 0] hk := by
      unfold b34
      refine WordCmp.dynamicUpdateSlice_eq_update _ _ _ _ _ _ fun a => ?_
      fin_cases a
      · exact WordCmp.toInt_ofNat_of_lt (w := 32) (by omega)
      all_goals rfl
    show b34 n s _ = _
    rw [e]
    pointwise [b29]
    by_cases q' : j.val = n
    · subst q'
      rw [dif_pos ⟨le_rfl, Nat.lt_succ_self _⟩]
      exact b28_val hn H hd a b
    · rw [dif_neg (by omega)]
      exact H.out j hd a b (by omega)
end

/-- The two ways of writing the gate. -/
theorem gate_eq (r : ℝ) : r * (1 / (1 + Real.exp (-r))) = gate r := by
  unfold gate
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have p1 := Real.exp_pos (1 / 2 * r)
  have p2 := Real.exp_pos (-(1 / 2 * r))
  rw [e1]
  generalize Real.exp (1 / 2 * r) = u at *
  generalize Real.exp (-(1 / 2 * r)) = v at *
  have h1 : 1 + v * v ≠ 0 := by positivity
  have h2 : u + v ≠ 0 := by positivity
  field_simp
  linear_combination (-2 * v * r) * e2

section
variable {D : Dat} {a0 : FVec Ideal S16384x4224 .f32} {a1 : FVec Ideal S2x4x128x128 .f32} {a2 : FVec Ideal S2x512 .f32}
    {a3 : FVec Ideal S2x16x512 .f32} {a4 : FVec Ideal S2x512 .f32} {a5 : FVec Ideal S2x256 .f32} (h : Args D a0 a1 a2 a3 a4 a5)
include h

/-- Before every chunk, and after the last. -/
theorem inv_it (n : ℕ) (hn : n ≤ 256) : Inv D n (it a0 a3 a4 n) := by
  induction n with
  | zero => exact inv_zero h
  | succ n ih => exact inv_step (by omega) (ih (by omega))

/-- The attention's result. -/
theorem v164_val {s : State Ideal} (H : Inv D 256 s) (R : Fin 16384) (l : Fin 1024) :
    R_main_v164 (F := Ideal) s a0 a5 (ix2 R l) = ((gla D R.val l.val : ℝ) : EReal) := by
  pointwise [R_main_v164]
  have ho : ∀ b : Fin 256, s.main_v72_6 (ix5 (⟨R.val / 64, by omega⟩ : Fin 256) (0 : Fin 1) (⟨l.val / 256, by omega⟩ : Fin 4) (⟨R.val % 64, by omega⟩ : Fin 64) b)
      = ((oo D (l.val / 256) (R.val / 64) (R.val % 64) b.val : ℝ) : EReal) := fun b => H.out _ _ _ _ (by dsimp only; omega)
  have hs : (∑ b : Fin 256, ((oo D (l.val / 256) (R.val / 64) (R.val % 64) b.val : ℝ) : EReal) * ((oo D (l.val / 256) (R.val / 64) (R.val % 64) b.val : ℝ) : EReal))
      = ((∑ b : Fin 256, oo D (l.val / 256) (R.val / 64) (R.val % 64) b.val * oo D (l.val / 256) (R.val / 64) (R.val % 64) b.val : ℝ) : EReal) := by
    rw [← sum_coe]
    exact Finset.sum_congr rfl fun _ _ => (EReal.coe_mul _ _).symm
  have hp : 0 < (∑ b : Fin 256, oo D (l.val / 256) (R.val / 64) (R.val % 64) b.val * oo D (l.val / 256) (R.val / 64) (R.val % 64) b.val) / 256 + eps :=
    add_pos_of_nonneg_of_pos (div_nonneg (Finset.sum_nonneg fun _ _ => mul_self_nonneg _) (by norm_num)) eps_pos
  have hq : (1 + Real.exp (-D.z R.val (3072 + l.val))) ≠ 0 := by positivity
  simp only [ho]
  rw [hs, lit_256, lit_eps, div_coe' _ _ (by norm_num), ← EReal.coe_add, rsqrt_pos hp, h.h5, h.h0, ← EReal.coe_neg, Ideal.exp_coe, ← EReal.coe_one,
    ← EReal.coe_add, div_coe' _ _ hq, ← EReal.coe_mul, ← EReal.coe_mul, ← EReal.coe_mul, ← EReal.coe_mul]
  unfold gla rNorm
  rw [gate_eq]
end
end Cert.RLoop
-- ==== Proof.RPool.lean ====
/-
  The reference's pool result.
-/
module

public import proofs.«01_k».proof.Proof.RVal
public import Idealize.ShloMosaic.Lib.WordCmp

@[expose] public section

set_option maxRecDepth 16384

noncomputable section

namespace Cert.RPool

open Idealize.ShloMosaic Idealize.ShloMosaic.TcCoe Cert.ReferenceIdeal Cert.ReferenceIdeal.Gen Cert.ReferenceIdeal.Step Cert.Model Cert.KWin Cert.Reals Cert.RVal

/-- A window's sum is the difference of two running sums. -/
theorem prefix_diff (f : ℕ → ℝ) (R v : ℕ) :
    (∑ i ∈ Finset.range (R + 1), f i) - (∑ i ∈ Finset.range (R - v), f i) = ∑ j ∈ Finset.range (v + 1), if j ≤ R then f (R - j) else 0 := by
  induction v with
  | zero => rw [Finset.sum_range_succ]; simp
  | succ v ih =>
    rw [Finset.sum_range_succ (n := v + 1), ← ih]
    by_cases q : v + 1 ≤ R
    · rw [if_pos q, show R - v = R - (v + 1) + 1 by omega, Finset.sum_range_succ (n := R - (v + 1))]
      ring
    · rw [if_neg q, show R - v = 0 by omega, show R - (v + 1) = 0 by omega]
      ring

/-- The same, with the rows before the first read as zeros. -/
theorem win_val (D : Dat) (c : ℕ) (C : Fin 16384 → EReal) (hC : ∀ R : Fin 16384, C R = ((∑ i ∈ Finset.range (R.val + 1), D.z i (512 + c) : ℝ) : EReal))
    (o : EReal) (ho : o = 0) (R : Fin 16384) (v K : ℕ) (hv : v ≤ 15) (hK : 16384 ≤ K + v) :
    (C R - if _ : v ≤ R.val ∧ R.val - v < K then if h1 : 1 ≤ R.val - v ∧ R.val - v - 1 < 16384 then C ⟨R.val - v - 1, h1.2⟩ else o else o)
      = ((∑ j : Fin (v + 1), zx D (R.val + 16 - j.val) c : ℝ) : EReal) := by
  have e : (if _ : v ≤ R.val ∧ R.val - v < K then if h1 : 1 ≤ R.val - v ∧ R.val - v - 1 < 16384 then C ⟨R.val - v - 1, h1.2⟩ else o else o)
      = ((∑ i ∈ Finset.range (R.val - v), D.z i (512 + c) : ℝ) : EReal) := by
    by_cases q : v + 1 ≤ R.val
    · rw [dif_pos (by omega), dif_pos (by omega), hC]
      dsimp only
      rw [show R.val - v - 1 + 1 = R.val - v by omega]
    · rw [show R.val - v = 0 by omega, Finset.range_zero, Finset.sum_empty, EReal.coe_zero, ho]
      split
      · rw [dif_neg (by omega)]
      · rfl
  rw [e, hC, ← EReal.coe_sub, prefix_diff, Finset.sum_range]
  congr 1
  refine Finset.sum_congr rfl fun j _ => ?_
  unfold zx
  by_cases q : j.val ≤ R.val
  · rw [if_pos q, if_pos (by omega), show R.val + 16 - j.val - 16 = R.val - j.val by omega]
  · rw [if_neg q, if_neg (by omega)]

/-- A row's mean over a window. -/
theorem mean_val (s : ℝ) (R : Fin 16384) (w : ℝ) (hw : 0 < w) (W : EReal) (hW : W = ((w : ℝ) : EReal)) :
    Ideal.div (s : EReal) (min (1 + FloatOps.sitofp (F := Ideal) FTy.f32 (BitVec.ofNat 32 R.val)) W) = ((s / min ((R.val : ℝ) + 1) w : ℝ) : EReal) := by
  have e : FloatOps.sitofp (F := Ideal) FTy.f32 (BitVec.ofNat 32 R.val) = ((R.val : ℝ) : EReal) := by
    show (((BitVec.ofNat 32 R.val).toInt : ℝ) : EReal) = _
    rw [WordCmp.toInt_ofNat_of_lt (w := 32) (by omega)]
    simp
  have hp : 0 < min ((R.val : ℝ) + 1) w := lt_min (by positivity) hw
  rw [e, hW, ← EReal.coe_one, ← EReal.coe_add, min_coe, add_comm, div_coe' _ _ hp.ne']

/-- The mean of a row's window in a group. -/
def mean (D : Dat) (R g x : ℕ) : ℝ :=
  (∑ j : Fin (2 ^ (g + 1)), zx D (R + 16 - j.val) (128 * g + x)) / min ((R : ℝ) + 1) ((2 ^ (g + 1) : ℕ) : ℝ)

/-- A window's mean from the running sums. -/
theorem grp_val (D : Dat) (g x : ℕ) (C : Fin 16384 → EReal)
    (hC : ∀ R : Fin 16384, C R = ((∑ i ∈ Finset.range (R.val + 1), D.z i (512 + (128 * g + x)) : ℝ) : EReal))
    (R : Fin 16384) (v K : ℕ) (hv : v ≤ 15) (hK : 16384 ≤ K + v) (hg : 2 ^ (g + 1) = v + 1) (W : EReal) (hW : W = (((v : ℝ) + 1 : ℝ) : EReal)) :
    Ideal.div (C R - if _ : v ≤ R.val ∧ R.val - v < K then if h1 : 1 ≤ R.val - v ∧ R.val - v - 1 < 16384 then C ⟨R.val - v - 1, h1.2⟩
        else FloatOps.sitofp (F := Ideal) FTy.f32 (0#32) else FloatOps.sitofp (F := Ideal) FTy.f32 (0#32))
      (min (1 + FloatOps.sitofp (F := Ideal) FTy.f32 (BitVec.ofNat 32 R.val)) W) = ((mean D R.val g x : ℝ) : EReal) := by
  have ho : FloatOps.sitofp (F := Ideal) FTy.f32 (0#32) = (0 : EReal) := by
    show (((0#32 : BitVec 32).toInt : ℝ) : EReal) = _
    simp
  unfold mean
  rw [hg, win_val D (128 * g + x) C hC _ ho R v K hv hK]
  refine mean_val _ R _ (by positivity) _ (hW.trans ?_)
  push_cast
  rfl

section
variable {D : Dat} {a0 : FVec Ideal S16384x4224 .f32} {a1 : FVec Ideal S2x4x128x128 .f32} {a2 : FVec Ideal S2x512 .f32}
    {a3 : FVec Ideal S2x16x512 .f32} {a4 : FVec Ideal S2x512 .f32} {a5 : FVec Ideal S2x256 .f32} (h : Args D a0 a1 a2 a3 a4 a5)
include h

/-- The pool's running sums. -/
theorem csum_val (g : Fin 4) (R : Fin 16384) (x : Fin 128) :
    Host.reduceWindowAdd (F := Ideal) (s := S1x16384x4x128) (t := S1x16384x4x128) ![1, 16384, 1, 1] ![1, 1, 1, 1] ![0, 16383, 0, 0] ![0, 0, 0, 0]
      (shapeCast S1x16384x4x128
        (broadcastInDim S1x16384x512 ![1, 2] bcast_S16384x512_S1x16384x512_1_2
          (extractStridedSlice S16384x512 ![0, 512] a0 slices_S16384x4224_S16384x512_0_512))
        shapeCasts_S1x16384x512_S1x16384x4x128)
      (broadcastInDim S_ ![] bcast_S_S_ (constant S_ FTy.f32 0#32))
      reduceWindows_S1x16384x4x128_S1x16384x4x128_w1s1p0_0_w16384s1p16383_0_w1s1p0_0_w1s1p0_0 h_S_ (ix4 (0 : Fin 1) R g x)
    = ((∑ i ∈ Finset.range (R.val + 1), D.z i (512 + (128 * g.val + x.val)) : ℝ) : EReal) := by
  have h0 : (broadcastInDim S_ ![] bcast_S_S_ (constant (F := Ideal) S_ FTy.f32 0#32)) (Shape.Idx.first Gen.h_S_) = 0 := by
    pointwise []
  have hx : ∀ R : Fin 16384, (shapeCast S1x16384x4x128
        (broadcastInDim S1x16384x512 ![1, 2] bcast_S16384x512_S1x16384x512_1_2
          (extractStridedSlice S16384x512 ![0, 512] a0 slices_S16384x4224_S16384x512_0_512))
        shapeCasts_S1x16384x512_S1x16384x4x128) (ix4 (0 : Fin 1) R g x) = ((D.z R.val (512 + (128 * g.val + x.val)) : ℝ) : EReal) := by
    intro R
    pointwise []
    rw [h.h0]
    dsimp only
    rw [Nat.mul_comm g.val 128]
  generalize hX : shapeCast S1x16384x4x128 _ _ = X at hx ⊢
  refine (rw_apply _ _ _ _ _ _ _ _ _ h0).trans ?_
  have hb : Function.Bijective (fun w : Fin 16384 => (ix4 (0 : Fin 1) w (0 : Fin 1) (0 : Fin 1) : (⟨4, ![1, 16384, 1, 1]⟩ : Shape).Idx)) := by
    constructor
    · intro w w' e
      exact congrFun e 1
    · intro y
      refine ⟨y 1, ?_⟩
      funext a
      fin_cases a
      · exact Subsingleton.elim (α := Fin 1) _ _
      · rfl
      · exact Subsingleton.elim (α := Fin 1) _ _
      · exact Subsingleton.elim (α := Fin 1) _ _
  refine (hb.sum_comp _).symm.trans ?_
  rw [← prefix_sum (fun i => D.z i (512 + (128 * g.val + x.val))) 16384 R.val R.isLt, ← sum_coe]
  refine Finset.sum_congr rfl fun w _ => ?_
  by_cases hw : 16384 - 1 ≤ R.val + w.val
  · rw [if_pos hw, dif_pos]
    · refine Eq.trans ?_ (hx ⟨R.val + w.val - (16384 - 1), by omega⟩)
      congr 1
      funext a
      fin_cases a <;> refine Fin.ext ?_ <;> simp [ix4]
    · intro a
      fin_cases a <;> simp [ix4] <;> omega
  · rw [if_neg hw, dif_neg]
    · rfl
    · intro q
      have := (q 1).1
      simp [ix4] at this
      omega

/-- The pool's result. -/
theorem v162_val (s : State Ideal) (R : Fin 16384) (l : Fin 512) :
    R_main_v162 (F := Ideal) s a0 a1 a2 (ix2 R l) = ((Cert.Model.pool D R.val l.val : ℝ) : EReal) := by
  have hc := csum_val h
  unfold R_main_v162
  generalize hC : Host.reduceWindowAdd (F := Ideal) (s := S1x16384x4x128) (t := S1x16384x4x128) ![1, 16384, 1, 1] ![1, 1, 1, 1] ![0, 16383, 0, 0] ![0, 0, 0, 0] _ _ _ _ = C at hc ⊢
  pointwise []
  refine (congrArg₂ HMul.hMul (Finset.sum_congr rfl fun x _ => congrArg₂ HMul.hMul (h.h1 _ _ _) (congrArg₂ HSub.hSub
    (?_ : _ = ((mean D R.val (l.val / 128) x.val : ℝ) : EReal)) (h.h0 _ _))) (h.h2 l)).trans ?_
  · refine Or.elim (by omega : l.val / 128 = 0 ∨ l.val / 128 = 1 ∨ l.val / 128 = 2 ∨ l.val / 128 = 3) (fun q => ?_)
      (fun q => Or.elim q (fun q => ?_) (fun q => Or.elim q (fun q => ?_) (fun q => ?_)))
    · refine (dif_pos (by omega)).trans ?_
      exact (grp_val D 0 x.val (fun R => C (ix4 (0 : Fin 1) R 0 x)) (fun R => hc 0 R x) R 1 16383 (by omega) (by omega) (by norm_num) _
        (lit_2.trans (by norm_num))).trans (by rw [q])
    · refine (dif_neg (by omega)).trans ?_
      refine (dif_pos (by omega)).trans ?_
      exact (grp_val D 1 x.val (fun R => C (ix4 (0 : Fin 1) R 1 x)) (fun R => hc 1 R x) R 3 16381 (by omega) (by omega) (by norm_num) _
        (lit_4.trans (by norm_num))).trans (by rw [q])
    · refine (dif_neg (by omega)).trans ?_
      refine (dif_neg (by omega)).trans ?_
      refine (dif_pos (by omega)).trans ?_
      exact (grp_val D 2 x.val (fun R => C (ix4 (0 : Fin 1) R 2 x)) (fun R => hc 2 R x) R 7 16377 (by omega) (by omega) (by norm_num) _
        (lit_8.trans (by norm_num))).trans (by rw [q])
    · refine (dif_neg (by omega)).trans ?_
      refine (dif_neg (by omega)).trans ?_
      refine (dif_neg (by omega)).trans ?_
      exact (grp_val D 3 x.val (fun R => C (ix4 (0 : Fin 1) R 3 x)) (fun R => hc 3 R x) R 15 16369 (by omega) (by omega) (by norm_num) _
        (lit_16.trans (by norm_num))).trans (by rw [q])
  · unfold Cert.Model.pool Cert.Model.pooled
    rw [EReal.coe_mul, ← sum_coe]
    refine congrArg (· * ((D.ps l.val : ℝ) : EReal)) (Finset.sum_congr rfl fun x _ => ?_)
    have hz : zx D (R.val + 16) (128 * (l.val / 128) + x.val) = D.z R.val (512 + (l.val / 128 * 128 + x.val)) := by
      unfold zx
      rw [if_pos (by omega), Nat.add_sub_cancel, Nat.mul_comm (l.val / 128)]
    rw [EReal.coe_mul, EReal.coe_sub, hz]
    exact mul_comm _ _
end
end Cert.RPool
-- ==== Proof.Mixers.lean ====
/-
  The mixers call and its reference end with equal results.
-/
module

public import proofs.«01_k».proof.Defs
public import proofs.«01_k».proof.Proof.KFin
public import proofs.«01_k».proof.Proof.RLoop
public import proofs.«01_k».proof.Proof.RPool
public import proofs.«01_k».proof.Proof.Gen.Pre_finite
public import Idealize.ShloMosaic.Adequacy
public import Idealize.ShloMosaic.Init

@[expose] public section

noncomputable section

namespace Cert.Mixers

open Idealize.ShloMosaic Idealize.SL.Sem Cert.KWin Cert.Reals Cert.Model

/-- An entry whose size compares below infinity is a real number. -/
theorem fin_real {s : Shape} (x b : FVec Ideal s .f32) (i : s.Idx) (hb : b i = Ideal.ofBits .f32 0x7F800000#32)
    (h : cmpf .olt (Host.absf x) b i = 1#1) : x i = ((x i).toReal : EReal) := by
  have ht : Ideal.ofBits .f32 0x7F800000#32 = (⊤ : EReal) := by simp [Ideal.ofBits, Ideal.ieee]
  refine real_of_abs_lt ?_
  have h' : Ideal.cmp .olt (max (x i) (-(x i))) (b i) = 1#1 := h
  rw [hb, ht] at h'
  by_contra q
  simp [Ideal.cmp, q] at h'

/-- The arguments' numbers. -/
def dat (a0 : FVec Ideal Cert.KernelIdeal.S16384x4224 .f32) (a1 : FVec Ideal Cert.KernelIdeal.S2x4x128x128 .f32)
    (a2 : FVec Ideal Cert.KernelIdeal.S2x512 .f32) (a3 : FVec Ideal Cert.KernelIdeal.S2x16x512 .f32)
    (a4 : FVec Ideal Cert.KernelIdeal.S2x512 .f32) (a5 : FVec Ideal Cert.KernelIdeal.S2x256 .f32) : Dat where
  z R l := (a0 (ix2 (Fin.ofNat 16384 R) (Fin.ofNat 4224 l))).toReal
  pw g k l := (a1 (ix4 (0 : Fin 2) (Fin.ofNat 4 g) (Fin.ofNat 128 k) (Fin.ofNat 128 l))).toReal
  ps l := (a2 (ix2 (0 : Fin 2) (Fin.ofNat 512 l))).toReal
  wa k l := (a3 (ix3 (0 : Fin 2) (Fin.ofNat 16 k) (Fin.ofNat 512 l))).toReal
  ba l := (a4 (ix2 (0 : Fin 2) (Fin.ofNat 512 l))).toReal
  gn l := (a5 (ix2 (0 : Fin 2) (Fin.ofNat 256 l))).toReal

/-- Under the precondition the arguments' entries are those numbers. -/
theorem args_of_pre (m : (ℓ : Loc Cert.KernelIdeal.nD Cert.KernelIdeal.τ Cert.KernelIdeal.sig) → Buf (Elt Ideal) ℓ)
    (c : Dev Cert.KernelIdeal.nD) (hp : Pre_KernelIdeal_finite (hPre_finite := Cert.Pre_finite.Gen.facts) m) :
    Args (dat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain ⟨p0, p1, p2, p3, p4, p5⟩ := hp c
  constructor
  · intro R l
    refine (fin_real _ _ _ rfl (congrFun p0 (ix2 R l))).trans ?_
    simp [dat]
  · intro g k l
    refine (fin_real _ _ _ rfl (congrFun p1 (ix4 (0 : Fin 2) g k l))).trans ?_
    simp [dat]
  · intro l
    refine (fin_real _ _ _ rfl (congrFun p2 (ix2 (0 : Fin 2) l))).trans ?_
    simp [dat]
  · intro k l
    refine (fin_real _ _ _ rfl (congrFun p3 (ix3 (0 : Fin 2) k l))).trans ?_
    simp [dat]
  · intro l
    refine (fin_real _ _ _ rfl (congrFun p4 (ix2 (0 : Fin 2) l))).trans ?_
    simp [dat]
  · intro l
    refine (fin_real _ _ _ rfl (congrFun p5 (ix2 (0 : Fin 2) l))).trans ?_
    simp [dat]

/-- The reference's loop states on a device. -/
abbrev refIt (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  Cert.RLoop.it (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))

/-- The reference runs, keeps its arguments and ends with every counter at zero. -/
theorem frame_ri : quiescent_ReferenceIdeal (hReferenceIdeal := Cert.ReferenceIdeal.Gen.facts) := fun m g _ =>
  (θ_run (Cert.ReferenceIdeal.defs (F := Ideal)) _ _).mono (fun r h => ⟨fun c => (h c).2.2,
      Idealize.ShloMosaic.sem_eq_zero_of_no_sems (by decide) r.2⟩)
    (Cert.ReferenceIdeal.RefStep.run_iter (F := Ideal) m g (refIt m) (fun c => rfl) (fun c n => rfl))

/-- The same under the precondition. -/
theorem frame_ri_pre : quiescent_ReferenceIdeal_pre_finite (hReferenceIdeal := Cert.ReferenceIdeal.Gen.facts)
    (hPre_finite := Cert.Pre_finite.Gen.facts) := fun m g _ => frame_ri m g trivial

/-- The kernel and the reference end with equal results. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hagree
  refine ⟨fun c => Cert.KernelIdeal.Value.G12 m c, fun c => Cert.KernelIdeal.Value.G13 m c, Cert.KernelIdeal.Value.run (F := Ideal) m g, ?_⟩
  refine (θ_run _ _ _).mono (fun r h c => ⟨(h c).1.trans ?_, (h c).2.1.trans ?_, (h c).2.2⟩)
    (Cert.ReferenceIdeal.RefStep.run_iter (F := Ideal) m' g' (refIt m') (fun c => rfl) (fun c n => rfl))
  · obtain ⟨e0, e1, e2, e3, e4, e5⟩ := hagree c
    have ha := args_of_pre m c hp
    funext i
    obtain ⟨R, l, rfl⟩ : ∃ (R : Fin 16384) (l : Fin 512), i = ix2 R l := ⟨_, _, eq_ix2 i⟩
    refine Eq.trans ?_ (Cert.KFin.G12_apply c m ha R l).symm
    rw [e0, e1, e2]
    exact Cert.RPool.v162_val ha _ R l
  · obtain ⟨e0, e1, e2, e3, e4, e5⟩ := hagree c
    have ha := args_of_pre m c hp
    generalize dat _ _ _ _ _ _ = D at ha
    funext i
    obtain ⟨R, l, rfl⟩ : ∃ (R : Fin 16384) (l : Fin 1024), i = ix2 R l := ⟨_, _, eq_ix2 i⟩
    refine Eq.trans ?_ (Cert.KFin.G13_apply c m ha R l).symm
    have hi := Cert.RLoop.inv_it ha 256 le_rfl
    rw [← e0, ← e3, ← e4] at hi
    rw [e5]
    have hz := ha
    rw [← e0] at hz
    exact Cert.RLoop.v164_val hz hi R l

end Cert.Mixers
-- ==== Proof.FBase.lean ====
/- The feed-forward call: what the region finds, its windows' blocks, and when each half of the body runs. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the region is entered: after the one reshape of the bias. -/
abbrev V (c : Dev nD) (b : Ref sig .tc) : Buf (Elt F) ((c : Thread nD τ).loc b) :=
  StableHlo.after (List.flatten [hostOps0]) (fun b => m (c, b)) b

/-- The reshape allocates nothing. -/
theorem ops_fresh : (hostOps0 : List (HloOp τ sig (Elt F))).Forall fun op => op.fresh = ∅ := by
  simp only [List.Forall]; repeat' constructor

/-- The program is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact ops_fresh) main_chain

/-- The reshape writes none of the arguments: a buffer other than its result is as launched. -/
theorem V_of_ne (c : Dev nD) (b : Ref sig .tc) (hb : Proc.devRef .tc b ≠ (Proc.devRef .tc main_v0 : DevRef τ sig)) :
    V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact hb))

theorem V_0 (c : Dev nD) : V m c main_arg0 = m ((c : Thread nD τ).loc main_arg0) := V_of_ne m c _ (StableHlo.devRef_ne_of_ne (by decide))
theorem V_1 (c : Dev nD) : V m c main_arg1 = m ((c : Thread nD τ).loc main_arg1) := V_of_ne m c _ (StableHlo.devRef_ne_of_ne (by decide))
theorem V_2 (c : Dev nD) : V m c main_arg2 = m ((c : Thread nD τ).loc main_arg2) := V_of_ne m c _ (StableHlo.devRef_ne_of_ne (by decide))
theorem V_3 (c : Dev nD) : V m c main_arg3 = m ((c : Thread nD τ).loc main_arg3) := V_of_ne m c _ (StableHlo.devRef_ne_of_ne (by decide))
theorem V_4 (c : Dev nD) : V m c main_arg4 = m ((c : Thread nD τ).loc main_arg4) := V_of_ne m c _ (StableHlo.devRef_ne_of_ne (by decide))
theorem V_5 (c : Dev nD) : V m c main_arg5 = m ((c : Thread nD τ).loc main_arg5) := V_of_ne m c _ (StableHlo.devRef_ne_of_ne (by decide))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 holds its block at every point. -/
theorem before_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point. -/
theorem before_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point. -/
theorem before_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point. -/
theorem before_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point. -/
theorem before_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 holds its block at every point. -/
theorem before_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block at every point. -/
theorem before_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The first half of the body runs at the first eleven points of a row tile. -/
theorem cond1_iff : ∀ t : Fin cfg0.N, k0_cond1 (grid0.coords t) = 1#1 ↔ t.val % 15 < 11 :=
  (by decide +kernel : ∀ t : Fin grid0.N, k0_cond1 (grid0.coords t) = 1#1 ↔ t.val % 15 < 11)
/-- The second half runs at the other four. -/
theorem cond2_iff : ∀ t : Fin cfg0.N, k0_cond2 (grid0.coords t) = 1#1 ↔ ¬ t.val % 15 < 11 :=
  (by decide +kernel : ∀ t : Fin grid0.N, k0_cond2 (grid0.coords t) = 1#1 ↔ ¬ t.val % 15 < 11)
/-- The output is written back only at points of the second half. -/
theorem flush7 : ∀ t : Fin cfg0.N, (cfg0.win 7).flush t = true ↔ ¬ t.val % 15 < 11 :=
  (by decide +kernel : ∀ t : Fin grid0.N, (cfg0.win 7).flush t = true ↔ ¬ t.val % 15 < 11)

/-- A run to the frame's post leaves every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_0 m c))),
    ((h c).1 1).trans (((dats 0 c).arrAt_in 1 rfl _).trans ((hA c 1).trans (V_1 m c))),
    ((h c).1 2).trans (((dats 0 c).arrAt_in 2 rfl _).trans ((hA c 2).trans (V_2 m c))),
    ((h c).1 4).trans (((dats 0 c).arrAt_in 4 rfl _).trans ((hA c 4).trans (V_3 m c))),
    ((h c).2 main_arg4 (Pipeline.mem_restRefs_of main_arg4 (by decide) (by decide))).trans (V_4 m c),
    ((h c).1 6).trans (((dats 0 c).arrAt_in 6 rfl _).trans ((hA c 6).trans (V_5 m c)))⟩) h

/-- The three scratch buffers: the activations of a row tile, the gate rows under their halo, the rows carried over. -/
abbrev act : Memref sig .tc .vmem S1024x5632 .bf16 := Memref.whole cc0_scratch0
abbrev graw : Memref sig .tc .vmem S1032x512 .f32 := Memref.whole cc0_scratch1
abbrev carry : Memref sig .tc .vmem S11x8x512 .f32 := Memref.whole cc0_scratch2

/-- What the region starts with besides its windows: the scratch buffers at anything. -/
theorem start_eq (c : Dev nD) :
    (Pipeline.ΦA spec0 c : sProp 𝕄)
      = iprop(iprop((∃ d, owns (c : Thread nD τ) act fullShare d) ∗ (∃ d, owns (c : Thread nD τ) graw fullShare d)
          ∗ (∃ d, owns (c : Thread nD τ) carry fullShare d)) ∗ (∃ r, prngReg c r)) := by
  unfold Pipeline.ΦA; rw [scopedRest0_eq]; simp only [act, graw, carry, owns_whole]; try rfl

end Cert.Kernel2Ideal.Ffn

end
-- ==== Proof.FRun.lean ====
/- The feed-forward call: what each half of the body does to the buffers. -/
module

public import proofs.«01_k».proof.Proof.FBase
public import Idealize.ShloMosaic.Lib.VecWindow
public import Idealize.ShloMosaic.Lib.WritesUnit
public import Idealize.ShloMosaic.Lib.Pipeline.Value

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A window of 512 of the taps' columns, the `cc`-th. -/
def taps (cc : ℕ) (h : cc < 11) (x : Vec F S1x3x5632 .f32) : Vec F S1x3x512 .f32 :=
  VecWindow.window x ![0, 0, 512 * cc] S1x3x512.size (fun a => by fin_cases a <;> simp [S1x3x512, S1x3x5632] <;> omega)

/-- A window of 512 of the bias's columns, the `cc`-th. -/
def bias (cc : ℕ) (h : cc < 11) (x : Vec F S1x1x5632 .f32) : Vec F S1x1x512 .f32 :=
  VecWindow.window x ![0, 0, 512 * cc] S1x1x512.size (fun a => by fin_cases a <;> simp [S1x1x512, S1x1x5632] <;> omega)

theorem slot_inb (cc : ℕ) (h : cc < 11) : ∀ a, (![cc, 0, 0] : Fin 3 → ℕ) a + S1x8x512.size a ≤ S11x8x512.size a := by
  intro a; fin_cases a <;> simp [S1x8x512, S11x8x512] <;> omega

/-- The carried rows of the `cc`-th columns. -/
def slot (cc : ℕ) (h : cc < 11) (x : Vec F S11x8x512 .f32) : Vec F S1x8x512 .f32 :=
  VecWindow.window x ![cc, 0, 0] S1x8x512.size (slot_inb cc h)

/-- Eight rows, then 1024 rows under them. -/
def stack (hd : FVec F S8x512 .f32) (d : FVec F S1024x512 .f32) : Vec F S1032x512 .f32 :=
  View.canon (Val := Elt F) (e := .f32) [⟨Rect.unit ![8, 0] S1024x512.size inb_S1032x512_S1024x512_8_0, d⟩, ⟨Rect.unit ![0, 0] S8x512.size inb_S1032x512_S8x512_0_0, hd⟩]

/-- The last eight rows of such a stack. -/
def foot (x : Vec F S1032x512 .f32) : Vec F S8x512 .f32 :=
  View.ld (Val := Elt F) (e' := .f32) x (Rect.unit ![1024, 0] S8x512.size inb_S1032x512_S8x512_1024_0)

/-- A load at an offset known to be another is the window there. -/
theorem ld_window {s : Shape} {e : EltTy} {off off' size : Fin s.rank → ℕ} (X : Vec F s e) (inb : ∀ a, off a + size a ≤ s.size a)
    (inb' : ∀ a, off' a + size a ≤ s.size a) (h : off = off') :
    View.ld (Val := Elt F) (e' := e) X (Rect.unit off size inb) = VecWindow.window X off' size inb' := by
  subst h; rfl

/-- A load of a whole matrix is the matrix. -/
theorem ld_whole2 {a b : ℕ} {e : EltTy} (X : Vec F (⟨2, ![a, b]⟩ : Shape) e) (inb : ∀ k, (![0, 0] : Fin 2 → ℕ) k + (⟨2, ![a, b]⟩ : Shape).size k ≤ (⟨2, ![a, b]⟩ : Shape).size k) :
    View.ld (Val := Elt F) (e' := e) X (Rect.unit ![0, 0] (⟨2, ![a, b]⟩ : Shape).size inb) = X :=
  View.ld_unit_zero (by funext k; fin_cases k <;> rfl) inb X

set_option maxHeartbeats 1228000 in
/-- The first half's run: the chunk's gated values are put into the chunk's columns of the kept values, and the chunk's last eight rows into its
    slot of the carried rows. -/
theorem run_up (c : Dev nD) (i : grid0.Coords)
    (arg2 : Memref sig .tc .vmem S1024x2048 .bf16) (harg2 : arg2.IsWhole) (arg3 : Memref sig .tc .vmem S1024x512 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S1x3x5632 .f32) (harg6 : arg6.IsWhole) (arg7 : Memref sig .tc .vmem S1x1x5632 .f32) (harg7 : arg7.IsWhole)
    (arg8 : Memref sig .tc .vmem S5632x512 .bf16) (harg8 : arg8.IsWhole) (arg9 : Memref sig .tc .vmem S1024x512 .f32) (harg9 : arg9.IsWhole)
    (arg10 : Memref sig .tc .vmem S1024x5632 .bf16) (harg10 : arg10.IsWhole) (arg11 : Memref sig .tc .vmem S1032x512 .f32) (harg11 : arg11.IsWhole)
    (arg12 : Memref sig .tc .vmem S11x8x512 .f32) (harg12 : arg12.IsWhole)
    (hc1 : k0_cond1 i = 1#1) (hc2 : ¬ k0_cond2 i = 1#1) (cc : ℕ) (hcc : cc < 11)
    (h1 : k0_off1 i = ![cc, 0, 0]) (h2 : k0_off2 i = ![0, 0, 512 * cc]) (h3 : k0_off3 i = ![0, 0, 512 * cc]) (h4 : k0_off4 i = ![0, 512 * cc])
    (xa : Vec F S1024x2048 .bf16) (xg xv : Vec F S2048x512 .bf16) (xw : Vec F S1x3x5632 .f32) (xb : Vec F S1x1x5632 .f32)
    (x10 : Vec F S1024x5632 .bf16) (x12 : Vec F S11x8x512 .f32) (E : Set ℕ) (K : PUnit → sProp 𝕄) :
    iprop(owns (c : Thread nD τ) arg2 fullShare xa ∗ owns (c : Thread nD τ) arg4 fullShare xg ∗ owns (c : Thread nD τ) arg5 fullShare xv
        ∗ owns (c : Thread nD τ) arg6 fullShare xw ∗ owns (c : Thread nD τ) arg7 fullShare xb
        ∗ owns (c : Thread nD τ) arg10 fullShare x10 ∗ (∃ d, owns (c : Thread nD τ) arg11 fullShare d) ∗ owns (c : Thread nD τ) arg12 fullShare x12
        ∗ (iprop(owns (c : Thread nD τ) arg2 fullShare xa ∗ owns (c : Thread nD τ) arg4 fullShare xg ∗ owns (c : Thread nD τ) arg5 fullShare xv
            ∗ owns (c : Thread nD τ) arg6 fullShare xw ∗ owns (c : Thread nD τ) arg7 fullShare xb
            ∗ owns (c : Thread nD τ) arg10 fullShare (VecWindow.put x10 ![0, 512 * cc] S1024x512.size
                (k0_pay1 (k0_pay6 xa (taps cc hcc xw) (stack (k0_pay3 (BitVec.ofNat 32 (i 0).val) (slot cc hcc x12)) (k0_pay4 xa xg)) (bias cc hcc xb) xv)))
            ∗ (∃ d, owns (c : Thread nD τ) arg11 fullShare d)
            ∗ owns (c : Thread nD τ) arg12 fullShare (VecWindow.put x12 ![cc, 0, 0] S1x8x512.size
                (k0_pay5 (foot (stack (k0_pay3 (BitVec.ofNat 32 (i 0).val) (slot cc hcc x12)) (k0_pay4 xa xg)))))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
    simp only [cc0_ffn_eq_skeleton]; unfold cc0_ffn_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%f6, %hf6, H6⟩, Hk⟩
    obtain rfl := harg2.eq_unread hf0; obtain rfl := harg4.eq_unread hf1; obtain rfl := harg5.eq_unread hf2; obtain rfl := harg6.eq_unread hf3; obtain rfl := harg7.eq_unread hf4; obtain rfl := harg10.eq_unread hf5; obtain rfl := harg12.eq_unread hf6
    sl_exec (disch := first | sl_exact hc1 | sl_exact hc2)
    sl_step
    iapply Hk
    isplitl [H0]; · iexists _; isplitr; · ipureintro; exact harg2.read_unread _
                    iexact H0
    isplitl [H1]; · iexists _; isplitr; · ipureintro; exact harg4.read_unread _
                    iexact H1
    isplitl [H2]; · iexists _; isplitr; · ipureintro; exact harg5.read_unread _
                    iexact H2
    isplitl [H3]; · iexists _; isplitr; · ipureintro; exact harg6.read_unread _
                    iexact H3
    isplitl [H4]; · iexists _; isplitr; · ipureintro; exact harg7.read_unread _
                    iexact H4
    isplitl [H5]
    · iexists _; isplitr; swap; · iexact H5
      ipureintro
      rw [View.read_writes_cons_put _ _ _ _ _ h4, View.writes_nil, harg10.read_unread]
      refine congrArg (fun z => VecWindow.put x10 ![0, 512 * cc] S1024x512.size (k0_pay1 z)) ?_
      unfold run_up.sl.v46 run_up.sl.HS0_2
      try unfold run_up.sl.HS0_1
      simp only [View.readAt_eq_ld, harg2.read_unread, harg4.read_unread, harg5.read_unread, harg6.read_unread, harg7.read_unread, harg12.read_unread]
      have e4 : View.ld (Val := Elt F) (e' := .f32) xw (Rect.unit (k0_off2 i) S1x3x512.size (k0_off2_inb i hc1)) = taps cc hcc xw := ld_window xw _ _ h2
      have e5 : View.ld (Val := Elt F) (e' := .f32) xb (Rect.unit (k0_off3 i) S1x1x512.size (k0_off3_inb i hc1)) = bias cc hcc xb := ld_window xb _ _ h3
      have e6 : View.ld (Val := Elt F) (e' := .f32) x12 (Rect.unit (k0_off1 i) S1x8x512.size (k0_off1_inb i hc1)) = slot cc hcc x12 := ld_window x12 _ _ h1
      have e1 := ld_whole2 xa inb_S1024x2048_S1024x2048_0_0
      have e2 := ld_whole2 xg inb_S2048x512_S2048x512_0_0
      have e3 := ld_whole2 xv inb_S2048x512_S2048x512_0_0
      rw [View.readCov_eq_canon', e1, e2, e3, e4, e5, e6]
      exact congrArg (fun z => k0_pay6 xa (taps cc hcc xw) z (bias cc hcc xb) xv)
        (ld_whole2 (stack (k0_pay3 (BitVec.ofNat 32 (i 0).val) (slot cc hcc x12)) (k0_pay4 xa xg)) inb_S1032x512_S1032x512_0_0)
    isplitl [HS0]
    · iexists _, _; isplitr; swap; · iexact HS0
      ipureintro; rfl
    iexists _; isplitr; swap; · iexact H6
    ipureintro
    rw [View.read_writes_cons_put _ _ _ _ _ h1, View.writes_nil, harg12.read_unread]
    refine congrArg (fun z => VecWindow.put x12 ![cc, 0, 0] S1x8x512.size (k0_pay5 z)) ?_
    unfold run_up.sl.v38 run_up.sl.HS0_2
    try unfold run_up.sl.HS0_1
    simp only [View.readAt_eq_ld, harg2.read_unread, harg4.read_unread, harg12.read_unread]
    have e1 := ld_whole2 xa inb_S1024x2048_S1024x2048_0_0
    have e2 := ld_whole2 xg inb_S2048x512_S2048x512_0_0
    have e6 : View.ld (Val := Elt F) (e' := .f32) x12 (Rect.unit (k0_off1 i) S1x8x512.size (k0_off1_inb i hc1)) = slot cc hcc x12 := ld_window x12 _ _ h1
    rw [View.readCov_eq_canon', e1, e2, e6]
    rfl

set_option maxHeartbeats 1228000 in
/-- The second half's run: the output's block is the residual's block plus the kept values times the projection's block. -/
theorem run_down (c : Dev nD) (i : grid0.Coords)
    (arg2 : Memref sig .tc .vmem S1024x2048 .bf16) (harg2 : arg2.IsWhole) (arg3 : Memref sig .tc .vmem S1024x512 .f32) (harg3 : arg3.IsWhole)
    (arg4 : Memref sig .tc .vmem S2048x512 .bf16) (harg4 : arg4.IsWhole) (arg5 : Memref sig .tc .vmem S2048x512 .bf16) (harg5 : arg5.IsWhole)
    (arg6 : Memref sig .tc .vmem S1x3x5632 .f32) (harg6 : arg6.IsWhole) (arg7 : Memref sig .tc .vmem S1x1x5632 .f32) (harg7 : arg7.IsWhole)
    (arg8 : Memref sig .tc .vmem S5632x512 .bf16) (harg8 : arg8.IsWhole) (arg9 : Memref sig .tc .vmem S1024x512 .f32) (harg9 : arg9.IsWhole)
    (arg10 : Memref sig .tc .vmem S1024x5632 .bf16) (harg10 : arg10.IsWhole) (arg11 : Memref sig .tc .vmem S1032x512 .f32) (harg11 : arg11.IsWhole)
    (arg12 : Memref sig .tc .vmem S11x8x512 .f32) (harg12 : arg12.IsWhole)
    (hc1 : ¬ k0_cond1 i = 1#1) (hc2 : k0_cond2 i = 1#1)
    (xh : Vec F S1024x512 .f32) (xd : Vec F S5632x512 .bf16) (x10 : Vec F S1024x5632 .bf16) (E : Set ℕ) (K : PUnit → sProp 𝕄) :
    iprop(owns (c : Thread nD τ) arg3 fullShare xh ∗ owns (c : Thread nD τ) arg8 fullShare xd ∗ (∃ d, owns (c : Thread nD τ) arg9 fullShare d)
        ∗ owns (c : Thread nD τ) arg10 fullShare x10
        ∗ (iprop(owns (c : Thread nD τ) arg3 fullShare xh ∗ owns (c : Thread nD τ) arg8 fullShare xd
            ∗ owns (c : Thread nD τ) arg9 fullShare (k0_pay2 xh x10 xd) ∗ owns (c : Thread nD τ) arg10 fullShare x10) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
    simp only [cc0_ffn_eq_skeleton]; unfold cc0_ffn_skel
    simp only [k0_part1_eq_skeleton, k0_part2_eq_skeleton]; unfold k0_part1_skel k0_part2_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg8.eq_unread hf1; obtain rfl := harg10.eq_unread hf3
    sl_exec (disch := first | sl_exact hc1 | sl_exact hc2)
    sl_step
    iapply Hk
    isplitl [H0]; · iexists _; isplitr; · ipureintro; exact harg3.read_unread _
                    iexact H0
    isplitl [H1]; · iexists _; isplitr; · ipureintro; exact harg8.read_unread _
                    iexact H1
    isplitl [H2]
    · iexists _; isplitr; swap; · iexact H2
      ipureintro
      simp only [View.readAt_eq_ld, harg3.read_unread, harg8.read_unread, harg10.read_unread]
      have e1 := ld_whole2 xh inb_S1024x512_S1024x512_0_0
      have e2 := ld_whole2 xd inb_S5632x512_S5632x512_0_0
      have e3 := ld_whole2 x10 inb_S1024x5632_S1024x5632_0_0
      rw [e1, e2, e3]
      have e4 : (![0, 0] : Fin 2 → ℕ) = fun _ => 0 := by funext k; fin_cases k <;> rfl
      exact View.read_writes_full _ _ _ _ _
    iexists _; isplitr; · ipureintro; exact harg10.read_unread _
    iexact H3

end Cert.Kernel2Ideal.Ffn

end
-- ==== Proof.FInv.lean ====
/- The feed-forward call: what the kept buffers hold between two points, and how each half of the body carries it over. -/
module

public import proofs.«01_k».proof.Proof.FRun
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.ShloMosaic.Pointwise

variable {F : FTy → Type} [FloatOps F]

variable (m : (ℓ : Loc nD τ sig) → Buf (Elt F) ℓ)

/-- The order of the chunks in row tile `i`: up in even tiles, down in odd ones. -/
def sv (i c : ℕ) : ℕ := if i % 2 = 0 then c else 10 - c

theorem sv_lt (i c : ℕ) (h : c < 11) : sv i c < 11 := by unfold sv; split <;> omega
theorem sv_sv (i c : ℕ) (h : c < 11) : sv i (sv i c) = c := by unfold sv; split <;> omega

/-- The point of row tile `i` at which chunk `c` is computed. -/
def pt (i c : ℕ) : Fin cfg0.N := ⟨(15 * i + sv i c) % 240, lt_of_lt_of_eq (Nat.mod_lt _ (by norm_num)) (show 240 = cfg0.N from N_0.symm)⟩

theorem pt_self (t : Fin cfg0.N) (h : t.val % 15 < 11) : pt (t.val / 15) (sv (t.val / 15) (t.val % 15)) = t := by
  have hN : t.val < 240 := lt_of_lt_of_eq t.isLt (show cfg0.N = 240 from N_0)
  apply Fin.ext
  show (15 * (t.val / 15) + sv _ (sv _ _)) % 240 = t.val
  rw [sv_sv _ _ h]; omega

/-- Where the body works at a point of the first half. -/
theorem off1_eq : ∀ t : Fin cfg0.N, t.val % 15 < 11 → k0_off1 (grid0.coords t) = ![sv (t.val / 15) (t.val % 15), 0, 0] :=
  (by decide +kernel : ∀ t : Fin grid0.N, t.val % 15 < 11 → k0_off1 (grid0.coords t) = ![sv (t.val / 15) (t.val % 15), 0, 0])
theorem off2_eq : ∀ t : Fin cfg0.N, t.val % 15 < 11 → k0_off2 (grid0.coords t) = ![0, 0, 512 * sv (t.val / 15) (t.val % 15)] :=
  (by decide +kernel : ∀ t : Fin grid0.N, t.val % 15 < 11 → k0_off2 (grid0.coords t) = ![0, 0, 512 * sv (t.val / 15) (t.val % 15)])
theorem off3_eq : ∀ t : Fin cfg0.N, t.val % 15 < 11 → k0_off3 (grid0.coords t) = ![0, 0, 512 * sv (t.val / 15) (t.val % 15)] :=
  (by decide +kernel : ∀ t : Fin grid0.N, t.val % 15 < 11 → k0_off3 (grid0.coords t) = ![0, 0, 512 * sv (t.val / 15) (t.val % 15)])
theorem off4_eq : ∀ t : Fin cfg0.N, t.val % 15 < 11 → k0_off4 (grid0.coords t) = ![0, 512 * sv (t.val / 15) (t.val % 15)] :=
  (by decide +kernel : ∀ t : Fin grid0.N, t.val % 15 < 11 → k0_off4 (grid0.coords t) = ![0, 512 * sv (t.val / 15) (t.val % 15)])
theorem coord_row : ∀ t : Fin cfg0.N, ((grid0.coords t) 0).val = t.val / 15 :=
  (by decide +kernel : ∀ t : Fin grid0.N, ((grid0.coords t) 0).val = t.val / 15)

/-- The gate's products of row tile `i` and chunk `c`. -/
def gt (c : Dev nD) (i : ℕ) (cc : Fin 11) : FVec F S1024x512 .f32 := k0_pay4 (iblk m c 0 (pt i cc)) (iblk m c 2 (pt i cc))

/-- The last eight rows of a block. -/
def low8 (d : FVec F S1024x512 .f32) : Vec F S8x512 .f32 := fun j => d (ix2 ⟨1016 + (j 0).val, by have : (j 0).val < 8 := (j 0).isLt; omega⟩ (j 1))

/-- The eight rows above row tile `i`'s block: of the tile before, none above the first. -/
def hdr (c : Dev nD) (i : ℕ) (cc : Fin 11) : FVec F S8x512 .f32 := k0_pay3 (BitVec.ofNat 32 i) (k0_pay5 (low8 (gt m c (i - 1) cc)))

/-- The gated values of row tile `i` and chunk `cc`. -/
def gated (c : Dev nD) (i : ℕ) (cc : Fin 11) : FVec F S1024x512 .bf16 :=
  k0_pay1 (k0_pay6 (iblk m c 0 (pt i cc)) (taps cc.val cc.isLt (iblk m c 4 (pt i cc))) (stack (hdr m c i cc) (gt m c i cc))
    (bias cc.val cc.isLt (iblk m c 5 (pt i cc))) (iblk m c 3 (pt i cc)))

/-- The gated values of row tile `i`, all chunks. -/
def allGated (c : Dev nD) (i : ℕ) : Vec F S1024x5632 .bf16 := fun j =>
  gated m c i ⟨(j 1).val / 512, by have : (j 1).val < 5632 := (j 1).isLt; omega⟩ (ix2 (j 0) ⟨(j 1).val % 512, Nat.mod_lt _ (by norm_num)⟩)

/-- What the kept buffers hold before point `s` of row tile `i`: the gated values of the chunks done, and for each chunk the last eight rows it
    was last computed with. -/
def Inv (c : Dev nD) (i s : ℕ) (x10 : Vec F S1024x5632 .bf16) (x12 : Vec F S11x8x512 .f32) : Prop :=
  (∀ cc : Fin 11, sv i cc < s → ∀ j : S1024x5632.Idx, (j 1).val / 512 = cc.val → x10 j = allGated m c i j)
  ∧ (∀ cc : Fin 11, sv i cc < s → slot cc.val cc.isLt x12 = k0_pay5 (low8 (gt m c i cc)))
  ∧ (∀ cc : Fin 11, ¬ sv i cc < s → 0 < i → slot cc.val cc.isLt x12 = k0_pay5 (low8 (gt m c (i - 1) cc)))

/-- Nothing is asked before the first point. -/
theorem inv_zero (c : Dev nD) (x10 : Vec F S1024x5632 .bf16) (x12 : Vec F S11x8x512 .f32) : Inv m c 0 0 x10 x12 :=
  ⟨fun _ h => absurd h (Nat.not_lt_zero _), fun _ h => absurd h (Nat.not_lt_zero _), fun _ _ h => absurd h (Nat.lt_irrefl _)⟩

/-- Above the first row tile the rows are zero, whatever is carried. -/
theorem pay3_zero (x y : Vec F S1x8x512 .f32) : k0_pay3 0#32 x = k0_pay3 0#32 y := by
  unfold k0_pay3
  rfl

/-- A stack's rows from the ninth on are its block's; -/
theorem stack_lo (hd : FVec F S8x512 .f32) (d : FVec F S1024x512 .f32) (y : S1032x512.Idx) (r : Fin 1024) (h : (y 0).val = 8 + r.val) :
    stack hd d y = d (ix2 r (y 1)) := by
  have e : (Rect.unit (s := S1032x512) ![8, 0] S1024x512.size inb_S1032x512_S1024x512_8_0).emb (ix2 r (y 1)) = y := by
    funext a; apply Fin.ext; fin_cases a
    · show 8 + 1 * r.val = (y 0).val; omega
    · show 0 + 1 * (y 1).val = (y 1).val; omega
  have := View.canon_cons_emb (Val := Elt F) (e := .f32) (Rect.unit (s := S1032x512) ![8, 0] S1024x512.size inb_S1032x512_S1024x512_8_0) d
    [⟨Rect.unit ![0, 0] S8x512.size inb_S1032x512_S8x512_0_0, hd⟩] (ix2 r (y 1))
  rw [e] at this
  exact this

/-- its first eight rows are the rows put above it. -/
theorem stack_hi (hd : FVec F S8x512 .f32) (d : FVec F S1024x512 .f32) (y : S1032x512.Idx) (r : Fin 8) (h : (y 0).val = r.val) :
    stack hd d y = hd (ix2 r (y 1)) := by
  have e : (Rect.unit (s := S1032x512) ![0, 0] S8x512.size inb_S1032x512_S8x512_0_0).emb (ix2 r (y 1)) = y := by
    funext a; apply Fin.ext; fin_cases a
    · show 0 + 1 * r.val = (y 0).val; omega
    · show 0 + 1 * (y 1).val = (y 1).val; omega
  have := View.canon_cons_emb (Val := Elt F) (e := .f32) (Rect.unit (s := S1032x512) ![0, 0] S8x512.size inb_S1032x512_S8x512_0_0) hd [] (ix2 r (y 1))
  rw [e] at this
  refine (View.canon_cons_of_not_mem (Val := Elt F) (e := .f32) _ _ ?_).trans this
  rw [Rect.mem_set_unit]
  intro hall
  have h8 : 8 ≤ (y 0).val := (hall 0).1
  omega

/-- The last eight rows of a stack are its block's. -/
theorem foot_stack (hd : FVec F S8x512 .f32) (d : FVec F S1024x512 .f32) : foot (stack hd d) = low8 d := by
  funext j
  have h0 : (j 0).val < 8 := (j 0).isLt
  generalize hx : stack hd d = x
  have hs : ∀ (y : S1032x512.Idx) (r : Fin 1024), (y 0).val = 8 + r.val → x y = d (ix2 r (y 1)) := fun y r h => by rw [← hx]; exact stack_lo hd d y r h
  clear hx
  unfold foot low8
  refine (hs _ ⟨1016 + (j 0).val, by omega⟩ ?_).trans ?_
  · have e : ∀ (z : (Rect.unit (s := S1032x512) ![1024, 0] S8x512.size inb_S1032x512_S8x512_1024_0).shape.Idx),
        ((Rect.unit (s := S1032x512) ![1024, 0] S8x512.size inb_S1032x512_S8x512_1024_0).emb z 0).val = 1024 + 1 * (z 0).val := fun z => rfl
    refine (e j).trans ?_
    show 1024 + 1 * (j 0).val = 8 + (1016 + (j 0).val)
    generalize (j 0).val = n
    omega
  · refine congrArg (fun k => d (ix2 (⟨1016 + (j 0).val, by omega⟩ : Fin 1024) k)) (Fin.ext ?_)
    have e : ∀ (z : (Rect.unit (s := S1032x512) ![1024, 0] S8x512.size inb_S1032x512_S8x512_1024_0).shape.Idx),
        ((Rect.unit (s := S1032x512) ![1024, 0] S8x512.size inb_S1032x512_S8x512_1024_0).emb z 1).val = 0 + 1 * (z 1).val := fun z => rfl
    refine (e j).trans ?_
    generalize (j 1).val = n
    omega

set_option maxHeartbeats 1000000 in
/-- The first half's point. -/
theorem inv_up (c : Dev nD) (i s : ℕ) (hs : s < 11) (cc : Fin 11) (hcc : cc.val = sv i s) (x10 : Vec F S1024x5632 .bf16) (x12 : Vec F S11x8x512 .f32)
    (h : Inv m c i s x10 x12) :
    k0_pay3 (BitVec.ofNat 32 i) (slot cc.val cc.isLt x12) = hdr m c i cc
    ∧ Inv m c i (s + 1) (VecWindow.put x10 ![0, 512 * cc.val] S1024x512.size (gated m c i cc))
        (VecWindow.put x12 ![cc.val, 0, 0] S1x8x512.size (k0_pay5 (low8 (gt m c i cc)))) := by
  obtain ⟨h1, h2, h3⟩ := h
  have hsv : sv i cc = s := by rw [hcc, sv_sv _ _ hs]
  have hinj : ∀ c' : Fin 11, sv i c' = s → c' = cc := fun c' h' => Fin.ext (by
    rw [hcc, ← h', sv_sv _ _ c'.isLt])
  refine ⟨?_, ⟨?_, ?_, ?_⟩⟩
  · by_cases hi : i = 0
    · subst hi; exact pay3_zero _ _
    · unfold hdr
      rw [h3 cc (by omega) (by omega)]
  · intro c' hc' j hj
    have hj1 : (j 1).val < 5632 := (j 1).isLt
    have hj0 : (j 0).val < 1024 := (j 0).isLt
    unfold VecWindow.put
    by_cases hk : (j 1).val / 512 = cc.val
    · have hm : ∀ a : Fin 2, (![0, 512 * cc.val] : Fin 2 → ℕ) a ≤ (j a).val ∧ (j a).val < (![0, 512 * cc.val] : Fin 2 → ℕ) a + S1024x512.size a := by
        intro a; fin_cases a
        · exact ⟨Nat.zero_le _, by show (j 0).val < 0 + 1024; omega⟩
        · exact ⟨by show 512 * cc.val ≤ (j 1).val; omega, by show (j 1).val < 512 * cc.val + 512; omega⟩
      refine (dif_pos hm).trans ?_
      unfold allGated
      have ec : (⟨(j 1).val / 512, by omega⟩ : Fin 11) = cc := Fin.ext hk
      refine Eq.trans ?_ (congrArg (fun z => gated m c i z (ix2 (j 0) ⟨(j 1).val % 512, Nat.mod_lt _ (by norm_num)⟩)) ec.symm)
      refine congrArg (gated m c i cc) ?_
      funext a; apply Fin.ext; fin_cases a
      · show (j 0).val - 0 = (j 0).val; omega
      · show (j 1).val - 512 * cc.val = (j 1).val % 512; omega
    · refine (dif_neg fun hm => hk ?_).trans (h1 c' ?_ j hj)
      · have := hm 1
        have a1 : 512 * cc.val ≤ (j 1).val := this.1
        have a2 : (j 1).val < 512 * cc.val + 512 := this.2
        omega
      · have : sv i c' ≠ s := fun e => hk (by rw [hj, hinj c' e])
        omega
  · intro c' hc'
    by_cases e : c' = cc
    · subst e
      have := VecWindow.window_put_same x12 ![c'.val, 0, 0] S1x8x512.size (slot_inb c'.val c'.isLt) (k0_pay5 (low8 (gt m c i c')))
      exact this
    · have hne : sv i c' ≠ s := fun e' => e (hinj c' e')
      rw [← h2 c' (by omega)]
      refine VecWindow.window_put_of_disjoint x12 ![cc.val, 0, 0] S1x8x512.size ![c'.val, 0, 0] S1x8x512.size (slot_inb c'.val c'.isLt) _ 0 ?_
      have : c'.val ≠ cc.val := fun e' => e (Fin.ext e')
      show c'.val + 1 ≤ cc.val ∨ cc.val + 1 ≤ c'.val
      omega
  · intro c' hc' hi
    have e : c' ≠ cc := fun e => by subst e; omega
    rw [← h3 c' (by omega) hi]
    refine VecWindow.window_put_of_disjoint x12 ![cc.val, 0, 0] S1x8x512.size ![c'.val, 0, 0] S1x8x512.size (slot_inb c'.val c'.isLt) _ 0 ?_
    have : c'.val ≠ cc.val := fun e' => e (Fin.ext e')
    show c'.val + 1 ≤ cc.val ∨ cc.val + 1 ≤ c'.val
    omega

/-- Past the first half all chunks are done. -/
theorem inv_full (c : Dev nD) (i s : ℕ) (hs : 11 ≤ s) (x10 : Vec F S1024x5632 .bf16) (x12 : Vec F S11x8x512 .f32) (h : Inv m c i s x10 x12) :
    x10 = allGated m c i := by
  funext j
  have hj1 : (j 1).val < 5632 := (j 1).isLt
  exact h.1 ⟨(j 1).val / 512, by omega⟩ (lt_of_lt_of_le (sv_lt _ _ (by show (j 1).val / 512 < 11; omega)) hs) j rfl

/-- A point of the second half changes nothing kept; -/
theorem inv_down (c : Dev nD) (i s : ℕ) (hs : 11 ≤ s) (x10 : Vec F S1024x5632 .bf16) (x12 : Vec F S11x8x512 .f32) (h : Inv m c i s x10 x12) :
    Inv m c i (s + 1) x10 x12 :=
  ⟨fun cc _ => h.1 cc (lt_of_lt_of_le (sv_lt _ _ cc.isLt) hs), fun cc _ => h.2.1 cc (lt_of_lt_of_le (sv_lt _ _ cc.isLt) hs),
    fun cc hn => absurd (lt_of_lt_of_le (sv_lt _ _ cc.isLt) (by omega)) hn⟩

/-- and after the last one the next row tile begins. -/
theorem inv_next (c : Dev nD) (i s : ℕ) (hs : 11 ≤ s) (x10 : Vec F S1024x5632 .bf16) (x12 : Vec F S11x8x512 .f32) (h : Inv m c i s x10 x12) :
    Inv m c (i + 1) 0 x10 x12 :=
  ⟨fun cc hn => absurd hn (Nat.not_lt_zero _), fun cc hn => absurd hn (Nat.not_lt_zero _),
    fun cc _ _ => h.2.1 cc (lt_of_lt_of_le (sv_lt _ _ cc.isLt) hs)⟩

/-- What the second half writes at point `t`. -/
def outAt (c : Dev nD) (t : Fin cfg0.N) : FVec F S1024x512 .f32 :=
  k0_pay2 (iblk m c 1 t) (allGated m c (t.val / 15)) (iblk m c 6 t)

end Cert.Kernel2Ideal.Ffn

end
-- ==== Proof.FDat.lean ====
/- The feed-forward call: the pipeline's proof data, the body's obligation, the run and the frame. -/
module

public import proofs.«01_k».proof.Proof.FInv
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body keeps between points: the three scratch buffers, two of them as `Inv` says, and the generator's register. -/
def Keep (c : Dev nD) (n : ℕ) : sProp 𝕄 :=
  iprop(∃ x10, ∃ x12, ⌜Inv m c (n / 15) (n % 15) x10 x12⌝ ∗ owns (c : Thread nD τ) act fullShare x10 ∗ (∃ d, owns (c : Thread nD τ) graw fullShare d)
    ∗ owns (c : Thread nD τ) carry fullShare x12 ∗ (∃ r, prngReg c r))

/-- The proof data: each input's block stays, the output's block is `outAt` where the second half runs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Keep m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem bef_0 (c : Dev nD) (t : Fin cfg0.N) (d) : (dats m 0 c).before 0 t d = iblk m c 0 t := before_0 m (dats m 0 c) (A_eq m c 0) (after_0 m c) t d
theorem bef_1 (c : Dev nD) (t : Fin cfg0.N) (d) : (dats m 0 c).before 1 t d = iblk m c 1 t := before_1 m (dats m 0 c) (A_eq m c 1) (after_1 m c) t d
theorem bef_2 (c : Dev nD) (t : Fin cfg0.N) (d) : (dats m 0 c).before 2 t d = iblk m c 2 t := before_2 m (dats m 0 c) (A_eq m c 2) (after_2 m c) t d
theorem bef_3 (c : Dev nD) (t : Fin cfg0.N) (d) : (dats m 0 c).before 3 t d = iblk m c 3 t := before_3 m (dats m 0 c) (A_eq m c 3) (after_3 m c) t d
theorem bef_4 (c : Dev nD) (t : Fin cfg0.N) (d) : (dats m 0 c).before 4 t d = iblk m c 4 t := before_4 m (dats m 0 c) (A_eq m c 4) (after_4 m c) t d
theorem bef_5 (c : Dev nD) (t : Fin cfg0.N) (d) : (dats m 0 c).before 5 t d = iblk m c 5 t := before_5 m (dats m 0 c) (A_eq m c 5) (after_5 m c) t d
theorem bef_6 (c : Dev nD) (t : Fin cfg0.N) (d) : (dats m 0 c).before 6 t d = iblk m c 6 t := before_6 m (dats m 0 c) (A_eq m c 6) (after_6 m c) t d

/-- What the body is called with at point `t`; -/
def bodyPre (c : Dev nD) (t : Fin cfg0.N) : sProp 𝕄 :=
  iprop(Keep m c t.val ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t))

set_option maxHeartbeats 4000000 in
/-- The body at a point of the first half: the output's buffer is not touched. -/
theorem sound_up (c : Dev nD) (t : Fin cfg0.N) (ht : t.val % 15 < 11) (R : sProp 𝕄) :
    iprop(bodyPre m c t ∗ R) ⊢ wp frame (wpE (defs₀ (F := F)) Variants.none c none) Set.univ (bodyAt0 t)
      (fun _ => iprop(Keep m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t) ∗ R)) := by
  have hlt := sv_lt (t.val / 15) _ ht
  unfold bodyPre bodyAt0 Keep
  iintro ⟨⟨⟨%x10, %x12, %hinv, HA, HG, HC, Hp⟩, Ho, H0, H1, H2, H3, H4, H5, H6⟩, HR⟩
  obtain ⟨hh, hnext⟩ := inv_up m c (t.val / 15) (t.val % 15) ht ⟨sv (t.val / 15) (t.val % 15), hlt⟩ rfl x10 x12 hinv
  iapply (run_up c (grid0.coords t) _ _ _ _ _ _ _ _ _ _ _ _ _ _ _ _ _ _ _ _ _ _ ((cond1_iff t).mpr ht) (fun h => (cond2_iff t).mp h ht)
    (sv (t.val / 15) (t.val % 15)) hlt (off1_eq t ht) (off2_eq t ht) (off3_eq t ht) (off4_eq t ht)
    (iblk m c 0 t) (iblk m c 2 t) (iblk m c 3 t) (iblk m c 4 t) (iblk m c 5 t) x10 x12)
  isplitl [H0]; · iexact H0
  isplitl [H2]; · iexact H2
  isplitl [H3]; · iexact H3
  isplitl [H4]; · iexact H4
  isplitl [H5]; · iexact H5
  isplitl [HA]; · iexact HA
  isplitl [HG]; · iexact HG
  isplitl [HC]; · iexact HC
  iintro ⟨H0, H2, H3, H4, H5, HA, HG, HC⟩
  isplitl [HA HG HC Hp]
  · iexists _, _
    isplitr; swap
    · isplitl [HA]; · iexact HA
      isplitl [HG]; · iexact HG
      isplitl [HC]; · iexact HC
      iexact Hp
    ipureintro
    have e1 : (t.val + 1) / 15 = t.val / 15 := by omega
    have e2 : (t.val + 1) % 15 = t.val % 15 + 1 := by omega
    rw [e1, e2, coord_row t, hh, foot_stack]
    have hp := pt_self t ht
    have hg : gt m c (t.val / 15) ⟨sv (t.val / 15) (t.val % 15), hlt⟩ = k0_pay4 (iblk m c 0 t) (iblk m c 2 t) := by
      unfold gt; rw [hp]
    have hG : gated m c (t.val / 15) ⟨sv (t.val / 15) (t.val % 15), hlt⟩ = k0_pay1 (k0_pay6 (iblk m c 0 t) (taps _ hlt (iblk m c 4 t))
        (stack (hdr m c (t.val / 15) ⟨sv (t.val / 15) (t.val % 15), hlt⟩) (k0_pay4 (iblk m c 0 t) (iblk m c 2 t)))
        (bias _ hlt (iblk m c 5 t)) (iblk m c 3 t)) := by
      unfold gated; rw [hg, hp]
    rw [← hG, ← hg]
    exact hnext
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HR

set_option maxHeartbeats 4000000 in
/-- The body at a point of the second half: the output's buffer is left at `outAt`. -/
theorem sound_down (c : Dev nD) (t : Fin cfg0.N) (ht : ¬ t.val % 15 < 11) :
    iprop(bodyPre m c t ∗ (∃ d, owns (c : Thread nD τ) (st0_7 t) fullShare ((dats m 0 c).before 7 t d)))
      ⊢ wp frame (wpE (defs₀ (F := F)) Variants.none c none) Set.univ (bodyAt0 t)
      (fun _ => iprop(Keep m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (outAt m c t))) := by
  unfold bodyPre bodyAt0 Keep
  iintro ⟨⟨⟨%x10, %x12, %hinv, HA, HG, HC, Hp⟩, Ho, H0, H1, H2, H3, H4, H5, H6⟩, ⟨%d7, H7⟩⟩
  obtain rfl := inv_full m c (t.val / 15) (t.val % 15) (by omega) x10 x12 hinv
  iapply (run_down c (grid0.coords t) _ _ _ _ _ _ _ _ _ _ _ _ _ _ _ _ _ _ _ _ _ _ (fun h => ht ((cond1_iff t).mp h)) ((cond2_iff t).mpr ht)
    (iblk m c 1 t) (iblk m c 6 t) (allGated m c (t.val / 15)))
  isplitl [H1]; · iexact H1
  isplitl [H6]; · iexact H6
  isplitl [H7]; · iexists _; iexact H7
  isplitl [HA]; · iexact HA
  iintro ⟨H1, H6, H7, HA⟩
  isplitl [HA HG HC Hp]
  · iexists _, _
    isplitr; swap
    · isplitl [HA]; · iexact HA
      isplitl [HG]; · iexact HG
      isplitl [HC]; · iexact HC
      iexact Hp
    ipureintro
    by_cases hl : t.val % 15 = 14
    · have e1 : (t.val + 1) / 15 = t.val / 15 + 1 := by omega
      have e2 : (t.val + 1) % 15 = 0 := by omega
      rw [e1, e2]
      exact inv_next m c _ _ (by omega) _ _ hinv
    · have e1 : (t.val + 1) / 15 = t.val / 15 := by omega
      have e2 : (t.val + 1) % 15 = t.val % 15 + 1 := by omega
      rw [e1, e2]
      exact inv_down m c _ _ (by omega) _ _ hinv
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The output's window is idle at exactly the points of the first half. -/
theorem idle7 : ∀ t : Fin cfg0.N, cfg0.idle 7 (cfg0.grid.coords t) = decide (t.val % 15 < 11) :=
  (by decide +kernel : ∀ t : Fin grid0.N, cfg0.idle 7 (cfg0.grid.coords t) = decide (t.val % 15 < 11))

theorem defs₀_row (t : Fin cfg0.N) :
    defs₀ (F := F) .tc cfg0.body (cfg0.bodyArgs t (cfg0.slots t)) = bodyAt0 t := by
  unfold defs₀; rw [Defs.onTc_tc]

/-- What the pipeline hands the body, the inputs' blocks named. -/
theorem pre_of (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
    ⊢ iprop(bodyPre m c t ∗ (∃ d, owns (c : Thread nD τ) (st0_7 t) fullShare ((dats m 0 c).before 7 t d))) := by
  unfold bodyPre
  simp only [bef_0, bef_1, bef_2, bef_3, bef_4, bef_5, bef_6]
  rw [show (dats m 0 c).Φ t.castSucc = Keep m c t.val from rfl]
  iintro ⟨HK, Ho, ⟨%d0, H0⟩, ⟨%d1, H1⟩, ⟨%d2, H2⟩, ⟨%d3, H3⟩, ⟨%d4, H4⟩, ⟨%d5, H5⟩, ⟨%d6, H6⟩, H7⟩
  isplitr [H7]
  · isplitl [HK]; · iexact HK
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  iexact H7

theorem body_obligation (c : Dev nD) : BodyObligation (dats (F := F) m 0 c) (defs₀ (F := F)) Variants.none () Set.univ := fun t => by
  rw [bigSep_W0, bigSep_W0, defs₀_row]
  by_cases ht : t.val % 15 < 11
  · have hi : cfg0.idle 7 (cfg0.grid.coords t) = true := by rw [idle7]; exact decide_eq_true ht
    have hf : (cfg0.win 7).flush t = false := Bool.eq_false_iff.mpr fun h => (flush7 t).mp h ht
    rw [hi, hf]
    exact triple_restated (sound_up m c t ht _) rfl (pre_of m c t) fun _ => .rfl
  · have hi : cfg0.idle 7 (cfg0.grid.coords t) = false := by rw [idle7]; exact decide_eq_false ht
    rw [hi]
    exact triple_restated (sound_down m c t ht) rfl (pre_of m c t) fun _ => .rfl

/-- What the launch hands the region is the invariant before the first point, -/
theorem hin (c : Dev nD) : Pipeline.ΦA spec0 c ⊢ (dats m 0 c).Φ 0 := by
  rw [show (dats m 0 c).Φ 0 = Keep m c 0 from rfl, start_eq]
  unfold Keep
  iintro ⟨⟨⟨%d0, H0⟩, H1, ⟨%d2, H2⟩⟩, Hg⟩
  iexists d0, d2
  isplitr
  · ipureintro; exact inv_zero m c d0 d2
  isplitl [H0]; · iexact H0
  isplitl [H1]; · iexact H1
  isplitl [H2]; · iexact H2
  iexact Hg

/-- and what the last point leaves gives it back. -/
theorem hout (c : Dev nD) : (dats m 0 c).Φ (Fin.last cfg0.N) ⊢ Pipeline.ΦA spec0 c := by
  rw [show (dats m 0 c).Φ (Fin.last cfg0.N) = Keep m c (Fin.last cfg0.N).val from rfl, start_eq]
  unfold Keep
  iintro ⟨%d0, %d2, -, H0, H1, H2, Hg⟩
  isplitr [Hg]
  · isplitl [H0]; · iexists _; iexact H0
    isplitl [H1]; · iexact H1
    iexists _; iexact H2
  iexact Hg

set_option backward.isDefEq.respectTransparency.types false in
/-- The run: every array of the pipeline ends as the proof data say, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: every argument ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Kernel2Ideal.Ffn

end
-- ==== Proof.FModel.lean ====
/- The feed-forward layer's numbers, as both the kernel's and the reference's programs compute them. -/
module

public import proofs.«01_k».proof.Proof.Reals
public import proofs.«01_k».proof.Proof.RLoop
public import Idealize.ShloMosaic.Lib.Pointwise

@[expose] public section

set_option maxRecDepth 16384

noncomputable section

namespace Cert.FModel

open Idealize.ShloMosaic

/-- A matrix's entry at a row and a column; zero outside. -/
def at2 {p q : ℕ} (x : (⟨2, ![p, q]⟩ : Shape).Idx → EReal) (i j : ℕ) : EReal :=
  if h : i < p ∧ j < q then x (ix2 (⟨i, h.1⟩ : Fin p) (⟨j, h.2⟩ : Fin q)) else 0

theorem at2_eq {p q : ℕ} (x : (⟨2, ![p, q]⟩ : Shape).Idx → EReal) (i j : ℕ) (hi : i < p) (hj : j < q) :
    x (ix2 (⟨i, hi⟩ : Fin p) (⟨j, hj⟩ : Fin q)) = at2 x i j := by
  unfold at2; rw [dif_pos ⟨hi, hj⟩]

theorem at2_fin {p q : ℕ} (x : (⟨2, ![p, q]⟩ : Shape).Idx → EReal) (i : Fin p) (j : Fin q) :
    x (ix2 i j) = at2 x i j := at2_eq x i j i.isLt j.isLt

/-- The gate of the layer: `x` times its logistic, written with the hyperbolic tangent. -/
def gate (x : EReal) : EReal :=
  x * (Ideal.ofBits FTy.f32 1056964608#32 * (1 + Ideal.tanh (Ideal.ofBits FTy.f32 1056964608#32 * x)))

/-- The two ways of writing the gate agree, at the infinities too. -/
theorem silu (x : EReal) : x * Ideal.div 1 (1 + Ideal.exp (-x)) = gate x := by
  have hh : Ideal.ofBits FTy.f32 1056964608#32 = ((1 / 2 : ℝ) : EReal) := Cert.Reals.lit_half
  have hp : (0 : ℝ) < 1 / 2 := by norm_num
  unfold gate
  rw [hh]
  induction x using EReal.rec with
  | bot =>
    rw [EReal.neg_bot, EReal.coe_mul_bot_of_pos hp]
    have e1 : Ideal.exp ⊤ = ⊤ := rfl
    have e2 : Ideal.tanh ⊥ = -1 := rfl
    have e3 : (1 : EReal) + -1 = 0 := by
      rw [show (1 : EReal) = ((1 : ℝ) : EReal) from rfl, ← EReal.coe_neg, ← EReal.coe_add, add_neg_cancel]; rfl
    have e4 : (1 : EReal) + ⊤ = ⊤ := by
      rw [show (1 : EReal) = ((1 : ℝ) : EReal) from rfl]; exact EReal.coe_add_top 1
    rw [e1, e2, e3, e4]
    unfold Ideal.div
    rw [if_neg EReal.top_ne_zero, EReal.inv_top, mul_zero, mul_zero, mul_zero, mul_zero]
  | top =>
    rw [EReal.neg_top, EReal.coe_mul_top_of_pos hp]
    have e1 : Ideal.exp ⊥ = 0 := rfl
    have e2 : Ideal.tanh ⊤ = 1 := rfl
    have e3 : ((1 / 2 : ℝ) : EReal) * (1 + 1) = 1 := by
      rw [show (1 : EReal) = ((1 : ℝ) : EReal) from rfl, ← EReal.coe_add, ← EReal.coe_mul]; norm_num
    rw [e1, e2, e3, add_zero]
    unfold Ideal.div
    rw [if_neg one_ne_zero, inv_one, mul_one]
  | coe r =>
    rw [← EReal.coe_neg, Ideal.exp_coe, ← EReal.coe_mul, Ideal.tanh_coe]
    have h1 : (1 : EReal) = ((1 : ℝ) : EReal) := rfl
    have hpos : (0 : ℝ) < 1 + Real.exp (-r) := by have := Real.exp_pos (-r); linarith
    rw [h1, ← EReal.coe_add, ← EReal.coe_add, ← EReal.coe_mul, ← EReal.coe_mul]
    unfold Ideal.div
    rw [if_neg (by intro h; exact hpos.ne' (EReal.coe_eq_zero.mp h)), ← EReal.coe_inv, ← EReal.coe_mul, ← EReal.coe_mul]
    congr 1
    have := Cert.RLoop.gate_eq r
    unfold Cert.Model.gate at this
    rw [← one_div]
    linarith

section

variable (a0 : (⟨2, ![16384, 2048]⟩ : Shape).Idx → EReal) (a1 : (⟨2, ![16384, 2048]⟩ : Shape).Idx → EReal)
  (a2 : (⟨2, ![2048, 11264]⟩ : Shape).Idx → EReal) (a3 : (⟨3, ![2, 3, 5632]⟩ : Shape).Idx → EReal)
  (a4 : (⟨2, ![2, 5632]⟩ : Shape).Idx → EReal) (a5 : (⟨2, ![5632, 2048]⟩ : Shape).Idx → EReal)

/-- The product of row `R` with column `n` of the upward matrix. -/
def up (R n : ℕ) : EReal := ∑ k : Fin 2048, at2 a0 R k * at2 a2 k n

/-- The product `d` rows above row `R`; zero above the first row. -/
def sh (d R n : ℕ) : EReal := if d ≤ R then up a0 a2 (R - d) n else 0

/-- The gate's value before the gate: the bias and the three taps along the rows. -/
def gc (R : ℕ) (n : Fin 5632) : EReal :=
  a4 (ix2 (0 : Fin 2) n) + sh a0 a2 2 R n * a3 (ix3 (0 : Fin 2) (0 : Fin 3) n) + sh a0 a2 1 R n * a3 (ix3 (0 : Fin 2) (1 : Fin 3) n)
    + up a0 a2 R n * a3 (ix3 (0 : Fin 2) (2 : Fin 3) n)

/-- The gated value. -/
def ff (R : ℕ) (n : Fin 5632) : EReal := gate (gc a0 a2 a3 a4 R n) * up a0 a2 R (5632 + n.val)

/-- The layer's result. -/
def out (R j : ℕ) : EReal := at2 a1 R j + ∑ n : Fin 5632, ff a0 a2 a3 a4 R n * at2 a5 n j

end

end Cert.FModel

end
-- ==== Proof.FWin.lean ====
/- What the feed-forward kernel's windows show its body at each grid point, over the arguments. -/
module

public import proofs.«01_k».proof.Proof.FDat
public import proofs.«01_k».proof.Proof.FModel
public import Idealize.ShloMosaic.Lib.Claim
public import Idealize.ShloMosaic.Lib.Pipeline.ValueKit
public import Idealize.ShloMosaic.Lib.StableHlo.ReadAt
public import Idealize.ShloMosaic.Lib.Tactic.WordOmega
public import Idealize.ShloMosaic.Lib.Pointwise

@[expose] public section

set_option maxRecDepth 16384

noncomputable section

namespace Cert.Kernel2Ideal.Ffn

open Idealize.ShloMosaic Idealize.ShloMosaic.TcCoe Cert.Kernel2Ideal Cert.Kernel2Ideal.Gen Cert.FModel

variable (m : (ℓ : Loc nD τ sig) → Buf (Elt Ideal) ℓ) (c : Dev nD)

/-- The column block of the result a point of the second half of row tile `i` computes: up in even tiles, down in odd ones. -/
def dn (i s : ℕ) : ℕ := if i % 2 = 0 then s - 11 else 14 - s

theorem dn_lt (i s : ℕ) (h : ¬ s < 11) (h' : s < 15) : dn i s < 4 := by unfold dn; split <;> omega

/-- The windows' block indices at every point, -/
theorem idx : ∀ t : Fin cfg0.N, win0_0.index t = ![t.val / 15, 0] ∧ win0_4.index t = ![0, 0, 0] ∧ win0_5.index t = ![0, 0, 0] :=
  (by decide +kernel : ∀ t : Fin grid0.N, win0_0.index t = ![t.val / 15, 0] ∧ win0_4.index t = ![0, 0, 0] ∧ win0_5.index t = ![0, 0, 0])

/-- in the first half, -/
theorem idx_up : ∀ t : Fin cfg0.N, t.val % 15 < 11 → win0_2.index t = ![0, sv (t.val / 15) (t.val % 15)] ∧ win0_3.index t = ![0, 11 + sv (t.val / 15) (t.val % 15)] :=
  (by decide +kernel : ∀ t : Fin grid0.N, t.val % 15 < 11 → win0_2.index t = ![0, sv (t.val / 15) (t.val % 15)] ∧ win0_3.index t = ![0, 11 + sv (t.val / 15) (t.val % 15)])

/-- and in the second. -/
theorem idx_down : ∀ t : Fin cfg0.N, ¬ t.val % 15 < 11 → win0_1.index t = ![t.val / 15, dn (t.val / 15) (t.val % 15)]
    ∧ win0_6.index t = ![0, dn (t.val / 15) (t.val % 15)] ∧ win0_7.index t = ![t.val / 15, dn (t.val / 15) (t.val % 15)] :=
  (by decide +kernel : ∀ t : Fin grid0.N, ¬ t.val % 15 < 11 → win0_1.index t = ![t.val / 15, dn (t.val / 15) (t.val % 15)]
    ∧ win0_6.index t = ![0, dn (t.val / 15) (t.val % 15)] ∧ win0_7.index t = ![t.val / 15, dn (t.val / 15) (t.val % 15)])

theorem lt_N (t : Fin cfg0.N) : t.val < 240 := lt_of_lt_of_eq t.isLt (show cfg0.N = 240 from N_0)

section
variable (t : Fin cfg0.N)

theorem x0_read (r : Fin 1024) (l : Fin 2048) : iblk m c 0 t (ix2 r l)
    = m ((c : Thread nD τ).loc main_arg0) (ix2 (⟨1024 * (t.val / 15) + r.val, by have := lt_N t; omega⟩ : Fin 16384) l) := by
  blk_ext [iblk, V_0, idx t]

theorem x2_read (h : t.val % 15 < 11) (r : Fin 2048) (k : Fin 512) : iblk m c 2 t (ix2 r k)
    = m ((c : Thread nD τ).loc main_arg2) (ix2 r (⟨512 * sv (t.val / 15) (t.val % 15) + k.val, by have := sv_lt (t.val / 15) _ h; omega⟩ : Fin 11264)) := by
  blk_ext [iblk, V_2, idx_up t h]

theorem x3_read (h : t.val % 15 < 11) (r : Fin 2048) (k : Fin 512) : iblk m c 3 t (ix2 r k)
    = m ((c : Thread nD τ).loc main_arg2) (ix2 r (⟨5632 + (512 * sv (t.val / 15) (t.val % 15) + k.val), by have := sv_lt (t.val / 15) _ h; omega⟩ : Fin 11264)) := by
  blk_ext [iblk, V_2, idx_up t h]

theorem x1_read (h : ¬ t.val % 15 < 11) (r : Fin 1024) (k : Fin 512) : iblk m c 1 t (ix2 r k)
    = m ((c : Thread nD τ).loc main_arg1) (ix2 (⟨1024 * (t.val / 15) + r.val, by have := lt_N t; omega⟩ : Fin 16384)
        (⟨512 * dn (t.val / 15) (t.val % 15) + k.val, by have := dn_lt (t.val / 15) _ h (Nat.mod_lt _ (by norm_num)); omega⟩ : Fin 2048)) := by
  blk_ext [iblk, V_1, idx_down t h]

theorem x6_read (h : ¬ t.val % 15 < 11) (n : Fin 5632) (k : Fin 512) : iblk m c 6 t (ix2 n k)
    = m ((c : Thread nD τ).loc main_arg5) (ix2 n
        (⟨512 * dn (t.val / 15) (t.val % 15) + k.val, by have := dn_lt (t.val / 15) _ h (Nat.mod_lt _ (by norm_num)); omega⟩ : Fin 2048)) := by
  blk_ext [iblk, V_5, idx_down t h]

theorem x4_read (d : Fin 3) (n : Fin 5632) : iblk m c 4 t (ix3 (0 : Fin 1) d n) = m ((c : Thread nD τ).loc main_arg3) (ix3 (0 : Fin 2) d n) := by
  blk_ext [iblk, V_3, idx t]

theorem x5_read (n : Fin 5632) : iblk m c 5 t (ix3 (0 : Fin 1) (0 : Fin 1) n) = m ((c : Thread nD τ).loc main_arg4) (ix2 (0 : Fin 2) n) := by
  have : iblk m c 5 t (ix3 (0 : Fin 1) (0 : Fin 1) n) = V m c main_v0 (ix3 (0 : Fin 2) (0 : Fin 1) n) := by
    blk_ext [iblk, idx t]
  rw [this]
  unfold V
  after_reads_at

end

end Cert.Kernel2Ideal.Ffn

end
-- ==== Proof.FVal.lean ====
/- The feed-forward kernel's stages over the layer's numbers. -/
module

public import proofs.«01_k».proof.Proof.FWin

@[expose] public section

set_option maxRecDepth 16384

noncomputable section

namespace Cert.Kernel2Ideal.Ffn

open Idealize.ShloMosaic Idealize.ShloMosaic.TcCoe Cert.Kernel2Ideal Cert.Kernel2Ideal.Gen Cert.FModel

/-- The upward product of a block, at a row and a column. -/
theorem pay4_val (x : S1024x2048.Idx → EReal) (w : S2048x512.Idx → EReal) (r : Fin 1024) (k : Fin 512) :
    k0_pay4 (F := Ideal) x w (ix2 r k) = ∑ l : Fin 2048, x (ix2 r l) * w (ix2 l k) := by
  pointwise [k0_pay4]

/-- The downward product of a block, added to what it is added to. -/
theorem pay2_val (h : S1024x512.Idx → EReal) (x : S1024x5632.Idx → EReal) (w : S5632x512.Idx → EReal) (r : Fin 1024) (k : Fin 512) :
    k0_pay2 (F := Ideal) h x w (ix2 r k) = h (ix2 r k) + ∑ n : Fin 5632, x (ix2 r n) * w (ix2 n k) := by
  pointwise [k0_pay2]

/-- The rows kept for the next row tile. -/
theorem pay5_val (x : S8x512.Idx → EReal) (r : Fin 8) (k : Fin 512) : k0_pay5 (F := Ideal) x (ix3 (0 : Fin 1) r k) = x (ix2 r k) := by
  pointwise [k0_pay5]

/-- The rows put above a block: the kept ones, none above the first tile. -/
theorem pay3_val (i : BitVec 32) (x : S1x8x512.Idx → EReal) (r : Fin 8) (k : Fin 512) :
    k0_pay3 (F := Ideal) i x (ix2 r k) = Scalar.select (Scalar.cmpi CmpIPredicate.sgt i 0#32) (x (ix3 (0 : Fin 1) r k)) 0 := by
  pointwise [k0_pay3]

/-- The gated values of a block, over the stacked rows `s`. -/
theorem pay6_val (x : S1024x2048.Idx → EReal) (a : S1x3x512.Idx → EReal) (s : S1032x512.Idx → EReal) (b : S1x1x512.Idx → EReal)
    (w : S2048x512.Idx → EReal) (r : Fin 1024) (k : Fin 512) :
    k0_pay1 (F := Ideal) (k0_pay6 (F := Ideal) x a s b w) (ix2 r k)
      = gate (b (ix3 (0 : Fin 1) (0 : Fin 1) k) + s (ix2 (⟨(8 + r.val + 1032 - 2) % 1032, Nat.mod_lt _ (by norm_num)⟩ : Fin 1032) k) * a (ix3 (0 : Fin 1) (0 : Fin 3) k)
          + s (ix2 (⟨(8 + r.val + 1032 - 1) % 1032, Nat.mod_lt _ (by norm_num)⟩ : Fin 1032) k) * a (ix3 (0 : Fin 1) (1 : Fin 3) k)
          + s (ix2 (⟨8 + r.val, by omega⟩ : Fin 1032) k) * a (ix3 (0 : Fin 1) (2 : Fin 3) k))
        * ∑ l : Fin 2048, x (ix2 r l) * w (ix2 l k) := by
  unfold gate
  pointwise [k0_pay6, k0_pay1]

variable (m : (ℓ : Loc nD τ sig) → Buf (Elt Ideal) ℓ) (c : Dev nD)

/-- The arguments of the call. -/
abbrev A0 : FVec Ideal S16384x2048 .bf16 := m ((c : Thread nD τ).loc main_arg0)
abbrev A1 : FVec Ideal S16384x2048 .f32 := m ((c : Thread nD τ).loc main_arg1)
abbrev A2 : FVec Ideal S2048x11264 .bf16 := m ((c : Thread nD τ).loc main_arg2)
abbrev A3 : FVec Ideal S2x3x5632 .f32 := m ((c : Thread nD τ).loc main_arg3)
abbrev A4 : FVec Ideal S2x5632 .f32 := m ((c : Thread nD τ).loc main_arg4)
abbrev A5 : FVec Ideal S5632x2048 .bf16 := m ((c : Thread nD τ).loc main_arg5)

theorem pt_val (i : ℕ) (hi : i < 16) (cc : Fin 11) : (pt i cc).val / 15 = i ∧ (pt i cc).val % 15 = sv i cc ∧ (pt i cc).val % 15 < 11
    ∧ sv ((pt i cc).val / 15) ((pt i cc).val % 15) = cc.val := by
  have h := sv_lt i cc cc.isLt
  have e : (pt i cc).val = 15 * i + sv i cc := by
    show (15 * i + sv i cc) % 240 = _
    omega
  have e1 : (pt i cc).val / 15 = i := by omega
  have e2 : (pt i cc).val % 15 = sv i cc := by omega
  refine ⟨e1, e2, by omega, ?_⟩
  rw [e1, e2, sv_sv _ _ cc.isLt]

theorem at2_congr {p q : ℕ} (x : (⟨2, ![p, q]⟩ : Shape).Idx → EReal) {i i' j j' : ℕ} (hi : i < p) (hj : j < q) (ei : i = i') (ej : j = j') :
    x (ix2 (⟨i, hi⟩ : Fin p) (⟨j, hj⟩ : Fin q)) = at2 x i' j' := by
  subst ei ej; exact at2_eq x i j hi hj

/-- The gate's products are the layer's. -/
theorem gt_val (i : ℕ) (hi : i < 16) (cc : Fin 11) (r : Fin 1024) (k : Fin 512) :
    gt m c i cc (ix2 r k) = up (A0 m c) (A2 m c) (1024 * i + r.val) (512 * cc.val + k.val) := by
  obtain ⟨e1, e2, e3, e4⟩ := pt_val i hi cc
  refine (pay4_val _ _ r k).trans (Finset.sum_congr rfl fun l _ => congrArg₂ (· * ·) ((x0_read m c _ r l).trans ?_) ((x2_read m c _ e3 l k).trans ?_))
  · exact at2_congr _ _ _ (by rw [e1]) rfl
  · exact at2_congr _ _ _ rfl (by rw [e4])

/-- The value's products are the layer's. -/
theorem val_val (i : ℕ) (hi : i < 16) (cc : Fin 11) (r : Fin 1024) (k : Fin 512) :
    (∑ l : Fin 2048, (show EReal from iblk m c 0 (pt i cc) (ix2 r l)) * (show EReal from iblk m c 3 (pt i cc) (ix2 l k)))
      = up (A0 m c) (A2 m c) (1024 * i + r.val) (5632 + (512 * cc.val + k.val)) := by
  obtain ⟨e1, e2, e3, e4⟩ := pt_val i hi cc
  refine Finset.sum_congr rfl fun l _ => congrArg₂ (· * ·) ((x0_read m c _ r l).trans ?_) ((x3_read m c _ e3 l k).trans ?_)
  · exact at2_congr _ _ _ (by rw [e1]) rfl
  · exact at2_congr _ _ _ rfl (by rw [e4])

theorem sgt_word : ∀ i : Fin 16, Scalar.cmpi CmpIPredicate.sgt (BitVec.ofNat 32 i.val) 0#32 = if 0 < i.val then 1#1 else 0#1 := by decide +kernel

/-- The rows above a block. -/
theorem hdr_val (i : ℕ) (hi : i < 16) (cc : Fin 11) (r : Fin 8) (k : Fin 512) :
    hdr m c i cc (ix2 r k) = if 0 < i then up (A0 m c) (A2 m c) (1024 * i + r.val - 8) (512 * cc.val + k.val) else 0 := by
  refine (pay3_val _ _ r k).trans ?_
  rw [sgt_word ⟨i, hi⟩]
  by_cases h : 0 < i
  · rw [if_pos h, if_pos h]
    refine (if_pos rfl).trans ((pay5_val _ r k).trans ?_)
    refine (gt_val m c (i - 1) (by omega) cc (⟨1016 + r.val, by omega⟩ : Fin 1024) k).trans ?_
    congr 1
    show 1024 * (i - 1) + (1016 + r.val) = 1024 * i + r.val - 8
    omega
  · rw [if_neg h, if_neg h]
    exact if_neg (by decide)

/-- The stacked rows, `d` rows above a row. -/
theorem stack_val (i : ℕ) (hi : i < 16) (cc : Fin 11) (r : Fin 1024) (k : Fin 512) (d n : ℕ) (hd : d ≤ 8) (hn : n < 1032) (e : n + d = 8 + r.val) :
    stack (hdr m c i cc) (gt m c i cc) (ix2 (⟨n, hn⟩ : Fin 1032) k) = sh (A0 m c) (A2 m c) d (1024 * i + r.val) (512 * cc.val + k.val) := by
  unfold sh
  by_cases h : d ≤ r.val
  · refine (stack_lo _ _ (ix2 (⟨n, hn⟩ : Fin 1032) k) (⟨r.val - d, by omega⟩ : Fin 1024) (by show n = 8 + (r.val - d); omega)).trans ?_
    refine (gt_val m c i hi cc _ k).trans ?_
    rw [if_pos (by omega)]
    congr 1
    show 1024 * i + (r.val - d) = 1024 * i + r.val - d
    omega
  · refine (stack_hi _ _ (ix2 (⟨n, hn⟩ : Fin 1032) k) (⟨n, by omega⟩ : Fin 8) rfl).trans ?_
    refine (hdr_val m c i hi cc _ k).trans ?_
    by_cases h' : 0 < i
    · rw [if_pos h', if_pos (by omega)]
      congr 1
      show 1024 * i + n - 8 = 1024 * i + r.val - d
      omega
    · rw [if_neg h', if_neg (by omega)]

/-- The gated values are the layer's. -/
theorem gated_val (i : ℕ) (hi : i < 16) (cc : Fin 11) (r : Fin 1024) (k : Fin 512) :
    gated m c i cc (ix2 r k) = ff (A0 m c) (A2 m c) (A3 m c) (A4 m c) (1024 * i + r.val) (⟨512 * cc.val + k.val, by omega⟩ : Fin 5632) := by
  refine (pay6_val _ _ _ _ _ r k).trans ?_
  unfold ff
  refine congrArg₂ (· * ·) (congrArg gate ?_) (val_val m c i hi cc r k)
  unfold gc
  have tap : ∀ d : Fin 3, taps cc.val cc.isLt (iblk m c 4 (pt i cc)) (ix3 (0 : Fin 1) d k) = A3 m c (ix3 (0 : Fin 2) d (⟨512 * cc.val + k.val, by omega⟩ : Fin 5632)) := by
    intro d
    refine Eq.trans ?_ (x4_read m c (pt i cc) d _)
    unfold taps VecWindow.window
    refine congrArg (iblk m c 4 (pt i cc)) ?_
    funext a; apply Fin.ext; fin_cases a
    · rfl
    · show 0 + 1 * d.val = d.val; omega
    · show 512 * cc.val + 1 * k.val = 512 * cc.val + k.val; omega
  refine congrArg₂ (· + ·) (congrArg₂ (· + ·) (congrArg₂ (· + ·) ?_ (congrArg₂ (· * ·) ?_ (tap 0))) (congrArg₂ (· * ·) ?_ (tap 1))) (congrArg₂ (· * ·) ?_ (tap 2))
  · refine Eq.trans ?_ (x5_read m c (pt i cc) _)
    unfold bias VecWindow.window
    refine congrArg (iblk m c 5 (pt i cc)) ?_
    funext a; apply Fin.ext; fin_cases a
    · rfl
    · rfl
    · show 512 * cc.val + 1 * k.val = 512 * cc.val + k.val; omega
  · exact stack_val m c i hi cc r k 2 _ (by norm_num) _ (by omega)
  · exact stack_val m c i hi cc r k 1 _ (by norm_num) _ (by omega)
  · refine (stack_val m c i hi cc r k 0 _ (by norm_num) _ (by omega)).trans ?_
    unfold sh
    rw [if_pos (Nat.zero_le _), Nat.sub_zero]

/-- What a point of the second half writes back is the layer's result. -/
theorem outAt_val (t : Fin cfg0.N) (h : ¬ t.val % 15 < 11) (r : Fin 1024) (k : Fin 512) :
    outAt m c t (ix2 r k) = out (A0 m c) (A1 m c) (A2 m c) (A3 m c) (A4 m c) (A5 m c) (1024 * (t.val / 15) + r.val) (512 * dn (t.val / 15) (t.val % 15) + k.val) := by
  have hN := lt_N t
  refine (pay2_val _ _ _ r k).trans ?_
  unfold out
  refine congrArg₂ (· + ·) ((x1_read m c t h r k).trans (at2_eq _ _ _ _ _)) (Finset.sum_congr rfl fun n _ => congrArg₂ (· * ·) ?_ ((x6_read m c t h n k).trans (at2_eq _ _ _ _ _)))
  refine (gated_val m c (t.val / 15) (by omega) (⟨n.val / 512, by omega⟩ : Fin 11) r (⟨n.val % 512, Nat.mod_lt _ (by norm_num)⟩ : Fin 512)).trans ?_
  congr 1
  apply Fin.ext
  show 512 * (n.val / 512) + n.val % 512 = n.val
  omega

/-- The layer's result on a device, whole. -/
def G7 : Buf (Elt Ideal) ((c : Thread nD τ).loc main_v1) := fun i =>
  out (A0 m c) (A1 m c) (A2 m c) (A3 m c) (A4 m c) (A5 m c) (i 0).val (i 1).val

/-- The array the pipeline leaves. -/
theorem final7 : (dats (F := Ideal) m 0 c).arrAt 7 cfg0.N = G7 m c := by
  refine (dats (F := Ideal) m 0 c).arrAt_eq_of_covers 7 _ (by decide +kernel) fun t hf y => ?_
  have h := (flush7 t).mp hf
  obtain ⟨-, -, e⟩ := idx_down t h
  blk_simp
  rw [after_7]
  obtain ⟨r, k, rfl⟩ : ∃ (r : Fin 1024) (k : Fin 512), y = ix2 r k := ⟨_, _, eq_ix2 y⟩
  refine (outAt_val m c t h r k).trans ?_
  have b0 : ((win0_7.blk t).view.emb (ix2 r k) 0).val = win0_7.index t (0 : Fin 2) * 1024 + 1 * r.val := rfl
  have b1 : ((win0_7.blk t).view.emb (ix2 r k) 1).val = win0_7.index t (1 : Fin 2) * 512 + 1 * k.val := rfl
  have e0 : win0_7.index t (0 : Fin 2) = t.val / 15 := congrFun e 0
  have e1 : win0_7.index t (1 : Fin 2) = dn (t.val / 15) (t.val % 15) := congrFun e 1
  unfold G7
  rw [b0, b1, e0, e1]
  congr 1 <;> omega

/-- The run: the result buffer ends holding the layer's result, every argument as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 7).trans (final7 m c), h.2.1 c⟩)
    (θ_run_and (run_main (F := Ideal) m ρ) (frame (F := Ideal) m ρ))

end Cert.Kernel2Ideal.Ffn

end
-- ==== Proof.FRef.lean ====
/- The reference's feed-forward layer computes the layer's numbers. -/
module

public import proofs.«01_k».proof.Proof.FModel
public import proofs.«01_k».proof.Proof.Gen.Reference2Ideal.Run
public import Idealize.ShloMosaic.Lib.Pointwise

@[expose] public section

set_option maxRecDepth 16384

noncomputable section

namespace Cert.FRef

open Idealize.ShloMosaic Idealize.ShloMosaic.TcCoe Cert.Reference2Ideal Cert.Reference2Ideal.Gen Cert.Reference2Ideal.Value Cert.FModel

variable (m : (ℓ : Loc nD τ sig) → Buf (Elt Ideal) ℓ) (c : Dev nD)

/-- The word zero read as a number. -/
theorem zero_word : (FloatOps.sitofp FTy.f32 0#32 : Ideal .f32) = (0 : EReal) := by
  show (((0#32 : BitVec 32).toInt : ℝ) : EReal) = 0
  simp

/-- The reference's result at row `R` and column `j`. -/
theorem ref_val (R : Fin 16384) (j : Fin 2048) (a0 : FVec Ideal S16384x2048 .bf16) (a1 : FVec Ideal S16384x2048 .f32) (a2 : FVec Ideal S2048x11264 .bf16)
    (a3 : FVec Ideal S2x3x5632 .f32) (a4 : FVec Ideal S2x5632 .f32) (a5 : FVec Ideal S5632x2048 .bf16)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5) :
    res_main_v40 m c (ix2 R j) = out a0 a1 a2 a3 a4 a5 R.val j.val := by
  unfold res_main_v40
  rw [h0, h1, h2, h3, h4, h5]
  clear h0 h1 h2 h3 h4 h5
  pointwise []
  unfold out
  refine congrArg₂ (· + ·) (at2_fin a1 R j) (Finset.sum_congr rfl fun x _ => congrArg₂ (· * ·) ?_ (at2_fin a5 x j))
  unfold ff
  refine congrArg₂ (· * ·) (Eq.trans (silu _) (congrArg gate ?_)) ?_
  · unfold gc
    refine congrArg₂ (· + ·) (congrArg₂ (· + ·) (congrArg₂ (· + ·) rfl (congrArg₂ (· * ·) ?_ rfl)) (congrArg₂ (· * ·) ?_ rfl)) (congrArg₂ (· * ·) ?_ rfl)
    · unfold sh
      by_cases h : 2 ≤ R.val
      · rw [dif_pos ⟨h, by omega⟩, if_pos h]
        exact Finset.sum_congr rfl fun k _ => congrArg₂ (· * ·) (at2_eq a0 _ _ _ _) (at2_eq a2 _ _ _ _)
      · rw [dif_neg (fun h' => h h'.1), if_neg h]
        exact zero_word
    · unfold sh
      by_cases h : 1 ≤ R.val
      · rw [dif_pos ⟨by omega, by omega⟩, if_pos h]
        refine Finset.sum_congr rfl fun k _ => congrArg₂ (· * ·) ((at2_eq a0 _ _ _ _).trans ?_) (at2_eq a2 _ _ _ _)
        congr 1; omega
      · rw [dif_neg (fun h' => by omega), if_neg h]
        exact zero_word
    · exact Finset.sum_congr rfl fun k _ => congrArg₂ (· * ·) (at2_fin a0 _ _) (at2_eq a2 _ _ _ _)
  · exact Finset.sum_congr rfl fun k _ => congrArg₂ (· * ·) (at2_fin a0 _ _) (at2_eq a2 _ _ _ _)

end Cert.FRef

end
-- ==== Proof.Ffn.lean ====
/- The feed-forward call: the kernel's claim against the reference. -/
module

public import proofs.«01_k».proof.Defs
public import proofs.«01_k».proof.Proof.FVal
public import proofs.«01_k».proof.Proof.FRef

@[expose] public section

set_option maxRecDepth 16384

noncomputable section

namespace Cert.Ffn

open Idealize.ShloMosaic Idealize.ShloMosaic.TcCoe

/-- The reference runs, keeps its arguments and ends with every counter at zero. -/
theorem frame_r : quiescent_Reference2Ideal (hReference2Ideal := Cert.Reference2Ideal.Gen.facts) := fun m g _ =>
  (θ_run (Cert.Reference2Ideal.defs (F := Ideal)) _ _).mono (fun r h => ⟨fun c => (h c).2,
      Idealize.ShloMosaic.sem_eq_zero_of_no_sems (by decide) r.2⟩)
    (Cert.Reference2Ideal.Value.run (F := Ideal) m g)

/-- The kernel and the reference end with equal results. -/
theorem algebraic : algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Ffn.G7 m c, Cert.Kernel2Ideal.Ffn.run_value m g, ?_⟩
  refine (θ_run _ _ _).mono (fun r h c => ⟨(h c).1.trans ?_, (h c).2⟩) (Cert.Reference2Ideal.Value.run (F := Ideal) m' g')
  obtain ⟨e0, e1, e2, e3, e4, e5⟩ := hagree c
  funext i
  obtain ⟨R, j, rfl⟩ : ∃ (R : Fin 16384) (j : Fin 2048), i = ix2 R j := ⟨_, _, eq_ix2 i⟩
  exact Cert.FRef.ref_val m' c R j _ _ _ _ _ _ e0 e1 e2 e3 e4 e5

end Cert.Ffn

end
-- ==== Proof.ORun.lean ====
/-
  The output-projection kernel's body at one grid point: what it leaves in its three result blocks, as functions of what its windows show it.
-/
module

public import proofs.«01_k».proof.Proof.Gen.Kernel3Ideal.Value
public import Idealize.ShloMosaic.Lib.Pointwise
public import Idealize.ShloMosaic.Lib.Pipeline.ValueKit

@[expose] public section

set_option maxRecDepth 16384
set_option maxHeartbeats 1000000

noncomputable section

namespace Cert.Kernel3Ideal.Oproj

open Idealize.ShloMosaic Idealize.ShloMosaic.TcCoe Cert.Kernel3Ideal Cert.Kernel3Ideal.Gen

/-- The three mixers' values side by side: the stores into the kernel's buffer. -/
def mixL (x1 x2 : S512x512.Idx → EReal) (x3 : S512x1024.Idx → EReal) : List (View.Piece (Elt Ideal) S512x2048 .bf16) :=
  [⟨Rect.unit (s := S512x2048) ![0, 1024] S512x1024.size inb_S512x2048_S512x1024_0_1024, k0_pay4 (F := Ideal) x3⟩,
   ⟨Rect.unit (s := S512x2048) ![0, 512] S512x512.size inb_S512x2048_S512x512_0_512, k0_pay3 (F := Ideal) x2⟩,
   ⟨Rect.unit (s := S512x2048) ![0, 0] S512x512.size inb_S512x2048_S512x512_0_0, k0_pay2 (F := Ideal) x1⟩]

/-- The side-by-side rows as an array. -/
def mixT (x1 x2 : S512x512.Idx → EReal) (x3 : S512x1024.Idx → EReal) : S512x2048.Idx → EReal := View.canon (Val := Elt Ideal) (e := .bf16) (mixL x1 x2 x3)

/-- The sum's stores into the first result's block. -/
def sumL (M x0 : S512x2048.Idx → EReal) (x4 : S2048x2048.Idx → EReal) : List (View.Piece (Elt Ideal) S512x2048 .f32) :=
  [⟨Rect.unit (s := S512x2048) ![0, 1536] S512x512.size inb_S512x2048_S512x512_0_1536,
    k0_pay8 (F := Ideal) M (View.ld (Val := Elt Ideal) (e' := .f32) x0 (Rect.unit ![0, 1536] ![512, 512] inb_S512x2048_S512x512_0_1536)) (View.ld (Val := Elt Ideal) (e' := .bf16) x4 (Rect.unit ![0, 1536] ![2048, 512] inb_S2048x2048_S2048x512_0_1536))⟩,
  ⟨Rect.unit (s := S512x2048) ![0, 1024] S512x512.size inb_S512x2048_S512x512_0_1024,
    k0_pay7 (F := Ideal) M (View.ld (Val := Elt Ideal) (e' := .f32) x0 (Rect.unit ![0, 1024] ![512, 512] inb_S512x2048_S512x512_0_1024)) (View.ld (Val := Elt Ideal) (e' := .bf16) x4 (Rect.unit ![0, 1024] ![2048, 512] inb_S2048x2048_S2048x512_0_1024))⟩,
  ⟨Rect.unit (s := S512x2048) ![0, 512] S512x512.size inb_S512x2048_S512x512_0_512,
    k0_pay6 (F := Ideal) M (View.ld (Val := Elt Ideal) (e' := .f32) x0 (Rect.unit ![0, 512] ![512, 512] inb_S512x2048_S512x512_0_512)) (View.ld (Val := Elt Ideal) (e' := .bf16) x4 (Rect.unit ![0, 512] ![2048, 512] inb_S2048x2048_S2048x512_0_512))⟩,
  ⟨Rect.unit (s := S512x2048) ![0, 0] S512x512.size inb_S512x2048_S512x512_0_0,
    k0_pay5 (F := Ideal) M (View.ld (Val := Elt Ideal) (e' := .f32) x0 (Rect.unit ![0, 0] ![512, 512] inb_S512x2048_S512x512_0_0)) (View.ld (Val := Elt Ideal) (e' := .bf16) x4 (Rect.unit ![0, 0] ![2048, 512] inb_S2048x2048_S2048x512_0_0))⟩]

/-- The first result's block. -/
def sumT (M x0 : S512x2048.Idx → EReal) (x4 : S2048x2048.Idx → EReal) : S512x2048.Idx → EReal := View.canon (Val := Elt Ideal) (e := .f32) (sumL M x0 x4)

theorem mix_cover (x1 x2 : S512x512.Idx → EReal) (x3 : S512x1024.Idx → EReal) : ∀ y, ∃ p ∈ mixL x1 x2 x3, y ∈ p.1.set :=
  View.cover_of_tiledBy _ ![512, 512] (by sl_kernel_rfl)

theorem sum_cover (M x0 : S512x2048.Idx → EReal) (x4 : S2048x2048.Idx → EReal) : ∀ y, ∃ p ∈ sumL M x0 x4, y ∈ p.1.set :=
  View.cover_of_tiledBy _ ![512, 512] (by sl_kernel_rfl)

theorem mix_read (v : View sig .tc .vmem S512x2048 .bf16) (x1 x2 : S512x512.Idx → EReal) (x3 : S512x1024.Idx → EReal) :
    v.readCov (Val := Elt Ideal) (mixL x1 x2 x3) (Rect.unit (s := S512x2048) ![0, 0] ![512, 2048] inb_S512x2048_S512x2048_0_0).toLoadRect = mixT x1 x2 x3 := by
  rw [View.readCov_eq_canon_ld _ _ _ (mix_cover x1 x2 x3)]
  exact View.ld_unit_zero (S := S512x2048) (off := ![0, 0]) (by funext a; fin_cases a <;> rfl) _ _

theorem sum_read (v : View sig .tc .vmem S512x2048 .f32) (M x0 : S512x2048.Idx → EReal) (x4 : S2048x2048.Idx → EReal) :
    v.readCov (Val := Elt Ideal) (sumL M x0 x4) (Rect.unit (s := S512x2048) ![0, 0] ![512, 2048] inb_S512x2048_S512x2048_0_0).toLoadRect = sumT M x0 x4 := by
  rw [View.readCov_eq_canon_ld _ _ _ (sum_cover M x0 x4)]
  exact View.ld_unit_zero (S := S512x2048) (off := ![0, 0]) (by funext a; fin_cases a <;> rfl) _ _

section
variable (c : Dev nD) (i : grid0.Coords) (arg1 : Memref sig .tc .vmem S512x2048 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S2048x2048 .bf16) (harg5 : arg5.IsWhole) (arg6 : Memref sig .tc .vmem S1x1x2048 .f32) (harg6 : arg6.IsWhole) (arg7 : Memref sig .tc .vmem S1x64x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S64x2048 .bf16) (harg10 : arg10.IsWhole) (arg11 : Memref sig .tc .vmem S512x2048 .bf16) (harg11 : arg11.IsWhole)
  (x0 : Vec Ideal S512x2048 .f32) (x1 : Vec Ideal S512x512 .bf16) (x2 : Vec Ideal S512x512 .bf16) (x3 : Vec Ideal S512x1024 .bf16) (x4 : Vec Ideal S2048x2048 .bf16) (x5 : Vec Ideal S1x1x2048 .f32) (x6 : Vec Ideal S1x64x2048 .f32)

/-- The stores into the first result's block. -/
theorem run7 : (kernelRun0_A c i arg1 harg1 arg2 harg2 arg3 harg3 arg4 harg4 arg5 harg5 arg6 harg6 arg7 harg7 arg8 harg8 arg9 harg9 arg10 harg10 arg11 harg11 x0 x1 x2 x3 x4 x5 x6).1 = sumL (mixT x1 x2 x3) x0 x4 := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.ld_unit_zero (S := S512x512) (off := ![0, 0]) (by funext a; fin_cases a <;> rfl),
    View.ld_unit_zero (S := S512x1024) (off := ![0, 0]) (by funext a; fin_cases a <;> rfl),
    View.ld_unit_zero (S := S1x1x2048) (off := ![0, 0, 0]) (by funext a; fin_cases a <;> rfl),
    View.ld_unit_zero (S := S1x64x2048) (off := ![0, 0, 0]) (by funext a; fin_cases a <;> rfl)]
  rw [← mix_read arg11.view x1 x2 x3]
  rfl

/-- The stores into the second result's block. -/
theorem run8 : (kernelRun0_A c i arg1 harg1 arg2 harg2 arg3 harg3 arg4 harg4 arg5 harg5 arg6 harg6 arg7 harg7 arg8 harg8 arg9 harg9 arg10 harg10 arg11 harg11 x0 x1 x2 x3 x4 x5 x6).2.1
    = [⟨Rect.unit (s := S512x2048) ![0, 0] S512x2048.size inb_S512x2048_S512x2048_0_0, k0_pay9 (F := Ideal) (sumT (mixT x1 x2 x3) x0 x4) x5⟩] := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.ld_unit_zero (S := S512x512) (off := ![0, 0]) (by funext a; fin_cases a <;> rfl),
    View.ld_unit_zero (S := S512x1024) (off := ![0, 0]) (by funext a; fin_cases a <;> rfl),
    View.ld_unit_zero (S := S1x1x2048) (off := ![0, 0, 0]) (by funext a; fin_cases a <;> rfl),
    View.ld_unit_zero (S := S1x64x2048) (off := ![0, 0, 0]) (by funext a; fin_cases a <;> rfl)]
  rw [← sum_read arg8.view, ← mix_read arg11.view x1 x2 x3]
  rfl

/-- The store into the third result's block. -/
theorem run9 : (kernelRun0_A c i arg1 harg1 arg2 harg2 arg3 harg3 arg4 harg4 arg5 harg5 arg6 harg6 arg7 harg7 arg8 harg8 arg9 harg9 arg10 harg10 arg11 harg11 x0 x1 x2 x3 x4 x5 x6).2.2.1
    = [⟨Rect.unit (s := S64x2048) ![0, 0] S64x2048.size inb_S64x2048_S64x2048_0_0, k0_pay1 (F := Ideal) x6⟩] := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.ld_unit_zero (S := S512x512) (off := ![0, 0]) (by funext a; fin_cases a <;> rfl),
    View.ld_unit_zero (S := S512x1024) (off := ![0, 0]) (by funext a; fin_cases a <;> rfl),
    View.ld_unit_zero (S := S1x1x2048) (off := ![0, 0, 0]) (by funext a; fin_cases a <;> rfl),
    View.ld_unit_zero (S := S1x64x2048) (off := ![0, 0, 0]) (by funext a; fin_cases a <;> rfl)]

theorem out7 : out0_A_7 c i arg1 harg1 arg2 harg2 arg3 harg3 arg4 harg4 arg5 harg5 arg6 harg6 arg7 harg7 arg8 harg8 arg9 harg9 arg10 harg10 arg11 harg11 x0 x1 x2 x3 x4 x5 x6 = sumT (mixT x1 x2 x3) x0 x4 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6), run7]
  rfl

theorem out8 : out0_A_8 c i arg1 harg1 arg2 harg2 arg3 harg3 arg4 harg4 arg5 harg5 arg6 harg6 arg7 harg7 arg8 harg8 arg9 harg9 arg10 harg10 arg11 harg11 x0 x1 x2 x3 x4 x5 x6 = k0_pay9 (F := Ideal) (sumT (mixT x1 x2 x3) x0 x4) x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6), run8]
  exact View.canon_unit_zero (by funext a; fin_cases a <;> rfl) _ _

theorem out9 : out0_A_9 c i arg1 harg1 arg2 harg2 arg3 harg3 arg4 harg4 arg5 harg5 arg6 harg6 arg7 harg7 arg8 harg8 arg9 harg9 arg10 harg10 arg11 harg11 x0 x1 x2 x3 x4 x5 x6 = k0_pay1 (F := Ideal) x6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6), run9]
  exact View.canon_unit_zero (by funext a; fin_cases a <;> rfl) _ _

end

theorem pay2_val (x : S512x512.Idx → EReal) (r : Fin 512) (k : Fin 512) : k0_pay2 (F := Ideal) x (ix2 r k) = x (ix2 r k) := by
  pointwise [k0_pay2]

theorem pay3_val (x : S512x512.Idx → EReal) (r : Fin 512) (k : Fin 512) : k0_pay3 (F := Ideal) x (ix2 r k) = x (ix2 r k) := by
  pointwise [k0_pay3]

theorem pay4_val (x : S512x1024.Idx → EReal) (r : Fin 512) (k : Fin 1024) : k0_pay4 (F := Ideal) x (ix2 r k) = x (ix2 r k) := by
  pointwise [k0_pay4]

theorem pay5_val (x : S512x2048.Idx → EReal) (h : S512x512.Idx → EReal) (w : S2048x512.Idx → EReal) (r : Fin 512) (k : Fin 512) :
    k0_pay5 (F := Ideal) x h w (ix2 r k) = h (ix2 r k) + ∑ l : Fin 2048, x (ix2 r l) * w (ix2 l k) := by
  pointwise [k0_pay5]

theorem pay6_val (x : S512x2048.Idx → EReal) (h : S512x512.Idx → EReal) (w : S2048x512.Idx → EReal) (r : Fin 512) (k : Fin 512) :
    k0_pay6 (F := Ideal) x h w (ix2 r k) = h (ix2 r k) + ∑ l : Fin 2048, x (ix2 r l) * w (ix2 l k) := by
  pointwise [k0_pay6]

theorem pay7_val (x : S512x2048.Idx → EReal) (h : S512x512.Idx → EReal) (w : S2048x512.Idx → EReal) (r : Fin 512) (k : Fin 512) :
    k0_pay7 (F := Ideal) x h w (ix2 r k) = h (ix2 r k) + ∑ l : Fin 2048, x (ix2 r l) * w (ix2 l k) := by
  pointwise [k0_pay7]

theorem pay8_val (x : S512x2048.Idx → EReal) (h : S512x512.Idx → EReal) (w : S2048x512.Idx → EReal) (r : Fin 512) (k : Fin 512) :
    k0_pay8 (F := Ideal) x h w (ix2 r k) = h (ix2 r k) + ∑ l : Fin 2048, x (ix2 r l) * w (ix2 l k) := by
  pointwise [k0_pay8]

theorem pay1_val (x : S1x64x2048.Idx → EReal) (r : Fin 64) (k : Fin 2048) : k0_pay1 (F := Ideal) x (ix2 r k) = x (ix3 (0 : Fin 1) r k) := by
  pointwise [k0_pay1]

/-- The side-by-side rows, entry by entry. -/
theorem mixT_val (x1 x2 : S512x512.Idx → EReal) (x3 : S512x1024.Idx → EReal) (r : Fin 512) (k : Fin 2048) :
    mixT x1 x2 x3 (ix2 r k) = if h : k.val < 512 then x1 (ix2 r (⟨k.val, h⟩ : Fin 512)) else if h' : k.val < 1024 then x2 (ix2 r (⟨k.val - 512, by omega⟩ : Fin 512))
      else x3 (ix2 r (⟨k.val - 1024, by omega⟩ : Fin 1024)) := by
  refine View.canon_eq_of_allAt _ _ _ (mix_cover x1 x2 x3 _) ?_
  refine View.allAt_cons_unit _ _ _ _ _ ?_ (View.allAt_cons_unit _ _ _ _ _ ?_ (View.allAt_cons_unit _ _ _ _ _ ?_ (View.allAt_nil _ _)))
  · intro z hz
    obtain ⟨r', k', rfl⟩ : ∃ (r' : Fin 512) (k' : Fin 1024), z = ix2 r' k' := ⟨_, _, eq_ix2 z⟩
    have e0 : r.val = 0 + r'.val := hz 0
    have e1 : k.val = 1024 + k'.val := hz 1
    rw [dif_neg (by omega), dif_neg (by omega)]
    refine (pay4_val x3 r' k').trans ?_
    exact congrArg₂ (fun a b => x3 (ix2 a b)) (Fin.ext (by omega)) (Fin.ext (show k'.val = k.val - 1024 by omega))
  · intro z hz
    obtain ⟨r', k', rfl⟩ : ∃ (r' : Fin 512) (k' : Fin 512), z = ix2 r' k' := ⟨_, _, eq_ix2 z⟩
    have e0 : r.val = 0 + r'.val := hz 0
    have e1 : k.val = 512 + k'.val := hz 1
    rw [dif_neg (by omega), dif_pos (by omega)]
    refine (pay3_val x2 r' k').trans ?_
    exact congrArg₂ (fun a b => x2 (ix2 a b)) (Fin.ext (by omega)) (Fin.ext (show k'.val = k.val - 512 by omega))
  · intro z hz
    obtain ⟨r', k', rfl⟩ : ∃ (r' : Fin 512) (k' : Fin 512), z = ix2 r' k' := ⟨_, _, eq_ix2 z⟩
    have e0 : r.val = 0 + r'.val := hz 0
    have e1 : k.val = 0 + k'.val := hz 1
    rw [dif_pos (by omega)]
    refine (pay2_val x1 r' k').trans ?_
    exact congrArg₂ (fun a b => x1 (ix2 a b)) (Fin.ext (by omega)) (Fin.ext (show k'.val = k.val by omega))

/-- Columns of an array read at an offset. -/
theorem ld_cols {n : ℕ} {e : EltTy} (x : (⟨2, ![n, 2048]⟩ : Shape).Idx → Elt Ideal e) (o : ℕ) (inb : ∀ a, (![0, o] : Fin 2 → ℕ) a + (![n, 512] : Fin 2 → ℕ) a ≤ (⟨2, ![n, 2048]⟩ : Shape).size a)
    (r : Fin n) (k : Fin 512) (j : Fin 2048) (h : j.val = o + k.val) :
    View.ld (Val := Elt Ideal) (e' := e) x (Rect.unit (s := ⟨2, ![n, 2048]⟩) ![0, o] ![n, 512] inb) (ix2 r k) = x (ix2 r j) := by
  refine congrArg x ?_
  funext a; apply Fin.ext; fin_cases a
  · show 0 + 1 * r.val = r.val; omega
  · show o + 1 * k.val = j.val; omega

/-- The first result's block, entry by entry. -/
theorem sumT_val (M x0 : S512x2048.Idx → EReal) (x4 : S2048x2048.Idx → EReal) (r : Fin 512) (k : Fin 2048) :
    sumT M x0 x4 (ix2 r k) = x0 (ix2 r k) + ∑ l : Fin 2048, M (ix2 r l) * x4 (ix2 l k) := by
  refine View.canon_eq_of_allAt _ _ _ (sum_cover M x0 x4 _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro z hz
    obtain ⟨r', k', rfl⟩ : ∃ (r' : Fin 512) (k' : Fin 512), z = ix2 r' k' := ⟨_, _, eq_ix2 z⟩
    have e0 : r.val = 0 + r'.val := hz 0
    have e1 : k.val = 1536 + k'.val := hz 1
    obtain rfl : r' = r := Fin.ext (by omega)
    refine (pay8_val M _ _ r' k').trans ?_
    exact congrArg₂ (· + ·) (ld_cols (n := 512) (e := .f32) x0 1536 _ r' k' k e1) (Finset.sum_congr rfl fun l _ => congrArg₂ (· * ·) rfl (ld_cols (n := 2048) (e := .bf16) x4 1536 _ l k' k e1))
  · intro z hz
    obtain ⟨r', k', rfl⟩ : ∃ (r' : Fin 512) (k' : Fin 512), z = ix2 r' k' := ⟨_, _, eq_ix2 z⟩
    have e0 : r.val = 0 + r'.val := hz 0
    have e1 : k.val = 1024 + k'.val := hz 1
    obtain rfl : r' = r := Fin.ext (by omega)
    refine (pay7_val M _ _ r' k').trans ?_
    exact congrArg₂ (· + ·) (ld_cols (n := 512) (e := .f32) x0 1024 _ r' k' k e1) (Finset.sum_congr rfl fun l _ => congrArg₂ (· * ·) rfl (ld_cols (n := 2048) (e := .bf16) x4 1024 _ l k' k e1))
  · intro z hz
    obtain ⟨r', k', rfl⟩ : ∃ (r' : Fin 512) (k' : Fin 512), z = ix2 r' k' := ⟨_, _, eq_ix2 z⟩
    have e0 : r.val = 0 + r'.val := hz 0
    have e1 : k.val = 512 + k'.val := hz 1
    obtain rfl : r' = r := Fin.ext (by omega)
    refine (pay6_val M _ _ r' k').trans ?_
    exact congrArg₂ (· + ·) (ld_cols (n := 512) (e := .f32) x0 512 _ r' k' k e1) (Finset.sum_congr rfl fun l _ => congrArg₂ (· * ·) rfl (ld_cols (n := 2048) (e := .bf16) x4 512 _ l k' k e1))
  · intro z hz
    obtain ⟨r', k', rfl⟩ : ∃ (r' : Fin 512) (k' : Fin 512), z = ix2 r' k' := ⟨_, _, eq_ix2 z⟩
    have e0 : r.val = 0 + r'.val := hz 0
    have e1 : k.val = 0 + k'.val := hz 1
    obtain rfl : r' = r := Fin.ext (by omega)
    refine (pay5_val M _ _ r' k').trans ?_
    exact congrArg₂ (· + ·) (ld_cols (n := 512) (e := .f32) x0 0 _ r' k' k e1) (Finset.sum_congr rfl fun l _ => congrArg₂ (· * ·) rfl (ld_cols (n := 2048) (e := .bf16) x4 0 _ l k' k e1))

/-- The normalised rows of a block. -/
theorem pay9_val (x : S512x2048.Idx → EReal) (w : S1x1x2048.Idx → EReal) (r : Fin 512) (k : Fin 2048) :
    k0_pay9 (F := Ideal) x w (ix2 r k) = x (ix2 r k) * Ideal.rsqrt (Ideal.div (∑ l : Fin 2048, x (ix2 r l) * x (ix2 r l)) (Ideal.ofBits FTy.f32 1157627904#32)
      + Ideal.ofBits FTy.f32 897988541#32) * w (ix3 (0 : Fin 1) (0 : Fin 1) k) := by
  pointwise [k0_pay9]

end Cert.Kernel3Ideal.Oproj

end
-- ==== Proof.ORef.lean ====
/- The output projection's numbers, and the reference's results over them. -/
module

public import proofs.«01_k».proof.Proof.FModel
public import proofs.«01_k».proof.Proof.Gen.Reference3Ideal.Run
public import Idealize.ShloMosaic.Lib.Pointwise

@[expose] public section

set_option maxRecDepth 16384
set_option maxHeartbeats 1000000

noncomputable section

namespace Cert.ORef

open Idealize.ShloMosaic Idealize.ShloMosaic.TcCoe Cert.Reference3Ideal Cert.Reference3Ideal.Gen Cert.FModel

/-- The three mixers' values side by side: row `R`, column `n`. -/
def mix (a1 a2 : S16384x512.Idx → EReal) (a3 : S16384x1024.Idx → EReal) (R n : ℕ) : EReal :=
  if n < 512 then at2 a1 R n else if n < 1024 then at2 a2 R (n - 512) else at2 a3 R (n - 1024)

/-- The layer's rows with the projection added. -/
def sum (a0 : S16384x2048.Idx → EReal) (a1 a2 : S16384x512.Idx → EReal) (a3 : S16384x1024.Idx → EReal) (a4 : S2048x2048.Idx → EReal) (R j : ℕ) : EReal :=
  at2 a0 R j + ∑ n : Fin 2048, mix a1 a2 a3 R n.val * at2 a4 n.val j

/-- The normalised rows. -/
def nrm (a0 : S16384x2048.Idx → EReal) (a1 a2 : S16384x512.Idx → EReal) (a3 : S16384x1024.Idx → EReal) (a4 : S2048x2048.Idx → EReal)
    (a5 : S2x2048.Idx → EReal) (R j : ℕ) : EReal :=
  sum a0 a1 a2 a3 a4 R j * Ideal.rsqrt (Ideal.div (∑ l : Fin 2048, sum a0 a1 a2 a3 a4 R l.val * sum a0 a1 a2 a3 a4 R l.val) (Ideal.ofBits FTy.f32 1157627904#32)
      + Ideal.ofBits FTy.f32 897988541#32) * at2 a5 0 j

variable (a0 : S16384x2048.Idx → EReal) (a1 a2 : S16384x512.Idx → EReal) (a3 : S16384x1024.Idx → EReal) (a4 : S2048x2048.Idx → EReal)
    (a5 : S2x2048.Idx → EReal) (a6 : S2x2048x2048.Idx → EReal)

/-- The reference's sum, as its program writes it. -/
def refSum (a0 : FVec Ideal S16384x2048 .f32) (a1 a2 : FVec Ideal S16384x512 .bf16) (a3 : FVec Ideal S16384x1024 .bf16) (a4 : FVec Ideal S2048x2048 .bf16) : FVec Ideal S16384x2048 .f32 :=
  addf (a0 : FVec Ideal S16384x2048 .f32) (Host.dotGeneral (φ₁ := .f32) (φ₂ := .f32) dot_S16384x2048_S2048x2048_S16384x2048_1_0_0_1_n_n none ((concatenate S16384x2048 1 [⟨S16384x512, ((extf .f32 a1 bitsLt_bf16_f32) : (⟨S16384x512, .f32⟩ : BufTy).Contents (Elt Ideal))⟩, ⟨S16384x512, ((extf .f32 a2 bitsLt_bf16_f32) : (⟨S16384x512, .f32⟩ : BufTy).Contents (Elt Ideal))⟩, ⟨S16384x1024, ((extf .f32 a3 bitsLt_bf16_f32) : (⟨S16384x1024, .f32⟩ : BufTy).Contents (Elt Ideal))⟩] concatenates_S16384x512_S16384x512_S16384x1024_S16384x2048_d1 : (⟨S16384x2048, .f32⟩ : BufTy).Contents (Elt Ideal))) (extf .f32 a4 bitsLt_bf16_f32))

theorem sum_val (R : Fin 16384) (j : Fin 2048) : refSum a0 a1 a2 a3 a4 (ix2 R j) = sum a0 a1 a2 a3 a4 R.val j.val := by
  pointwise [refSum]
  unfold sum
  refine congrArg₂ (· + ·) (at2_fin a0 R j) (Finset.sum_congr rfl fun x _ => congrArg₂ (· * ·) ?_ (at2_fin a4 x j))
  unfold mix
  by_cases h : x.val < 512
  · rw [dif_pos h, if_pos h]
    exact at2_eq a1 _ _ _ _
  · rw [dif_neg h, if_neg h]
    by_cases h' : x.val < 1024
    · rw [dif_pos (by omega), if_pos h']
      exact at2_eq a2 _ _ _ _
    · rw [dif_neg (by omega), if_neg h']
      refine (at2_eq a3 _ _ _ _).trans ?_
      rw [Nat.sub_sub]

/-- The reference's normalised rows over its sum. -/
def refNrm (a5 : FVec Ideal S2x2048 .f32) (o : FVec Ideal S16384x2048 .f32) : FVec Ideal S16384x2048 .bf16 :=
  truncf .bf16 (mulf (mulf o (broadcastInDim S16384x2048 ![0, 1] bcast_S16384x1_S16384x2048_0_1 (Host.rsqrt (addf (Host.divf (broadcastInDim S16384x1 ![0] bcast_S16384_S16384x1_0 (Host.reduceAdd (mulf o o) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] a5 slices_S2x2048_S1x2048_0_0) shapeCasts_S1x2048_S2048)))) bitsLt_bf16_f32

theorem nrm_of (o : S16384x2048.Idx → EReal) (R : Fin 16384) (j : Fin 2048) :
    refNrm a5 o (ix2 R j) = o (ix2 R j) * Ideal.rsqrt (Ideal.div (∑ l : Fin 2048, o (ix2 R l) * o (ix2 R l)) (Ideal.ofBits FTy.f32 1157627904#32)
      + Ideal.ofBits FTy.f32 897988541#32) * a5 (ix2 (0 : Fin 2) j) := by
  pointwise [refNrm]

theorem nrm_val (R : Fin 16384) (j : Fin 2048) : refNrm a5 (refSum a0 a1 a2 a3 a4) (ix2 R j) = nrm a0 a1 a2 a3 a4 a5 R.val j.val := by
  rw [nrm_of]
  simp only [sum_val]
  unfold nrm
  exact congrArg₂ (· * ·) rfl (at2_eq a5 0 j.val (by norm_num) j.isLt)

/-- The reference's cast weights. -/
def refCast (a6 : FVec Ideal S2x2048x2048 .f32) : FVec Ideal S2048x2048 .bf16 :=
  truncf .bf16 (shapeCast _ (extractStridedSlice S1x2048x2048 ![0, 0, 0] a6 slices_S2x2048x2048_S1x2048x2048_0_0_0) shapeCasts_S1x2048x2048_S2048x2048) bitsLt_bf16_f32

theorem cast_val (k j : Fin 2048) : refCast a6 (ix2 k j) = a6 (ix3 (0 : Fin 2) k j) := by
  pointwise [refCast]

end Cert.ORef

end
-- ==== Proof.OVal.lean ====
/- The output-projection kernel's stages over the layer's numbers: its windows, its result arrays and its run. -/
module

public import proofs.«01_k».proof.Proof.ORun
public import proofs.«01_k».proof.Proof.ORef
public import Idealize.ShloMosaic.Lib.Claim
public import Idealize.ShloMosaic.Lib.StableHlo.ReadAt

@[expose] public section

set_option maxRecDepth 16384
set_option maxHeartbeats 1000000

noncomputable section

namespace Cert.Kernel3Ideal.Oproj

open Idealize.ShloMosaic Idealize.ShloMosaic.TcCoe Cert.Kernel3Ideal Cert.Kernel3Ideal.Gen Cert.Kernel3Ideal.Value Cert.FModel

variable (m : (ℓ : Loc nD τ sig) → Buf (Elt Ideal) ℓ) (c : Dev nD)

/-- The arguments of the call. -/
abbrev A0 : FVec Ideal S16384x2048 .f32 := m ((c : Thread nD τ).loc main_arg0)
abbrev A1 : FVec Ideal S16384x512 .bf16 := m ((c : Thread nD τ).loc main_arg1)
abbrev A2 : FVec Ideal S16384x512 .bf16 := m ((c : Thread nD τ).loc main_arg2)
abbrev A3 : FVec Ideal S16384x1024 .bf16 := m ((c : Thread nD τ).loc main_arg3)
abbrev A4 : FVec Ideal S2048x2048 .bf16 := m ((c : Thread nD τ).loc main_arg4)
abbrev A5 : FVec Ideal S2x2048 .f32 := m ((c : Thread nD τ).loc main_arg5)
abbrev A6 : FVec Ideal S2x2048x2048 .f32 := m ((c : Thread nD τ).loc main_arg6)

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, t.val, 0]
    ∧ win0_7.index t = ![t.val, 0] ∧ win0_8.index t = ![t.val, 0] ∧ win0_9.index t = ![t.val, 0] := by decide +kernel

section
variable (t : Fin cfg0.N)

theorem lt_N : t.val < 32 := t.isLt

theorem x0_read (r : Fin 512) (l : Fin 2048) :
    iblk m c 0 t (ix2 r l) = A0 m c (ix2 (⟨512 * t.val + r.val, by have := lt_N t; omega⟩ : Fin 16384) l) := by
  blk_ext [iblk, V_main_arg0, idx t]

theorem x1_read (r : Fin 512) (l : Fin 512) :
    iblk m c 1 t (ix2 r l) = A1 m c (ix2 (⟨512 * t.val + r.val, by have := lt_N t; omega⟩ : Fin 16384) l) := by
  blk_ext [iblk, V_main_arg1, idx t]

theorem x2_read (r : Fin 512) (l : Fin 512) :
    iblk m c 2 t (ix2 r l) = A2 m c (ix2 (⟨512 * t.val + r.val, by have := lt_N t; omega⟩ : Fin 16384) l) := by
  blk_ext [iblk, V_main_arg2, idx t]

theorem x3_read (r : Fin 512) (l : Fin 1024) :
    iblk m c 3 t (ix2 r l) = A3 m c (ix2 (⟨512 * t.val + r.val, by have := lt_N t; omega⟩ : Fin 16384) l) := by
  blk_ext [iblk, V_main_arg3, idx t]

theorem x4_read (k l : Fin 2048) : iblk m c 4 t (ix2 k l) = A4 m c (ix2 k l) := by
  blk_ext [iblk, V_main_arg4, idx t]

theorem x5_read (l : Fin 2048) : iblk m c 5 t (ix3 (0 : Fin 1) (0 : Fin 1) l) = A5 m c (ix2 (0 : Fin 2) l) := by
  have : iblk m c 5 t (ix3 (0 : Fin 1) (0 : Fin 1) l) = V m c main_v0 (ix3 (0 : Fin 2) (0 : Fin 1) l) := by
    blk_ext [iblk, idx t]
  rw [this]
  unfold V
  after_reads_at

theorem x6_read (r : Fin 64) (l : Fin 2048) :
    iblk m c 6 t (ix3 (0 : Fin 1) r l) = A6 m c (ix3 (0 : Fin 2) (⟨64 * t.val + r.val, by have := lt_N t; omega⟩ : Fin 2048) l) := by
  blk_ext [iblk, V_main_arg6, idx t]

/-- The side-by-side rows of a tile. -/
theorem mix_val (r : Fin 512) (k : Fin 2048) :
    mixT (iblk m c 1 t) (iblk m c 2 t) (iblk m c 3 t) (ix2 r k) = Cert.ORef.mix (A1 m c) (A2 m c) (A3 m c) (512 * t.val + r.val) k.val := by
  rw [mixT_val]
  unfold Cert.ORef.mix
  split
  · exact (x1_read m c t r _).trans (at2_eq _ _ _ _ _)
  · split
    · exact (x2_read m c t r _).trans (at2_eq _ _ _ _ _)
    · exact (x3_read m c t r _).trans (at2_eq _ _ _ _ _)

/-- The sum's rows of a tile. -/
theorem sum_tile (r : Fin 512) (k : Fin 2048) :
    sumT (mixT (iblk m c 1 t) (iblk m c 2 t) (iblk m c 3 t)) (iblk m c 0 t) (iblk m c 4 t) (ix2 r k)
      = Cert.ORef.sum (A0 m c) (A1 m c) (A2 m c) (A3 m c) (A4 m c) (512 * t.val + r.val) k.val := by
  refine (sumT_val _ _ _ r k).trans ?_
  unfold Cert.ORef.sum
  exact congrArg₂ (· + ·) ((x0_read m c t r k).trans (at2_eq _ _ _ _ k.isLt))
    (Finset.sum_congr rfl fun l _ => congrArg₂ (· * ·) (mix_val m c t r l) ((x4_read m c t l k).trans (at2_fin _ _ _)))

end

/-- The three results on a device, whole. -/
def G7 : Buf (Elt Ideal) ((c : Thread nD τ).loc main_v1_0) := fun i =>
  Cert.ORef.sum (A0 m c) (A1 m c) (A2 m c) (A3 m c) (A4 m c) (i 0).val (i 1).val
def G8 : Buf (Elt Ideal) ((c : Thread nD τ).loc main_v1_1) := fun i =>
  Cert.ORef.nrm (A0 m c) (A1 m c) (A2 m c) (A3 m c) (A4 m c) (A5 m c) (i 0).val (i 1).val
def G9 : Buf (Elt Ideal) ((c : Thread nD τ).loc main_v1_2) := fun i =>
  A6 m c (ix3 (0 : Fin 2) (i 0 : Fin 2048) (i 1 : Fin 2048))

/-- The arrays the pipeline leaves. -/
theorem final7 : (dats (F := Ideal) m 0 c).arrAt 7 cfg0.N = G7 m c := by
  refine (dats (F := Ideal) m 0 c).arrAt_eq_of_covers 7 _ (by decide +kernel) fun t hf y => ?_
  obtain ⟨-, -, -, -, -, -, -, e, -, -⟩ := idx t
  blk_simp
  rw [after0_7]
  unfold outsAt0
  dsimp only
  rw [out7]
  obtain ⟨r, k, rfl⟩ : ∃ (r : Fin 512) (k : Fin 2048), y = ix2 r k := ⟨_, _, eq_ix2 y⟩
  refine (sum_tile m c t r k).trans ?_
  have b0 : ((win0_7.blk t).view.emb (ix2 r k) 0).val = win0_7.index t (0 : Fin 2) * 512 + 1 * r.val := rfl
  have b1 : ((win0_7.blk t).view.emb (ix2 r k) 1).val = win0_7.index t (1 : Fin 2) * 2048 + 1 * k.val := rfl
  have e0 : win0_7.index t (0 : Fin 2) = t.val := congrFun e 0
  have e1 : win0_7.index t (1 : Fin 2) = 0 := congrFun e 1
  unfold G7
  rw [b0, b1, e0, e1]
  congr 1 <;> omega

theorem final8 : (dats (F := Ideal) m 0 c).arrAt 8 cfg0.N = G8 m c := by
  refine (dats (F := Ideal) m 0 c).arrAt_eq_of_covers 8 _ (by decide +kernel) fun t hf y => ?_
  obtain ⟨-, -, -, -, -, -, -, -, e, -⟩ := idx t
  blk_simp
  rw [after0_8]
  unfold outsAt0
  dsimp only
  rw [out8]
  obtain ⟨r, k, rfl⟩ : ∃ (r : Fin 512) (k : Fin 2048), y = ix2 r k := ⟨_, _, eq_ix2 y⟩
  refine (pay9_val _ _ r k).trans ?_
  have b0 : ((win0_8.blk t).view.emb (ix2 r k) 0).val = win0_8.index t (0 : Fin 2) * 512 + 1 * r.val := rfl
  have b1 : ((win0_8.blk t).view.emb (ix2 r k) 1).val = win0_8.index t (1 : Fin 2) * 2048 + 1 * k.val := rfl
  have e0 : win0_8.index t (0 : Fin 2) = t.val := congrFun e 0
  have e1 : win0_8.index t (1 : Fin 2) = 0 := congrFun e 1
  unfold G8
  rw [b0, b1, e0, e1, show t.val * 512 + 1 * r.val = 512 * t.val + r.val by omega, show 0 * 2048 + 1 * k.val = k.val by omega]
  unfold Cert.ORef.nrm
  refine congrArg₂ (· * ·) (congrArg₂ (· * ·) (sum_tile m c t r k) (congrArg Ideal.rsqrt (congrArg₂ (· + ·) (congrArg₂ Ideal.div ?_ rfl) rfl)))
    ((x5_read m c t k).trans (at2_eq (A5 m c) 0 k.val (by norm_num) k.isLt))
  exact Finset.sum_congr rfl fun l _ => congrArg₂ (· * ·) (sum_tile m c t r l) (sum_tile m c t r l)

theorem final9 : (dats (F := Ideal) m 0 c).arrAt 9 cfg0.N = G9 m c := by
  refine (dats (F := Ideal) m 0 c).arrAt_eq_of_covers 9 _ (by decide +kernel) fun t hf y => ?_
  obtain ⟨-, -, -, -, -, -, -, -, -, e⟩ := idx t
  blk_simp
  rw [after0_9]
  unfold outsAt0
  dsimp only
  rw [out9]
  obtain ⟨r, k, rfl⟩ : ∃ (r : Fin 64) (k : Fin 2048), y = ix2 r k := ⟨_, _, eq_ix2 y⟩
  refine (pay1_val _ r k).trans ((x6_read m c t r k).trans ?_)
  have b0 : ((win0_9.blk t).view.emb (ix2 r k) 0).val = win0_9.index t (0 : Fin 2) * 64 + 1 * r.val := rfl
  have b1 : ((win0_9.blk t).view.emb (ix2 r k) 1).val = win0_9.index t (1 : Fin 2) * 2048 + 1 * k.val := rfl
  have e0 : win0_9.index t (0 : Fin 2) = t.val := congrFun e 0
  have e1 : win0_9.index t (1 : Fin 2) = 0 := congrFun e 1
  rw [e0] at b0
  rw [e1] at b1
  unfold G9
  exact congrArg₂ (fun a b => A6 m c (ix3 (0 : Fin 2) a b)) (Fin.ext (by rw [b0]; show 64 * t.val + r.val = _; omega)) (Fin.ext (by rw [b1]; omega))

/-- The run: the result buffers end holding the layer's results, every argument as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v1_0) = G7 m c
      ∧ r.2.mem ((c.tc : Thread nD τ).loc main_v1_1) = G8 m c
      ∧ r.2.mem ((c.tc : Thread nD τ).loc main_v1_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final7 m c), (h c).2.1.trans (final8 m c), (h c).2.2.1.trans (final9 m c), (h c).2.2.2⟩)
    (run_blocks (F := Ideal) m ρ)

end Cert.Kernel3Ideal.Oproj

end
-- ==== Proof.Oproj.lean ====
/- The output-projection call: the kernel's claim against the reference. -/
module

public import proofs.«01_k».proof.Defs
public import proofs.«01_k».proof.Proof.OVal

@[expose] public section

set_option maxRecDepth 16384

noncomputable section

namespace Cert.Oproj

open Idealize.ShloMosaic Idealize.ShloMosaic.TcCoe

/-- The reference runs, keeps its arguments and ends with every counter at zero. -/
theorem frame_r : quiescent_Reference3Ideal (hReference3Ideal := Cert.Reference3Ideal.Gen.facts) := fun m g _ =>
  (θ_run (Cert.Reference3Ideal.defs (F := Ideal)) _ _).mono (fun r h => ⟨fun c => (h c).2.2.2,
      Idealize.ShloMosaic.sem_eq_zero_of_no_sems (by decide) r.2⟩)
    (Cert.Reference3Ideal.Value.run (F := Ideal) m g)

/-- The kernel and the reference end with equal results. -/
theorem algebraic : algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Oproj.G7 m c, fun c => Cert.Kernel3Ideal.Oproj.G8 m c, fun c => Cert.Kernel3Ideal.Oproj.G9 m c,
    Cert.Kernel3Ideal.Oproj.run_value m g, ?_⟩
  refine (θ_run _ _ _).mono (fun r h c => ⟨(h c).1.trans ?_, (h c).2.1.trans ?_, (h c).2.2.1.trans ?_, (h c).2.2.2⟩) (Cert.Reference3Ideal.Value.run (F := Ideal) m' g')
  · obtain ⟨e0, e1, e2, e3, e4, e5, e6⟩ := hagree c
    rw [e0, e1, e2, e3, e4]
    funext i
    obtain ⟨R, j, rfl⟩ : ∃ (R : Fin 16384) (j : Fin 2048), i = ix2 R j := ⟨_, _, eq_ix2 i⟩
    exact Cert.ORef.sum_val _ _ _ _ _ R j
  · obtain ⟨e0, e1, e2, e3, e4, e5, e6⟩ := hagree c
    rw [e0, e1, e2, e3, e4, e5]
    funext i
    obtain ⟨R, j, rfl⟩ : ∃ (R : Fin 16384) (j : Fin 2048), i = ix2 R j := ⟨_, _, eq_ix2 i⟩
    exact Cert.ORef.nrm_val _ _ _ _ _ _ R j
  · obtain ⟨e0, e1, e2, e3, e4, e5, e6⟩ := hagree c
    rw [e6]
    funext i
    obtain ⟨k, j, rfl⟩ : ∃ (k j : Fin 2048), i = ix2 k j := ⟨_, _, eq_ix2 i⟩
    exact Cert.ORef.cast_val _ k j

end Cert.Oproj

end
-- ==== Proof.IRef.lean ====
/- The input projection's numbers, and the reference's results over them. -/
module

public import proofs.«01_k».proof.Proof.FModel
public import proofs.«01_k».proof.Proof.Reals
public import proofs.«01_k».proof.Proof.Gen.Reference4Ideal.Run
public import Idealize.ShloMosaic.Lib.Pointwise

@[expose] public section

set_option maxRecDepth 16384
set_option maxHeartbeats 1000000

noncomputable section

namespace Cert.IRef

open Idealize.ShloMosaic Idealize.ShloMosaic.TcCoe Cert.Reference4Ideal Cert.Reference4Ideal.Gen Cert.Reference4Ideal.Value Cert.FModel Cert.Reals

/-- The sum of squares of a row. -/
def sq (a0 : S16384x2048.Idx → EReal) (R : ℕ) : EReal := ∑ l : Fin 2048, at2 a0 R l.val * at2 a0 R l.val

/-- The scale of a row. -/
def rho (a0 : S16384x2048.Idx → EReal) (R : ℕ) : EReal :=
  Ideal.rsqrt (Ideal.div (sq a0 R) (Ideal.ofBits FTy.f32 1157627904#32) + Ideal.ofBits FTy.f32 897988541#32)

/-- The column of the weights that a column of the result comes from: the low rank columns are put behind the gate's, and the first of
    the gate's fill up the last tile of columns. -/
def src (j : ℕ) : ℕ := if j < 3072 then j else if j < 4096 then j + 16 else j - 1024

theorem src_lt {j : ℕ} (h : j < 4224) : src j < 4112 := by unfold src; split <;> (try split) <;> omega

/-- The projected rows: row `R`, column `j` of the weights. -/
def prj (a0 : S16384x2048.Idx → EReal) (a1 : S2x2048.Idx → EReal) (a2 : S2x2048x4112.Idx → EReal) (R : ℕ) (j : Fin 4112) : EReal :=
  ∑ l : Fin 2048, at2 a0 R l.val * rho a0 R * a1 (ix2 (0 : Fin 2) l) * a2 (ix3 (0 : Fin 2) l j)

/-- The product, as the reference's program writes it. -/
def refZ (a0 : FVec Ideal S16384x2048 .f32) (a1 : FVec Ideal S2x2048 .f32) (a2 : FVec Ideal S2x2048x4112 .f32) : FVec Ideal S16384x4112 .f32 :=
  Host.dotGeneral (φ₁ := .f32) (φ₂ := .f32) dot_S16384x2048_S2048x4112_S16384x4112_1_0_0_1_n_n none
              (mulf
                (mulf a0
                  (broadcastInDim S16384x2048 ![0, 1] bcast_S16384x1_S16384x2048_0_1
                    (Host.rsqrt
                      (addf
                        (Host.divf
                          (broadcastInDim S16384x1 ![0] bcast_S16384_S16384x1_0
                            (Host.reduceAdd (mulf a0 a0) (constant S_ FTy.f32 0#32) reducesTo_S16384x2048_S16384_d1
                              h_S_))
                          (broadcastInDim S16384x1 ![] bcast_S_S16384x1 (constant S_ FTy.f32 1157627904#32)))
                        (broadcastInDim S16384x1 ![] bcast_S_S16384x1 (constant S_ FTy.f32 897988541#32))))))
                (broadcastInDim S16384x2048 ![0, 1] bcast_S1x2048_S16384x2048_0_1
                  (broadcastInDim S1x2048 ![1] bcast_S2048_S1x2048_1
                    (shapeCast S2048 (extractStridedSlice S1x2048 ![0, 0] a1 slices_S2x2048_S1x2048_0_0)
                      shapeCasts_S1x2048_S2048))))
              (shapeCast S2048x4112
                (extractStridedSlice S1x2048x4112 ![0, 0, 0] a2 slices_S2x2048x4112_S1x2048x4112_0_0_0)
                shapeCasts_S1x2048x4112_S2048x4112)

/-- The product's columns laid out as the call hands them over. -/
def refCat (P : FVec Ideal S16384x4112 .f32) : FVec Ideal S16384x4224 .f32 :=
  concatenate S16384x4224 1 [⟨S16384x3072, extractStridedSlice S16384x3072 ![0, 0] P slices_S16384x4112_S16384x3072_0_0⟩,
    ⟨S16384x1024, extractStridedSlice S16384x1024 ![0, 3088] P slices_S16384x4112_S16384x1024_0_3088⟩,
    ⟨S16384x16, extractStridedSlice S16384x16 ![0, 3072] P slices_S16384x4112_S16384x16_0_3072⟩,
    ⟨S16384x112, extractStridedSlice S16384x112 ![0, 0] (extractStridedSlice S16384x1024 ![0, 3088] P slices_S16384x4112_S16384x1024_0_3088) slices_S16384x1024_S16384x112_0_0⟩]
    concatenates_S16384x3072_S16384x1024_S16384x16_S16384x112_S16384x4224_d1

theorem refCat_val (P : S16384x4112.Idx → EReal) (R : Fin 16384) (j : Fin 4224) :
    refCat P (ix2 R j) = P (ix2 R (⟨src j.val, src_lt j.isLt⟩ : Fin 4112)) := by
  pointwise [refCat]
  have key : ∀ (n : ℕ) (h : n < 4112), n = src j.val → P (ix2 R (⟨n, h⟩ : Fin 4112)) = P (ix2 R (⟨src j.val, src_lt j.isLt⟩ : Fin 4112)) := by
    intro n h e
    subst e
    rfl
  split_ifs <;> exact key _ _ (by unfold src; split_ifs <;> omega)

theorem refZ_val (a0 : S16384x2048.Idx → EReal) (a1 : S2x2048.Idx → EReal) (a2 : S2x2048x4112.Idx → EReal) (R : Fin 16384) (j : Fin 4112) :
    refZ a0 a1 a2 (ix2 R j) = prj a0 a1 a2 R.val j := by
  pointwise [refZ]
  unfold prj rho sq
  simp only [at2_fin]

variable (m : (ℓ : Loc nD τ sig) → Buf (Elt Ideal) ℓ) (c : Dev nD)

theorem res_eq : res_main_v22 m c = refCat (refZ (m ((c.tc : Thread nD τ).loc main_arg0)) (m ((c.tc : Thread nD τ).loc main_arg1)) (m ((c.tc : Thread nD τ).loc main_arg2))) := by
  unfold res_main_v22
  rfl

/-- The reference's cast weights. -/
def refCast8 (a3 : FVec Ideal S2x5632x2048 .f32) : FVec Ideal S5632x2048 .bf16 :=
  truncf .bf16 (shapeCast _ (extractStridedSlice S1x5632x2048 ![0, 0, 0] a3 slices_S2x5632x2048_S1x5632x2048_0_0_0) shapeCasts_S1x5632x2048_S5632x2048) bitsLt_bf16_f32
def refCast9 (a4 : FVec Ideal S2x2048x2048 .f32) : FVec Ideal S2048x2048 .bf16 :=
  truncf .bf16 (shapeCast _ (extractStridedSlice S1x2048x2048 ![0, 0, 0] a4 slices_S2x2048x2048_S1x2048x2048_0_0_0) shapeCasts_S1x2048x2048_S2048x2048) bitsLt_bf16_f32

theorem cast8_val (a3 : S2x5632x2048.Idx → EReal) (k : Fin 5632) (j : Fin 2048) : refCast8 a3 (ix2 k j) = a3 (ix3 (0 : Fin 2) k j) := by
  pointwise [refCast8]

theorem cast9_val (a4 : S2x2048x2048.Idx → EReal) (k j : Fin 2048) : refCast9 a4 (ix2 k j) = a4 (ix3 (0 : Fin 2) k j) := by
  pointwise [refCast9]

/-! The scale is a real number, not negative, whatever the row holds. -/

theorem lit_2048 : Ideal.ofBits .f32 1157627904#32 = ((2048 : ℝ) : EReal) := by
  simp [Ideal.ofBits, Ideal.ieee, -EReal.coe_mul]; norm_num
theorem lit_inv : Ideal.ofBits .f32 973078528#32 = ((2048⁻¹ : ℝ) : EReal) := by
  simp [Ideal.ofBits, Ideal.ieee, -EReal.coe_mul]; norm_num
theorem lit_eps' : Ideal.ofBits .f32 897988541#32 = ((eps : ℝ) : EReal) := lit_eps

theorem sq_nonneg' (x : EReal) : 0 ≤ x * x := by
  induction x with
  | bot => simp
  | top => simp
  | coe r => rw [← EReal.coe_mul]; exact EReal.coe_nonneg.mpr (mul_self_nonneg r)

theorem div_2048 (x : EReal) : Ideal.div x (Ideal.ofBits FTy.f32 1157627904#32) = x * Ideal.ofBits FTy.f32 973078528#32 := by
  rw [lit_2048, lit_inv, EReal.coe_inv]
  unfold Ideal.div
  rw [if_neg]
  exact fun h => by simpa using (EReal.coe_eq_zero.mp h)

/-- The kernel's scale of a row. -/
theorem rho_eq (a0 : S16384x2048.Idx → EReal) (R : ℕ) :
    rho a0 R = Ideal.rsqrt (sq a0 R * Ideal.ofBits FTy.f32 973078528#32 + Ideal.ofBits FTy.f32 897988541#32) := by
  unfold rho
  rw [div_2048]

theorem rho_real (a0 : S16384x2048.Idx → EReal) (R : ℕ) : ∃ r : ℝ, 0 ≤ r ∧ rho a0 R = (r : EReal) := by
  have hs : 0 ≤ sq a0 R := Finset.sum_nonneg fun l _ => sq_nonneg' _
  rw [rho_eq, lit_inv, lit_eps']
  induction h : sq a0 R with
  | bot => rw [h] at hs; simp at hs
  | top =>
    refine ⟨0, le_refl _, ?_⟩
    rw [EReal.top_mul_coe_of_pos (by norm_num), EReal.top_add_coe]
    rfl
  | coe s =>
    rw [h] at hs
    have hs' : 0 ≤ s := EReal.coe_nonneg.mp hs
    have hp : 0 < s * 2048⁻¹ + eps := add_pos_of_nonneg_of_pos (by positivity) eps_pos
    refine ⟨(Real.sqrt (s * 2048⁻¹ + eps))⁻¹, by positivity, ?_⟩
    rw [← EReal.coe_mul, ← EReal.coe_add]
    exact rsqrt_pos hp

theorem mul_sum' {ι : Type*} (s : Finset ι) (f : ι → EReal) (r : ℝ) (h : 0 ≤ r) : (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr h) (EReal.coe_ne_top r) _ _

/-- Scaling after the product is scaling before it. -/
theorem prj_eq (a0 : S16384x2048.Idx → EReal) (a1 : S2x2048.Idx → EReal) (a2 : S2x2048x4112.Idx → EReal) (R : ℕ) (j : Fin 4112) :
    rho a0 R * ∑ l : Fin 2048, at2 a0 R l.val * a1 (ix2 (0 : Fin 2) l) * a2 (ix3 (0 : Fin 2) l j) = prj a0 a1 a2 R j := by
  obtain ⟨r, h, e⟩ := rho_real a0 R
  unfold prj
  rw [e, mul_sum' _ _ r h]
  refine Finset.sum_congr rfl fun l _ => ?_
  rw [← mul_assoc, ← mul_assoc, mul_comm (r : EReal)]

/-- A row's sum, taken as eight interleaved parts. -/
theorem sum_parts (g : ℕ → EReal) :
    (∑ x : Fin 256, (g x.val + g (256 + x.val) + g (512 + x.val) + g (768 + x.val) + g (1024 + x.val) + g (1280 + x.val) + g (1536 + x.val) + g (1792 + x.val)))
      = ∑ l : Fin 2048, g l.val := by
  have e7 : (∑ x ∈ Finset.range 2048, g x) = _ := Finset.sum_range_add g 1792 256
  have e6 : (∑ x ∈ Finset.range 1792, g x) = _ := Finset.sum_range_add g 1536 256
  have e5 : (∑ x ∈ Finset.range 1536, g x) = _ := Finset.sum_range_add g 1280 256
  have e4 : (∑ x ∈ Finset.range 1280, g x) = _ := Finset.sum_range_add g 1024 256
  have e3 : (∑ x ∈ Finset.range 1024, g x) = _ := Finset.sum_range_add g 768 256
  have e2 : (∑ x ∈ Finset.range 768, g x) = _ := Finset.sum_range_add g 512 256
  have e1 : (∑ x ∈ Finset.range 512, g x) = _ := Finset.sum_range_add g 256 256
  rw [Fin.sum_univ_eq_sum_range g 2048, e7, e6, e5, e4, e3, e2, e1]
  simp only [Finset.sum_add_distrib]
  rw [Fin.sum_univ_eq_sum_range g 256, Fin.sum_univ_eq_sum_range (fun x => g (256 + x)) 256, Fin.sum_univ_eq_sum_range (fun x => g (512 + x)) 256,
    Fin.sum_univ_eq_sum_range (fun x => g (768 + x)) 256, Fin.sum_univ_eq_sum_range (fun x => g (1024 + x)) 256,
    Fin.sum_univ_eq_sum_range (fun x => g (1280 + x)) 256, Fin.sum_univ_eq_sum_range (fun x => g (1536 + x)) 256,
    Fin.sum_univ_eq_sum_range (fun x => g (1792 + x)) 256]

end Cert.IRef

end
-- ==== Proof.IRun.lean ====
/-
  The input-projection kernel's body at one grid point: what it leaves in its three result blocks, as functions of what its windows show it.
-/
module

public import proofs.«01_k».proof.Proof.Gen.Kernel4Ideal.Value
public import proofs.«01_k».proof.Proof.IRef
public import Idealize.ShloMosaic.Lib.Pointwise
public import Idealize.ShloMosaic.Lib.Pipeline.ValueKit

@[expose] public section

set_option maxRecDepth 16384
set_option maxHeartbeats 1000000

noncomputable section

namespace Cert.Kernel4Ideal.Iproj

open Idealize.ShloMosaic Idealize.ShloMosaic.TcCoe Cert.Kernel4Ideal Cert.Kernel4Ideal.Gen

/-- The weighted rows: the stores into the kernel's buffer. -/
def rowL (x0 : S512x2048.Idx → EReal) (x1 : S1x1x2048.Idx → EReal) : List (View.Piece (Elt Ideal) S512x2048 .bf16) :=
  [⟨Rect.unit (s := S512x2048) ![0, 1792] S512x256.size inb_S512x2048_S512x256_0_1792, k0_pay12 (F := Ideal) (View.ld (Val := Elt Ideal) (e' := .f32) x0 (Rect.unit (s := S512x2048) ![0, 1792] ![512, 256] inb_S512x2048_S512x256_0_1792)) (View.ld (Val := Elt Ideal) (e' := .f32) x1 (Rect.unit (s := S1x1x2048) ![0, 0, 1792] ![1, 1, 256] inb_S1x1x2048_S1x1x256_0_0_1792))⟩,
   ⟨Rect.unit (s := S512x2048) ![0, 1536] S512x256.size inb_S512x2048_S512x256_0_1536, k0_pay11 (F := Ideal) (View.ld (Val := Elt Ideal) (e' := .f32) x0 (Rect.unit (s := S512x2048) ![0, 1536] ![512, 256] inb_S512x2048_S512x256_0_1536)) (View.ld (Val := Elt Ideal) (e' := .f32) x1 (Rect.unit (s := S1x1x2048) ![0, 0, 1536] ![1, 1, 256] inb_S1x1x2048_S1x1x256_0_0_1536))⟩,
   ⟨Rect.unit (s := S512x2048) ![0, 1280] S512x256.size inb_S512x2048_S512x256_0_1280, k0_pay10 (F := Ideal) (View.ld (Val := Elt Ideal) (e' := .f32) x0 (Rect.unit (s := S512x2048) ![0, 1280] ![512, 256] inb_S512x2048_S512x256_0_1280)) (View.ld (Val := Elt Ideal) (e' := .f32) x1 (Rect.unit (s := S1x1x2048) ![0, 0, 1280] ![1, 1, 256] inb_S1x1x2048_S1x1x256_0_0_1280))⟩,
   ⟨Rect.unit (s := S512x2048) ![0, 1024] S512x256.size inb_S512x2048_S512x256_0_1024, k0_pay8 (F := Ideal) (View.ld (Val := Elt Ideal) (e' := .f32) x0 (Rect.unit (s := S512x2048) ![0, 1024] ![512, 256] inb_S512x2048_S512x256_0_1024)) (View.ld (Val := Elt Ideal) (e' := .f32) x1 (Rect.unit (s := S1x1x2048) ![0, 0, 1024] ![1, 1, 256] inb_S1x1x2048_S1x1x256_0_0_1024))⟩,
   ⟨Rect.unit (s := S512x2048) ![0, 768] S512x256.size inb_S512x2048_S512x256_0_768, k0_pay7 (F := Ideal) (View.ld (Val := Elt Ideal) (e' := .f32) x0 (Rect.unit (s := S512x2048) ![0, 768] ![512, 256] inb_S512x2048_S512x256_0_768)) (View.ld (Val := Elt Ideal) (e' := .f32) x1 (Rect.unit (s := S1x1x2048) ![0, 0, 768] ![1, 1, 256] inb_S1x1x2048_S1x1x256_0_0_768))⟩,
   ⟨Rect.unit (s := S512x2048) ![0, 512] S512x256.size inb_S512x2048_S512x256_0_512, k0_pay6 (F := Ideal) (View.ld (Val := Elt Ideal) (e' := .f32) x0 (Rect.unit (s := S512x2048) ![0, 512] ![512, 256] inb_S512x2048_S512x256_0_512)) (View.ld (Val := Elt Ideal) (e' := .f32) x1 (Rect.unit (s := S1x1x2048) ![0, 0, 512] ![1, 1, 256] inb_S1x1x2048_S1x1x256_0_0_512))⟩,
   ⟨Rect.unit (s := S512x2048) ![0, 256] S512x256.size inb_S512x2048_S512x256_0_256, k0_pay4 (F := Ideal) (View.ld (Val := Elt Ideal) (e' := .f32) x0 (Rect.unit (s := S512x2048) ![0, 256] ![512, 256] inb_S512x2048_S512x256_0_256)) (View.ld (Val := Elt Ideal) (e' := .f32) x1 (Rect.unit (s := S1x1x2048) ![0, 0, 256] ![1, 1, 256] inb_S1x1x2048_S1x1x256_0_0_256))⟩,
   ⟨Rect.unit (s := S512x2048) ![0, 0] S512x256.size inb_S512x2048_S512x256_0_0, k0_pay3 (F := Ideal) (View.ld (Val := Elt Ideal) (e' := .f32) x0 (Rect.unit (s := S512x2048) ![0, 0] ![512, 256] inb_S512x2048_S512x256_0_0)) (View.ld (Val := Elt Ideal) (e' := .f32) x1 (Rect.unit (s := S1x1x2048) ![0, 0, 0] ![1, 1, 256] inb_S1x1x2048_S1x1x256_0_0_0))⟩]

/-- The weighted rows as an array. -/
def rowT (x0 : S512x2048.Idx → EReal) (x1 : S1x1x2048.Idx → EReal) : S512x2048.Idx → EReal := View.canon (Val := Elt Ideal) (e := .bf16) (rowL x0 x1)

/-- The mean square of each row. -/
def ms (x0 : S512x2048.Idx → EReal) : S512x1.Idx → EReal :=
  k0_pay13 (F := Ideal) (k0_pay9 (F := Ideal) (k0_pay5 (F := Ideal) (View.ld (Val := Elt Ideal) (e' := .f32) x0 (Rect.unit (s := S512x2048) ![0, 0] ![512, 256] inb_S512x2048_S512x256_0_0)) (View.ld (Val := Elt Ideal) (e' := .f32) x0 (Rect.unit (s := S512x2048) ![0, 256] ![512, 256] inb_S512x2048_S512x256_0_256))) (View.ld (Val := Elt Ideal) (e' := .f32) x0 (Rect.unit (s := S512x2048) ![0, 512] ![512, 256] inb_S512x2048_S512x256_0_512)) (View.ld (Val := Elt Ideal) (e' := .f32) x0 (Rect.unit (s := S512x2048) ![0, 768] ![512, 256] inb_S512x2048_S512x256_0_768)) (View.ld (Val := Elt Ideal) (e' := .f32) x0 (Rect.unit (s := S512x2048) ![0, 1024] ![512, 256] inb_S512x2048_S512x256_0_1024))) (View.ld (Val := Elt Ideal) (e' := .f32) x0 (Rect.unit (s := S512x2048) ![0, 1280] ![512, 256] inb_S512x2048_S512x256_0_1280)) (View.ld (Val := Elt Ideal) (e' := .f32) x0 (Rect.unit (s := S512x2048) ![0, 1536] ![512, 256] inb_S512x2048_S512x256_0_1536)) (View.ld (Val := Elt Ideal) (e' := .f32) x0 (Rect.unit (s := S512x2048) ![0, 1792] ![512, 256] inb_S512x2048_S512x256_0_1792))

/-- The stores into the first result's block. -/
def zL (s : S512x1.Idx → EReal) (M : S512x2048.Idx → EReal) (x2 : S1x2048x4112.Idx → EReal) : List (View.Piece (Elt Ideal) S512x4224 .f32) :=
  [⟨Rect.unit (s := S512x4224) ![0, 2560] S512x512.size inb_S512x4224_S512x512_0_2560, k0_pay26 (F := Ideal) (k0_pay15 s k0_pay14) M (View.ld (Val := Elt Ideal) (e' := .bf16) x2 (Rect.unit (s := S1x2048x4112) ![0, 0, 2560] ![1, 2048, 512] inb_S1x2048x4112_S1x2048x512_0_0_2560))⟩,
   ⟨Rect.unit (s := S512x4224) ![0, 2048] S512x512.size inb_S512x4224_S512x512_0_2048, k0_pay25 (F := Ideal) (k0_pay15 s k0_pay14) M (View.ld (Val := Elt Ideal) (e' := .bf16) x2 (Rect.unit (s := S1x2048x4112) ![0, 0, 2048] ![1, 2048, 512] inb_S1x2048x4112_S1x2048x512_0_0_2048))⟩,
   ⟨Rect.unit (s := S512x4224) ![0, 1536] S512x512.size inb_S512x4224_S512x512_0_1536, k0_pay24 (F := Ideal) (k0_pay15 s k0_pay14) M (View.ld (Val := Elt Ideal) (e' := .bf16) x2 (Rect.unit (s := S1x2048x4112) ![0, 0, 1536] ![1, 2048, 512] inb_S1x2048x4112_S1x2048x512_0_0_1536))⟩,
   ⟨Rect.unit (s := S512x4224) ![0, 1024] S512x512.size inb_S512x4224_S512x512_0_1024, k0_pay23 (F := Ideal) (k0_pay15 s k0_pay14) M (View.ld (Val := Elt Ideal) (e' := .bf16) x2 (Rect.unit (s := S1x2048x4112) ![0, 0, 1024] ![1, 2048, 512] inb_S1x2048x4112_S1x2048x512_0_0_1024))⟩,
   ⟨Rect.unit (s := S512x4224) ![0, 512] S512x512.size inb_S512x4224_S512x512_0_512, k0_pay22 (F := Ideal) (k0_pay15 s k0_pay14) M (View.ld (Val := Elt Ideal) (e' := .bf16) x2 (Rect.unit (s := S1x2048x4112) ![0, 0, 512] ![1, 2048, 512] inb_S1x2048x4112_S1x2048x512_0_0_512))⟩,
   ⟨Rect.unit (s := S512x4224) ![0, 0] S512x512.size inb_S512x4224_S512x512_0_0, k0_pay21 (F := Ideal) s k0_pay14 M (View.ld (Val := Elt Ideal) (e' := .bf16) x2 (Rect.unit (s := S1x2048x4112) ![0, 0, 0] ![1, 2048, 512] inb_S1x2048x4112_S1x2048x512_0_0_0))⟩,
   ⟨Rect.unit (s := S512x4224) ![0, 3584] S512x512.size inb_S512x4224_S512x512_0_3584, k0_pay20 (F := Ideal) s k0_pay14 M (View.ld (Val := Elt Ideal) (e' := .bf16) x2 (Rect.unit (s := S1x2048x4112) ![0, 0, 3072] ![1, 2048, 512] inb_S1x2048x4112_S1x2048x512_0_0_3072)) (View.ld (Val := Elt Ideal) (e' := .bf16) x2 (Rect.unit (s := S1x2048x4112) ![0, 0, 3584] ![1, 2048, 512] inb_S1x2048x4112_S1x2048x512_0_0_3584)) (View.ld (Val := Elt Ideal) (e' := .bf16) x2 (Rect.unit (s := S1x2048x4112) ![0, 0, 4096] ![1, 2048, 16] inb_S1x2048x4112_S1x2048x16_0_0_4096))⟩,
   ⟨Rect.unit (s := S512x4224) ![0, 3072] S512x512.size inb_S512x4224_S512x512_0_3072, k0_pay19 (F := Ideal) s k0_pay14 M (View.ld (Val := Elt Ideal) (e' := .bf16) x2 (Rect.unit (s := S1x2048x4112) ![0, 0, 3072] ![1, 2048, 512] inb_S1x2048x4112_S1x2048x512_0_0_3072)) (View.ld (Val := Elt Ideal) (e' := .bf16) x2 (Rect.unit (s := S1x2048x4112) ![0, 0, 3584] ![1, 2048, 512] inb_S1x2048x4112_S1x2048x512_0_0_3584)) (View.ld (Val := Elt Ideal) (e' := .bf16) x2 (Rect.unit (s := S1x2048x4112) ![0, 0, 4096] ![1, 2048, 16] inb_S1x2048x4112_S1x2048x16_0_0_4096))⟩,
   ⟨Rect.unit (s := S512x4224) ![0, 4096] S512x128.size inb_S512x4224_S512x128_0_4096, k0_pay17 (F := Ideal) s k0_pay14 M (View.ld (Val := Elt Ideal) (e' := .bf16) x2 (Rect.unit (s := S1x2048x4112) ![0, 0, 3072] ![1, 2048, 512] inb_S1x2048x4112_S1x2048x512_0_0_3072)) (View.ld (Val := Elt Ideal) (e' := .bf16) x2 (Rect.unit (s := S1x2048x4112) ![0, 0, 3584] ![1, 2048, 512] inb_S1x2048x4112_S1x2048x512_0_0_3584)) (View.ld (Val := Elt Ideal) (e' := .bf16) x2 (Rect.unit (s := S1x2048x4112) ![0, 0, 4096] ![1, 2048, 16] inb_S1x2048x4112_S1x2048x16_0_0_4096))⟩]

/-- The first result's block. -/
def zT (s : S512x1.Idx → EReal) (M : S512x2048.Idx → EReal) (x2 : S1x2048x4112.Idx → EReal) : S512x4224.Idx → EReal := View.canon (Val := Elt Ideal) (e := .f32) (zL s M x2)

theorem row_cover (x0 : S512x2048.Idx → EReal) (x1 : S1x1x2048.Idx → EReal) : ∀ y, ∃ p ∈ rowL x0 x1, y ∈ p.1.set :=
  View.cover_of_tiledBy _ ![512, 256] (by sl_kernel_rfl)

theorem z_cover (s : S512x1.Idx → EReal) (M : S512x2048.Idx → EReal) (x2 : S1x2048x4112.Idx → EReal) : ∀ y, ∃ p ∈ zL s M x2, y ∈ p.1.set :=
  View.cover_of_tiledBy _ ![512, 128] (by sl_kernel_rfl)

theorem row_read (v : View sig .tc .vmem S512x2048 .bf16) (x0 : S512x2048.Idx → EReal) (x1 : S1x1x2048.Idx → EReal) :
    v.readCov (Val := Elt Ideal) (rowL x0 x1) (Rect.unit (s := S512x2048) ![0, 0] ![512, 2048] inb_S512x2048_S512x2048_0_0).toLoadRect = rowT x0 x1 := by
  rw [View.readCov_eq_canon_ld _ _ _ (row_cover x0 x1)]
  exact View.ld_unit_zero (S := S512x2048) (off := ![0, 0]) (by funext a; fin_cases a <;> rfl) _ _

section
variable (c : Dev nD) (i : grid0.Coords) (arg1 : Memref sig .tc .vmem S512x2048 .f32) (harg1 : arg1.IsWhole) (arg2 : Memref sig .tc .vmem S1x1x2048 .f32) (harg2 : arg2.IsWhole) (arg3 : Memref sig .tc .vmem S1x2048x4112 .bf16) (harg3 : arg3.IsWhole) (arg4 : Memref sig .tc .vmem S1x176x2048 .f32) (harg4 : arg4.IsWhole) (arg5 : Memref sig .tc .vmem S1x64x2048 .f32) (harg5 : arg5.IsWhole) (arg6 : Memref sig .tc .vmem S512x4224 .f32) (harg6 : arg6.IsWhole) (arg7 : Memref sig .tc .vmem S176x2048 .bf16) (harg7 : arg7.IsWhole) (arg8 : Memref sig .tc .vmem S64x2048 .bf16) (harg8 : arg8.IsWhole) (arg9 : Memref sig .tc .vmem S512x2048 .bf16) (harg9 : arg9.IsWhole)
  (x0 : Vec Ideal S512x2048 .f32) (x1 : Vec Ideal S1x1x2048 .f32) (x2 : Vec Ideal S1x2048x4112 .bf16) (x3 : Vec Ideal S1x176x2048 .f32) (x4 : Vec Ideal S1x64x2048 .f32)

/-- The stores into the first result's block. -/
theorem run5 : (kernelRun0_A c i arg1 harg1 arg2 harg2 arg3 harg3 arg4 harg4 arg5 harg5 arg6 harg6 arg7 harg7 arg8 harg8 arg9 harg9 x0 x1 x2 x3 x4).1 = zL (ms x0) (rowT x0 x1) x2 := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread]
  rw [← row_read arg9.view x0 x1]
  rfl

/-- The stores into the other two results' blocks. -/
theorem run6 : (kernelRun0_A c i arg1 harg1 arg2 harg2 arg3 harg3 arg4 harg4 arg5 harg5 arg6 harg6 arg7 harg7 arg8 harg8 arg9 harg9 x0 x1 x2 x3 x4).2.1
    = [⟨Rect.unit (s := S176x2048) ![0, 0] S176x2048.size inb_S176x2048_S176x2048_0_0, k0_pay1 (F := Ideal) x3⟩] := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread]
  simp only [View.ld_unit_zero (S := S1x176x2048) (off := ![0, 0, 0]) (by funext a; fin_cases a <;> rfl),
    View.ld_unit_zero (S := S1x64x2048) (off := ![0, 0, 0]) (by funext a; fin_cases a <;> rfl)]

theorem run7 : (kernelRun0_A c i arg1 harg1 arg2 harg2 arg3 harg3 arg4 harg4 arg5 harg5 arg6 harg6 arg7 harg7 arg8 harg8 arg9 harg9 x0 x1 x2 x3 x4).2.2.1
    = [⟨Rect.unit (s := S64x2048) ![0, 0] S64x2048.size inb_S64x2048_S64x2048_0_0, k0_pay2 (F := Ideal) x4⟩] := by
  unfold kernelRun0_A; dsimp only; sl_unfold_words
  simp only [View.readAt_eq_ld, harg1.read_unread, harg2.read_unread, harg3.read_unread, harg4.read_unread, harg5.read_unread, harg6.read_unread, harg7.read_unread, harg8.read_unread, harg9.read_unread]
  simp only [View.ld_unit_zero (S := S1x176x2048) (off := ![0, 0, 0]) (by funext a; fin_cases a <;> rfl),
    View.ld_unit_zero (S := S1x64x2048) (off := ![0, 0, 0]) (by funext a; fin_cases a <;> rfl)]

theorem out5 : out0_A_5 c i arg1 harg1 arg2 harg2 arg3 harg3 arg4 harg4 arg5 harg5 arg6 harg6 arg7 harg7 arg8 harg8 arg9 harg9 x0 x1 x2 x3 x4 = zT (ms x0) (rowT x0 x1) x2 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4), run5]
  rfl

theorem out6 : out0_A_6 c i arg1 harg1 arg2 harg2 arg3 harg3 arg4 harg4 arg5 harg5 arg6 harg6 arg7 harg7 arg8 harg8 arg9 harg9 x0 x1 x2 x3 x4 = k0_pay1 (F := Ideal) x3 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4), run6]
  exact View.canon_unit_zero (by funext a; fin_cases a <;> rfl) _ _

theorem out7 : out0_A_7 c i arg1 harg1 arg2 harg2 arg3 harg3 arg4 harg4 arg5 harg5 arg6 harg6 arg7 harg7 arg8 harg8 arg9 harg9 x0 x1 x2 x3 x4 = k0_pay2 (F := Ideal) x4 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4), run7]
  exact View.canon_unit_zero (by funext a; fin_cases a <;> rfl) _ _

end

/-- Columns of an array read at an offset. -/
theorem ld_cols (x : S512x2048.Idx → EReal) (o : ℕ) (inb : ∀ a, (![0, o] : Fin 2 → ℕ) a + (![512, 256] : Fin 2 → ℕ) a ≤ S512x2048.size a)
    (r : Fin 512) (k : Fin 256) (j : Fin 2048) (h : j.val = o + k.val) :
    View.ld (Val := Elt Ideal) (e' := .f32) x (Rect.unit (s := S512x2048) ![0, o] ![512, 256] inb) (ix2 r k) = x (ix2 r j) := by
  refine congrArg x ?_
  funext a; apply Fin.ext; fin_cases a
  · show 0 + 1 * r.val = r.val; omega
  · show o + 1 * k.val = j.val; omega

theorem ld_norm (x : S1x1x2048.Idx → EReal) (o : ℕ) (inb : ∀ a, (![0, 0, o] : Fin 3 → ℕ) a + (![1, 1, 256] : Fin 3 → ℕ) a ≤ S1x1x2048.size a)
    (k : Fin 256) (j : Fin 2048) (h : j.val = o + k.val) :
    View.ld (Val := Elt Ideal) (e' := .f32) x (Rect.unit (s := S1x1x2048) ![0, 0, o] ![1, 1, 256] inb) (ix3 (0 : Fin 1) (0 : Fin 1) k) = x (ix3 (0 : Fin 1) (0 : Fin 1) j) := by
  refine congrArg x ?_
  funext a; apply Fin.ext; fin_cases a
  · rfl
  · rfl
  · show o + 1 * k.val = j.val; omega

theorem ld_w {S : ℕ} (x : S1x2048x4112.Idx → EReal) (o : ℕ) (inb : ∀ a, (![0, 0, o] : Fin 3 → ℕ) a + (![1, 2048, S] : Fin 3 → ℕ) a ≤ S1x2048x4112.size a)
    (l : Fin 2048) (k : Fin S) (j : Fin 4112) (h : j.val = o + k.val) :
    View.ld (Val := Elt Ideal) (e' := .bf16) x (Rect.unit (s := S1x2048x4112) ![0, 0, o] ![1, 2048, S] inb) (ix3 (0 : Fin 1) l k) = x (ix3 (0 : Fin 1) l j) := by
  refine congrArg x ?_
  funext a; apply Fin.ext; fin_cases a
  · rfl
  · show 0 + 1 * l.val = l.val; omega
  · show o + 1 * k.val = j.val; omega

theorem pay12_val (h : S512x256.Idx → EReal) (n : S1x1x256.Idx → EReal) (r : Fin 512) (k : Fin 256) :
    k0_pay12 (F := Ideal) h n (ix2 r k) = h (ix2 r k) * n (ix3 (0 : Fin 1) (0 : Fin 1) k) := by
  pointwise [k0_pay12]

theorem pay11_val (h : S512x256.Idx → EReal) (n : S1x1x256.Idx → EReal) (r : Fin 512) (k : Fin 256) :
    k0_pay11 (F := Ideal) h n (ix2 r k) = h (ix2 r k) * n (ix3 (0 : Fin 1) (0 : Fin 1) k) := by
  pointwise [k0_pay11]

theorem pay10_val (h : S512x256.Idx → EReal) (n : S1x1x256.Idx → EReal) (r : Fin 512) (k : Fin 256) :
    k0_pay10 (F := Ideal) h n (ix2 r k) = h (ix2 r k) * n (ix3 (0 : Fin 1) (0 : Fin 1) k) := by
  pointwise [k0_pay10]

theorem pay8_val (h : S512x256.Idx → EReal) (n : S1x1x256.Idx → EReal) (r : Fin 512) (k : Fin 256) :
    k0_pay8 (F := Ideal) h n (ix2 r k) = h (ix2 r k) * n (ix3 (0 : Fin 1) (0 : Fin 1) k) := by
  pointwise [k0_pay8]

theorem pay7_val (h : S512x256.Idx → EReal) (n : S1x1x256.Idx → EReal) (r : Fin 512) (k : Fin 256) :
    k0_pay7 (F := Ideal) h n (ix2 r k) = h (ix2 r k) * n (ix3 (0 : Fin 1) (0 : Fin 1) k) := by
  pointwise [k0_pay7]

theorem pay6_val (h : S512x256.Idx → EReal) (n : S1x1x256.Idx → EReal) (r : Fin 512) (k : Fin 256) :
    k0_pay6 (F := Ideal) h n (ix2 r k) = h (ix2 r k) * n (ix3 (0 : Fin 1) (0 : Fin 1) k) := by
  pointwise [k0_pay6]

theorem pay4_val (h : S512x256.Idx → EReal) (n : S1x1x256.Idx → EReal) (r : Fin 512) (k : Fin 256) :
    k0_pay4 (F := Ideal) h n (ix2 r k) = h (ix2 r k) * n (ix3 (0 : Fin 1) (0 : Fin 1) k) := by
  pointwise [k0_pay4]

theorem pay3_val (h : S512x256.Idx → EReal) (n : S1x1x256.Idx → EReal) (r : Fin 512) (k : Fin 256) :
    k0_pay3 (F := Ideal) h n (ix2 r k) = h (ix2 r k) * n (ix3 (0 : Fin 1) (0 : Fin 1) k) := by
  pointwise [k0_pay3]

/-- The weighted rows, entry by entry. -/
theorem rowT_val (x0 : S512x2048.Idx → EReal) (x1 : S1x1x2048.Idx → EReal) (r : Fin 512) (k : Fin 2048) : rowT x0 x1 (ix2 r k) = x0 (ix2 r k) * x1 (ix3 (0 : Fin 1) (0 : Fin 1) k) := by
  refine View.canon_eq_of_allAt _ _ _ (row_cover x0 x1 _) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro z hz
    obtain ⟨r', k', rfl⟩ : ∃ (r' : Fin 512) (k' : Fin 256), z = ix2 r' k' := ⟨_, _, eq_ix2 z⟩
    have e0 : r.val = 0 + r'.val := hz 0
    have e1 : k.val = 1792 + k'.val := hz 1
    obtain rfl : r' = r := Fin.ext (by omega)
    exact (pay12_val _ _ r' k').trans (congrArg₂ (· * ·) (ld_cols x0 1792 _ r' k' k e1) (ld_norm x1 1792 _ k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1536 + k'.val := hz 1
    obtain rfl : r' = r := Fin.ext (by omega)
    exact (pay11_val _ _ r' k').trans (congrArg₂ (· * ·) (ld_cols x0 1536 _ r' k' k e1) (ld_norm x1 1536 _ k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1280 + k'.val := hz 1
    obtain rfl : r' = r := Fin.ext (by omega)
    exact (pay10_val _ _ r' k').trans (congrArg₂ (· * ·) (ld_cols x0 1280 _ r' k' k e1) (ld_norm x1 1280 _ k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1024 + k'.val := hz 1
    obtain rfl : r' = r := Fin.ext (by omega)
    exact (pay8_val _ _ r' k').trans (congrArg₂ (· * ·) (ld_cols x0 1024 _ r' k' k e1) (ld_norm x1 1024 _ k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 768 + k'.val := hz 1
    obtain rfl : r' = r := Fin.ext (by omega)
    exact (pay7_val _ _ r' k').trans (congrArg₂ (· * ·) (ld_cols x0 768 _ r' k' k e1) (ld_norm x1 768 _ k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 512 + k'.val := hz 1
    obtain rfl : r' = r := Fin.ext (by omega)
    exact (pay6_val _ _ r' k').trans (congrArg₂ (· * ·) (ld_cols x0 512 _ r' k' k e1) (ld_norm x1 512 _ k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 256 + k'.val := hz 1
    obtain rfl : r' = r := Fin.ext (by omega)
    exact (pay4_val _ _ r' k').trans (congrArg₂ (· * ·) (ld_cols x0 256 _ r' k' k e1) (ld_norm x1 256 _ k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 0 + k'.val := hz 1
    obtain rfl : r' = r := Fin.ext (by omega)
    exact (pay3_val _ _ r' k').trans (congrArg₂ (· * ·) (ld_cols x0 0 _ r' k' k e1) (ld_norm x1 0 _ k' k e1))

/-- The part of a row's sum of squares over the columns `q, 256 + q, …`. -/
theorem pay5_val (h1 h2 : S512x256.Idx → EReal) (r : Fin 512) (k : Fin 256) :
    k0_pay5 (F := Ideal) h1 h2 (ix2 r k) = h1 (ix2 r k) * h1 (ix2 r k) + h2 (ix2 r k) * h2 (ix2 r k) := by
  pointwise [k0_pay5]

theorem pay9_val (h1 h2 h3 h4 : S512x256.Idx → EReal) (r : Fin 512) (k : Fin 256) :
    k0_pay9 (F := Ideal) h1 h2 h3 h4 (ix2 r k)
      = h1 (ix2 r k) + h2 (ix2 r k) * h2 (ix2 r k) + h3 (ix2 r k) * h3 (ix2 r k) + h4 (ix2 r k) * h4 (ix2 r k) := by
  pointwise [k0_pay9]

theorem pay13_val (h1 h2 h3 h4 : S512x256.Idx → EReal) (r : Fin 512) :
    k0_pay13 (F := Ideal) h1 h2 h3 h4 (ix2 r (0 : Fin 1))
      = (∑ k : Fin 256, (h1 (ix2 r k) + h2 (ix2 r k) * h2 (ix2 r k) + h3 (ix2 r k) * h3 (ix2 r k) + h4 (ix2 r k) * h4 (ix2 r k)))
        * Ideal.ofBits FTy.f32 973078528#32 := by
  pointwise [k0_pay13]

theorem pay14_val (r : Fin 512) : k0_pay14 (F := Ideal) (ix2 r (0 : Fin 1)) = Ideal.ofBits FTy.f32 897988541#32 := by
  pointwise [k0_pay14]

theorem pay15_val (s s' : S512x1.Idx → EReal) (r k : Fin 512) :
    k0_pay15 (F := Ideal) s s' (ix2 r k) = Ideal.rsqrt (s (ix2 r (0 : Fin 1)) + s' (ix2 r (0 : Fin 1))) := by
  pointwise [k0_pay15]

/-- The mean square of a row. -/
theorem ms_val (x0 : S512x2048.Idx → EReal) (r : Fin 512) (g : ℕ → EReal) (hg : ∀ l : Fin 2048, x0 (ix2 r l) * x0 (ix2 r l) = g l.val) :
    ms x0 (ix2 r (0 : Fin 1)) = (∑ l : Fin 2048, g l.val) * Ideal.ofBits FTy.f32 973078528#32 := by
  refine (pay13_val _ _ _ _ r).trans (congrArg₂ (· * ·) ?_ rfl)
  refine Eq.trans (Finset.sum_congr rfl fun k _ => ?_) (Cert.IRef.sum_parts g)
  have e : ∀ (o : ℕ) (inb : ∀ a, (![0, o] : Fin 2 → ℕ) a + (![512, 256] : Fin 2 → ℕ) a ≤ S512x2048.size a) (ho : o ≤ 1792),
      View.ld (Val := Elt Ideal) (e' := .f32) x0 (Rect.unit (s := S512x2048) ![0, o] ![512, 256] inb) (ix2 r k)
        * View.ld (Val := Elt Ideal) (e' := .f32) x0 (Rect.unit (s := S512x2048) ![0, o] ![512, 256] inb) (ix2 r k) = g (o + k.val) := by
    intro o inb ho
    rw [ld_cols x0 o inb r k ⟨o + k.val, by omega⟩ rfl]
    exact hg _
  have z0 : g k.val = g (0 + k.val) := by rw [Nat.zero_add]
  rw [z0]
  refine congrArg₂ (· + ·) (congrArg₂ (· + ·) (congrArg₂ (· + ·) ?_ (e 1280 _ (by norm_num))) (e 1536 _ (by norm_num))) (e 1792 _ (by norm_num))
  refine (pay9_val _ _ _ _ r k).trans ?_
  refine congrArg₂ (· + ·) (congrArg₂ (· + ·) (congrArg₂ (· + ·) ?_ (e 512 _ (by norm_num))) (e 768 _ (by norm_num))) (e 1024 _ (by norm_num))
  refine (pay5_val _ _ r k).trans ?_
  exact congrArg₂ (· + ·) (e 0 _ (by norm_num)) (e 256 _ (by norm_num))

section
variable (s s' : S512x1.Idx → EReal) (v : S512x512.Idx → EReal) (a : S512x2048.Idx → EReal) (r : Fin 512)

theorem pay22_val (w : S1x2048x512.Idx → EReal) (k : Fin 512) :
    k0_pay22 (F := Ideal) v a w (ix2 r k) = v (ix2 r k) * ∑ l : Fin 2048, a (ix2 r l) * w (ix3 (0 : Fin 1) l k) := by
  pointwise [k0_pay22]

theorem pay23_val (w : S1x2048x512.Idx → EReal) (k : Fin 512) :
    k0_pay23 (F := Ideal) v a w (ix2 r k) = v (ix2 r k) * ∑ l : Fin 2048, a (ix2 r l) * w (ix3 (0 : Fin 1) l k) := by
  pointwise [k0_pay23]

theorem pay24_val (w : S1x2048x512.Idx → EReal) (k : Fin 512) :
    k0_pay24 (F := Ideal) v a w (ix2 r k) = v (ix2 r k) * ∑ l : Fin 2048, a (ix2 r l) * w (ix3 (0 : Fin 1) l k) := by
  pointwise [k0_pay24]

theorem pay25_val (w : S1x2048x512.Idx → EReal) (k : Fin 512) :
    k0_pay25 (F := Ideal) v a w (ix2 r k) = v (ix2 r k) * ∑ l : Fin 2048, a (ix2 r l) * w (ix3 (0 : Fin 1) l k) := by
  pointwise [k0_pay25]

theorem pay26_val (w : S1x2048x512.Idx → EReal) (k : Fin 512) :
    k0_pay26 (F := Ideal) v a w (ix2 r k) = v (ix2 r k) * ∑ l : Fin 2048, a (ix2 r l) * w (ix3 (0 : Fin 1) l k) := by
  pointwise [k0_pay26]

theorem pay21_val (w : S1x2048x512.Idx → EReal) (k : Fin 512) :
    k0_pay21 (F := Ideal) s s' a w (ix2 r k) = k0_pay15 (F := Ideal) s s' (ix2 r k) * ∑ l : Fin 2048, a (ix2 r l) * w (ix3 (0 : Fin 1) l k) := by
  pointwise [k0_pay21]

/-- The gate's product with the low rank columns, by the column of the weights. -/
theorem wide_val (x2 : S1x2048x4112.Idx → EReal) (q : ℕ) (hq : q < 1040)
    (i1 : ∀ a, (![0, 0, 3072] : Fin 3 → ℕ) a + (![1, 2048, 512] : Fin 3 → ℕ) a ≤ S1x2048x4112.size a)
    (i2 : ∀ a, (![0, 0, 3584] : Fin 3 → ℕ) a + (![1, 2048, 512] : Fin 3 → ℕ) a ≤ S1x2048x4112.size a)
    (i3 : ∀ a, (![0, 0, 4096] : Fin 3 → ℕ) a + (![1, 2048, 16] : Fin 3 → ℕ) a ≤ S1x2048x4112.size a)
    (j : Fin 4112) (hj : j.val = 3072 + q) :
    (if h : q < 512 then ∑ l : Fin 2048, a (ix2 r l) * View.ld (Val := Elt Ideal) (e' := .bf16) x2 (Rect.unit (s := S1x2048x4112) ![0, 0, 3072] ![1, 2048, 512] i1) (ix3 (0 : Fin 1) l (⟨q, h⟩ : Fin 512))
      else if h' : q - 512 < 512 then ∑ l : Fin 2048, a (ix2 r l) * View.ld (Val := Elt Ideal) (e' := .bf16) x2 (Rect.unit (s := S1x2048x4112) ![0, 0, 3584] ![1, 2048, 512] i2) (ix3 (0 : Fin 1) l (⟨q - 512, h'⟩ : Fin 512))
      else ∑ l : Fin 2048, a (ix2 r l) * View.ld (Val := Elt Ideal) (e' := .bf16) x2 (Rect.unit (s := S1x2048x4112) ![0, 0, 4096] ![1, 2048, 16] i3) (ix3 (0 : Fin 1) l (⟨q - 512 - 512, by omega⟩ : Fin 16)))
      = ∑ l : Fin 2048, a (ix2 r l) * x2 (ix3 (0 : Fin 1) l j) := by
  split
  · exact Finset.sum_congr rfl fun l _ => congrArg₂ (· * ·) rfl (ld_w x2 3072 i1 l _ j hj)
  · split
    · exact Finset.sum_congr rfl fun l _ => congrArg₂ (· * ·) rfl (ld_w x2 3584 i2 l _ j (by show j.val = 3584 + (q - 512); omega))
    · exact Finset.sum_congr rfl fun l _ => congrArg₂ (· * ·) rfl (ld_w x2 4096 i3 l _ j (by show j.val = 4096 + (q - 512 - 512); omega))

section
variable (w w' : S1x2048x512.Idx → EReal) (w'' : S1x2048x16.Idx → EReal)

theorem pay17_val (k : Fin 128) :
    k0_pay17 (F := Ideal) s s' a w w' w'' (ix2 r k) = k0_pay15 (F := Ideal) s s' (ix2 r (⟨k.val, by omega⟩ : Fin 512)) *
      (if h : k.val < 512 then ∑ l : Fin 2048, a (ix2 r l) * w (ix3 (0 : Fin 1) l (⟨k.val, h⟩ : Fin 512))
      else if h' : k.val - 512 < 512 then ∑ l : Fin 2048, a (ix2 r l) * w' (ix3 (0 : Fin 1) l (⟨k.val - 512, h'⟩ : Fin 512))
      else ∑ l : Fin 2048, a (ix2 r l) * w'' (ix3 (0 : Fin 1) l (⟨k.val - 512 - 512, by omega⟩ : Fin 16))) := by
  pointwise [k0_pay17, k0_pay16]

theorem pay19_val (k : Fin 512) :
    k0_pay19 (F := Ideal) s s' a w w' w'' (ix2 r k) = k0_pay15 (F := Ideal) s s' (ix2 r (k : Fin 512)) *
      (if h : 16 + k.val < 512 then ∑ l : Fin 2048, a (ix2 r l) * w (ix3 (0 : Fin 1) l (⟨16 + k.val, h⟩ : Fin 512))
      else if h' : 16 + k.val - 512 < 512 then ∑ l : Fin 2048, a (ix2 r l) * w' (ix3 (0 : Fin 1) l (⟨16 + k.val - 512, h'⟩ : Fin 512))
      else ∑ l : Fin 2048, a (ix2 r l) * w'' (ix3 (0 : Fin 1) l (⟨16 + k.val - 512 - 512, by omega⟩ : Fin 16))) := by
  pointwise [k0_pay19, k0_pay18, k0_pay16]

theorem pay20_val (k : Fin 512) :
    k0_pay20 (F := Ideal) s s' a w w' w'' (ix2 r k) = k0_pay15 (F := Ideal) s s' (ix2 r (k : Fin 512)) *
      (if h : 16 + (512 + k.val) < 512 then ∑ l : Fin 2048, a (ix2 r l) * w (ix3 (0 : Fin 1) l (⟨16 + (512 + k.val), h⟩ : Fin 512))
      else if h' : 16 + (512 + k.val) - 512 < 512 then ∑ l : Fin 2048, a (ix2 r l) * w' (ix3 (0 : Fin 1) l (⟨16 + (512 + k.val) - 512, h'⟩ : Fin 512))
      else ∑ l : Fin 2048, a (ix2 r l) * w'' (ix3 (0 : Fin 1) l (⟨16 + (512 + k.val) - 512 - 512, by omega⟩ : Fin 16))) := by
  pointwise [k0_pay20, k0_pay18, k0_pay16]

end

end

/-- The first result's block, entry by entry. -/
theorem zT_val (s : S512x1.Idx → EReal) (M : S512x2048.Idx → EReal) (x2 : S1x2048x4112.Idx → EReal) (r : Fin 512) (k : Fin 4224) :
    zT s M x2 (ix2 r k) = Ideal.rsqrt (s (ix2 r (0 : Fin 1)) + Ideal.ofBits FTy.f32 897988541#32)
      * ∑ l : Fin 2048, M (ix2 r l) * x2 (ix3 (0 : Fin 1) l (⟨Cert.IRef.src k.val, Cert.IRef.src_lt k.isLt⟩ : Fin 4112)) := by
  have v : ∀ q : Fin 512, k0_pay15 (F := Ideal) s k0_pay14 (ix2 r q) = Ideal.rsqrt (s (ix2 r (0 : Fin 1)) + Ideal.ofBits FTy.f32 897988541#32) := fun q =>
    (pay15_val s _ r q).trans (congrArg Ideal.rsqrt (congrArg₂ (· + ·) rfl (pay14_val r)))
  refine View.canon_eq_of_allAt _ _ _ (z_cover s M x2 _) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))
  · intro z hz
    obtain ⟨r', k', rfl⟩ : ∃ (r' : Fin 512) (k' : Fin 512), z = ix2 r' k' := ⟨_, _, eq_ix2 z⟩
    have e0 : r.val = 0 + r'.val := hz 0
    have e1 : k.val = 2560 + k'.val := hz 1
    obtain rfl : r = r' := Fin.ext (by omega)
    exact (pay26_val (k0_pay15 (F := Ideal) s k0_pay14) M r _ k').trans (congrArg₂ (· * ·) (v k') (Finset.sum_congr rfl fun l _ => congrArg₂ (· * ·) rfl
      (ld_w x2 2560 _ l k' _ (by show Cert.IRef.src k.val = _; unfold Cert.IRef.src; split_ifs <;> omega))))
  · intro z hz
    obtain ⟨r', k', rfl⟩ : ∃ (r' : Fin 512) (k' : Fin 512), z = ix2 r' k' := ⟨_, _, eq_ix2 z⟩
    have e0 : r.val = 0 + r'.val := hz 0
    have e1 : k.val = 2048 + k'.val := hz 1
    obtain rfl : r = r' := Fin.ext (by omega)
    exact (pay25_val (k0_pay15 (F := Ideal) s k0_pay14) M r _ k').trans (congrArg₂ (· * ·) (v k') (Finset.sum_congr rfl fun l _ => congrArg₂ (· * ·) rfl
      (ld_w x2 2048 _ l k' _ (by show Cert.IRef.src k.val = _; unfold Cert.IRef.src; split_ifs <;> omega))))
  · intro z hz
    obtain ⟨r', k', rfl⟩ : ∃ (r' : Fin 512) (k' : Fin 512), z = ix2 r' k' := ⟨_, _, eq_ix2 z⟩
    have e0 : r.val = 0 + r'.val := hz 0
    have e1 : k.val = 1536 + k'.val := hz 1
    obtain rfl : r = r' := Fin.ext (by omega)
    exact (pay24_val (k0_pay15 (F := Ideal) s k0_pay14) M r _ k').trans (congrArg₂ (· * ·) (v k') (Finset.sum_congr rfl fun l _ => congrArg₂ (· * ·) rfl
      (ld_w x2 1536 _ l k' _ (by show Cert.IRef.src k.val = _; unfold Cert.IRef.src; split_ifs <;> omega))))
  · intro z hz
    obtain ⟨r', k', rfl⟩ : ∃ (r' : Fin 512) (k' : Fin 512), z = ix2 r' k' := ⟨_, _, eq_ix2 z⟩
    have e0 : r.val = 0 + r'.val := hz 0
    have e1 : k.val = 1024 + k'.val := hz 1
    obtain rfl : r = r' := Fin.ext (by omega)
    exact (pay23_val (k0_pay15 (F := Ideal) s k0_pay14) M r _ k').trans (congrArg₂ (· * ·) (v k') (Finset.sum_congr rfl fun l _ => congrArg₂ (· * ·) rfl
      (ld_w x2 1024 _ l k' _ (by show Cert.IRef.src k.val = _; unfold Cert.IRef.src; split_ifs <;> omega))))
  · intro z hz
    obtain ⟨r', k', rfl⟩ : ∃ (r' : Fin 512) (k' : Fin 512), z = ix2 r' k' := ⟨_, _, eq_ix2 z⟩
    have e0 : r.val = 0 + r'.val := hz 0
    have e1 : k.val = 512 + k'.val := hz 1
    obtain rfl : r = r' := Fin.ext (by omega)
    exact (pay22_val (k0_pay15 (F := Ideal) s k0_pay14) M r _ k').trans (congrArg₂ (· * ·) (v k') (Finset.sum_congr rfl fun l _ => congrArg₂ (· * ·) rfl
      (ld_w x2 512 _ l k' _ (by show Cert.IRef.src k.val = _; unfold Cert.IRef.src; split_ifs <;> omega))))
  · intro z hz
    obtain ⟨r', k', rfl⟩ : ∃ (r' : Fin 512) (k' : Fin 512), z = ix2 r' k' := ⟨_, _, eq_ix2 z⟩
    have e0 : r.val = 0 + r'.val := hz 0
    have e1 : k.val = 0 + k'.val := hz 1
    obtain rfl : r = r' := Fin.ext (by omega)
    exact (pay21_val s (k0_pay14 (F := Ideal)) M r _ k').trans (congrArg₂ (· * ·) (v k') (Finset.sum_congr rfl fun l _ => congrArg₂ (· * ·) rfl
      (ld_w x2 0 _ l k' _ (by show Cert.IRef.src k.val = _; unfold Cert.IRef.src; split_ifs <;> omega))))
  · intro z hz
    obtain ⟨r', k', rfl⟩ : ∃ (r' : Fin 512) (k' : Fin 512), z = ix2 r' k' := ⟨_, _, eq_ix2 z⟩
    have e0 : r.val = 0 + r'.val := hz 0
    have e1 : k.val = 3584 + k'.val := hz 1
    obtain rfl : r = r' := Fin.ext (by omega)
    exact (pay20_val s (k0_pay14 (F := Ideal)) M r _ _ _ k').trans (congrArg₂ (· * ·) (v _)
      (wide_val M r x2 (16 + (512 + k'.val)) (by omega) _ _ _ _ (by show Cert.IRef.src k.val = _; unfold Cert.IRef.src; split_ifs <;> omega)))
  · intro z hz
    obtain ⟨r', k', rfl⟩ : ∃ (r' : Fin 512) (k' : Fin 512), z = ix2 r' k' := ⟨_, _, eq_ix2 z⟩
    have e0 : r.val = 0 + r'.val := hz 0
    have e1 : k.val = 3072 + k'.val := hz 1
    obtain rfl : r = r' := Fin.ext (by omega)
    exact (pay19_val s (k0_pay14 (F := Ideal)) M r _ _ _ k').trans (congrArg₂ (· * ·) (v _)
      (wide_val M r x2 (16 + k'.val) (by omega) _ _ _ _ (by show Cert.IRef.src k.val = _; unfold Cert.IRef.src; split_ifs <;> omega)))
  · intro z hz
    obtain ⟨r', k', rfl⟩ : ∃ (r' : Fin 512) (k' : Fin 128), z = ix2 r' k' := ⟨_, _, eq_ix2 z⟩
    have e0 : r.val = 0 + r'.val := hz 0
    have e1 : k.val = 4096 + k'.val := hz 1
    obtain rfl : r = r' := Fin.ext (by omega)
    exact (pay17_val s (k0_pay14 (F := Ideal)) M r _ _ _ k').trans (congrArg₂ (· * ·) (v _)
      (wide_val M r x2 k'.val (by omega) _ _ _ _ (by show Cert.IRef.src k.val = _; unfold Cert.IRef.src; split_ifs <;> omega)))

theorem pay1_val (x : S1x176x2048.Idx → EReal) (r : Fin 176) (k : Fin 2048) : k0_pay1 (F := Ideal) x (ix2 r k) = x (ix3 (0 : Fin 1) r k) := by
  pointwise [k0_pay1]

theorem pay2_val (x : S1x64x2048.Idx → EReal) (r : Fin 64) (k : Fin 2048) : k0_pay2 (F := Ideal) x (ix2 r k) = x (ix3 (0 : Fin 1) r k) := by
  pointwise [k0_pay2]

end Cert.Kernel4Ideal.Iproj

end
-- ==== Proof.IVal.lean ====
/- The input-projection kernel's stages over the layer's numbers: its windows, its result arrays and its run. -/
module

public import proofs.«01_k».proof.Proof.IRun
public import proofs.«01_k».proof.Proof.IRef
public import Idealize.ShloMosaic.Lib.Claim
public import Idealize.ShloMosaic.Lib.StableHlo.ReadAt

@[expose] public section

set_option maxRecDepth 16384
set_option maxHeartbeats 1000000

noncomputable section

namespace Cert.Kernel4Ideal.Iproj

open Idealize.ShloMosaic Idealize.ShloMosaic.TcCoe Cert.Kernel4Ideal Cert.Kernel4Ideal.Gen Cert.Kernel4Ideal.Value Cert.FModel

variable (m : (ℓ : Loc nD τ sig) → Buf (Elt Ideal) ℓ) (c : Dev nD)

/-- The arguments of the call. -/
abbrev A0 : FVec Ideal S16384x2048 .f32 := m ((c : Thread nD τ).loc main_arg0)
abbrev A1 : FVec Ideal S2x2048 .f32 := m ((c : Thread nD τ).loc main_arg1)
abbrev A2 : FVec Ideal S2x2048x4112 .f32 := m ((c : Thread nD τ).loc main_arg2)
abbrev A3 : FVec Ideal S2x5632x2048 .f32 := m ((c : Thread nD τ).loc main_arg3)
abbrev A4 : FVec Ideal S2x2048x2048 .f32 := m ((c : Thread nD τ).loc main_arg4)

/-- The windows' block indices. -/
theorem idx : ∀ t : Fin cfg0.N, win0_0.index t = ![t.val, 0] ∧ win0_1.index t = ![0, 0, 0] ∧ win0_2.index t = ![0, 0, 0]
    ∧ win0_3.index t = ![0, t.val, 0] ∧ win0_4.index t = ![0, t.val, 0] ∧ win0_5.index t = ![t.val, 0] ∧ win0_6.index t = ![t.val, 0]
    ∧ win0_7.index t = ![t.val, 0] := by decide +kernel

section
variable (t : Fin cfg0.N)

theorem lt_N : t.val < 32 := t.isLt

theorem x0_read (r : Fin 512) (l : Fin 2048) :
    iblk m c 0 t (ix2 r l) = A0 m c (ix2 (⟨512 * t.val + r.val, by have := lt_N t; omega⟩ : Fin 16384) l) := by
  blk_ext [iblk, V_main_arg0, idx t]

theorem x1_read (l : Fin 2048) : iblk m c 1 t (ix3 (0 : Fin 1) (0 : Fin 1) l) = A1 m c (ix2 (0 : Fin 2) l) := by
  have : iblk m c 1 t (ix3 (0 : Fin 1) (0 : Fin 1) l) = V m c main_v0 (ix3 (0 : Fin 2) (0 : Fin 1) l) := by
    blk_ext [iblk, idx t]
  rw [this]
  unfold V
  after_reads_at

theorem x2_read (l : Fin 2048) (j : Fin 4112) : iblk m c 2 t (ix3 (0 : Fin 1) l j) = A2 m c (ix3 (0 : Fin 2) l j) := by
  have : iblk m c 2 t (ix3 (0 : Fin 1) l j) = V m c main_v1 (ix3 (0 : Fin 2) l j) := by
    blk_ext [iblk, idx t]
  rw [this]
  unfold V
  after_reads_at

theorem x3_read (r : Fin 176) (l : Fin 2048) :
    iblk m c 3 t (ix3 (0 : Fin 1) r l) = A3 m c (ix3 (0 : Fin 2) (⟨176 * t.val + r.val, by have := lt_N t; omega⟩ : Fin 5632) l) := by
  blk_ext [iblk, V_main_arg3, idx t]

theorem x4_read (r : Fin 64) (l : Fin 2048) :
    iblk m c 4 t (ix3 (0 : Fin 1) r l) = A4 m c (ix3 (0 : Fin 2) (⟨64 * t.val + r.val, by have := lt_N t; omega⟩ : Fin 2048) l) := by
  blk_ext [iblk, V_main_arg4, idx t]

theorem h_read (r : Fin 512) (l : Fin 2048) : iblk m c 0 t (ix2 r l) = at2 (A0 m c) (512 * t.val + r.val) l.val :=
  (x0_read m c t r l).trans (at2_eq _ _ _ _ l.isLt)

/-- The projected rows of a tile. -/
theorem z_tile (r : Fin 512) (k : Fin 4224) :
    zT (ms (iblk m c 0 t)) (rowT (iblk m c 0 t) (iblk m c 1 t)) (iblk m c 2 t) (ix2 r k)
      = Cert.IRef.prj (A0 m c) (A1 m c) (A2 m c) (512 * t.val + r.val) (⟨Cert.IRef.src k.val, Cert.IRef.src_lt k.isLt⟩ : Fin 4112) := by
  refine (zT_val _ _ _ r k).trans (Eq.trans ?_ (Cert.IRef.prj_eq _ _ _ _ _))
  refine congrArg₂ (· * ·) ?_ (Finset.sum_congr rfl fun l _ => congrArg₂ (· * ·)
    ((rowT_val _ _ r l).trans (congrArg₂ (· * ·) (h_read m c t r l) (x1_read m c t l))) (x2_read m c t l _))
  rw [Cert.IRef.rho_eq]
  refine congrArg Ideal.rsqrt (congrArg₂ (· + ·) ?_ rfl)
  exact ms_val _ r (fun l => at2 (A0 m c) (512 * t.val + r.val) l * at2 (A0 m c) (512 * t.val + r.val) l)
    fun l => congrArg₂ (· * ·) (h_read m c t r l) (h_read m c t r l)

end

/-- The three results on a device, whole. -/
def G5 : Buf (Elt Ideal) ((c : Thread nD τ).loc main_v2_0) := fun i =>
  Cert.IRef.prj (A0 m c) (A1 m c) (A2 m c) (i 0).val (⟨Cert.IRef.src (i 1).val, Cert.IRef.src_lt (i 1).isLt⟩ : Fin 4112)
def G6 : Buf (Elt Ideal) ((c : Thread nD τ).loc main_v2_1) := fun i =>
  A3 m c (ix3 (0 : Fin 2) (i 0 : Fin 5632) (i 1 : Fin 2048))
def G7 : Buf (Elt Ideal) ((c : Thread nD τ).loc main_v2_2) := fun i =>
  A4 m c (ix3 (0 : Fin 2) (i 0 : Fin 2048) (i 1 : Fin 2048))

/-- The arrays the pipeline leaves. -/
theorem final5 : (dats (F := Ideal) m 0 c).arrAt 5 cfg0.N = G5 m c := by
  refine (dats (F := Ideal) m 0 c).arrAt_eq_of_covers 5 _ (by decide +kernel) fun t hf y => ?_
  obtain ⟨-, -, -, -, -, e, -, -⟩ := idx t
  blk_simp
  rw [after0_5]
  unfold outsAt0
  dsimp only
  rw [out5]
  obtain ⟨r, k, rfl⟩ : ∃ (r : Fin 512) (k : Fin 4224), y = ix2 r k := ⟨_, _, eq_ix2 y⟩
  refine (z_tile m c t r k).trans ?_
  have b0 : ((win0_5.blk t).view.emb (ix2 r k) 0).val = win0_5.index t (0 : Fin 2) * 512 + 1 * r.val := rfl
  have b1 : ((win0_5.blk t).view.emb (ix2 r k) 1).val = win0_5.index t (1 : Fin 2) * 4224 + 1 * k.val := rfl
  have e0 : win0_5.index t (0 : Fin 2) = t.val := congrFun e 0
  have e1 : win0_5.index t (1 : Fin 2) = 0 := congrFun e 1
  rw [e0] at b0
  rw [e1] at b1
  unfold G5
  exact congrArg₂ (fun a b => Cert.IRef.prj (A0 m c) (A1 m c) (A2 m c) a b) (by rw [b0]; omega)
    (Fin.ext (congrArg Cert.IRef.src (by rw [b1]; omega)))

theorem final6 : (dats (F := Ideal) m 0 c).arrAt 6 cfg0.N = G6 m c := by
  refine (dats (F := Ideal) m 0 c).arrAt_eq_of_covers 6 _ (by decide +kernel) fun t hf y => ?_
  obtain ⟨-, -, -, -, -, -, e, -⟩ := idx t
  blk_simp
  rw [after0_6]
  unfold outsAt0
  dsimp only
  rw [out6]
  obtain ⟨r, k, rfl⟩ : ∃ (r : Fin 176) (k : Fin 2048), y = ix2 r k := ⟨_, _, eq_ix2 y⟩
  refine (pay1_val _ r k).trans ((x3_read m c t r k).trans ?_)
  have b0 : ((win0_6.blk t).view.emb (ix2 r k) 0).val = win0_6.index t (0 : Fin 2) * 176 + 1 * r.val := rfl
  have b1 : ((win0_6.blk t).view.emb (ix2 r k) 1).val = win0_6.index t (1 : Fin 2) * 2048 + 1 * k.val := rfl
  have e0 : win0_6.index t (0 : Fin 2) = t.val := congrFun e 0
  have e1 : win0_6.index t (1 : Fin 2) = 0 := congrFun e 1
  rw [e0] at b0
  rw [e1] at b1
  unfold G6
  exact congrArg₂ (fun a b => A3 m c (ix3 (0 : Fin 2) a b)) (Fin.ext (by rw [b0]; show 176 * t.val + r.val = _; omega)) (Fin.ext (by rw [b1]; omega))

theorem final7 : (dats (F := Ideal) m 0 c).arrAt 7 cfg0.N = G7 m c := by
  refine (dats (F := Ideal) m 0 c).arrAt_eq_of_covers 7 _ (by decide +kernel) fun t hf y => ?_
  obtain ⟨-, -, -, -, -, -, -, e⟩ := idx t
  blk_simp
  rw [after0_7]
  unfold outsAt0
  dsimp only
  rw [out7]
  obtain ⟨r, k, rfl⟩ : ∃ (r : Fin 64) (k : Fin 2048), y = ix2 r k := ⟨_, _, eq_ix2 y⟩
  refine (pay2_val _ r k).trans ((x4_read m c t r k).trans ?_)
  have b0 : ((win0_7.blk t).view.emb (ix2 r k) 0).val = win0_7.index t (0 : Fin 2) * 64 + 1 * r.val := rfl
  have b1 : ((win0_7.blk t).view.emb (ix2 r k) 1).val = win0_7.index t (1 : Fin 2) * 2048 + 1 * k.val := rfl
  have e0 : win0_7.index t (0 : Fin 2) = t.val := congrFun e 0
  have e1 : win0_7.index t (1 : Fin 2) = 0 := congrFun e 1
  rw [e0] at b0
  rw [e1] at b1
  unfold G7
  exact congrArg₂ (fun a b => A4 m c (ix3 (0 : Fin 2) a b)) (Fin.ext (by rw [b0]; show 64 * t.val + r.val = _; omega)) (Fin.ext (by rw [b1]; omega))

/-- The run: the result buffers end holding the layer's results, every argument as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v2_0) = G5 m c
      ∧ r.2.mem ((c.tc : Thread nD τ).loc main_v2_1) = G6 m c
      ∧ r.2.mem ((c.tc : Thread nD τ).loc main_v2_2) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final5 m c), (h c).2.1.trans (final6 m c), (h c).2.2.1.trans (final7 m c), (h c).2.2.2⟩)
    (run_blocks (F := Ideal) m ρ)

end Cert.Kernel4Ideal.Iproj

end
-- ==== Proof.Iproj.lean ====
/- The input-projection call: the kernel's claim against the reference. -/
module

public import proofs.«01_k».proof.Defs
public import proofs.«01_k».proof.Proof.IVal

@[expose] public section

set_option maxRecDepth 16384

noncomputable section

namespace Cert.Iproj

open Idealize.ShloMosaic Idealize.ShloMosaic.TcCoe

/-- The reference runs, keeps its arguments and ends with every counter at zero. -/
theorem frame_r : quiescent_Reference4Ideal (hReference4Ideal := Cert.Reference4Ideal.Gen.facts) := fun m g _ =>
  (θ_run (Cert.Reference4Ideal.defs (F := Ideal)) _ _).mono (fun r h => ⟨fun c => (h c).2.2.2,
      Idealize.ShloMosaic.sem_eq_zero_of_no_sems (by decide) r.2⟩)
    (Cert.Reference4Ideal.Value.run (F := Ideal) m g)

/-- The kernel and the reference end with equal results. -/
theorem algebraic : algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Iproj.G5 m c, fun c => Cert.Kernel4Ideal.Iproj.G6 m c, fun c => Cert.Kernel4Ideal.Iproj.G7 m c,
    Cert.Kernel4Ideal.Iproj.run_value m g, ?_⟩
  refine (θ_run _ _ _).mono (fun r h c => ⟨(h c).1.trans ?_, (h c).2.1.trans ?_, (h c).2.2.1.trans ?_, (h c).2.2.2⟩) (Cert.Reference4Ideal.Value.run (F := Ideal) m' g')
  · obtain ⟨e0, e1, e2, e3, e4⟩ := hagree c
    rw [Cert.IRef.res_eq, e0, e1, e2]
    funext i
    obtain ⟨R, j, rfl⟩ : ∃ (R : Fin 16384) (j : Fin 4224), i = ix2 R j := ⟨_, _, eq_ix2 i⟩
    exact (Cert.IRef.refCat_val _ R j).trans (Cert.IRef.refZ_val _ _ _ R _)
  · obtain ⟨e0, e1, e2, e3, e4⟩ := hagree c
    rw [e3]
    funext i
    obtain ⟨k, j, rfl⟩ : ∃ (k : Fin 5632) (j : Fin 2048), i = ix2 k j := ⟨_, _, eq_ix2 i⟩
    exact Cert.IRef.cast8_val _ k j
  · obtain ⟨e0, e1, e2, e3, e4⟩ := hagree c
    rw [e4]
    funext i
    obtain ⟨k, j, rfl⟩ : ∃ (k j : Fin 2048), i = ix2 k j := ⟨_, _, eq_ix2 i⟩
    exact Cert.IRef.cast9_val _ k j

end Cert.Iproj

end
-- ==== Proof.PRef.lean ====
/- The per-layer embedding's numbers, and the reference's result over them. -/
module

public import proofs.«01_k».proof.Proof.IRef
public import proofs.«01_k».proof.Proof.Gen.Reference5Ideal.Run

@[expose] public section

set_option maxRecDepth 16384
set_option maxHeartbeats 1000000

noncomputable section

namespace Cert.PRef

open Idealize.ShloMosaic Idealize.ShloMosaic.TcCoe Cert.Reference5Ideal Cert.Reference5Ideal.Gen Cert.Reference5Ideal.Value Cert.FModel Cert.IRef

/-- The logistic, written with the hyperbolic tangent. -/
def sig' (x : EReal) : EReal := Ideal.ofBits FTy.f32 1056964608#32 * (1 + Ideal.tanh (Ideal.ofBits FTy.f32 1056964608#32 * x))

theorem sig_real (r : ℝ) : 1 / (1 + Real.exp (-r)) = 1 / 2 * (1 + Real.tanh (1 / 2 * r)) := by
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have p1 := Real.exp_pos (1 / 2 * r)
  have p2 := Real.exp_pos (-(1 / 2 * r))
  rw [e1]
  generalize Real.exp (1 / 2 * r) = u at *
  generalize Real.exp (-(1 / 2 * r)) = v at *
  have h1 : 1 + v * v ≠ 0 := by positivity
  have h2 : u + v ≠ 0 := by positivity
  field_simp
  linear_combination (-2 * v) * e2

/-- The two ways of writing the logistic agree, at the infinities too. -/
theorem sig_eq (x : EReal) : Ideal.div 1 (1 + Ideal.exp (-x)) = sig' x := by
  have hh : Ideal.ofBits FTy.f32 1056964608#32 = ((1 / 2 : ℝ) : EReal) := Cert.Reals.lit_half
  have hp : (0 : ℝ) < 1 / 2 := by norm_num
  unfold sig'
  rw [hh]
  induction x using EReal.rec with
  | bot =>
    rw [EReal.neg_bot, EReal.coe_mul_bot_of_pos hp]
    have e1 : Ideal.exp ⊤ = ⊤ := rfl
    have e2 : Ideal.tanh ⊥ = -1 := rfl
    have e3 : (1 : EReal) + -1 = 0 := by
      rw [show (1 : EReal) = ((1 : ℝ) : EReal) from rfl, ← EReal.coe_neg, ← EReal.coe_add, add_neg_cancel]; rfl
    have e4 : (1 : EReal) + ⊤ = ⊤ := by
      rw [show (1 : EReal) = ((1 : ℝ) : EReal) from rfl]; exact EReal.coe_add_top 1
    rw [e1, e2, e3, e4]
    unfold Ideal.div
    rw [if_neg EReal.top_ne_zero, EReal.inv_top, mul_zero, mul_zero]
  | top =>
    rw [EReal.neg_top, EReal.coe_mul_top_of_pos hp]
    have e1 : Ideal.exp ⊥ = 0 := rfl
    have e2 : Ideal.tanh ⊤ = 1 := rfl
    have e3 : ((1 / 2 : ℝ) : EReal) * (1 + 1) = 1 := by
      rw [show (1 : EReal) = ((1 : ℝ) : EReal) from rfl, ← EReal.coe_add, ← EReal.coe_mul]; norm_num
    rw [e1, e2, e3, add_zero]
    unfold Ideal.div
    rw [if_neg one_ne_zero, inv_one, mul_one]
  | coe r =>
    rw [← EReal.coe_neg, Ideal.exp_coe, ← EReal.coe_mul, Ideal.tanh_coe]
    have h1 : (1 : EReal) = ((1 : ℝ) : EReal) := rfl
    have hpos : (0 : ℝ) < 1 + Real.exp (-r) := by have := Real.exp_pos (-r); linarith
    rw [h1, ← EReal.coe_add, ← EReal.coe_add, ← EReal.coe_mul]
    unfold Ideal.div
    rw [if_neg (by intro h; exact hpos.ne' (EReal.coe_eq_zero.mp h)), ← EReal.coe_inv, ← EReal.coe_mul]
    congr 1
    have := sig_real r
    rw [← one_div]
    linarith

section
variable (a0 : S16384x2048.Idx → EReal) (a1 : S2x16384x256.Idx → EReal) (a2 : S2x2048.Idx → EReal) (a3 : S2048x2048.Idx → EReal) (a4 : S2x256x2048.Idx → EReal)
  (a5 : S2048.Idx → EReal) (R : Fin 16384) (j : Fin 2048)

/-- The gate before its logistic. -/
def pre : EReal := ∑ l : Fin 2048, a0 (ix2 R l) * rho a0 R.val * a2 (ix2 (1 : Fin 2) l) * a3 (ix2 l j)

/-- The layer's rows with the gated embedding added. -/
def row : EReal := a0 (ix2 R j) + (∑ e : Fin 256, a1 (ix3 (1 : Fin 2) R e) * a4 (ix3 (1 : Fin 2) e j)) * sig' (pre a0 a2 a3 R j)

/-- Those rows, normalized: the model's result. -/
def out : EReal :=
  row a0 a1 a2 a3 a4 R j * Ideal.rsqrt (Ideal.div (∑ l : Fin 2048, row a0 a1 a2 a3 a4 R l * row a0 a1 a2 a3 a4 R l) (Ideal.ofBits FTy.f32 1157627904#32)
    + Ideal.ofBits FTy.f32 897988541#32) * a5 (ix1 j)

/-- Scaling after the product is scaling before it. -/
theorem pre_eq : rho a0 R.val * ∑ l : Fin 2048, a0 (ix2 R l) * a2 (ix2 (1 : Fin 2) l) * a3 (ix2 l j) = pre a0 a2 a3 R j := by
  obtain ⟨r, h, e⟩ := rho_real a0 R.val
  unfold pre
  rw [e, mul_sum' _ _ r h]
  refine Finset.sum_congr rfl fun l _ => ?_
  rw [← mul_assoc, ← mul_assoc, mul_comm (r : EReal)]

end

section
variable (a0 : FVec Ideal S16384x2048 .f32) (a1 : FVec Ideal S2x16384x256 .f32) (a2 : FVec Ideal S2x2048 .f32) (a3 : FVec Ideal S2048x2048 .bf16)
  (a4 : FVec Ideal S2x256x2048 .f32) (a5 : FVec Ideal S2048 .f32)

/-- The rows, as the reference's program writes them. -/
def refRow : FVec Ideal S16384x2048 .f32 := addf a0 (mulf (Host.dotGeneral (φ₁ := .f32) (φ₂ := .f32) dot_S16384x256_S256x2048_S16384x2048_1_0_0_1_n_n none (shapeCast _ (extractStridedSlice S1x16384x256 ![1, 0, 0] a1 slices_S2x16384x256_S1x16384x256_1_0_0) shapeCasts_S1x16384x256_S16384x256) (shapeCast _ (extractStridedSlice S1x256x2048 ![1, 0, 0] a4 slices_S2x256x2048_S1x256x2048_1_0_0) shapeCasts_S1x256x2048_S256x2048)) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral (φ₁ := .f32) (φ₂ := .f32) dot_S16384x2048_S2048x2048_S16384x2048_1_0_0_1_n_n none (mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![1, 0] a2 slices_S2x2048_S1x2048_1_0) shapeCasts_S1x2048_S2048)))) (extf .f32 a3 bitsLt_bf16_f32)))))))

/-- The normalization, as the reference's program writes it. -/
def refOut (X : FVec Ideal S16384x2048 .f32) : FVec Ideal S16384x2048 .f32 := mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a5))

end

section
variable (a0 : S16384x2048.Idx → EReal) (a1 : S2x16384x256.Idx → EReal) (a2 : S2x2048.Idx → EReal) (a3 : S2048x2048.Idx → EReal) (a4 : S2x256x2048.Idx → EReal)
  (a5 : S2048.Idx → EReal) (R : Fin 16384) (j : Fin 2048)

theorem refRow_val : refRow a0 a1 a2 a3 a4 (ix2 R j) = row a0 a1 a2 a3 a4 R j := by
  unfold row
  rw [← sig_eq]
  unfold pre rho Cert.IRef.sq
  simp only [← at2_fin]
  pointwise [refRow]

theorem refOut_of (X : S16384x2048.Idx → EReal) :
    refOut a5 X (ix2 R j) = X (ix2 R j) * Ideal.rsqrt (Ideal.div (∑ l : Fin 2048, X (ix2 R l) * X (ix2 R l)) (Ideal.ofBits FTy.f32 1157627904#32)
      + Ideal.ofBits FTy.f32 897988541#32) * a5 (ix1 j) := by
  pointwise [refOut]

theorem refOut_val : refOut a5 (refRow a0 a1 a2 a3 a4) (ix2 R j) = out a0 a1 a2 a3 a4 a5 R j := by
  rw [refOut_of]
  simp only [refRow_val]
  rfl

end

theorem res_eq (m : (ℓ : Loc nD τ sig) → Buf (Elt Ideal) ℓ) (c : Dev nD) :
    res_main_v42 m c = refOut (m ((c.tc : Thread nD τ).loc main_arg5)) (refRow (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) := by
  unfold res_main_v42
  rfl

end Cert.PRef

end
-- ==== Proof.PRun.lean ====
/-
  The per-layer-embedding kernel's body at one grid point: what it leaves in its result block, as a function of what its windows show it.
-/
module

public import proofs.«01_k».proof.Proof.Gen.Kernel5Ideal.Value
public import proofs.«01_k».proof.Proof.PRef
public import Idealize.ShloMosaic.Lib.Pointwise
public import Idealize.ShloMosaic.Lib.Pipeline.ValueKit

@[expose] public section

set_option maxRecDepth 16384
set_option maxHeartbeats 1000000

noncomputable section

namespace Cert.Kernel5Ideal.Ple

open Idealize.ShloMosaic Idealize.ShloMosaic.TcCoe Cert.Kernel5Ideal Cert.Kernel5Ideal.Gen

/-- The weighted rows: the stores into the kernel's buffer. -/
def nL (x0 : S512x2048.Idx → EReal) (x2 : S1x1x2048.Idx → EReal) : List (View.Piece (Elt Ideal) S512x2048 .bf16) :=
  [⟨Rect.unit (s := S512x2048) ![0, 1792] S512x256.size inb_S512x2048_S512x256_0_1792, k0_pay10 (F := Ideal) (View.ld (Val := Elt Ideal) (e' := .f32) x0 (Rect.unit (s := S512x2048) ![0, 1792] ![512, 256] inb_S512x2048_S512x256_0_1792)) (View.ld (Val := Elt Ideal) (e' := .f32) x2 (Rect.unit (s := S1x1x2048) ![0, 0, 1792] ![1, 1, 256] inb_S1x1x2048_S1x1x256_0_0_1792))⟩,
   ⟨Rect.unit (s := S512x2048) ![0, 1536] S512x256.size inb_S512x2048_S512x256_0_1536, k0_pay9 (F := Ideal) (View.ld (Val := Elt Ideal) (e' := .f32) x0 (Rect.unit (s := S512x2048) ![0, 1536] ![512, 256] inb_S512x2048_S512x256_0_1536)) (View.ld (Val := Elt Ideal) (e' := .f32) x2 (Rect.unit (s := S1x1x2048) ![0, 0, 1536] ![1, 1, 256] inb_S1x1x2048_S1x1x256_0_0_1536))⟩,
   ⟨Rect.unit (s := S512x2048) ![0, 1280] S512x256.size inb_S512x2048_S512x256_0_1280, k0_pay7 (F := Ideal) (View.ld (Val := Elt Ideal) (e' := .f32) x0 (Rect.unit (s := S512x2048) ![0, 1280] ![512, 256] inb_S512x2048_S512x256_0_1280)) (View.ld (Val := Elt Ideal) (e' := .f32) x2 (Rect.unit (s := S1x1x2048) ![0, 0, 1280] ![1, 1, 256] inb_S1x1x2048_S1x1x256_0_0_1280))⟩,
   ⟨Rect.unit (s := S512x2048) ![0, 1024] S512x256.size inb_S512x2048_S512x256_0_1024, k0_pay6 (F := Ideal) (View.ld (Val := Elt Ideal) (e' := .f32) x0 (Rect.unit (s := S512x2048) ![0, 1024] ![512, 256] inb_S512x2048_S512x256_0_1024)) (View.ld (Val := Elt Ideal) (e' := .f32) x2 (Rect.unit (s := S1x1x2048) ![0, 0, 1024] ![1, 1, 256] inb_S1x1x2048_S1x1x256_0_0_1024))⟩,
   ⟨Rect.unit (s := S512x2048) ![0, 768] S512x256.size inb_S512x2048_S512x256_0_768, k0_pay5 (F := Ideal) (View.ld (Val := Elt Ideal) (e' := .f32) x0 (Rect.unit (s := S512x2048) ![0, 768] ![512, 256] inb_S512x2048_S512x256_0_768)) (View.ld (Val := Elt Ideal) (e' := .f32) x2 (Rect.unit (s := S1x1x2048) ![0, 0, 768] ![1, 1, 256] inb_S1x1x2048_S1x1x256_0_0_768))⟩,
   ⟨Rect.unit (s := S512x2048) ![0, 512] S512x256.size inb_S512x2048_S512x256_0_512, k0_pay3 (F := Ideal) (View.ld (Val := Elt Ideal) (e' := .f32) x0 (Rect.unit (s := S512x2048) ![0, 512] ![512, 256] inb_S512x2048_S512x256_0_512)) (View.ld (Val := Elt Ideal) (e' := .f32) x2 (Rect.unit (s := S1x1x2048) ![0, 0, 512] ![1, 1, 256] inb_S1x1x2048_S1x1x256_0_0_512))⟩,
   ⟨Rect.unit (s := S512x2048) ![0, 256] S512x256.size inb_S512x2048_S512x256_0_256, k0_pay2 (F := Ideal) (View.ld (Val := Elt Ideal) (e' := .f32) x0 (Rect.unit (s := S512x2048) ![0, 256] ![512, 256] inb_S512x2048_S512x256_0_256)) (View.ld (Val := Elt Ideal) (e' := .f32) x2 (Rect.unit (s := S1x1x2048) ![0, 0, 256] ![1, 1, 256] inb_S1x1x2048_S1x1x256_0_0_256))⟩,
   ⟨Rect.unit (s := S512x2048) ![0, 0] S512x256.size inb_S512x2048_S512x256_0_0, k0_pay1 (F := Ideal) (View.ld (Val := Elt Ideal) (e' := .f32) x0 (Rect.unit (s := S512x2048) ![0, 0] ![512, 256] inb_S512x2048_S512x256_0_0)) (View.ld (Val := Elt Ideal) (e' := .f32) x2 (Rect.unit (s := S1x1x2048) ![0, 0, 0] ![1, 1, 256] inb_S1x1x2048_S1x1x256_0_0_0))⟩]

/-- The weighted rows as an array. -/
def nT (x0 : S512x2048.Idx → EReal) (x2 : S1x1x2048.Idx → EReal) : S512x2048.Idx → EReal := View.canon (Val := Elt Ideal) (e := .bf16) (nL x0 x2)

/-- The scale of each row. -/
def rs (x0 : S512x2048.Idx → EReal) : S512x512.Idx → EReal :=
  k0_pay11 (F := Ideal) (k0_pay8 (F := Ideal) (k0_pay4 (F := Ideal) (View.ld (Val := Elt Ideal) (e' := .f32) x0 (Rect.unit (s := S512x2048) ![0, 0] ![512, 256] inb_S512x2048_S512x256_0_0)) (View.ld (Val := Elt Ideal) (e' := .f32) x0 (Rect.unit (s := S512x2048) ![0, 256] ![512, 256] inb_S512x2048_S512x256_0_256)) (View.ld (Val := Elt Ideal) (e' := .f32) x0 (Rect.unit (s := S512x2048) ![0, 512] ![512, 256] inb_S512x2048_S512x256_0_512))) (View.ld (Val := Elt Ideal) (e' := .f32) x0 (Rect.unit (s := S512x2048) ![0, 768] ![512, 256] inb_S512x2048_S512x256_0_768)) (View.ld (Val := Elt Ideal) (e' := .f32) x0 (Rect.unit (s := S512x2048) ![0, 1024] ![512, 256] inb_S512x2048_S512x256_0_1024)) (View.ld (Val := Elt Ideal) (e' := .f32) x0 (Rect.unit (s := S512x2048) ![0, 1280] ![512, 256] inb_S512x2048_S512x256_0_1280))) (View.ld (Val := Elt Ideal) (e' := .f32) x0 (Rect.unit (s := S512x2048) ![0, 1536] ![512, 256] inb_S512x2048_S512x256_0_1536)) (View.ld (Val := Elt Ideal) (e' := .f32) x0 (Rect.unit (s := S512x2048) ![0, 1792] ![512, 256] inb_S512x2048_S512x256_0_1792))

/-- The stores into the result's block before its normalization. -/
def hL (x0 M : S512x2048.Idx → EReal) (P : S512x256.Idx → EReal) (x3 : S2048x2048.Idx → EReal) (x4 : S1x256x2048.Idx → EReal) : List (View.Piece (Elt Ideal) S512x2048 .f32) :=
  [⟨Rect.unit (s := S512x2048) ![0, 1792] S512x256.size inb_S512x2048_S512x256_0_1792, k0_pay18 (F := Ideal) (rs x0) M P (View.ld (Val := Elt Ideal) (e' := .bf16) x3 (Rect.unit (s := S2048x2048) ![0, 1792] ![2048, 256] inb_S2048x2048_S2048x256_0_1792)) (View.ld (Val := Elt Ideal) (e' := .f32) x0 (Rect.unit (s := S512x2048) ![0, 1792] ![512, 256] inb_S512x2048_S512x256_0_1792)) (View.ld (Val := Elt Ideal) (e' := .bf16) x4 (Rect.unit (s := S1x256x2048) ![0, 0, 1792] ![1, 256, 256] inb_S1x256x2048_S1x256x256_0_0_1792))⟩,
   ⟨Rect.unit (s := S512x2048) ![0, 1536] S512x256.size inb_S512x2048_S512x256_0_1536, k0_pay17 (F := Ideal) (rs x0) M P (View.ld (Val := Elt Ideal) (e' := .bf16) x3 (Rect.unit (s := S2048x2048) ![0, 1536] ![2048, 256] inb_S2048x2048_S2048x256_0_1536)) (View.ld (Val := Elt Ideal) (e' := .f32) x0 (Rect.unit (s := S512x2048) ![0, 1536] ![512, 256] inb_S512x2048_S512x256_0_1536)) (View.ld (Val := Elt Ideal) (e' := .bf16) x4 (Rect.unit (s := S1x256x2048) ![0, 0, 1536] ![1, 256, 256] inb_S1x256x2048_S1x256x256_0_0_1536))⟩,
   ⟨Rect.unit (s := S512x2048) ![0, 1024] S512x512.size inb_S512x2048_S512x512_0_1024, k0_pay16 (F := Ideal) (rs x0) M P (View.ld (Val := Elt Ideal) (e' := .bf16) x3 (Rect.unit (s := S2048x2048) ![0, 1024] ![2048, 512] inb_S2048x2048_S2048x512_0_1024)) (View.ld (Val := Elt Ideal) (e' := .f32) x0 (Rect.unit (s := S512x2048) ![0, 1024] ![512, 512] inb_S512x2048_S512x512_0_1024)) (View.ld (Val := Elt Ideal) (e' := .bf16) x4 (Rect.unit (s := S1x256x2048) ![0, 0, 1024] ![1, 256, 512] inb_S1x256x2048_S1x256x512_0_0_1024))⟩,
   ⟨Rect.unit (s := S512x2048) ![0, 512] S512x512.size inb_S512x2048_S512x512_0_512, k0_pay15 (F := Ideal) (rs x0) M P (View.ld (Val := Elt Ideal) (e' := .bf16) x3 (Rect.unit (s := S2048x2048) ![0, 512] ![2048, 512] inb_S2048x2048_S2048x512_0_512)) (View.ld (Val := Elt Ideal) (e' := .f32) x0 (Rect.unit (s := S512x2048) ![0, 512] ![512, 512] inb_S512x2048_S512x512_0_512)) (View.ld (Val := Elt Ideal) (e' := .bf16) x4 (Rect.unit (s := S1x256x2048) ![0, 0, 512] ![1, 256, 512] inb_S1x256x2048_S1x256x512_0_0_512))⟩,
   ⟨Rect.unit (s := S512x2048) ![0, 0] S512x512.size inb_S512x2048_S512x512_0_0, k0_pay14 (F := Ideal) P (k0_pay13 (F := Ideal) (k0_pay8 (F := Ideal) (k0_pay4 (F := Ideal) (View.ld (Val := Elt Ideal) (e' := .f32) x0 (Rect.unit (s := S512x2048) ![0, 0] ![512, 256] inb_S512x2048_S512x256_0_0)) (View.ld (Val := Elt Ideal) (e' := .f32) x0 (Rect.unit (s := S512x2048) ![0, 256] ![512, 256] inb_S512x2048_S512x256_0_256)) (View.ld (Val := Elt Ideal) (e' := .f32) x0 (Rect.unit (s := S512x2048) ![0, 512] ![512, 256] inb_S512x2048_S512x256_0_512))) (View.ld (Val := Elt Ideal) (e' := .f32) x0 (Rect.unit (s := S512x2048) ![0, 768] ![512, 256] inb_S512x2048_S512x256_0_768)) (View.ld (Val := Elt Ideal) (e' := .f32) x0 (Rect.unit (s := S512x2048) ![0, 1024] ![512, 256] inb_S512x2048_S512x256_0_1024)) (View.ld (Val := Elt Ideal) (e' := .f32) x0 (Rect.unit (s := S512x2048) ![0, 1280] ![512, 256] inb_S512x2048_S512x256_0_1280))) (View.ld (Val := Elt Ideal) (e' := .f32) x0 (Rect.unit (s := S512x2048) ![0, 1536] ![512, 256] inb_S512x2048_S512x256_0_1536)) (View.ld (Val := Elt Ideal) (e' := .f32) x0 (Rect.unit (s := S512x2048) ![0, 1792] ![512, 256] inb_S512x2048_S512x256_0_1792)) M (View.ld (Val := Elt Ideal) (e' := .bf16) x3 (Rect.unit (s := S2048x2048) ![0, 0] ![2048, 512] inb_S2048x2048_S2048x512_0_0))) (Scalar.ofBits .f32 0x3F000000#32) (View.ld (Val := Elt Ideal) (e' := .f32) x0 (Rect.unit (s := S512x2048) ![0, 0] ![512, 512] inb_S512x2048_S512x512_0_0)) (View.ld (Val := Elt Ideal) (e' := .bf16) x4 (Rect.unit (s := S1x256x2048) ![0, 0, 0] ![1, 256, 512] inb_S1x256x2048_S1x256x512_0_0_0))⟩]

/-- The result's block before its normalization. -/
def hT (x0 M : S512x2048.Idx → EReal) (P : S512x256.Idx → EReal) (x3 : S2048x2048.Idx → EReal) (x4 : S1x256x2048.Idx → EReal) : S512x2048.Idx → EReal := View.canon (Val := Elt Ideal) (e := .f32) (hL x0 M P x3 x4)

theorem n_cover (x0 : S512x2048.Idx → EReal) (x2 : S1x1x2048.Idx → EReal) : ∀ y, ∃ p ∈ nL x0 x2, y ∈ p.1.set :=
  View.cover_of_tiledBy _ ![512, 256] (by sl_kernel_rfl)

theorem h_cover (x0 M : S512x2048.Idx → EReal) (P : S512x256.Idx → EReal) (x3 : S2048x2048.Idx → EReal) (x4 : S1x256x2048.Idx → EReal) : ∀ y, ∃ p ∈ hL x0 M P x3 x4, y ∈ p.1.set :=
  View.cover_of_tiledBy _ ![512, 256] (by sl_kernel_rfl)

theorem n_read (v : View sig .tc .vmem S512x2048 .bf16) (x0 : S512x2048.Idx → EReal) (x2 : S1x1x2048.Idx → EReal) :
    v.readCov (Val := Elt Ideal) (nL x0 x2) (Rect.unit (s := S512x2048) ![0, 0] ![512, 2048] inb_S512x2048_S512x2048_0_0).toLoadRect = nT x0 x2 := by
  rw [View.readCov_eq_canon_ld _ _ _ (n_cover x0 x2)]
  exact View.ld_unit_zero (S := S512x2048) (off := ![0, 0]) (by funext a; fin_cases a <;> rfl) _ _

theorem h_read (v : View sig .tc .vmem S512x2048 .f32) (x0 M : S512x2048.Idx → EReal) (P : S512x256.Idx → EReal) (x3 : S2048x2048.Idx → EReal) (x4 : S1x256x2048.Idx → EReal) :
    v.readCov (Val := Elt Ideal) (hL x0 M P x3 x4) (Rect.unit (s := S512x2048) ![0, 0] ![512, 2048] inb_S512x2048_S512x2048_0_0).toLoadRect = hT x0 M P x3 x4 := by
  rw [View.readCov_eq_canon_ld _ _ _ (h_cover x0 M P x3 x4)]
  exact View.ld_unit_zero (S := S512x2048) (off := ![0, 0]) (by funext a; fin_cases a <;> rfl) _ _

section
variable (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S1x256x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
  (x0 : Vec Ideal S512x2048 .f32) (x1 : Vec Ideal S1x512x256 .f32) (x2 : Vec Ideal S1x1x2048 .f32) (x3 : Vec Ideal S2048x2048 .bf16) (x4 : Vec Ideal S1x256x2048 .bf16) (x5 : Vec Ideal S1x2048 .f32)

/-- The stores into the result's block. -/
theorem run6 : (kernelRun0_A c i arg1 harg1 arg2 harg2 arg3 harg3 arg4 harg4 arg5 harg5 arg6 harg6 arg7 harg7 arg8 harg8 x0 x1 x2 x3 x4 x5).1
    = ⟨Rect.unit (s := S512x2048) ![0, 0] S512x2048.size inb_S512x2048_S512x2048_0_0,
        k0_pay19 (F := Ideal) (hT x0 (nT x0 x2) (k0_pay12 (F := Ideal) x1) x3 x4) x5⟩ :: hL x0 (nT x0 x2) (k0_pay12 (F := Ideal) x1) x3 x4 := by
  unfold kernelRun0_A; dsimp only; sl_unfold_words
  simp only [View.readAt_eq_ld, harg1.read_unread, harg2.read_unread, harg3.read_unread, harg4.read_unread, harg5.read_unread, harg6.read_unread, harg7.read_unread, harg8.read_unread]
  simp only [View.ld_unit_zero (S := S1x512x256) (off := ![0, 0, 0]) (by funext a; fin_cases a <;> rfl),
    View.ld_unit_zero (S := S1x2048) (off := ![0, 0]) (by funext a; fin_cases a <;> rfl)]
  rw [← h_read arg7.view, ← n_read arg8.view x0 x2]
  rfl

theorem out6 : out0_A_6 c i arg1 harg1 arg2 harg2 arg3 harg3 arg4 harg4 arg5 harg5 arg6 harg6 arg7 harg7 arg8 harg8 x0 x1 x2 x3 x4 x5 = k0_pay19 (F := Ideal) (hT x0 (nT x0 x2) (k0_pay12 (F := Ideal) x1) x3 x4) x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5), run6]
  exact View.canon_cons_unit_zero (by funext a; fin_cases a <;> rfl) _ _ _

end

/-- Columns of an array read at an offset. -/
theorem ld_cols {q S : ℕ} {t : EltTy} (x : (⟨2, ![q, 2048]⟩ : Shape).Idx → Elt Ideal t) (o : ℕ)
    (inb : ∀ a, (![0, o] : Fin 2 → ℕ) a + (![q, S] : Fin 2 → ℕ) a ≤ (⟨2, ![q, 2048]⟩ : Shape).size a)
    (r : Fin q) (k : Fin S) (j : Fin 2048) (h : j.val = o + k.val) :
    View.ld (Val := Elt Ideal) (e' := t) x (Rect.unit (s := ⟨2, ![q, 2048]⟩) ![0, o] ![q, S] inb) (ix2 r k) = x (ix2 r j) := by
  refine congrArg x ?_
  funext a; apply Fin.ext; fin_cases a
  · show 0 + 1 * r.val = r.val; omega
  · show o + 1 * k.val = j.val; omega

theorem ld_slab {q S : ℕ} {t : EltTy} (x : (⟨3, ![1, q, 2048]⟩ : Shape).Idx → Elt Ideal t) (o : ℕ)
    (inb : ∀ a, (![0, 0, o] : Fin 3 → ℕ) a + (![1, q, S] : Fin 3 → ℕ) a ≤ (⟨3, ![1, q, 2048]⟩ : Shape).size a)
    (l : Fin q) (k : Fin S) (j : Fin 2048) (h : j.val = o + k.val) :
    View.ld (Val := Elt Ideal) (e' := t) x (Rect.unit (s := ⟨3, ![1, q, 2048]⟩) ![0, 0, o] ![1, q, S] inb) (ix3 (0 : Fin 1) l k) = x (ix3 (0 : Fin 1) l j) := by
  refine congrArg x ?_
  funext a; apply Fin.ext; fin_cases a
  · rfl
  · show 0 + 1 * l.val = l.val; omega
  · show o + 1 * k.val = j.val; omega

theorem pay10_val (h : S512x256.Idx → EReal) (n : S1x1x256.Idx → EReal) (r : Fin 512) (k : Fin 256) :
    k0_pay10 (F := Ideal) h n (ix2 r k) = h (ix2 r k) * n (ix3 (0 : Fin 1) (0 : Fin 1) k) := by
  pointwise [k0_pay10]

theorem pay9_val (h : S512x256.Idx → EReal) (n : S1x1x256.Idx → EReal) (r : Fin 512) (k : Fin 256) :
    k0_pay9 (F := Ideal) h n (ix2 r k) = h (ix2 r k) * n (ix3 (0 : Fin 1) (0 : Fin 1) k) := by
  pointwise [k0_pay9]

theorem pay7_val (h : S512x256.Idx → EReal) (n : S1x1x256.Idx → EReal) (r : Fin 512) (k : Fin 256) :
    k0_pay7 (F := Ideal) h n (ix2 r k) = h (ix2 r k) * n (ix3 (0 : Fin 1) (0 : Fin 1) k) := by
  pointwise [k0_pay7]

theorem pay6_val (h : S512x256.Idx → EReal) (n : S1x1x256.Idx → EReal) (r : Fin 512) (k : Fin 256) :
    k0_pay6 (F := Ideal) h n (ix2 r k) = h (ix2 r k) * n (ix3 (0 : Fin 1) (0 : Fin 1) k) := by
  pointwise [k0_pay6]

theorem pay5_val (h : S512x256.Idx → EReal) (n : S1x1x256.Idx → EReal) (r : Fin 512) (k : Fin 256) :
    k0_pay5 (F := Ideal) h n (ix2 r k) = h (ix2 r k) * n (ix3 (0 : Fin 1) (0 : Fin 1) k) := by
  pointwise [k0_pay5]

theorem pay3_val (h : S512x256.Idx → EReal) (n : S1x1x256.Idx → EReal) (r : Fin 512) (k : Fin 256) :
    k0_pay3 (F := Ideal) h n (ix2 r k) = h (ix2 r k) * n (ix3 (0 : Fin 1) (0 : Fin 1) k) := by
  pointwise [k0_pay3]

theorem pay2_val (h : S512x256.Idx → EReal) (n : S1x1x256.Idx → EReal) (r : Fin 512) (k : Fin 256) :
    k0_pay2 (F := Ideal) h n (ix2 r k) = h (ix2 r k) * n (ix3 (0 : Fin 1) (0 : Fin 1) k) := by
  pointwise [k0_pay2]

theorem pay1_val (h : S512x256.Idx → EReal) (n : S1x1x256.Idx → EReal) (r : Fin 512) (k : Fin 256) :
    k0_pay1 (F := Ideal) h n (ix2 r k) = h (ix2 r k) * n (ix3 (0 : Fin 1) (0 : Fin 1) k) := by
  pointwise [k0_pay1]

/-- The weighted rows, entry by entry. -/
theorem nT_val (x0 : S512x2048.Idx → EReal) (x2 : S1x1x2048.Idx → EReal) (r : Fin 512) (k : Fin 2048) : nT x0 x2 (ix2 r k) = x0 (ix2 r k) * x2 (ix3 (0 : Fin 1) (0 : Fin 1) k) := by
  refine View.canon_eq_of_allAt _ _ _ (n_cover x0 x2 _) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro z hz
    obtain ⟨r', k', rfl⟩ : ∃ (r' : Fin 512) (k' : Fin 256), z = ix2 r' k' := ⟨_, _, eq_ix2 z⟩
    have e0 : r.val = 0 + r'.val := hz 0
    have e1 : k.val = 1792 + k'.val := hz 1
    obtain rfl : r = r' := Fin.ext (by omega)
    exact (pay10_val _ _ r k').trans (congrArg₂ (· * ·) (ld_cols (q := 512) (t := .f32) x0 1792 _ r k' k e1) (ld_slab (q := 1) (t := .f32) x2 1792 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1536 + k'.val := hz 1
    obtain rfl : r = r' := Fin.ext (by omega)
    exact (pay9_val _ _ r k').trans (congrArg₂ (· * ·) (ld_cols (q := 512) (t := .f32) x0 1536 _ r k' k e1) (ld_slab (q := 1) (t := .f32) x2 1536 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1280 + k'.val := hz 1
    obtain rfl : r = r' := Fin.ext (by omega)
    exact (pay7_val _ _ r k').trans (congrArg₂ (· * ·) (ld_cols (q := 512) (t := .f32) x0 1280 _ r k' k e1) (ld_slab (q := 1) (t := .f32) x2 1280 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1024 + k'.val := hz 1
    obtain rfl : r = r' := Fin.ext (by omega)
    exact (pay6_val _ _ r k').trans (congrArg₂ (· * ·) (ld_cols (q := 512) (t := .f32) x0 1024 _ r k' k e1) (ld_slab (q := 1) (t := .f32) x2 1024 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 768 + k'.val := hz 1
    obtain rfl : r = r' := Fin.ext (by omega)
    exact (pay5_val _ _ r k').trans (congrArg₂ (· * ·) (ld_cols (q := 512) (t := .f32) x0 768 _ r k' k e1) (ld_slab (q := 1) (t := .f32) x2 768 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 512 + k'.val := hz 1
    obtain rfl : r = r' := Fin.ext (by omega)
    exact (pay3_val _ _ r k').trans (congrArg₂ (· * ·) (ld_cols (q := 512) (t := .f32) x0 512 _ r k' k e1) (ld_slab (q := 1) (t := .f32) x2 512 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 256 + k'.val := hz 1
    obtain rfl : r = r' := Fin.ext (by omega)
    exact (pay2_val _ _ r k').trans (congrArg₂ (· * ·) (ld_cols (q := 512) (t := .f32) x0 256 _ r k' k e1) (ld_slab (q := 1) (t := .f32) x2 256 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 0 + k'.val := hz 1
    obtain rfl : r = r' := Fin.ext (by omega)
    exact (pay1_val _ _ r k').trans (congrArg₂ (· * ·) (ld_cols (q := 512) (t := .f32) x0 0 _ r k' k e1) (ld_slab (q := 1) (t := .f32) x2 0 _ (0 : Fin 1) k' k e1))

/-- The part of a row's sum of squares over the columns `q, 256 + q, …`. -/
theorem pay4_val (h1 h2 h3 : S512x256.Idx → EReal) (r : Fin 512) (k : Fin 256) :
    k0_pay4 (F := Ideal) h1 h2 h3 (ix2 r k) = h1 (ix2 r k) * h1 (ix2 r k) + h2 (ix2 r k) * h2 (ix2 r k) + h3 (ix2 r k) * h3 (ix2 r k) := by
  pointwise [k0_pay4]

theorem pay8_val (h1 h2 h3 h4 : S512x256.Idx → EReal) (r : Fin 512) (k : Fin 256) :
    k0_pay8 (F := Ideal) h1 h2 h3 h4 (ix2 r k)
      = h1 (ix2 r k) + h2 (ix2 r k) * h2 (ix2 r k) + h3 (ix2 r k) * h3 (ix2 r k) + h4 (ix2 r k) * h4 (ix2 r k) := by
  pointwise [k0_pay8]

theorem pay11_val (h1 h2 h3 : S512x256.Idx → EReal) (r k : Fin 512) :
    k0_pay11 (F := Ideal) h1 h2 h3 (ix2 r k)
      = Ideal.rsqrt ((∑ k : Fin 256, (h1 (ix2 r k) + h2 (ix2 r k) * h2 (ix2 r k) + h3 (ix2 r k) * h3 (ix2 r k)))
        * Ideal.ofBits FTy.f32 973078528#32 + Ideal.ofBits FTy.f32 897988541#32) := by
  pointwise [k0_pay11]

/-- The scale of a row. -/
theorem rs_val (x0 : S512x2048.Idx → EReal) (r k : Fin 512) (g : ℕ → EReal) (hg : ∀ l : Fin 2048, x0 (ix2 r l) * x0 (ix2 r l) = g l.val) :
    rs x0 (ix2 r k) = Ideal.rsqrt ((∑ l : Fin 2048, g l.val) * Ideal.ofBits FTy.f32 973078528#32 + Ideal.ofBits FTy.f32 897988541#32) := by
  refine (pay11_val _ _ _ r k).trans (congrArg Ideal.rsqrt (congrArg₂ (· + ·) (congrArg₂ (· * ·) ?_ rfl) rfl))
  refine Eq.trans (Finset.sum_congr rfl fun k _ => ?_) (Cert.IRef.sum_parts g)
  have e : ∀ (o : ℕ) (inb : ∀ a, (![0, o] : Fin 2 → ℕ) a + (![512, 256] : Fin 2 → ℕ) a ≤ S512x2048.size a) (ho : o ≤ 1792),
      View.ld (Val := Elt Ideal) (e' := .f32) x0 (Rect.unit (s := S512x2048) ![0, o] ![512, 256] inb) (ix2 r k)
        * View.ld (Val := Elt Ideal) (e' := .f32) x0 (Rect.unit (s := S512x2048) ![0, o] ![512, 256] inb) (ix2 r k) = g (o + k.val) := by
    intro o inb ho
    have := ld_cols (q := 512) (t := .f32) x0 o inb r k ⟨o + k.val, by omega⟩ rfl
    exact (congrArg₂ (· * ·) this this).trans (hg _)
  have z0 : g k.val = g (0 + k.val) := by rw [Nat.zero_add]
  rw [z0]
  refine congrArg₂ (· + ·) (congrArg₂ (· + ·) ?_ (e 1536 _ (by norm_num))) (e 1792 _ (by norm_num))
  refine (pay8_val _ _ _ _ r k).trans ?_
  refine congrArg₂ (· + ·) (congrArg₂ (· + ·) (congrArg₂ (· + ·) ?_ (e 768 _ (by norm_num))) (e 1024 _ (by norm_num))) (e 1280 _ (by norm_num))
  refine (pay4_val _ _ _ r k).trans ?_
  exact congrArg₂ (· + ·) (congrArg₂ (· + ·) (e 0 _ (by norm_num)) (e 256 _ (by norm_num))) (e 512 _ (by norm_num))

section
variable (v : S512x512.Idx → EReal) (a : S512x2048.Idx → EReal) (P : S512x256.Idx → EReal) (r : Fin 512)

theorem pay13_val (h1 h2 h3 : S512x256.Idx → EReal) (w : S2048x512.Idx → EReal) (k : Fin 512) :
    k0_pay13 (F := Ideal) h1 h2 h3 a w (ix2 r k) = k0_pay11 (F := Ideal) h1 h2 h3 (ix2 r k) * ∑ l : Fin 2048, a (ix2 r l) * w (ix2 l k) := by
  pointwise [k0_pay13]

theorem pay14_val (h e : _) (k : Fin 512) :
    k0_pay14 (F := Ideal) P v (Scalar.ofBits .f32 0x3F000000#32) (h : S512x512.Idx → EReal) (e : S1x256x512.Idx → EReal) (ix2 r k)
      = h (ix2 r k) + (∑ l : Fin 256, P (ix2 r l) * e (ix3 (0 : Fin 1) l k)) * Cert.PRef.sig' (v (ix2 r k)) := by
  unfold Cert.PRef.sig'
  pointwise [k0_pay14]

theorem pay15_val (w : S2048x512.Idx → EReal) (h : S512x512.Idx → EReal) (e : S1x256x512.Idx → EReal) (k : Fin 512) :
    k0_pay15 (F := Ideal) v a P w h e (ix2 r k)
      = h (ix2 r k) + (∑ l : Fin 256, P (ix2 r l) * e (ix3 (0 : Fin 1) l k)) * Cert.PRef.sig' (v (ix2 r (k : Fin 512)) * ∑ l : Fin 2048, a (ix2 r l) * w (ix2 l k)) := by
  unfold Cert.PRef.sig'
  pointwise [k0_pay15]

theorem pay16_val (w : S2048x512.Idx → EReal) (h : S512x512.Idx → EReal) (e : S1x256x512.Idx → EReal) (k : Fin 512) :
    k0_pay16 (F := Ideal) v a P w h e (ix2 r k)
      = h (ix2 r k) + (∑ l : Fin 256, P (ix2 r l) * e (ix3 (0 : Fin 1) l k)) * Cert.PRef.sig' (v (ix2 r (k : Fin 512)) * ∑ l : Fin 2048, a (ix2 r l) * w (ix2 l k)) := by
  unfold Cert.PRef.sig'
  pointwise [k0_pay16]

theorem pay17_val (w : S2048x256.Idx → EReal) (h : S512x256.Idx → EReal) (e : S1x256x256.Idx → EReal) (k : Fin 256) :
    k0_pay17 (F := Ideal) v a P w h e (ix2 r k)
      = h (ix2 r k) + (∑ l : Fin 256, P (ix2 r l) * e (ix3 (0 : Fin 1) l k)) * Cert.PRef.sig' (v (ix2 r (⟨k.val, by omega⟩ : Fin 512)) * ∑ l : Fin 2048, a (ix2 r l) * w (ix2 l k)) := by
  unfold Cert.PRef.sig'
  pointwise [k0_pay17]

theorem pay18_val (w : S2048x256.Idx → EReal) (h : S512x256.Idx → EReal) (e : S1x256x256.Idx → EReal) (k : Fin 256) :
    k0_pay18 (F := Ideal) v a P w h e (ix2 r k)
      = h (ix2 r k) + (∑ l : Fin 256, P (ix2 r l) * e (ix3 (0 : Fin 1) l k)) * Cert.PRef.sig' (v (ix2 r (⟨k.val, by omega⟩ : Fin 512)) * ∑ l : Fin 2048, a (ix2 r l) * w (ix2 l k)) := by
  unfold Cert.PRef.sig'
  pointwise [k0_pay18]

theorem pay12_val (x : S1x512x256.Idx → EReal) (k : Fin 256) : k0_pay12 (F := Ideal) x (ix2 r k) = x (ix3 (0 : Fin 1) r k) := by
  pointwise [k0_pay12]

theorem pay19_val (f : S1x2048.Idx → EReal) (k : Fin 2048) :
    k0_pay19 (F := Ideal) a f (ix2 r k) = a (ix2 r k) * Ideal.rsqrt (Ideal.div (∑ l : Fin 2048, a (ix2 r l) * a (ix2 r l)) (Ideal.ofBits FTy.f32 1157627904#32)
      + Ideal.ofBits FTy.f32 897988541#32) * f (ix2 (0 : Fin 1) k) := by
  pointwise [k0_pay19]

end

/-- The result's block before its normalization, entry by entry. -/
theorem hT_val (x0 M : S512x2048.Idx → EReal) (P : S512x256.Idx → EReal) (x3 : S2048x2048.Idx → EReal) (x4 : S1x256x2048.Idx → EReal) (r : Fin 512) (k : Fin 2048) (ρ : EReal) (hρ : ∀ q : Fin 512, rs x0 (ix2 r q) = ρ) :
    hT x0 M P x3 x4 (ix2 r k) = x0 (ix2 r k) + (∑ l : Fin 256, P (ix2 r l) * x4 (ix3 (0 : Fin 1) l k)) * Cert.PRef.sig' (ρ * ∑ l : Fin 2048, M (ix2 r l) * x3 (ix2 l k)) := by
  refine View.canon_eq_of_allAt _ _ _ (h_cover x0 M P x3 x4 _) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))
  · intro z hz
    obtain ⟨r', k', rfl⟩ : ∃ (r' : Fin 512) (k' : Fin 256), z = ix2 r' k' := ⟨_, _, eq_ix2 z⟩
    have e0 : r.val = 0 + r'.val := hz 0
    have e1 : k.val = 1792 + k'.val := hz 1
    obtain rfl : r = r' := Fin.ext (by omega)
    have eh := ld_cols (q := 512) (t := .f32) x0 1792 inb_S512x2048_S512x256_0_1792 r k' k e1
    have ew := fun l : Fin 2048 => ld_cols (q := 2048) (t := .bf16) x3 1792 inb_S2048x2048_S2048x256_0_1792 l k' k e1
    have ee := fun l : Fin 256 => ld_slab (q := 256) (t := .bf16) x4 1792 inb_S1x256x2048_S1x256x256_0_0_1792 l k' k e1
    exact (pay18_val (rs x0) M P r _ _ _ k').trans (congrArg₂ (· + ·) eh (congrArg₂ (· * ·) (Finset.sum_congr rfl fun l _ => congrArg₂ (· * ·) rfl (ee l)) (congrArg Cert.PRef.sig'
      (congrArg₂ (· * ·) (hρ _) (Finset.sum_congr rfl fun l _ => congrArg₂ (· * ·) rfl (ew l))))))
  · intro z hz
    obtain ⟨r', k', rfl⟩ : ∃ (r' : Fin 512) (k' : Fin 256), z = ix2 r' k' := ⟨_, _, eq_ix2 z⟩
    have e0 : r.val = 0 + r'.val := hz 0
    have e1 : k.val = 1536 + k'.val := hz 1
    obtain rfl : r = r' := Fin.ext (by omega)
    have eh := ld_cols (q := 512) (t := .f32) x0 1536 inb_S512x2048_S512x256_0_1536 r k' k e1
    have ew := fun l : Fin 2048 => ld_cols (q := 2048) (t := .bf16) x3 1536 inb_S2048x2048_S2048x256_0_1536 l k' k e1
    have ee := fun l : Fin 256 => ld_slab (q := 256) (t := .bf16) x4 1536 inb_S1x256x2048_S1x256x256_0_0_1536 l k' k e1
    exact (pay17_val (rs x0) M P r _ _ _ k').trans (congrArg₂ (· + ·) eh (congrArg₂ (· * ·) (Finset.sum_congr rfl fun l _ => congrArg₂ (· * ·) rfl (ee l)) (congrArg Cert.PRef.sig'
      (congrArg₂ (· * ·) (hρ _) (Finset.sum_congr rfl fun l _ => congrArg₂ (· * ·) rfl (ew l))))))
  · intro z hz
    obtain ⟨r', k', rfl⟩ : ∃ (r' : Fin 512) (k' : Fin 512), z = ix2 r' k' := ⟨_, _, eq_ix2 z⟩
    have e0 : r.val = 0 + r'.val := hz 0
    have e1 : k.val = 1024 + k'.val := hz 1
    obtain rfl : r = r' := Fin.ext (by omega)
    have eh := ld_cols (q := 512) (t := .f32) x0 1024 inb_S512x2048_S512x512_0_1024 r k' k e1
    have ew := fun l : Fin 2048 => ld_cols (q := 2048) (t := .bf16) x3 1024 inb_S2048x2048_S2048x512_0_1024 l k' k e1
    have ee := fun l : Fin 256 => ld_slab (q := 256) (t := .bf16) x4 1024 inb_S1x256x2048_S1x256x512_0_0_1024 l k' k e1
    exact (pay16_val (rs x0) M P r _ _ _ k').trans (congrArg₂ (· + ·) eh (congrArg₂ (· * ·) (Finset.sum_congr rfl fun l _ => congrArg₂ (· * ·) rfl (ee l)) (congrArg Cert.PRef.sig'
      (congrArg₂ (· * ·) (hρ _) (Finset.sum_congr rfl fun l _ => congrArg₂ (· * ·) rfl (ew l))))))
  · intro z hz
    obtain ⟨r', k', rfl⟩ : ∃ (r' : Fin 512) (k' : Fin 512), z = ix2 r' k' := ⟨_, _, eq_ix2 z⟩
    have e0 : r.val = 0 + r'.val := hz 0
    have e1 : k.val = 512 + k'.val := hz 1
    obtain rfl : r = r' := Fin.ext (by omega)
    have eh := ld_cols (q := 512) (t := .f32) x0 512 inb_S512x2048_S512x512_0_512 r k' k e1
    have ew := fun l : Fin 2048 => ld_cols (q := 2048) (t := .bf16) x3 512 inb_S2048x2048_S2048x512_0_512 l k' k e1
    have ee := fun l : Fin 256 => ld_slab (q := 256) (t := .bf16) x4 512 inb_S1x256x2048_S1x256x512_0_0_512 l k' k e1
    exact (pay15_val (rs x0) M P r _ _ _ k').trans (congrArg₂ (· + ·) eh (congrArg₂ (· * ·) (Finset.sum_congr rfl fun l _ => congrArg₂ (· * ·) rfl (ee l)) (congrArg Cert.PRef.sig'
      (congrArg₂ (· * ·) (hρ _) (Finset.sum_congr rfl fun l _ => congrArg₂ (· * ·) rfl (ew l))))))
  · intro z hz
    obtain ⟨r', k', rfl⟩ : ∃ (r' : Fin 512) (k' : Fin 512), z = ix2 r' k' := ⟨_, _, eq_ix2 z⟩
    have e0 : r.val = 0 + r'.val := hz 0
    have e1 : k.val = 0 + k'.val := hz 1
    obtain rfl : r = r' := Fin.ext (by omega)
    have eh := ld_cols (q := 512) (t := .f32) x0 0 inb_S512x2048_S512x512_0_0 r k' k e1
    have ew := fun l : Fin 2048 => ld_cols (q := 2048) (t := .bf16) x3 0 inb_S2048x2048_S2048x512_0_0 l k' k e1
    have ee := fun l : Fin 256 => ld_slab (q := 256) (t := .bf16) x4 0 inb_S1x256x2048_S1x256x512_0_0_0 l k' k e1
    refine (pay14_val _ P r _ _ k').trans (congrArg₂ (· + ·) eh (congrArg₂ (· * ·) (Finset.sum_congr rfl fun l _ => congrArg₂ (· * ·) rfl (ee l)) (congrArg Cert.PRef.sig' ?_)))
    exact (pay13_val M r _ _ _ _ k').trans (congrArg₂ (· * ·) (hρ k') (Finset.sum_congr rfl fun l _ => congrArg₂ (· * ·) rfl (ew l)))

end Cert.Kernel5Ideal.Ple

end
-- ==== Proof.PVal.lean ====
/- The per-layer-embedding kernel's stages over the layer's numbers: its windows, its result array and its run. -/
module

public import proofs.«01_k».proof.Proof.PRun
public import proofs.«01_k».proof.Proof.PRef
public import Idealize.ShloMosaic.Lib.Claim
public import Idealize.ShloMosaic.Lib.StableHlo.ReadAt

@[expose] public section

set_option maxRecDepth 16384
set_option maxHeartbeats 1000000

noncomputable section

namespace Cert.Kernel5Ideal.Ple

open Idealize.ShloMosaic Idealize.ShloMosaic.TcCoe Cert.Kernel5Ideal Cert.Kernel5Ideal.Gen Cert.Kernel5Ideal.Value Cert.FModel

variable (m : (ℓ : Loc nD τ sig) → Buf (Elt Ideal) ℓ) (c : Dev nD)

/-- The arguments of the call. -/
abbrev A0 : FVec Ideal S16384x2048 .f32 := m ((c : Thread nD τ).loc main_arg0)
abbrev A1 : FVec Ideal S2x16384x256 .f32 := m ((c : Thread nD τ).loc main_arg1)
abbrev A2 : FVec Ideal S2x2048 .f32 := m ((c : Thread nD τ).loc main_arg2)
abbrev A3 : FVec Ideal S2048x2048 .bf16 := m ((c : Thread nD τ).loc main_arg3)
abbrev A4 : FVec Ideal S2x256x2048 .f32 := m ((c : Thread nD τ).loc main_arg4)
abbrev A5 : FVec Ideal S2048 .f32 := m ((c : Thread nD τ).loc main_arg5)

/-- The windows' block indices. -/
theorem idx : ∀ t : Fin cfg0.N, win0_0.index t = ![t.val, 0] ∧ win0_1.index t = ![1, t.val, 0] ∧ win0_2.index t = ![1, 0, 0]
    ∧ win0_3.index t = ![0, 0] ∧ win0_4.index t = ![1, 0, 0] ∧ win0_5.index t = ![0, 0] ∧ win0_6.index t = ![t.val, 0] := by decide +kernel

section
variable (t : Fin cfg0.N)

theorem lt_N : t.val < 32 := t.isLt

/-- A tile's row, in the layer. -/
abbrev rw' (r : Fin 512) : Fin 16384 := ⟨512 * t.val + r.val, by have := lt_N t; omega⟩

theorem x0_read (r : Fin 512) (l : Fin 2048) : iblk m c 0 t (ix2 r l) = A0 m c (ix2 (rw' t r) l) := by
  blk_ext [iblk, V_main_arg0, idx t]

theorem x1_read (r : Fin 512) (l : Fin 256) : iblk m c 1 t (ix3 (0 : Fin 1) r l) = A1 m c (ix3 (1 : Fin 2) (rw' t r) l) := by
  blk_ext [iblk, V_main_arg1, idx t]

theorem x2_read (l : Fin 2048) : iblk m c 2 t (ix3 (0 : Fin 1) (0 : Fin 1) l) = A2 m c (ix2 (1 : Fin 2) l) := by
  have : iblk m c 2 t (ix3 (0 : Fin 1) (0 : Fin 1) l) = V m c main_v0 (ix3 (1 : Fin 2) (0 : Fin 1) l) := by
    blk_ext [iblk, idx t]
  rw [this]
  unfold V
  after_reads_at

theorem x3_read (k l : Fin 2048) : iblk m c 3 t (ix2 k l) = A3 m c (ix2 k l) := by
  blk_ext [iblk, V_main_arg3, idx t]

theorem x4_read (l : Fin 256) (j : Fin 2048) : iblk m c 4 t (ix3 (0 : Fin 1) l j) = A4 m c (ix3 (1 : Fin 2) l j) := by
  have : iblk m c 4 t (ix3 (0 : Fin 1) l j) = V m c main_v1 (ix3 (1 : Fin 2) l j) := by
    blk_ext [iblk, idx t]
  rw [this]
  unfold V
  after_reads_at

theorem x5_read (l : Fin 2048) : iblk m c 5 t (ix2 (0 : Fin 1) l) = A5 m c (ix1 l) := by
  have : iblk m c 5 t (ix2 (0 : Fin 1) l) = V m c main_v2 (ix2 (0 : Fin 1) l) := by
    blk_ext [iblk, idx t]
  rw [this]
  unfold V
  after_reads_at

/-- The rows of a tile with the gated embedding added. -/
theorem row_tile (r : Fin 512) (k : Fin 2048) :
    hT (iblk m c 0 t) (nT (iblk m c 0 t) (iblk m c 2 t)) (k0_pay12 (F := Ideal) (iblk m c 1 t)) (iblk m c 3 t) (iblk m c 4 t) (ix2 r k)
      = Cert.PRef.row (A0 m c) (A1 m c) (A2 m c) (A3 m c) (A4 m c) (rw' t r) k := by
  refine (hT_val _ _ _ _ _ r k (Cert.IRef.rho (A0 m c) (rw' t r).val) fun q => ?_).trans ?_
  · rw [Cert.IRef.rho_eq]
    exact rs_val _ r q (fun l => at2 (A0 m c) (rw' t r).val l * at2 (A0 m c) (rw' t r).val l)
      fun l => congrArg₂ (· * ·) ((x0_read m c t r l).trans (at2_fin _ _ _)) ((x0_read m c t r l).trans (at2_fin _ _ _))
  · unfold Cert.PRef.row
    refine congrArg₂ (· + ·) (x0_read m c t r k) (congrArg₂ (· * ·)
      (Finset.sum_congr rfl fun l _ => congrArg₂ (· * ·) ((pay12_val r _ l).trans (x1_read m c t r l)) (x4_read m c t l k)) (congrArg Cert.PRef.sig' ?_))
    rw [← Cert.PRef.pre_eq]
    exact congrArg₂ (· * ·) rfl (Finset.sum_congr rfl fun l _ => congrArg₂ (· * ·)
      ((nT_val _ _ r l).trans (congrArg₂ (· * ·) (x0_read m c t r l) (x2_read m c t l))) (x3_read m c t l k))

end

/-- The result on a device, whole. -/
def G6 : Buf (Elt Ideal) ((c : Thread nD τ).loc main_v3) := fun i =>
  Cert.PRef.out (A0 m c) (A1 m c) (A2 m c) (A3 m c) (A4 m c) (A5 m c) (i 0 : Fin 16384) (i 1 : Fin 2048)

/-- The array the pipeline leaves. -/
theorem final6 : (dats (F := Ideal) m 0 c).arrAt 6 cfg0.N = G6 m c := by
  refine (dats (F := Ideal) m 0 c).arrAt_eq_of_covers 6 _ (by decide +kernel) fun t hf y => ?_
  obtain ⟨-, -, -, -, -, -, e⟩ := idx t
  blk_simp
  rw [after0_6]
  unfold outsAt0
  dsimp only
  rw [out6]
  obtain ⟨r, k, rfl⟩ : ∃ (r : Fin 512) (k : Fin 2048), y = ix2 r k := ⟨_, _, eq_ix2 y⟩
  refine (pay19_val _ r _ k).trans ?_
  have b0 : ((win0_6.blk t).view.emb (ix2 r k) 0).val = win0_6.index t (0 : Fin 2) * 512 + 1 * r.val := rfl
  have b1 : ((win0_6.blk t).view.emb (ix2 r k) 1).val = win0_6.index t (1 : Fin 2) * 2048 + 1 * k.val := rfl
  have e0 : win0_6.index t (0 : Fin 2) = t.val := congrFun e 0
  have e1 : win0_6.index t (1 : Fin 2) = 0 := congrFun e 1
  rw [e0] at b0
  rw [e1] at b1
  unfold G6
  refine Eq.trans ?_ (congrArg₂ (fun a b => Cert.PRef.out (A0 m c) (A1 m c) (A2 m c) (A3 m c) (A4 m c) (A5 m c) a b)
    (Fin.ext (by rw [b0]; show 512 * t.val + r.val = _; omega) : rw' t r = _) (Fin.ext (by rw [b1]; omega) : k = _))
  unfold Cert.PRef.out
  refine congrArg₂ (· * ·) (congrArg₂ (· * ·) (row_tile m c t r k) (congrArg Ideal.rsqrt (congrArg₂ (· + ·) (congrArg₂ Ideal.div ?_ rfl) rfl))) (x5_read m c t k)
  exact Finset.sum_congr rfl fun l _ => congrArg₂ (· * ·) (row_tile m c t r l) (row_tile m c t r l)

/-- The run: the result buffer ends holding the model's result, every argument as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v3) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final6 m c), (h c).2⟩)
    (run_blocks (F := Ideal) m ρ)

end Cert.Kernel5Ideal.Ple

end
-- ==== Proof.Ple.lean ====
/- The per-layer-embedding call: the kernel's claim against the reference. -/
module

public import proofs.«01_k».proof.Defs
public import proofs.«01_k».proof.Proof.PVal

@[expose] public section

set_option maxRecDepth 16384

noncomputable section

namespace Cert.Ple

open Idealize.ShloMosaic Idealize.ShloMosaic.TcCoe

/-- The reference runs, keeps its arguments and ends with every counter at zero. -/
theorem frame_r : quiescent_Reference5Ideal (hReference5Ideal := Cert.Reference5Ideal.Gen.facts) := fun m g _ =>
  (θ_run (Cert.Reference5Ideal.defs (F := Ideal)) _ _).mono (fun r h => ⟨fun c => (h c).2,
      Idealize.ShloMosaic.sem_eq_zero_of_no_sems (by decide) r.2⟩)
    (Cert.Reference5Ideal.Value.run (F := Ideal) m g)

/-- The kernel and the reference end with equal results. -/
theorem algebraic : algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Ple.G6 m c, Cert.Kernel5Ideal.Ple.run_value m g, ?_⟩
  refine (θ_run _ _ _).mono (fun r h c => ⟨(h c).1.trans ?_, (h c).2⟩) (Cert.Reference5Ideal.Value.run (F := Ideal) m' g')
  obtain ⟨e0, e1, e2, e3, e4, e5⟩ := hagree c
  rw [Cert.PRef.res_eq, e0, e1, e2, e3, e4, e5]
  funext i
  obtain ⟨R, j, rfl⟩ : ∃ (R : Fin 16384) (j : Fin 2048), i = ix2 R j := ⟨_, _, eq_ix2 i⟩
  exact Cert.PRef.refOut_val _ _ _ _ _ _ R j

end Cert.Ple

end
-- ==== Proof.QRun.lean ====
/-
  The first layer's embedding kernel's body at one grid point: what it leaves in its result block, as a function of what its windows show it.
-/
module

public import proofs.«01_k».proof.Proof.Gen.Kernel6Ideal.Value
public import proofs.«01_k».proof.Proof.PRef
public import Idealize.ShloMosaic.Lib.Pointwise
public import Idealize.ShloMosaic.Lib.Pipeline.ValueKit

@[expose] public section

set_option maxRecDepth 16384
set_option maxHeartbeats 1000000

noncomputable section

namespace Cert.Kernel6Ideal.Ple0

open Idealize.ShloMosaic Idealize.ShloMosaic.TcCoe Cert.Kernel6Ideal Cert.Kernel6Ideal.Gen

/-- The weighted rows: the stores into the kernel's buffer. -/
def nL (x0 : S512x2048.Idx → EReal) (x2 : S1x1x2048.Idx → EReal) : List (View.Piece (Elt Ideal) S512x2048 .bf16) :=
  [⟨Rect.unit (s := S512x2048) ![0, 1792] S512x256.size inb_S512x2048_S512x256_0_1792, k0_pay11 (F := Ideal) (View.ld (Val := Elt Ideal) (e' := .f32) x0 (Rect.unit (s := S512x2048) ![0, 1792] ![512, 256] inb_S512x2048_S512x256_0_1792)) (View.ld (Val := Elt Ideal) (e' := .f32) x2 (Rect.unit (s := S1x1x2048) ![0, 0, 1792] ![1, 1, 256] inb_S1x1x2048_S1x1x256_0_0_1792))⟩,
   ⟨Rect.unit (s := S512x2048) ![0, 1536] S512x256.size inb_S512x2048_S512x256_0_1536, k0_pay10 (F := Ideal) (View.ld (Val := Elt Ideal) (e' := .f32) x0 (Rect.unit (s := S512x2048) ![0, 1536] ![512, 256] inb_S512x2048_S512x256_0_1536)) (View.ld (Val := Elt Ideal) (e' := .f32) x2 (Rect.unit (s := S1x1x2048) ![0, 0, 1536] ![1, 1, 256] inb_S1x1x2048_S1x1x256_0_0_1536))⟩,
   ⟨Rect.unit (s := S512x2048) ![0, 1280] S512x256.size inb_S512x2048_S512x256_0_1280, k0_pay8 (F := Ideal) (View.ld (Val := Elt Ideal) (e' := .f32) x0 (Rect.unit (s := S512x2048) ![0, 1280] ![512, 256] inb_S512x2048_S512x256_0_1280)) (View.ld (Val := Elt Ideal) (e' := .f32) x2 (Rect.unit (s := S1x1x2048) ![0, 0, 1280] ![1, 1, 256] inb_S1x1x2048_S1x1x256_0_0_1280))⟩,
   ⟨Rect.unit (s := S512x2048) ![0, 1024] S512x256.size inb_S512x2048_S512x256_0_1024, k0_pay7 (F := Ideal) (View.ld (Val := Elt Ideal) (e' := .f32) x0 (Rect.unit (s := S512x2048) ![0, 1024] ![512, 256] inb_S512x2048_S512x256_0_1024)) (View.ld (Val := Elt Ideal) (e' := .f32) x2 (Rect.unit (s := S1x1x2048) ![0, 0, 1024] ![1, 1, 256] inb_S1x1x2048_S1x1x256_0_0_1024))⟩,
   ⟨Rect.unit (s := S512x2048) ![0, 768] S512x256.size inb_S512x2048_S512x256_0_768, k0_pay6 (F := Ideal) (View.ld (Val := Elt Ideal) (e' := .f32) x0 (Rect.unit (s := S512x2048) ![0, 768] ![512, 256] inb_S512x2048_S512x256_0_768)) (View.ld (Val := Elt Ideal) (e' := .f32) x2 (Rect.unit (s := S1x1x2048) ![0, 0, 768] ![1, 1, 256] inb_S1x1x2048_S1x1x256_0_0_768))⟩,
   ⟨Rect.unit (s := S512x2048) ![0, 512] S512x256.size inb_S512x2048_S512x256_0_512, k0_pay4 (F := Ideal) (View.ld (Val := Elt Ideal) (e' := .f32) x0 (Rect.unit (s := S512x2048) ![0, 512] ![512, 256] inb_S512x2048_S512x256_0_512)) (View.ld (Val := Elt Ideal) (e' := .f32) x2 (Rect.unit (s := S1x1x2048) ![0, 0, 512] ![1, 1, 256] inb_S1x1x2048_S1x1x256_0_0_512))⟩,
   ⟨Rect.unit (s := S512x2048) ![0, 256] S512x256.size inb_S512x2048_S512x256_0_256, k0_pay3 (F := Ideal) (View.ld (Val := Elt Ideal) (e' := .f32) x0 (Rect.unit (s := S512x2048) ![0, 256] ![512, 256] inb_S512x2048_S512x256_0_256)) (View.ld (Val := Elt Ideal) (e' := .f32) x2 (Rect.unit (s := S1x1x2048) ![0, 0, 256] ![1, 1, 256] inb_S1x1x2048_S1x1x256_0_0_256))⟩,
   ⟨Rect.unit (s := S512x2048) ![0, 0] S512x256.size inb_S512x2048_S512x256_0_0, k0_pay2 (F := Ideal) (View.ld (Val := Elt Ideal) (e' := .f32) x0 (Rect.unit (s := S512x2048) ![0, 0] ![512, 256] inb_S512x2048_S512x256_0_0)) (View.ld (Val := Elt Ideal) (e' := .f32) x2 (Rect.unit (s := S1x1x2048) ![0, 0, 0] ![1, 1, 256] inb_S1x1x2048_S1x1x256_0_0_0))⟩]

/-- The weighted rows as an array. -/
def nT (x0 : S512x2048.Idx → EReal) (x2 : S1x1x2048.Idx → EReal) : S512x2048.Idx → EReal := View.canon (Val := Elt Ideal) (e := .bf16) (nL x0 x2)

/-- The scale of each row. -/
def rs (x0 : S512x2048.Idx → EReal) : S512x512.Idx → EReal :=
  k0_pay12 (F := Ideal) (k0_pay9 (F := Ideal) (k0_pay5 (F := Ideal) (View.ld (Val := Elt Ideal) (e' := .f32) x0 (Rect.unit (s := S512x2048) ![0, 0] ![512, 256] inb_S512x2048_S512x256_0_0)) (View.ld (Val := Elt Ideal) (e' := .f32) x0 (Rect.unit (s := S512x2048) ![0, 256] ![512, 256] inb_S512x2048_S512x256_0_256)) (View.ld (Val := Elt Ideal) (e' := .f32) x0 (Rect.unit (s := S512x2048) ![0, 512] ![512, 256] inb_S512x2048_S512x256_0_512))) (View.ld (Val := Elt Ideal) (e' := .f32) x0 (Rect.unit (s := S512x2048) ![0, 768] ![512, 256] inb_S512x2048_S512x256_0_768)) (View.ld (Val := Elt Ideal) (e' := .f32) x0 (Rect.unit (s := S512x2048) ![0, 1024] ![512, 256] inb_S512x2048_S512x256_0_1024)) (View.ld (Val := Elt Ideal) (e' := .f32) x0 (Rect.unit (s := S512x2048) ![0, 1280] ![512, 256] inb_S512x2048_S512x256_0_1280))) (View.ld (Val := Elt Ideal) (e' := .f32) x0 (Rect.unit (s := S512x2048) ![0, 1536] ![512, 256] inb_S512x2048_S512x256_0_1536)) (View.ld (Val := Elt Ideal) (e' := .f32) x0 (Rect.unit (s := S512x2048) ![0, 1792] ![512, 256] inb_S512x2048_S512x256_0_1792))

/-- The stores into the result's block. -/
def hL (x0 M : S512x2048.Idx → EReal) (P : S512x256.Idx → EReal) (x3 : S2048x2048.Idx → EReal) (x4 : S1x256x2048.Idx → EReal) : List (View.Piece (Elt Ideal) S512x2048 .f32) :=
  [⟨Rect.unit (s := S512x2048) ![0, 1792] S512x256.size inb_S512x2048_S512x256_0_1792, k0_pay1 (F := Ideal) (rs x0) M P (View.ld (Val := Elt Ideal) (e' := .bf16) x3 (Rect.unit (s := S2048x2048) ![0, 1792] ![2048, 256] inb_S2048x2048_S2048x256_0_1792)) (View.ld (Val := Elt Ideal) (e' := .f32) x0 (Rect.unit (s := S512x2048) ![0, 1792] ![512, 256] inb_S512x2048_S512x256_0_1792)) (View.ld (Val := Elt Ideal) (e' := .bf16) x4 (Rect.unit (s := S1x256x2048) ![0, 0, 1792] ![1, 256, 256] inb_S1x256x2048_S1x256x256_0_0_1792))⟩,
   ⟨Rect.unit (s := S512x2048) ![0, 1536] S512x256.size inb_S512x2048_S512x256_0_1536, k0_pay18 (F := Ideal) (rs x0) M P (View.ld (Val := Elt Ideal) (e' := .bf16) x3 (Rect.unit (s := S2048x2048) ![0, 1536] ![2048, 256] inb_S2048x2048_S2048x256_0_1536)) (View.ld (Val := Elt Ideal) (e' := .f32) x0 (Rect.unit (s := S512x2048) ![0, 1536] ![512, 256] inb_S512x2048_S512x256_0_1536)) (View.ld (Val := Elt Ideal) (e' := .bf16) x4 (Rect.unit (s := S1x256x2048) ![0, 0, 1536] ![1, 256, 256] inb_S1x256x2048_S1x256x256_0_0_1536))⟩,
   ⟨Rect.unit (s := S512x2048) ![0, 1024] S512x512.size inb_S512x2048_S512x512_0_1024, k0_pay17 (F := Ideal) (rs x0) M P (View.ld (Val := Elt Ideal) (e' := .bf16) x3 (Rect.unit (s := S2048x2048) ![0, 1024] ![2048, 512] inb_S2048x2048_S2048x512_0_1024)) (View.ld (Val := Elt Ideal) (e' := .f32) x0 (Rect.unit (s := S512x2048) ![0, 1024] ![512, 512] inb_S512x2048_S512x512_0_1024)) (View.ld (Val := Elt Ideal) (e' := .bf16) x4 (Rect.unit (s := S1x256x2048) ![0, 0, 1024] ![1, 256, 512] inb_S1x256x2048_S1x256x512_0_0_1024))⟩,
   ⟨Rect.unit (s := S512x2048) ![0, 512] S512x512.size inb_S512x2048_S512x512_0_512, k0_pay16 (F := Ideal) (rs x0) M P (View.ld (Val := Elt Ideal) (e' := .bf16) x3 (Rect.unit (s := S2048x2048) ![0, 512] ![2048, 512] inb_S2048x2048_S2048x512_0_512)) (View.ld (Val := Elt Ideal) (e' := .f32) x0 (Rect.unit (s := S512x2048) ![0, 512] ![512, 512] inb_S512x2048_S512x512_0_512)) (View.ld (Val := Elt Ideal) (e' := .bf16) x4 (Rect.unit (s := S1x256x2048) ![0, 0, 512] ![1, 256, 512] inb_S1x256x2048_S1x256x512_0_0_512))⟩,
   ⟨Rect.unit (s := S512x2048) ![0, 0] S512x512.size inb_S512x2048_S512x512_0_0, k0_pay15 (F := Ideal) P (k0_pay14 (F := Ideal) (k0_pay9 (F := Ideal) (k0_pay5 (F := Ideal) (View.ld (Val := Elt Ideal) (e' := .f32) x0 (Rect.unit (s := S512x2048) ![0, 0] ![512, 256] inb_S512x2048_S512x256_0_0)) (View.ld (Val := Elt Ideal) (e' := .f32) x0 (Rect.unit (s := S512x2048) ![0, 256] ![512, 256] inb_S512x2048_S512x256_0_256)) (View.ld (Val := Elt Ideal) (e' := .f32) x0 (Rect.unit (s := S512x2048) ![0, 512] ![512, 256] inb_S512x2048_S512x256_0_512))) (View.ld (Val := Elt Ideal) (e' := .f32) x0 (Rect.unit (s := S512x2048) ![0, 768] ![512, 256] inb_S512x2048_S512x256_0_768)) (View.ld (Val := Elt Ideal) (e' := .f32) x0 (Rect.unit (s := S512x2048) ![0, 1024] ![512, 256] inb_S512x2048_S512x256_0_1024)) (View.ld (Val := Elt Ideal) (e' := .f32) x0 (Rect.unit (s := S512x2048) ![0, 1280] ![512, 256] inb_S512x2048_S512x256_0_1280))) (View.ld (Val := Elt Ideal) (e' := .f32) x0 (Rect.unit (s := S512x2048) ![0, 1536] ![512, 256] inb_S512x2048_S512x256_0_1536)) (View.ld (Val := Elt Ideal) (e' := .f32) x0 (Rect.unit (s := S512x2048) ![0, 1792] ![512, 256] inb_S512x2048_S512x256_0_1792)) M (View.ld (Val := Elt Ideal) (e' := .bf16) x3 (Rect.unit (s := S2048x2048) ![0, 0] ![2048, 512] inb_S2048x2048_S2048x512_0_0))) (Scalar.ofBits .f32 0x3F000000#32) (View.ld (Val := Elt Ideal) (e' := .f32) x0 (Rect.unit (s := S512x2048) ![0, 0] ![512, 512] inb_S512x2048_S512x512_0_0)) (View.ld (Val := Elt Ideal) (e' := .bf16) x4 (Rect.unit (s := S1x256x2048) ![0, 0, 0] ![1, 256, 512] inb_S1x256x2048_S1x256x512_0_0_0))⟩]

/-- The result's block. -/
def hT (x0 M : S512x2048.Idx → EReal) (P : S512x256.Idx → EReal) (x3 : S2048x2048.Idx → EReal) (x4 : S1x256x2048.Idx → EReal) : S512x2048.Idx → EReal := View.canon (Val := Elt Ideal) (e := .f32) (hL x0 M P x3 x4)

theorem n_cover (x0 : S512x2048.Idx → EReal) (x2 : S1x1x2048.Idx → EReal) : ∀ y, ∃ p ∈ nL x0 x2, y ∈ p.1.set :=
  View.cover_of_tiledBy _ ![512, 256] (by sl_kernel_rfl)

theorem h_cover (x0 M : S512x2048.Idx → EReal) (P : S512x256.Idx → EReal) (x3 : S2048x2048.Idx → EReal) (x4 : S1x256x2048.Idx → EReal) : ∀ y, ∃ p ∈ hL x0 M P x3 x4, y ∈ p.1.set :=
  View.cover_of_tiledBy _ ![512, 256] (by sl_kernel_rfl)

theorem n_read (v : View sig .tc .vmem S512x2048 .bf16) (x0 : S512x2048.Idx → EReal) (x2 : S1x1x2048.Idx → EReal) :
    v.readCov (Val := Elt Ideal) (nL x0 x2) (Rect.unit (s := S512x2048) ![0, 0] ![512, 2048] inb_S512x2048_S512x2048_0_0).toLoadRect = nT x0 x2 := by
  rw [View.readCov_eq_canon_ld _ _ _ (n_cover x0 x2)]
  exact View.ld_unit_zero (S := S512x2048) (off := ![0, 0]) (by funext a; fin_cases a <;> rfl) _ _

section
variable (c : Dev nD) (i : grid0.Coords) (arg1 : Memref sig .tc .vmem S512x2048 .f32) (harg1 : arg1.IsWhole) (arg2 : Memref sig .tc .vmem S1x512x256 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S1x256x2048 .bf16) (harg5 : arg5.IsWhole) (arg6 : Memref sig .tc .vmem S512x2048 .f32) (harg6 : arg6.IsWhole) (arg7 : Memref sig .tc .vmem S512x2048 .bf16) (harg7 : arg7.IsWhole)
  (x0 : Vec Ideal S512x2048 .f32) (x1 : Vec Ideal S1x512x256 .f32) (x2 : Vec Ideal S1x1x2048 .f32) (x3 : Vec Ideal S2048x2048 .bf16) (x4 : Vec Ideal S1x256x2048 .bf16)

/-- The stores into the result's block. -/
theorem run5 : (kernelRun0_A c i arg1 harg1 arg2 harg2 arg3 harg3 arg4 harg4 arg5 harg5 arg6 harg6 arg7 harg7 x0 x1 x2 x3 x4).1 = hL x0 (nT x0 x2) (k0_pay13 (F := Ideal) x1) x3 x4 := by
  unfold kernelRun0_A; dsimp only; sl_unfold_words
  simp only [View.readAt_eq_ld, harg1.read_unread, harg2.read_unread, harg3.read_unread, harg4.read_unread, harg5.read_unread, harg6.read_unread, harg7.read_unread]
  simp only [View.ld_unit_zero (S := S1x512x256) (off := ![0, 0, 0]) (by funext a; fin_cases a <;> rfl)]
  rw [← n_read arg7.view x0 x2]
  rfl

theorem out5 : out0_A_5 c i arg1 harg1 arg2 harg2 arg3 harg3 arg4 harg4 arg5 harg5 arg6 harg6 arg7 harg7 x0 x1 x2 x3 x4 = hT x0 (nT x0 x2) (k0_pay13 (F := Ideal) x1) x3 x4 := by
  unfold out0_A_5
  rw [View.read_writes_eq_canon _ _ _ (cover0_A_5 c i arg1 harg1 arg2 harg2 arg3 harg3 arg4 harg4 arg5 harg5 arg6 harg6 arg7 harg7 x0 x1 x2 x3 x4), run5]
  rfl

end

/-- Columns of an array read at an offset. -/
theorem ld_cols {q S : ℕ} {t : EltTy} (x : (⟨2, ![q, 2048]⟩ : Shape).Idx → Elt Ideal t) (o : ℕ)
    (inb : ∀ a, (![0, o] : Fin 2 → ℕ) a + (![q, S] : Fin 2 → ℕ) a ≤ (⟨2, ![q, 2048]⟩ : Shape).size a)
    (r : Fin q) (k : Fin S) (j : Fin 2048) (h : j.val = o + k.val) :
    View.ld (Val := Elt Ideal) (e' := t) x (Rect.unit (s := ⟨2, ![q, 2048]⟩) ![0, o] ![q, S] inb) (ix2 r k) = x (ix2 r j) := by
  refine congrArg x ?_
  funext a; apply Fin.ext; fin_cases a
  · show 0 + 1 * r.val = r.val; omega
  · show o + 1 * k.val = j.val; omega

theorem ld_slab {q S : ℕ} {t : EltTy} (x : (⟨3, ![1, q, 2048]⟩ : Shape).Idx → Elt Ideal t) (o : ℕ)
    (inb : ∀ a, (![0, 0, o] : Fin 3 → ℕ) a + (![1, q, S] : Fin 3 → ℕ) a ≤ (⟨3, ![1, q, 2048]⟩ : Shape).size a)
    (l : Fin q) (k : Fin S) (j : Fin 2048) (h : j.val = o + k.val) :
    View.ld (Val := Elt Ideal) (e' := t) x (Rect.unit (s := ⟨3, ![1, q, 2048]⟩) ![0, 0, o] ![1, q, S] inb) (ix3 (0 : Fin 1) l k) = x (ix3 (0 : Fin 1) l j) := by
  refine congrArg x ?_
  funext a; apply Fin.ext; fin_cases a
  · rfl
  · show 0 + 1 * l.val = l.val; omega
  · show o + 1 * k.val = j.val; omega

theorem pay11_val (h : S512x256.Idx → EReal) (n : S1x1x256.Idx → EReal) (r : Fin 512) (k : Fin 256) :
    k0_pay11 (F := Ideal) h n (ix2 r k) = h (ix2 r k) * n (ix3 (0 : Fin 1) (0 : Fin 1) k) := by
  pointwise [k0_pay11]

theorem pay10_val (h : S512x256.Idx → EReal) (n : S1x1x256.Idx → EReal) (r : Fin 512) (k : Fin 256) :
    k0_pay10 (F := Ideal) h n (ix2 r k) = h (ix2 r k) * n (ix3 (0 : Fin 1) (0 : Fin 1) k) := by
  pointwise [k0_pay10]

theorem pay8_val (h : S512x256.Idx → EReal) (n : S1x1x256.Idx → EReal) (r : Fin 512) (k : Fin 256) :
    k0_pay8 (F := Ideal) h n (ix2 r k) = h (ix2 r k) * n (ix3 (0 : Fin 1) (0 : Fin 1) k) := by
  pointwise [k0_pay8]

theorem pay7_val (h : S512x256.Idx → EReal) (n : S1x1x256.Idx → EReal) (r : Fin 512) (k : Fin 256) :
    k0_pay7 (F := Ideal) h n (ix2 r k) = h (ix2 r k) * n (ix3 (0 : Fin 1) (0 : Fin 1) k) := by
  pointwise [k0_pay7]

theorem pay6_val (h : S512x256.Idx → EReal) (n : S1x1x256.Idx → EReal) (r : Fin 512) (k : Fin 256) :
    k0_pay6 (F := Ideal) h n (ix2 r k) = h (ix2 r k) * n (ix3 (0 : Fin 1) (0 : Fin 1) k) := by
  pointwise [k0_pay6]

theorem pay4_val (h : S512x256.Idx → EReal) (n : S1x1x256.Idx → EReal) (r : Fin 512) (k : Fin 256) :
    k0_pay4 (F := Ideal) h n (ix2 r k) = h (ix2 r k) * n (ix3 (0 : Fin 1) (0 : Fin 1) k) := by
  pointwise [k0_pay4]

theorem pay3_val (h : S512x256.Idx → EReal) (n : S1x1x256.Idx → EReal) (r : Fin 512) (k : Fin 256) :
    k0_pay3 (F := Ideal) h n (ix2 r k) = h (ix2 r k) * n (ix3 (0 : Fin 1) (0 : Fin 1) k) := by
  pointwise [k0_pay3]

theorem pay2_val (h : S512x256.Idx → EReal) (n : S1x1x256.Idx → EReal) (r : Fin 512) (k : Fin 256) :
    k0_pay2 (F := Ideal) h n (ix2 r k) = h (ix2 r k) * n (ix3 (0 : Fin 1) (0 : Fin 1) k) := by
  pointwise [k0_pay2]

/-- The weighted rows, entry by entry. -/
theorem nT_val (x0 : S512x2048.Idx → EReal) (x2 : S1x1x2048.Idx → EReal) (r : Fin 512) (k : Fin 2048) : nT x0 x2 (ix2 r k) = x0 (ix2 r k) * x2 (ix3 (0 : Fin 1) (0 : Fin 1) k) := by
  refine View.canon_eq_of_allAt _ _ _ (n_cover x0 x2 _) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro z hz
    obtain ⟨r', k', rfl⟩ : ∃ (r' : Fin 512) (k' : Fin 256), z = ix2 r' k' := ⟨_, _, eq_ix2 z⟩
    have e0 : r.val = 0 + r'.val := hz 0
    have e1 : k.val = 1792 + k'.val := hz 1
    obtain rfl : r = r' := Fin.ext (by omega)
    exact (pay11_val _ _ r k').trans (congrArg₂ (· * ·) (ld_cols (q := 512) (t := .f32) x0 1792 _ r k' k e1) (ld_slab (q := 1) (t := .f32) x2 1792 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1536 + k'.val := hz 1
    obtain rfl : r = r' := Fin.ext (by omega)
    exact (pay10_val _ _ r k').trans (congrArg₂ (· * ·) (ld_cols (q := 512) (t := .f32) x0 1536 _ r k' k e1) (ld_slab (q := 1) (t := .f32) x2 1536 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1280 + k'.val := hz 1
    obtain rfl : r = r' := Fin.ext (by omega)
    exact (pay8_val _ _ r k').trans (congrArg₂ (· * ·) (ld_cols (q := 512) (t := .f32) x0 1280 _ r k' k e1) (ld_slab (q := 1) (t := .f32) x2 1280 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 1024 + k'.val := hz 1
    obtain rfl : r = r' := Fin.ext (by omega)
    exact (pay7_val _ _ r k').trans (congrArg₂ (· * ·) (ld_cols (q := 512) (t := .f32) x0 1024 _ r k' k e1) (ld_slab (q := 1) (t := .f32) x2 1024 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 768 + k'.val := hz 1
    obtain rfl : r = r' := Fin.ext (by omega)
    exact (pay6_val _ _ r k').trans (congrArg₂ (· * ·) (ld_cols (q := 512) (t := .f32) x0 768 _ r k' k e1) (ld_slab (q := 1) (t := .f32) x2 768 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 512 + k'.val := hz 1
    obtain rfl : r = r' := Fin.ext (by omega)
    exact (pay4_val _ _ r k').trans (congrArg₂ (· * ·) (ld_cols (q := 512) (t := .f32) x0 512 _ r k' k e1) (ld_slab (q := 1) (t := .f32) x2 512 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 256 + k'.val := hz 1
    obtain rfl : r = r' := Fin.ext (by omega)
    exact (pay3_val _ _ r k').trans (congrArg₂ (· * ·) (ld_cols (q := 512) (t := .f32) x0 256 _ r k' k e1) (ld_slab (q := 1) (t := .f32) x2 256 _ (0 : Fin 1) k' k e1))
  · intro z hz
    obtain ⟨r', k', rfl⟩ : ∃ (r' : Fin 512) (k' : Fin 256), z = ix2 r' k' := ⟨_, _, eq_ix2 z⟩
    have e0 : r.val = 0 + r'.val := hz 0
    have e1 : k.val = 0 + k'.val := hz 1
    obtain rfl : r = r' := Fin.ext (by omega)
    exact (pay2_val _ _ r k').trans (congrArg₂ (· * ·) (ld_cols (q := 512) (t := .f32) x0 0 _ r k' k e1) (ld_slab (q := 1) (t := .f32) x2 0 _ (0 : Fin 1) k' k e1))

/-- The part of a row's sum of squares over the columns `q, 256 + q, …`. -/
theorem pay5_val (h1 h2 h3 : S512x256.Idx → EReal) (r : Fin 512) (k : Fin 256) :
    k0_pay5 (F := Ideal) h1 h2 h3 (ix2 r k) = h1 (ix2 r k) * h1 (ix2 r k) + h2 (ix2 r k) * h2 (ix2 r k) + h3 (ix2 r k) * h3 (ix2 r k) := by
  pointwise [k0_pay5]

theorem pay9_val (h1 h2 h3 h4 : S512x256.Idx → EReal) (r : Fin 512) (k : Fin 256) :
    k0_pay9 (F := Ideal) h1 h2 h3 h4 (ix2 r k)
      = h1 (ix2 r k) + h2 (ix2 r k) * h2 (ix2 r k) + h3 (ix2 r k) * h3 (ix2 r k) + h4 (ix2 r k) * h4 (ix2 r k) := by
  pointwise [k0_pay9]

theorem pay12_val (h1 h2 h3 : S512x256.Idx → EReal) (r k : Fin 512) :
    k0_pay12 (F := Ideal) h1 h2 h3 (ix2 r k)
      = Ideal.rsqrt ((∑ k : Fin 256, (h1 (ix2 r k) + h2 (ix2 r k) * h2 (ix2 r k) + h3 (ix2 r k) * h3 (ix2 r k)))
        * Ideal.ofBits FTy.f32 973078528#32 + Ideal.ofBits FTy.f32 897988541#32) := by
  pointwise [k0_pay12]

/-- The scale of a row. -/
theorem rs_val (x0 : S512x2048.Idx → EReal) (r k : Fin 512) (g : ℕ → EReal) (hg : ∀ l : Fin 2048, x0 (ix2 r l) * x0 (ix2 r l) = g l.val) :
    rs x0 (ix2 r k) = Ideal.rsqrt ((∑ l : Fin 2048, g l.val) * Ideal.ofBits FTy.f32 973078528#32 + Ideal.ofBits FTy.f32 897988541#32) := by
  refine (pay12_val _ _ _ r k).trans (congrArg Ideal.rsqrt (congrArg₂ (· + ·) (congrArg₂ (· * ·) ?_ rfl) rfl))
  refine Eq.trans (Finset.sum_congr rfl fun k _ => ?_) (Cert.IRef.sum_parts g)
  have e : ∀ (o : ℕ) (inb : ∀ a, (![0, o] : Fin 2 → ℕ) a + (![512, 256] : Fin 2 → ℕ) a ≤ S512x2048.size a) (ho : o ≤ 1792),
      View.ld (Val := Elt Ideal) (e' := .f32) x0 (Rect.unit (s := S512x2048) ![0, o] ![512, 256] inb) (ix2 r k)
        * View.ld (Val := Elt Ideal) (e' := .f32) x0 (Rect.unit (s := S512x2048) ![0, o] ![512, 256] inb) (ix2 r k) = g (o + k.val) := by
    intro o inb ho
    have := ld_cols (q := 512) (t := .f32) x0 o inb r k ⟨o + k.val, by omega⟩ rfl
    exact (congrArg₂ (· * ·) this this).trans (hg _)
  have z0 : g k.val = g (0 + k.val) := by rw [Nat.zero_add]
  rw [z0]
  refine congrArg₂ (· + ·) (congrArg₂ (· + ·) ?_ (e 1536 _ (by norm_num))) (e 1792 _ (by norm_num))
  refine (pay9_val _ _ _ _ r k).trans ?_
  refine congrArg₂ (· + ·) (congrArg₂ (· + ·) (congrArg₂ (· + ·) ?_ (e 768 _ (by norm_num))) (e 1024 _ (by norm_num))) (e 1280 _ (by norm_num))
  refine (pay5_val _ _ _ r k).trans ?_
  exact congrArg₂ (· + ·) (congrArg₂ (· + ·) (e 0 _ (by norm_num)) (e 256 _ (by norm_num))) (e 512 _ (by norm_num))

section
variable (v : S512x512.Idx → EReal) (a : S512x2048.Idx → EReal) (P : S512x256.Idx → EReal) (r : Fin 512)

theorem pay14_val (h1 h2 h3 : S512x256.Idx → EReal) (w : S2048x512.Idx → EReal) (k : Fin 512) :
    k0_pay14 (F := Ideal) h1 h2 h3 a w (ix2 r k) = k0_pay12 (F := Ideal) h1 h2 h3 (ix2 r k) * ∑ l : Fin 2048, a (ix2 r l) * w (ix2 l k) := by
  pointwise [k0_pay14]

theorem pay15_val (h e : _) (k : Fin 512) :
    k0_pay15 (F := Ideal) P v (Scalar.ofBits .f32 0x3F000000#32) (h : S512x512.Idx → EReal) (e : S1x256x512.Idx → EReal) (ix2 r k)
      = h (ix2 r k) + (∑ l : Fin 256, P (ix2 r l) * e (ix3 (0 : Fin 1) l k)) * Cert.PRef.sig' (v (ix2 r k)) := by
  unfold Cert.PRef.sig'
  pointwise [k0_pay15]

theorem pay16_val (w : S2048x512.Idx → EReal) (h : S512x512.Idx → EReal) (e : S1x256x512.Idx → EReal) (k : Fin 512) :
    k0_pay16 (F := Ideal) v a P w h e (ix2 r k)
      = h (ix2 r k) + (∑ l : Fin 256, P (ix2 r l) * e (ix3 (0 : Fin 1) l k)) * Cert.PRef.sig' (v (ix2 r (k : Fin 512)) * ∑ l : Fin 2048, a (ix2 r l) * w (ix2 l k)) := by
  unfold Cert.PRef.sig'
  pointwise [k0_pay16]

theorem pay17_val (w : S2048x512.Idx → EReal) (h : S512x512.Idx → EReal) (e : S1x256x512.Idx → EReal) (k : Fin 512) :
    k0_pay17 (F := Ideal) v a P w h e (ix2 r k)
      = h (ix2 r k) + (∑ l : Fin 256, P (ix2 r l) * e (ix3 (0 : Fin 1) l k)) * Cert.PRef.sig' (v (ix2 r (k : Fin 512)) * ∑ l : Fin 2048, a (ix2 r l) * w (ix2 l k)) := by
  unfold Cert.PRef.sig'
  pointwise [k0_pay17]

theorem pay18_val (w : S2048x256.Idx → EReal) (h : S512x256.Idx → EReal) (e : S1x256x256.Idx → EReal) (k : Fin 256) :
    k0_pay18 (F := Ideal) v a P w h e (ix2 r k)
      = h (ix2 r k) + (∑ l : Fin 256, P (ix2 r l) * e (ix3 (0 : Fin 1) l k)) * Cert.PRef.sig' (v (ix2 r (⟨k.val, by omega⟩ : Fin 512)) * ∑ l : Fin 2048, a (ix2 r l) * w (ix2 l k)) := by
  unfold Cert.PRef.sig'
  pointwise [k0_pay18]

theorem pay1_val (w : S2048x256.Idx → EReal) (h : S512x256.Idx → EReal) (e : S1x256x256.Idx → EReal) (k : Fin 256) :
    k0_pay1 (F := Ideal) v a P w h e (ix2 r k)
      = h (ix2 r k) + (∑ l : Fin 256, P (ix2 r l) * e (ix3 (0 : Fin 1) l k)) * Cert.PRef.sig' (v (ix2 r (⟨k.val, by omega⟩ : Fin 512)) * ∑ l : Fin 2048, a (ix2 r l) * w (ix2 l k)) := by
  unfold Cert.PRef.sig'
  pointwise [k0_pay1]

theorem pay13_val (x : S1x512x256.Idx → EReal) (k : Fin 256) : k0_pay13 (F := Ideal) x (ix2 r k) = x (ix3 (0 : Fin 1) r k) := by
  pointwise [k0_pay13]

end

/-- The result's block, entry by entry. -/
theorem hT_val (x0 M : S512x2048.Idx → EReal) (P : S512x256.Idx → EReal) (x3 : S2048x2048.Idx → EReal) (x4 : S1x256x2048.Idx → EReal) (r : Fin 512) (k : Fin 2048) (ρ : EReal) (hρ : ∀ q : Fin 512, rs x0 (ix2 r q) = ρ) :
    hT x0 M P x3 x4 (ix2 r k) = x0 (ix2 r k) + (∑ l : Fin 256, P (ix2 r l) * x4 (ix3 (0 : Fin 1) l k)) * Cert.PRef.sig' (ρ * ∑ l : Fin 2048, M (ix2 r l) * x3 (ix2 l k)) := by
  refine View.canon_eq_of_allAt _ _ _ (h_cover x0 M P x3 x4 _) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))
  · intro z hz
    obtain ⟨r', k', rfl⟩ : ∃ (r' : Fin 512) (k' : Fin 256), z = ix2 r' k' := ⟨_, _, eq_ix2 z⟩
    have e0 : r.val = 0 + r'.val := hz 0
    have e1 : k.val = 1792 + k'.val := hz 1
    obtain rfl : r = r' := Fin.ext (by omega)
    have eh := ld_cols (q := 512) (t := .f32) x0 1792 inb_S512x2048_S512x256_0_1792 r k' k e1
    have ew := fun l : Fin 2048 => ld_cols (q := 2048) (t := .bf16) x3 1792 inb_S2048x2048_S2048x256_0_1792 l k' k e1
    have ee := fun l : Fin 256 => ld_slab (q := 256) (t := .bf16) x4 1792 inb_S1x256x2048_S1x256x256_0_0_1792 l k' k e1
    exact (pay1_val (rs x0) M P r _ _ _ k').trans (congrArg₂ (· + ·) eh (congrArg₂ (· * ·) (Finset.sum_congr rfl fun l _ => congrArg₂ (· * ·) rfl (ee l)) (congrArg Cert.PRef.sig'
      (congrArg₂ (· * ·) (hρ _) (Finset.sum_congr rfl fun l _ => congrArg₂ (· * ·) rfl (ew l))))))
  · intro z hz
    obtain ⟨r', k', rfl⟩ : ∃ (r' : Fin 512) (k' : Fin 256), z = ix2 r' k' := ⟨_, _, eq_ix2 z⟩
    have e0 : r.val = 0 + r'.val := hz 0
    have e1 : k.val = 1536 + k'.val := hz 1
    obtain rfl : r = r' := Fin.ext (by omega)
    have eh := ld_cols (q := 512) (t := .f32) x0 1536 inb_S512x2048_S512x256_0_1536 r k' k e1
    have ew := fun l : Fin 2048 => ld_cols (q := 2048) (t := .bf16) x3 1536 inb_S2048x2048_S2048x256_0_1536 l k' k e1
    have ee := fun l : Fin 256 => ld_slab (q := 256) (t := .bf16) x4 1536 inb_S1x256x2048_S1x256x256_0_0_1536 l k' k e1
    exact (pay18_val (rs x0) M P r _ _ _ k').trans (congrArg₂ (· + ·) eh (congrArg₂ (· * ·) (Finset.sum_congr rfl fun l _ => congrArg₂ (· * ·) rfl (ee l)) (congrArg Cert.PRef.sig'
      (congrArg₂ (· * ·) (hρ _) (Finset.sum_congr rfl fun l _ => congrArg₂ (· * ·) rfl (ew l))))))
  · intro z hz
    obtain ⟨r', k', rfl⟩ : ∃ (r' : Fin 512) (k' : Fin 512), z = ix2 r' k' := ⟨_, _, eq_ix2 z⟩
    have e0 : r.val = 0 + r'.val := hz 0
    have e1 : k.val = 1024 + k'.val := hz 1
    obtain rfl : r = r' := Fin.ext (by omega)
    have eh := ld_cols (q := 512) (t := .f32) x0 1024 inb_S512x2048_S512x512_0_1024 r k' k e1
    have ew := fun l : Fin 2048 => ld_cols (q := 2048) (t := .bf16) x3 1024 inb_S2048x2048_S2048x512_0_1024 l k' k e1
    have ee := fun l : Fin 256 => ld_slab (q := 256) (t := .bf16) x4 1024 inb_S1x256x2048_S1x256x512_0_0_1024 l k' k e1
    exact (pay17_val (rs x0) M P r _ _ _ k').trans (congrArg₂ (· + ·) eh (congrArg₂ (· * ·) (Finset.sum_congr rfl fun l _ => congrArg₂ (· * ·) rfl (ee l)) (congrArg Cert.PRef.sig'
      (congrArg₂ (· * ·) (hρ _) (Finset.sum_congr rfl fun l _ => congrArg₂ (· * ·) rfl (ew l))))))
  · intro z hz
    obtain ⟨r', k', rfl⟩ : ∃ (r' : Fin 512) (k' : Fin 512), z = ix2 r' k' := ⟨_, _, eq_ix2 z⟩
    have e0 : r.val = 0 + r'.val := hz 0
    have e1 : k.val = 512 + k'.val := hz 1
    obtain rfl : r = r' := Fin.ext (by omega)
    have eh := ld_cols (q := 512) (t := .f32) x0 512 inb_S512x2048_S512x512_0_512 r k' k e1
    have ew := fun l : Fin 2048 => ld_cols (q := 2048) (t := .bf16) x3 512 inb_S2048x2048_S2048x512_0_512 l k' k e1
    have ee := fun l : Fin 256 => ld_slab (q := 256) (t := .bf16) x4 512 inb_S1x256x2048_S1x256x512_0_0_512 l k' k e1
    exact (pay16_val (rs x0) M P r _ _ _ k').trans (congrArg₂ (· + ·) eh (congrArg₂ (· * ·) (Finset.sum_congr rfl fun l _ => congrArg₂ (· * ·) rfl (ee l)) (congrArg Cert.PRef.sig'
      (congrArg₂ (· * ·) (hρ _) (Finset.sum_congr rfl fun l _ => congrArg₂ (· * ·) rfl (ew l))))))
  · intro z hz
    obtain ⟨r', k', rfl⟩ : ∃ (r' : Fin 512) (k' : Fin 512), z = ix2 r' k' := ⟨_, _, eq_ix2 z⟩
    have e0 : r.val = 0 + r'.val := hz 0
    have e1 : k.val = 0 + k'.val := hz 1
    obtain rfl : r = r' := Fin.ext (by omega)
    have eh := ld_cols (q := 512) (t := .f32) x0 0 inb_S512x2048_S512x512_0_0 r k' k e1
    have ew := fun l : Fin 2048 => ld_cols (q := 2048) (t := .bf16) x3 0 inb_S2048x2048_S2048x512_0_0 l k' k e1
    have ee := fun l : Fin 256 => ld_slab (q := 256) (t := .bf16) x4 0 inb_S1x256x2048_S1x256x512_0_0_0 l k' k e1
    refine (pay15_val _ P r _ _ k').trans (congrArg₂ (· + ·) eh (congrArg₂ (· * ·) (Finset.sum_congr rfl fun l _ => congrArg₂ (· * ·) rfl (ee l)) (congrArg Cert.PRef.sig' ?_)))
    exact (pay14_val M r _ _ _ _ k').trans (congrArg₂ (· * ·) (hρ k') (Finset.sum_congr rfl fun l _ => congrArg₂ (· * ·) rfl (ew l)))

end Cert.Kernel6Ideal.Ple0

end
-- ==== Proof.QRef.lean ====
/- The first layer's embedding: its numbers, and the reference's result over them. -/
module

public import proofs.«01_k».proof.Proof.PRef
public import proofs.«01_k».proof.Proof.Gen.Reference6Ideal.Run

@[expose] public section

set_option maxRecDepth 16384
set_option maxHeartbeats 1000000

noncomputable section

namespace Cert.QRef

open Idealize.ShloMosaic Idealize.ShloMosaic.TcCoe Cert.Reference6Ideal Cert.Reference6Ideal.Gen Cert.Reference6Ideal.Value Cert.FModel Cert.IRef

section
variable (a0 : S16384x2048.Idx → EReal) (a1 : S2x16384x256.Idx → EReal) (a2 : S2x2048.Idx → EReal) (a3 : S2048x2048.Idx → EReal) (a4 : S2x256x2048.Idx → EReal)
  (R : Fin 16384) (j : Fin 2048)

/-- The gate before its logistic. -/
def pre : EReal := ∑ l : Fin 2048, a0 (ix2 R l) * rho a0 R.val * a2 (ix2 (0 : Fin 2) l) * a3 (ix2 l j)

/-- The first layer's rows with the gated embedding added. -/
def row : EReal := a0 (ix2 R j) + (∑ e : Fin 256, a1 (ix3 (0 : Fin 2) R e) * a4 (ix3 (0 : Fin 2) e j)) * Cert.PRef.sig' (pre a0 a2 a3 R j)

/-- Scaling after the product is scaling before it. -/
theorem pre_eq : rho a0 R.val * ∑ l : Fin 2048, a0 (ix2 R l) * a2 (ix2 (0 : Fin 2) l) * a3 (ix2 l j) = pre a0 a2 a3 R j := by
  obtain ⟨r, h, e⟩ := rho_real a0 R.val
  unfold pre
  rw [e, mul_sum' _ _ r h]
  refine Finset.sum_congr rfl fun l _ => ?_
  rw [← mul_assoc, ← mul_assoc, mul_comm (r : EReal)]

end

section
variable (a0 : FVec Ideal S16384x2048 .f32) (a1 : FVec Ideal S2x16384x256 .f32) (a2 : FVec Ideal S2x2048 .f32) (a3 : FVec Ideal S2048x2048 .bf16)
  (a4 : FVec Ideal S2x256x2048 .f32)

/-- The rows, as the reference's program writes them. -/
def refRow : FVec Ideal S16384x2048 .f32 := addf a0 (mulf (Host.dotGeneral (φ₁ := .f32) (φ₂ := .f32) dot_S16384x256_S256x2048_S16384x2048_1_0_0_1_n_n none (shapeCast _ (extractStridedSlice S1x16384x256 ![0, 0, 0] a1 slices_S2x16384x256_S1x16384x256_0_0_0) shapeCasts_S1x16384x256_S16384x256) (shapeCast _ (extractStridedSlice S1x256x2048 ![0, 0, 0] a4 slices_S2x256x2048_S1x256x2048_0_0_0) shapeCasts_S1x256x2048_S256x2048)) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral (φ₁ := .f32) (φ₂ := .f32) dot_S16384x2048_S2048x2048_S16384x2048_1_0_0_1_n_n none (mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] a2 slices_S2x2048_S1x2048_0_0) shapeCasts_S1x2048_S2048)))) (extf .f32 a3 bitsLt_bf16_f32)))))))

end

section
variable (a0 : S16384x2048.Idx → EReal) (a1 : S2x16384x256.Idx → EReal) (a2 : S2x2048.Idx → EReal) (a3 : S2048x2048.Idx → EReal) (a4 : S2x256x2048.Idx → EReal)
  (R : Fin 16384) (j : Fin 2048)

theorem refRow_val : refRow a0 a1 a2 a3 a4 (ix2 R j) = row a0 a1 a2 a3 a4 R j := by
  unfold row
  rw [← Cert.PRef.sig_eq]
  unfold pre rho Cert.IRef.sq
  simp only [← at2_fin]
  pointwise [refRow]

end

end Cert.QRef

end
-- ==== Proof.QVal.lean ====
/- The first layer's embedding kernel's stages over the layer's numbers: its windows, its result array and its run. -/
module

public import proofs.«01_k».proof.Proof.QRun
public import proofs.«01_k».proof.Proof.QRef
public import Idealize.ShloMosaic.Lib.Claim
public import Idealize.ShloMosaic.Lib.StableHlo.ReadAt

@[expose] public section

set_option maxRecDepth 16384
set_option maxHeartbeats 1000000

noncomputable section

namespace Cert.Kernel6Ideal.Ple0

open Idealize.ShloMosaic Idealize.ShloMosaic.TcCoe Cert.Kernel6Ideal Cert.Kernel6Ideal.Gen Cert.Kernel6Ideal.Value Cert.FModel

variable (m : (ℓ : Loc nD τ sig) → Buf (Elt Ideal) ℓ) (c : Dev nD)

/-- The arguments of the call. -/
abbrev A0 : FVec Ideal S16384x2048 .f32 := m ((c : Thread nD τ).loc main_arg0)
abbrev A1 : FVec Ideal S2x16384x256 .f32 := m ((c : Thread nD τ).loc main_arg1)
abbrev A2 : FVec Ideal S2x2048 .f32 := m ((c : Thread nD τ).loc main_arg2)
abbrev A3 : FVec Ideal S2048x2048 .bf16 := m ((c : Thread nD τ).loc main_arg3)
abbrev A4 : FVec Ideal S2x256x2048 .f32 := m ((c : Thread nD τ).loc main_arg4)

/-- The windows' block indices. -/
theorem idx : ∀ t : Fin cfg0.N, win0_0.index t = ![t.val, 0] ∧ win0_1.index t = ![0, t.val, 0] ∧ win0_2.index t = ![0, 0, 0]
    ∧ win0_3.index t = ![0, 0] ∧ win0_4.index t = ![0, 0, 0] ∧ win0_5.index t = ![t.val, 0] := by decide +kernel

section
variable (t : Fin cfg0.N)

theorem lt_N : t.val < 32 := t.isLt

/-- A tile's row, in the layer. -/
abbrev rw' (r : Fin 512) : Fin 16384 := ⟨512 * t.val + r.val, by have := lt_N t; omega⟩

theorem x0_read (r : Fin 512) (l : Fin 2048) : iblk m c 0 t (ix2 r l) = A0 m c (ix2 (rw' t r) l) := by
  blk_ext [iblk, V_main_arg0, idx t]

theorem x1_read (r : Fin 512) (l : Fin 256) : iblk m c 1 t (ix3 (0 : Fin 1) r l) = A1 m c (ix3 (0 : Fin 2) (rw' t r) l) := by
  blk_ext [iblk, V_main_arg1, idx t]

theorem x2_read (l : Fin 2048) : iblk m c 2 t (ix3 (0 : Fin 1) (0 : Fin 1) l) = A2 m c (ix2 (0 : Fin 2) l) := by
  have : iblk m c 2 t (ix3 (0 : Fin 1) (0 : Fin 1) l) = V m c main_v0 (ix3 (0 : Fin 2) (0 : Fin 1) l) := by
    blk_ext [iblk, idx t]
  rw [this]
  unfold V
  after_reads_at

theorem x3_read (k l : Fin 2048) : iblk m c 3 t (ix2 k l) = A3 m c (ix2 k l) := by
  blk_ext [iblk, V_main_arg3, idx t]

theorem x4_read (l : Fin 256) (j : Fin 2048) : iblk m c 4 t (ix3 (0 : Fin 1) l j) = A4 m c (ix3 (0 : Fin 2) l j) := by
  have : iblk m c 4 t (ix3 (0 : Fin 1) l j) = V m c main_v1 (ix3 (0 : Fin 2) l j) := by
    blk_ext [iblk, idx t]
  rw [this]
  unfold V
  after_reads_at

/-- The rows of a tile with the gated embedding added. -/
theorem row_tile (r : Fin 512) (k : Fin 2048) :
    hT (iblk m c 0 t) (nT (iblk m c 0 t) (iblk m c 2 t)) (k0_pay13 (F := Ideal) (iblk m c 1 t)) (iblk m c 3 t) (iblk m c 4 t) (ix2 r k)
      = Cert.QRef.row (A0 m c) (A1 m c) (A2 m c) (A3 m c) (A4 m c) (rw' t r) k := by
  refine (hT_val _ _ _ _ _ r k (Cert.IRef.rho (A0 m c) (rw' t r).val) fun q => ?_).trans ?_
  · rw [Cert.IRef.rho_eq]
    exact rs_val _ r q (fun l => at2 (A0 m c) (rw' t r).val l * at2 (A0 m c) (rw' t r).val l)
      fun l => congrArg₂ (· * ·) ((x0_read m c t r l).trans (at2_fin _ _ _)) ((x0_read m c t r l).trans (at2_fin _ _ _))
  · unfold Cert.QRef.row
    refine congrArg₂ (· + ·) (x0_read m c t r k) (congrArg₂ (· * ·)
      (Finset.sum_congr rfl fun l _ => congrArg₂ (· * ·) ((pay13_val r _ l).trans (x1_read m c t r l)) (x4_read m c t l k)) (congrArg Cert.PRef.sig' ?_))
    rw [← Cert.QRef.pre_eq]
    exact congrArg₂ (· * ·) rfl (Finset.sum_congr rfl fun l _ => congrArg₂ (· * ·)
      ((nT_val _ _ r l).trans (congrArg₂ (· * ·) (x0_read m c t r l) (x2_read m c t l))) (x3_read m c t l k))

end

/-- The result on a device, whole. -/
def G5 : Buf (Elt Ideal) ((c : Thread nD τ).loc main_v2) := fun i =>
  Cert.QRef.row (A0 m c) (A1 m c) (A2 m c) (A3 m c) (A4 m c) (i 0 : Fin 16384) (i 1 : Fin 2048)

/-- The array the pipeline leaves. -/
theorem final5 : (dats (F := Ideal) m 0 c).arrAt 5 cfg0.N = G5 m c := by
  refine (dats (F := Ideal) m 0 c).arrAt_eq_of_covers 5 _ (by decide +kernel) fun t hf y => ?_
  obtain ⟨-, -, -, -, -, e⟩ := idx t
  blk_simp
  rw [after0_5]
  unfold outsAt0
  dsimp only
  rw [out5]
  obtain ⟨r, k, rfl⟩ : ∃ (r : Fin 512) (k : Fin 2048), y = ix2 r k := ⟨_, _, eq_ix2 y⟩
  refine (row_tile m c t r k).trans ?_
  have b0 : ((win0_5.blk t).view.emb (ix2 r k) 0).val = win0_5.index t (0 : Fin 2) * 512 + 1 * r.val := rfl
  have b1 : ((win0_5.blk t).view.emb (ix2 r k) 1).val = win0_5.index t (1 : Fin 2) * 2048 + 1 * k.val := rfl
  have e0 : win0_5.index t (0 : Fin 2) = t.val := congrFun e 0
  have e1 : win0_5.index t (1 : Fin 2) = 0 := congrFun e 1
  rw [e0] at b0
  rw [e1] at b1
  unfold G5
  exact congrArg₂ (fun a b => Cert.QRef.row (A0 m c) (A1 m c) (A2 m c) (A3 m c) (A4 m c) a b)
    (Fin.ext (by rw [b0]; show 512 * t.val + r.val = _; omega) : rw' t r = _) (Fin.ext (by rw [b1]; omega) : k = _)

/-- The run: the result buffer ends holding the layer's rows, every argument as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v2) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final5 m c), (h c).2⟩)
    (run_blocks (F := Ideal) m ρ)

end Cert.Kernel6Ideal.Ple0

end
-- ==== Proof.Ple0.lean ====
/- The first layer's embedding call: the kernel's claim against the reference. -/
module

public import proofs.«01_k».proof.Defs
public import proofs.«01_k».proof.Proof.QVal

@[expose] public section

set_option maxRecDepth 16384

noncomputable section

namespace Cert.Ple0

open Idealize.ShloMosaic Idealize.ShloMosaic.TcCoe

/-- The reference runs, keeps its arguments and ends with every counter at zero. -/
theorem frame_r : quiescent_Reference6Ideal (hReference6Ideal := Cert.Reference6Ideal.Gen.facts) := fun m g _ =>
  (θ_run (Cert.Reference6Ideal.defs (F := Ideal)) _ _).mono (fun r h => ⟨fun c => (h c).2,
      Idealize.ShloMosaic.sem_eq_zero_of_no_sems (by decide) r.2⟩)
    (Cert.Reference6Ideal.Value.run (F := Ideal) m g)

/-- The kernel and the reference end with equal results. -/
theorem algebraic : algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Ple0.G5 m c, Cert.Kernel6Ideal.Ple0.run_value m g, ?_⟩
  refine (θ_run _ _ _).mono (fun r h c => ⟨(h c).1.trans ?_, (h c).2⟩) (Cert.Reference6Ideal.Value.run (F := Ideal) m' g')
  obtain ⟨e0, e1, e2, e3, e4⟩ := hagree c
  rw [e0, e1, e2, e3, e4]
  funext i
  obtain ⟨R, j, rfl⟩ : ∃ (R : Fin 16384) (j : Fin 2048), i = ix2 R j := ⟨_, _, eq_ix2 i⟩
  exact Cert.QRef.refRow_val _ _ _ _ _ R j

end Cert.Ple0

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Mixers
public import proofs.«01_k».proof.Proof.BDat
public import proofs.«01_k».proof.Proof.FDat
public import proofs.«01_k».proof.Proof.Ffn
public import proofs.«01_k».proof.Proof.Oproj
public import proofs.«01_k».proof.Proof.Iproj
public import proofs.«01_k».proof.Proof.Ple
public import proofs.«01_k».proof.Proof.Ple0
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  fun m g _ => Cert.Kernel.Gen.frame m g, fun m g _ => Cert.KernelIdeal.Gen.frame m g, fun m g _ => Cert.KernelIdeal.Gen.frame m g,
  Cert.Mixers.frame_ri, Cert.Mixers.frame_ri_pre,
  fun m g _ => Cert.Kernel2.Ffn.frame m g, fun m g _ => Cert.Kernel2Ideal.Ffn.frame m g, Cert.Ffn.frame_r,
  fun m g _ => Cert.Kernel3.Gen.frame m g, fun m g _ => Cert.Kernel3Ideal.Gen.frame m g, Cert.Oproj.frame_r,
  fun m g _ => Cert.Kernel4.Gen.frame m g, fun m g _ => Cert.Kernel4Ideal.Gen.frame m g, Cert.Iproj.frame_r,
  fun m g _ => Cert.Kernel5.Gen.frame m g, fun m g _ => Cert.Kernel5Ideal.Gen.frame m g, Cert.Ple.frame_r,
  fun m g _ => Cert.Kernel6.Gen.frame m g, fun m g _ => Cert.Kernel6Ideal.Gen.frame m g, Cert.Ple0.frame_r,
  trivial, Cert.Mixers.algebraic, trivial, Cert.Ffn.algebraic, trivial, Cert.Oproj.algebraic, trivial, Cert.Iproj.algebraic,
  trivial, Cert.Ple.algebraic, trivial, Cert.Ple0.algebraic⟩

end Cert.Proof

end
